-- ==== Defs.lean ====
def Pre_Kernel [hPre_tiles_exist : Cert.Pre_tiles_exist.Facts] (m : (ℓ : Loc Cert.Kernel.nD Cert.Kernel.τ Cert.Kernel.sig) → Buf (Elt Bits) ℓ) : Prop :=
  ∀ c : Dev Cert.Kernel.nD,
    (Cert.Pre_tiles_exist.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_tiles_exist : Cert.Pre_tiles_exist.Facts] (m : (ℓ : Loc Cert.KernelIdeal.nD Cert.KernelIdeal.τ Cert.KernelIdeal.sig) → Buf (Elt Ideal) ℓ) : Prop :=
  ∀ c : Dev Cert.KernelIdeal.nD,
    (Cert.Pre_tiles_exist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_tiles_exist : Cert.Pre_tiles_exist.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tiles_exist.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] [hPre_tiles_exist : Cert.Pre_tiles_exist.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_tiles_exist : Cert.Pre_tiles_exist.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] [hPre_tiles_exist : Cert.Pre_tiles_exist.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tiles_exist : Cert.Pre_tiles_exist.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53_0) = v0 c
          ∧ r.2.mem ((c.tc : Thread Cert.ReferenceIdeal.nD Cert.ReferenceIdeal.τ).loc Cert.ReferenceIdeal.main_v53_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_tiles_exist : Cert.Pre_tiles_exist.Facts),
    quiescent_Kernel (hKernel := hKernel) (hPre_tiles_exist := hPre_tiles_exist)
    ∧ quiescent_KernelIdeal (hKernelIdeal := hKernelIdeal) (hPre_tiles_exist := hPre_tiles_exist)
    ∧ quiescent_ReferenceIdeal (hReferenceIdeal := hReferenceIdeal) (hPre_tiles_exist := hPre_tiles_exist)
    ∧ preserves_Kernel_KernelIdeal
    ∧ algebraic_KernelIdeal_ReferenceIdeal (hKernelIdeal := hKernelIdeal) (hReferenceIdeal := hReferenceIdeal) (hPre_tiles_exist := hPre_tiles_exist)
-- ==== Pre_tiles_exist.lean ====
abbrev S2x5x96x12 : Shape := ⟨4, ![2, 5, 96, 12]⟩
abbrev S2x96x5 : Shape := ⟨3, ![2, 96, 5]⟩
abbrev S2x5 : Shape := ⟨2, ![2, 5]⟩
abbrev S2 : Shape := ⟨1, ![2]⟩
abbrev S5 : Shape := ⟨1, ![5]⟩
abbrev S2x96x5x384x128 : Shape := ⟨5, ![2, 96, 5, 384, 128]⟩
abbrev S2x5x256x128 : Shape := ⟨4, ![2, 5, 256, 128]⟩
abbrev S2x5x96x128 : Shape := ⟨4, ![2, 5, 96, 128]⟩
abbrev S_ : Shape := ⟨0, ![]⟩

class Facts : Prop where
  bcast_S_S2x5x96x12 : S_.BroadcastsInDim S2x5x96x12 (![] : Fin 0 → Fin S2x5x96x12.rank)

variable [Facts]

def fn {F : FTy → Type} [FloatOps F] (main_arg0 : IVec S2x5x96x12 32) (main_arg1 : FVec F S2x96x5 .f32) (main_arg2 : FVec F S2x96x5 .f32) (main_arg3 : FVec F S2x5 .f32) (main_arg4 : FVec F S2x5 .f32) (main_arg5 : FVec F S2x5 .f32) (main_arg6 : IVec S2 32) (main_arg7 : FVec F S5 .f32) (main_arg8 : FVec F S2x96x5x384x128 .fp8e4m3) (main_arg9 : FVec F S2x96x5x384x128 .fp8e4m3) (main_arg10 : FVec F S2x96x5x384x128 .fp8e4m3) (main_arg11 : FVec F S2x5x256x128 .fp8e4m3) (main_arg12 : FVec F S2x5x256x128 .fp8e4m3) (main_arg13 : FVec F S2x5x96x128 .f32) : IVec S2x5x96x12 1 :=
  let main_c : IVec S_ 32 := constantI S_ 32 0#32
  let main_v0 : IVec S2x5x96x12 32 := broadcastInDim S2x5x96x12 ![] bcast_S_S2x5x96x12 main_c
  let main_v1 : IVec S2x5x96x12 1 := cmpi .sge main_arg0 main_v0
  let main_c_0 : IVec S_ 32 := constantI S_ 32 96#32
  let main_v2 : IVec S2x5x96x12 32 := broadcastInDim S2x5x96x12 ![] bcast_S_S2x5x96x12 main_c_0
  let main_v3 : IVec S2x5x96x12 1 := cmpi .slt main_arg0 main_v2
  let main_v4 : IVec S2x5x96x12 1 := andi main_v1 main_v3
  main_v4
-- ==== Kernel.lean ====
abbrev S2x5x96x12 : Shape := ⟨4, ![2, 5, 96, 12]⟩
abbrev S2x96x5 : Shape := ⟨3, ![2, 96, 5]⟩
abbrev S2x5 : Shape := ⟨2, ![2, 5]⟩
abbrev S2 : Shape := ⟨1, ![2]⟩
abbrev S5 : Shape := ⟨1, ![5]⟩
abbrev S2x96x5x384x128 : Shape := ⟨5, ![2, 96, 5, 384, 128]⟩
abbrev S2x5x256x128 : Shape := ⟨4, ![2, 5, 256, 128]⟩
abbrev S2x5x96x128 : Shape := ⟨4, ![2, 5, 96, 128]⟩
abbrev S11520 : Shape := ⟨1, ![11520]⟩
abbrev S960 : Shape := ⟨1, ![960]⟩
abbrev S10 : Shape := ⟨1, ![10]⟩
abbrev S2x5x24x1536x128 : Shape := ⟨5, ![2, 5, 24, 1536, 128]⟩
abbrev S2x5x24x4x1x384 : Shape := ⟨6, ![2, 5, 24, 4, 1, 384]⟩
abbrev S1x6x1x384x128 : Shape := ⟨5, ![1, 6, 1, 384, 128]⟩
abbrev S1x96x1x384x128 : Shape := ⟨5, ![1, 96, 1, 384, 128]⟩
abbrev S1x1x256x128 : Shape := ⟨4, ![1, 1, 256, 128]⟩
abbrev S1x1x96x128 : Shape := ⟨4, ![1, 1, 96, 128]⟩
abbrev S1x1x6x384x128 : Shape := ⟨5, ![1, 1, 6, 384, 128]⟩
abbrev S1x1x6x1x1x384 : Shape := ⟨6, ![1, 1, 6, 1, 1, 384]⟩
abbrev S384x4864 : Shape := ⟨2, ![384, 4864]⟩
abbrev S384x128 : Shape := ⟨2, ![384, 128]⟩
abbrev S6x384x128 : Shape := ⟨3, ![6, 384, 128]⟩
abbrev S1 : Shape := ⟨1, ![1]⟩
abbrev S1x1x1x384x128 : Shape := ⟨5, ![1, 1, 1, 384, 128]⟩
abbrev S768x128 : Shape := ⟨2, ![768, 128]⟩
abbrev S384x768 : Shape := ⟨2, ![384, 768]⟩
abbrev S384x384 : Shape := ⟨2, ![384, 384]⟩
abbrev S256x128 : Shape := ⟨2, ![256, 128]⟩
abbrev S384x256 : Shape := ⟨2, ![384, 256]⟩
abbrev S1x256 : Shape := ⟨2, ![1, 256]⟩
abbrev S384 : Shape := ⟨1, ![384]⟩
abbrev S384x1 : Shape := ⟨2, ![384, 1]⟩
abbrev S1x1x1x128 : Shape := ⟨4, ![1, 1, 1, 128]⟩
abbrev S1x128 : Shape := ⟨2, ![1, 128]⟩
abbrev S6x8x8x128 : Shape := ⟨4, ![6, 8, 8, 128]⟩
abbrev S6x1x8x128 : Shape := ⟨4, ![6, 1, 8, 128]⟩
abbrev S6x8x128 : Shape := ⟨3, ![6, 8, 128]⟩
abbrev S1x1x6x8x128 : Shape := ⟨5, ![1, 1, 6, 8, 128]⟩
abbrev S1x384 : Shape := ⟨2, ![1, 384]⟩
abbrev S1x384x128 : Shape := ⟨3, ![1, 384, 128]⟩
abbrev S128x384 : Shape := ⟨2, ![128, 384]⟩
abbrev S1x1x1x1x1x384 : Shape := ⟨6, ![1, 1, 1, 1, 1, 384]⟩

abbrev nBuf : Space → Nat
  | .hbm => 22
  | .vmem => 21
  | .smem => 8
  | _ => 0

abbrev bufTy : (tb : Table) → Fin (tcTables nBuf tb) → BufTy
  | .hbm, ⟨0, _⟩ => ⟨S2x5x96x12, .i32⟩
  | .hbm, ⟨1, _⟩ => ⟨S2x96x5, .f32⟩
  | .hbm, ⟨2, _⟩ => ⟨S2x96x5, .f32⟩
  | .hbm, ⟨3, _⟩ => ⟨S2x5, .f32⟩
  | .hbm, ⟨4, _⟩ => ⟨S2x5, .f32⟩
  | .hbm, ⟨5, _⟩ => ⟨S2x5, .f32⟩
  | .hbm, ⟨6, _⟩ => ⟨S2, .i32⟩
  | .hbm, ⟨7, _⟩ => ⟨S5, .f32⟩
  | .hbm, ⟨8, _⟩ => ⟨S2x96x5x384x128, .fp8e4m3⟩
  | .hbm, ⟨9, _⟩ => ⟨S2x96x5x384x128, .fp8e4m3⟩
  | .hbm, ⟨10, _⟩ => ⟨S2x96x5x384x128, .fp8e4m3⟩
  | .hbm, ⟨11, _⟩ => ⟨S2x5x256x128, .fp8e4m3⟩
  | .hbm, ⟨12, _⟩ => ⟨S2x5x256x128, .fp8e4m3⟩
  | .hbm, ⟨13, _⟩ => ⟨S2x5x96x128, .f32⟩
  | .hbm, ⟨14, _⟩ => ⟨S11520, .i32⟩
  | .hbm, ⟨15, _⟩ => ⟨S960, .f32⟩
  | .hbm, ⟨16, _⟩ => ⟨S960, .f32⟩
  | .hbm, ⟨17, _⟩ => ⟨S10, .f32⟩
  | .hbm, ⟨18, _⟩ => ⟨S10, .f32⟩
  | .hbm, ⟨19, _⟩ => ⟨S10, .f32⟩
  | .hbm, ⟨20, _⟩ => ⟨S2x5x24x1536x128, .f32⟩
  | .hbm, ⟨21, _⟩ => ⟨S2x5x24x4x1x384, .f32⟩
  | .local _ .vmem, ⟨0, _⟩ => ⟨S1x6x1x384x128, .fp8e4m3⟩
  | .local _ .vmem, ⟨1, _⟩ => ⟨S1x6x1x384x128, .fp8e4m3⟩
  | .local _ .vmem, ⟨2, _⟩ => ⟨S1x96x1x384x128, .fp8e4m3⟩
  | .local _ .vmem, ⟨3, _⟩ => ⟨S1x96x1x384x128, .fp8e4m3⟩
  | .local _ .vmem, ⟨4, _⟩ => ⟨S1x96x1x384x128, .fp8e4m3⟩
  | .local _ .vmem, ⟨5, _⟩ => ⟨S1x96x1x384x128, .fp8e4m3⟩
  | .local _ .vmem, ⟨6, _⟩ => ⟨S1x1x256x128, .fp8e4m3⟩
  | .local _ .vmem, ⟨7, _⟩ => ⟨S1x1x256x128, .fp8e4m3⟩
  | .local _ .vmem, ⟨8, _⟩ => ⟨S1x1x256x128, .fp8e4m3⟩
  | .local _ .vmem, ⟨9, _⟩ => ⟨S1x1x256x128, .fp8e4m3⟩
  | .local _ .vmem, ⟨10, _⟩ => ⟨S1x1x96x128, .f32⟩
  | .local _ .vmem, ⟨11, _⟩ => ⟨S1x1x96x128, .f32⟩
  | .local _ .vmem, ⟨12, _⟩ => ⟨S1x1x6x384x128, .f32⟩
  | .local _ .vmem, ⟨13, _⟩ => ⟨S1x1x6x384x128, .f32⟩
  | .local _ .vmem, ⟨14, _⟩ => ⟨S1x1x6x1x1x384, .f32⟩
  | .local _ .vmem, ⟨15, _⟩ => ⟨S1x1x6x1x1x384, .f32⟩
  | .local _ .vmem, ⟨16, _⟩ => ⟨S384x4864, .f32⟩
  | .local _ .vmem, ⟨17, _⟩ => ⟨S384x128, .f32⟩
  | .local _ .vmem, ⟨18, _⟩ => ⟨S384x128, .f32⟩
  | .local _ .vmem, ⟨19, _⟩ => ⟨S384x128, .f32⟩
  | .local _ .vmem, ⟨20, _⟩ => ⟨S6x384x128, .f32⟩
  | .local _ .smem, ⟨0, _⟩ => ⟨S11520, .i32⟩
  | .local _ .smem, ⟨1, _⟩ => ⟨S960, .f32⟩
  | .local _ .smem, ⟨2, _⟩ => ⟨S960, .f32⟩
  | .local _ .smem, ⟨3, _⟩ => ⟨S10, .f32⟩
  | .local _ .smem, ⟨4, _⟩ => ⟨S10, .f32⟩
  | .local _ .smem, ⟨5, _⟩ => ⟨S10, .f32⟩
  | .local _ .smem, ⟨6, _⟩ => ⟨S2, .i32⟩
  | .local _ .smem, ⟨7, _⟩ => ⟨S5, .f32⟩
  | _, _ => ⟨S2x5x96x12, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6_0 : Ref sig .tc := ⟨.hbm, 20, rfl⟩
abbrev main_v6_1 : Ref sig .tc := ⟨.hbm, 21, rfl⟩
abbrev cc0_stg8_0 : Ref sig .tc := ⟨.vmem, 0, rfl⟩
abbrev cc0_stg8_1 : Ref sig .tc := ⟨.vmem, 1, rfl⟩
abbrev cc0_stg9_0 : Ref sig .tc := ⟨.vmem, 2, rfl⟩
abbrev cc0_stg9_1 : Ref sig .tc := ⟨.vmem, 3, rfl⟩
abbrev cc0_stg10_0 : Ref sig .tc := ⟨.vmem, 4, rfl⟩
abbrev cc0_stg10_1 : Ref sig .tc := ⟨.vmem, 5, rfl⟩
abbrev cc0_stg11_0 : Ref sig .tc := ⟨.vmem, 6, rfl⟩
abbrev cc0_stg11_1 : Ref sig .tc := ⟨.vmem, 7, rfl⟩
abbrev cc0_stg12_0 : Ref sig .tc := ⟨.vmem, 8, rfl⟩
abbrev cc0_stg12_1 : Ref sig .tc := ⟨.vmem, 9, rfl⟩
abbrev cc0_stg13_0 : Ref sig .tc := ⟨.vmem, 10, rfl⟩
abbrev cc0_stg13_1 : Ref sig .tc := ⟨.vmem, 11, rfl⟩
abbrev cc0_stg14_0 : Ref sig .tc := ⟨.vmem, 12, rfl⟩
abbrev cc0_stg14_1 : Ref sig .tc := ⟨.vmem, 13, rfl⟩
abbrev cc0_stg15_0 : Ref sig .tc := ⟨.vmem, 14, rfl⟩
abbrev cc0_stg15_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_stg5_0 : Ref sig .tc := ⟨.smem, 5, rfl⟩
abbrev cc0_stg6_0 : Ref sig .tc := ⟨.smem, 6, rfl⟩
abbrev cc0_stg7_0 : Ref sig .tc := ⟨.smem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem8_1 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨3, ![2, 5, 16], ![false, false, false]⟩

def k0_off1 (i : grid0.Coords) : Fin 1 → Nat :=
  let arg0 : BitVec 32 := BitVec.ofNat 32 (i 0).val
  let v2 : Index := Scalar.indexCast arg0
  ![v2.toNat]
def k0_off2 (i : grid0.Coords) : Fin 1 → Nat :=
  let arg0 : BitVec 32 := BitVec.ofNat 32 (i 0).val
  let c96_i32 : BitVec 32 := 96#32
  let v8 : BitVec 32 := Scalar.muli arg0 c96_i32
  let arg2 : BitVec 32 := BitVec.ofNat 32 (i 2).val
  let c6_i32 : BitVec 32 := 6#32
  let v4 : BitVec 32 := Scalar.muli arg2 c6_i32
  let c0_i32 : BitVec 32 := 0#32
  let v5 : BitVec 32 := Scalar.addi v4 c0_i32
  let v9 : BitVec 32 := Scalar.addi v8 v5
  let c5_i32_4 : BitVec 32 := 5#32
  let v10 : BitVec 32 := Scalar.muli v9 c5_i32_4
  let arg1 : BitVec 32 := BitVec.ofNat 32 (i 1).val
  let v11 : BitVec 32 := Scalar.addi v10 arg1
  let v12 : Index := Scalar.indexCast v11
  ![v12.toNat]
def k0_off3 (i : grid0.Coords) (c0_i32_6 : BitVec 32) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c96_i32_5 : BitVec 32 := 96#32
  let v15 : BitVec 32 := Scalar.muli v1 c96_i32_5
  let arg2 : BitVec 32 := BitVec.ofNat 32 (i 2).val
  let c6_i32 : BitVec 32 := 6#32
  let v4 : BitVec 32 := Scalar.muli arg2 c6_i32
  let c0_i32 : BitVec 32 := 0#32
  let v5 : BitVec 32 := Scalar.addi v4 c0_i32
  let v16 : BitVec 32 := Scalar.addi v15 v5
  let c12_i32 : BitVec 32 := 12#32
  let v17 : BitVec 32 := Scalar.muli v16 c12_i32
  let v18 : BitVec 32 := Scalar.addi v17 c0_i32_6
  let v19 : Index := Scalar.indexCast v18
  ![v19.toNat]
def k0_off4 (v20 : BitVec 32) : Fin 5 → Nat :=
  let c0_34 : Index := 0#32
  let v91 : Index := Scalar.indexCast v20
  let c0_35 : Index := 0#32
  let c0_36 : Index := 0#32
  let c0_37 : Index := 0#32
  ![0, v91.toNat, 0, 0, 0]

def k0_off5 (v26 : BitVec 32) : Fin 5 → Nat :=
  let c0_38 : Index := 0#32
  let v94 : Index := Scalar.indexCast v26
  let c0_39 : Index := 0#32
  let c0_40 : Index := 0#32
  let c0_41 : Index := 0#32
  ![0, v94.toNat, 0, 0, 0]

def k0_off6 (i : grid0.Coords) (v20 : BitVec 32) : Fin 1 → Nat :=
  let arg0 : BitVec 32 := BitVec.ofNat 32 (i 0).val
  let c96_i32_43 : BitVec 32 := 96#32
  let v100 : BitVec 32 := Scalar.muli arg0 c96_i32_43
  let v101 : BitVec 32 := Scalar.addi v100 v20
  let c5_i32_44 : BitVec 32 := 5#32
  let v102 : BitVec 32 := Scalar.muli v101 c5_i32_44
  let arg1 : BitVec 32 := BitVec.ofNat 32 (i 1).val
  let v103 : BitVec 32 := Scalar.addi v102 arg1
  let v104 : Index := Scalar.indexCast v103
  ![v104.toNat]
def k0_off7 (i : grid0.Coords) (v26 : BitVec 32) : Fin 1 → Nat :=
  let arg0 : BitVec 32 := BitVec.ofNat 32 (i 0).val
  let c96_i32_45 : BitVec 32 := 96#32
  let v110 : BitVec 32 := Scalar.muli arg0 c96_i32_45
  let v111 : BitVec 32 := Scalar.addi v110 v26
  let c5_i32_46 : BitVec 32 := 5#32
  let v112 : BitVec 32 := Scalar.muli v111 c5_i32_46
  let arg1 : BitVec 32 := BitVec.ofNat 32 (i 1).val
  let v113 : BitVec 32 := Scalar.addi v112 arg1
  let v114 : Index := Scalar.indexCast v113
  ![v114.toNat]
def k0_off8 (v32 : BitVec 32) : Fin 5 → Nat :=
  let c0_53 : Index := 0#32
  let v139 : Index := Scalar.indexCast v32
  let c0_54 : Index := 0#32
  let c0_55 : Index := 0#32
  let c0_56 : Index := 0#32
  ![0, v139.toNat, 0, 0, 0]

def k0_off9 (v38 : BitVec 32) : Fin 5 → Nat :=
  let c0_57 : Index := 0#32
  let v142 : Index := Scalar.indexCast v38
  let c0_58 : Index := 0#32
  let c0_59 : Index := 0#32
  let c0_60 : Index := 0#32
  ![0, v142.toNat, 0, 0, 0]

def k0_off10 (i : grid0.Coords) (v32 : BitVec 32) : Fin 1 → Nat :=
  let arg0 : BitVec 32 := BitVec.ofNat 32 (i 0).val
  let c96_i32_62 : BitVec 32 := 96#32
  let v148 : BitVec 32 := Scalar.muli arg0 c96_i32_62
  let v149 : BitVec 32 := Scalar.addi v148 v32
  let c5_i32_63 : BitVec 32 := 5#32
  let v150 : BitVec 32 := Scalar.muli v149 c5_i32_63
  let arg1 : BitVec 32 := BitVec.ofNat 32 (i 1).val
  let v151 : BitVec 32 := Scalar.addi v150 arg1
  let v152 : Index := Scalar.indexCast v151
  ![v152.toNat]
def k0_off11 (i : grid0.Coords) (v38 : BitVec 32) : Fin 1 → Nat :=
  let arg0 : BitVec 32 := BitVec.ofNat 32 (i 0).val
  let c96_i32_64 : BitVec 32 := 96#32
  let v158 : BitVec 32 := Scalar.muli arg0 c96_i32_64
  let v159 : BitVec 32 := Scalar.addi v158 v38
  let c5_i32_65 : BitVec 32 := 5#32
  let v160 : BitVec 32 := Scalar.muli v159 c5_i32_65
  let arg1 : BitVec 32 := BitVec.ofNat 32 (i 1).val
  let v161 : BitVec 32 := Scalar.addi v160 arg1
  let v162 : Index := Scalar.indexCast v161
  ![v162.toNat]
def k0_off12 (v44 : BitVec 32) : Fin 5 → Nat :=
  let c0_71 : Index := 0#32
  let v187 : Index := Scalar.indexCast v44
  let c0_72 : Index := 0#32
  let c0_73 : Index := 0#32
  let c0_74 : Index := 0#32
  ![0, v187.toNat, 0, 0, 0]

def k0_off13 (v50 : BitVec 32) : Fin 5 → Nat :=
  let c0_75 : Index := 0#32
  let v190 : Index := Scalar.indexCast v50
  let c0_76 : Index := 0#32
  let c0_77 : Index := 0#32
  let c0_78 : Index := 0#32
  ![0, v190.toNat, 0, 0, 0]

def k0_off14 (i : grid0.Coords) (v44 : BitVec 32) : Fin 1 → Nat :=
  let arg0 : BitVec 32 := BitVec.ofNat 32 (i 0).val
  let c96_i32_80 : BitVec 32 := 96#32
  let v196 : BitVec 32 := Scalar.muli arg0 c96_i32_80
  let v197 : BitVec 32 := Scalar.addi v196 v44
  let c5_i32_81 : BitVec 32 := 5#32
  let v198 : BitVec 32 := Scalar.muli v197 c5_i32_81
  let arg1 : BitVec 32 := BitVec.ofNat 32 (i 1).val
  let v199 : BitVec 32 := Scalar.addi v198 arg1
  let v200 : Index := Scalar.indexCast v199
  ![v200.toNat]
def k0_off15 (i : grid0.Coords) (v50 : BitVec 32) : Fin 1 → Nat :=
  let arg0 : BitVec 32 := BitVec.ofNat 32 (i 0).val
  let c96_i32_82 : BitVec 32 := 96#32
  let v206 : BitVec 32 := Scalar.muli arg0 c96_i32_82
  let v207 : BitVec 32 := Scalar.addi v206 v50
  let c5_i32_83 : BitVec 32 := 5#32
  let v208 : BitVec 32 := Scalar.muli v207 c5_i32_83
  let arg1 : BitVec 32 := BitVec.ofNat 32 (i 1).val
  let v209 : BitVec 32 := Scalar.addi v208 arg1
  let v210 : Index := Scalar.indexCast v209
  ![v210.toNat]
def k0_off16 (v56 : BitVec 32) : Fin 5 → Nat :=
  let c0_89 : Index := 0#32
  let v235 : Index := Scalar.indexCast v56
  let c0_90 : Index := 0#32
  let c0_91 : Index := 0#32
  let c0_92 : Index := 0#32
  ![0, v235.toNat, 0, 0, 0]

def k0_off17 (v62 : BitVec 32) : Fin 5 → Nat :=
  let c0_93 : Index := 0#32
  let v238 : Index := Scalar.indexCast v62
  let c0_94 : Index := 0#32
  let c0_95 : Index := 0#32
  let c0_96 : Index := 0#32
  ![0, v238.toNat, 0, 0, 0]

def k0_off18 (i : grid0.Coords) (v56 : BitVec 32) : Fin 1 → Nat :=
  let arg0 : BitVec 32 := BitVec.ofNat 32 (i 0).val
  let c96_i32_98 : BitVec 32 := 96#32
  let v244 : BitVec 32 := Scalar.muli arg0 c96_i32_98
  let v245 : BitVec 32 := Scalar.addi v244 v56
  let c5_i32_99 : BitVec 32 := 5#32
  let v246 : BitVec 32 := Scalar.muli v245 c5_i32_99
  let arg1 : BitVec 32 := BitVec.ofNat 32 (i 1).val
  let v247 : BitVec 32 := Scalar.addi v246 arg1
  let v248 : Index := Scalar.indexCast v247
  ![v248.toNat]
def k0_off19 (i : grid0.Coords) (v62 : BitVec 32) : Fin 1 → Nat :=
  let arg0 : BitVec 32 := BitVec.ofNat 32 (i 0).val
  let c96_i32_100 : BitVec 32 := 96#32
  let v254 : BitVec 32 := Scalar.muli arg0 c96_i32_100
  let v255 : BitVec 32 := Scalar.addi v254 v62
  let c5_i32_101 : BitVec 32 := 5#32
  let v256 : BitVec 32 := Scalar.muli v255 c5_i32_101
  let arg1 : BitVec 32 := BitVec.ofNat 32 (i 1).val
  let v257 : BitVec 32 := Scalar.addi v256 arg1
  let v258 : Index := Scalar.indexCast v257
  ![v258.toNat]
def k0_off20 (v68 : BitVec 32) : Fin 5 → Nat :=
  let c0_107 : Index := 0#32
  let v283 : Index := Scalar.indexCast v68
  let c0_108 : Index := 0#32
  let c0_109 : Index := 0#32
  let c0_110 : Index := 0#32
  ![0, v283.toNat, 0, 0, 0]

def k0_off21 (v74 : BitVec 32) : Fin 5 → Nat :=
  let c0_111 : Index := 0#32
  let v286 : Index := Scalar.indexCast v74
  let c0_112 : Index := 0#32
  let c0_113 : Index := 0#32
  let c0_114 : Index := 0#32
  ![0, v286.toNat, 0, 0, 0]

def k0_off22 (i : grid0.Coords) (v68 : BitVec 32) : Fin 1 → Nat :=
  let arg0 : BitVec 32 := BitVec.ofNat 32 (i 0).val
  let c96_i32_116 : BitVec 32 := 96#32
  let v292 : BitVec 32 := Scalar.muli arg0 c96_i32_116
  let v293 : BitVec 32 := Scalar.addi v292 v68
  let c5_i32_117 : BitVec 32 := 5#32
  let v294 : BitVec 32 := Scalar.muli v293 c5_i32_117
  let arg1 : BitVec 32 := BitVec.ofNat 32 (i 1).val
  let v295 : BitVec 32 := Scalar.addi v294 arg1
  let v296 : Index := Scalar.indexCast v295
  ![v296.toNat]
def k0_off23 (i : grid0.Coords) (v74 : BitVec 32) : Fin 1 → Nat :=
  let arg0 : BitVec 32 := BitVec.ofNat 32 (i 0).val
  let c96_i32_118 : BitVec 32 := 96#32
  let v302 : BitVec 32 := Scalar.muli arg0 c96_i32_118
  let v303 : BitVec 32 := Scalar.addi v302 v74
  let c5_i32_119 : BitVec 32 := 5#32
  let v304 : BitVec 32 := Scalar.muli v303 c5_i32_119
  let arg1 : BitVec 32 := BitVec.ofNat 32 (i 1).val
  let v305 : BitVec 32 := Scalar.addi v304 arg1
  let v306 : Index := Scalar.indexCast v305
  ![v306.toNat]
def k0_off24 (v80 : BitVec 32) : Fin 5 → Nat :=
  let c0_125 : Index := 0#32
  let v331 : Index := Scalar.indexCast v80
  let c0_126 : Index := 0#32
  let c0_127 : Index := 0#32
  let c0_128 : Index := 0#32
  ![0, v331.toNat, 0, 0, 0]

def k0_off25 (v86 : BitVec 32) : Fin 5 → Nat :=
  let c0_129 : Index := 0#32
  let v334 : Index := Scalar.indexCast v86
  let c0_130 : Index := 0#32
  let c0_131 : Index := 0#32
  let c0_132 : Index := 0#32
  ![0, v334.toNat, 0, 0, 0]

def k0_off26 (i : grid0.Coords) (v80 : BitVec 32) : Fin 1 → Nat :=
  let arg0 : BitVec 32 := BitVec.ofNat 32 (i 0).val
  let c96_i32_134 : BitVec 32 := 96#32
  let v340 : BitVec 32 := Scalar.muli arg0 c96_i32_134
  let v341 : BitVec 32 := Scalar.addi v340 v80
  let c5_i32_135 : BitVec 32 := 5#32
  let v342 : BitVec 32 := Scalar.muli v341 c5_i32_135
  let arg1 : BitVec 32 := BitVec.ofNat 32 (i 1).val
  let v343 : BitVec 32 := Scalar.addi v342 arg1
  let v344 : Index := Scalar.indexCast v343
  ![v344.toNat]
def k0_off27 (i : grid0.Coords) (v86 : BitVec 32) : Fin 1 → Nat :=
  let arg0 : BitVec 32 := BitVec.ofNat 32 (i 0).val
  let c96_i32_136 : BitVec 32 := 96#32
  let v350 : BitVec 32 := Scalar.muli arg0 c96_i32_136
  let v351 : BitVec 32 := Scalar.addi v350 v86
  let c5_i32_137 : BitVec 32 := 5#32
  let v352 : BitVec 32 := Scalar.muli v351 c5_i32_137
  let arg1 : BitVec 32 := BitVec.ofNat 32 (i 1).val
  let v353 : BitVec 32 := Scalar.addi v352 arg1
  let v354 : Index := Scalar.indexCast v353
  ![v354.toNat]

def k0_chk12 (i : grid0.Coords) (v86 : BitVec 32) : Prop :=
  (∀ a, (k0_off25 v86) a + S1x1x1x384x128.size a ≤ S1x96x1x384x128.size a) ∧
  (∀ a, (k0_off27 i v86) a + S1.size a ≤ S960.size a)
theorem k0_off25_inb : ∀ (i : grid0.Coords) (v86 : BitVec 32) (k0_hw12 : k0_chk12 i v86), ∀ a, (k0_off25 v86) a + S1x1x1x384x128.size a ≤ S1x96x1x384x128.size a := fun i v86 k0_hw12 => k0_hw12.1
theorem k0_off27_inb : ∀ (i : grid0.Coords) (v86 : BitVec 32) (k0_hw12 : k0_chk12 i v86), ∀ a, (k0_off27 i v86) a + S1.size a ≤ S960.size a := fun i v86 k0_hw12 => k0_hw12.2

def k0_off28 (i : grid0.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let v382 : Index := Scalar.indexCast v1
  ![v382.toNat]
def k0_off29 (v20 : BitVec 32) : Fin 5 → Nat :=
  let c0_158 : Index := 0#32
  let v414 : Index := Scalar.indexCast v20
  let c0_159 : Index := 0#32
  let c0_160 : Index := 0#32
  let c0_161 : Index := 0#32
  ![0, v414.toNat, 0, 0, 0]

def k0_chk1 (i : grid0.Coords) (v20 : BitVec 32) : Prop :=
  (∀ a, (k0_off4 v20) a + S1x1x1x384x128.size a ≤ S1x96x1x384x128.size a) ∧
  (∀ a, (k0_off6 i v20) a + S1.size a ≤ S960.size a) ∧
  (∀ a, (k0_off29 v20) a + S1x1x1x384x128.size a ≤ S1x96x1x384x128.size a)
theorem k0_off4_inb : ∀ (i : grid0.Coords) (v20 : BitVec 32) (k0_hw1 : k0_chk1 i v20), ∀ a, (k0_off4 v20) a + S1x1x1x384x128.size a ≤ S1x96x1x384x128.size a := fun i v20 k0_hw1 => k0_hw1.1
theorem k0_off6_inb : ∀ (i : grid0.Coords) (v20 : BitVec 32) (k0_hw1 : k0_chk1 i v20), ∀ a, (k0_off6 i v20) a + S1.size a ≤ S960.size a := fun i v20 k0_hw1 => k0_hw1.2.1
theorem k0_off29_inb : ∀ (i : grid0.Coords) (v20 : BitVec 32) (k0_hw1 : k0_chk1 i v20), ∀ a, (k0_off29 v20) a + S1x1x1x384x128.size a ≤ S1x96x1x384x128.size a := fun i v20 k0_hw1 => k0_hw1.2.2

def k0_off30 (v26 : BitVec 32) : Fin 5 → Nat :=
  let c0_162 : Index := 0#32
  let v417 : Index := Scalar.indexCast v26
  let c0_163 : Index := 0#32
  let c0_164 : Index := 0#32
  let c0_165 : Index := 0#32
  ![0, v417.toNat, 0, 0, 0]

def k0_chk2 (i : grid0.Coords) (v26 : BitVec 32) : Prop :=
  (∀ a, (k0_off5 v26) a + S1x1x1x384x128.size a ≤ S1x96x1x384x128.size a) ∧
  (∀ a, (k0_off7 i v26) a + S1.size a ≤ S960.size a) ∧
  (∀ a, (k0_off30 v26) a + S1x1x1x384x128.size a ≤ S1x96x1x384x128.size a)
theorem k0_off5_inb : ∀ (i : grid0.Coords) (v26 : BitVec 32) (k0_hw2 : k0_chk2 i v26), ∀ a, (k0_off5 v26) a + S1x1x1x384x128.size a ≤ S1x96x1x384x128.size a := fun i v26 k0_hw2 => k0_hw2.1
theorem k0_off7_inb : ∀ (i : grid0.Coords) (v26 : BitVec 32) (k0_hw2 : k0_chk2 i v26), ∀ a, (k0_off7 i v26) a + S1.size a ≤ S960.size a := fun i v26 k0_hw2 => k0_hw2.2.1
theorem k0_off30_inb : ∀ (i : grid0.Coords) (v26 : BitVec 32) (k0_hw2 : k0_chk2 i v26), ∀ a, (k0_off30 v26) a + S1x1x1x384x128.size a ≤ S1x96x1x384x128.size a := fun i v26 k0_hw2 => k0_hw2.2.2

def k0_off31 (v32 : BitVec 32) : Fin 5 → Nat :=
  let c0_180 : Index := 0#32
  let v453 : Index := Scalar.indexCast v32
  let c0_181 : Index := 0#32
  let c0_182 : Index := 0#32
  let c0_183 : Index := 0#32
  ![0, v453.toNat, 0, 0, 0]

def k0_chk3 (i : grid0.Coords) (v32 : BitVec 32) : Prop :=
  (∀ a, (k0_off8 v32) a + S1x1x1x384x128.size a ≤ S1x96x1x384x128.size a) ∧
  (∀ a, (k0_off10 i v32) a + S1.size a ≤ S960.size a) ∧
  (∀ a, (k0_off31 v32) a + S1x1x1x384x128.size a ≤ S1x96x1x384x128.size a)
theorem k0_off8_inb : ∀ (i : grid0.Coords) (v32 : BitVec 32) (k0_hw3 : k0_chk3 i v32), ∀ a, (k0_off8 v32) a + S1x1x1x384x128.size a ≤ S1x96x1x384x128.size a := fun i v32 k0_hw3 => k0_hw3.1
theorem k0_off10_inb : ∀ (i : grid0.Coords) (v32 : BitVec 32) (k0_hw3 : k0_chk3 i v32), ∀ a, (k0_off10 i v32) a + S1.size a ≤ S960.size a := fun i v32 k0_hw3 => k0_hw3.2.1
theorem k0_off31_inb : ∀ (i : grid0.Coords) (v32 : BitVec 32) (k0_hw3 : k0_chk3 i v32), ∀ a, (k0_off31 v32) a + S1x1x1x384x128.size a ≤ S1x96x1x384x128.size a := fun i v32 k0_hw3 => k0_hw3.2.2

def k0_off32 (v38 : BitVec 32) : Fin 5 → Nat :=
  let c0_184 : Index := 0#32
  let v456 : Index := Scalar.indexCast v38
  let c0_185 : Index := 0#32
  let c0_186 : Index := 0#32
  let c0_187 : Index := 0#32
  ![0, v456.toNat, 0, 0, 0]

def k0_chk4 (i : grid0.Coords) (v38 : BitVec 32) : Prop :=
  (∀ a, (k0_off9 v38) a + S1x1x1x384x128.size a ≤ S1x96x1x384x128.size a) ∧
  (∀ a, (k0_off11 i v38) a + S1.size a ≤ S960.size a) ∧
  (∀ a, (k0_off32 v38) a + S1x1x1x384x128.size a ≤ S1x96x1x384x128.size a)
theorem k0_off9_inb : ∀ (i : grid0.Coords) (v38 : BitVec 32) (k0_hw4 : k0_chk4 i v38), ∀ a, (k0_off9 v38) a + S1x1x1x384x128.size a ≤ S1x96x1x384x128.size a := fun i v38 k0_hw4 => k0_hw4.1
theorem k0_off11_inb : ∀ (i : grid0.Coords) (v38 : BitVec 32) (k0_hw4 : k0_chk4 i v38), ∀ a, (k0_off11 i v38) a + S1.size a ≤ S960.size a := fun i v38 k0_hw4 => k0_hw4.2.1
theorem k0_off32_inb : ∀ (i : grid0.Coords) (v38 : BitVec 32) (k0_hw4 : k0_chk4 i v38), ∀ a, (k0_off32 v38) a + S1x1x1x384x128.size a ≤ S1x96x1x384x128.size a := fun i v38 k0_hw4 => k0_hw4.2.2

def k0_off33 (v44 : BitVec 32) : Fin 5 → Nat :=
  let c0_204 : Index := 0#32
  let v494 : Index := Scalar.indexCast v44
  let c0_205 : Index := 0#32
  let c0_206 : Index := 0#32
  let c0_207 : Index := 0#32
  ![0, v494.toNat, 0, 0, 0]

def k0_chk5 (i : grid0.Coords) (v44 : BitVec 32) : Prop :=
  (∀ a, (k0_off12 v44) a + S1x1x1x384x128.size a ≤ S1x96x1x384x128.size a) ∧
  (∀ a, (k0_off14 i v44) a + S1.size a ≤ S960.size a) ∧
  (∀ a, (k0_off33 v44) a + S1x1x1x384x128.size a ≤ S1x96x1x384x128.size a)
theorem k0_off12_inb : ∀ (i : grid0.Coords) (v44 : BitVec 32) (k0_hw5 : k0_chk5 i v44), ∀ a, (k0_off12 v44) a + S1x1x1x384x128.size a ≤ S1x96x1x384x128.size a := fun i v44 k0_hw5 => k0_hw5.1
theorem k0_off14_inb : ∀ (i : grid0.Coords) (v44 : BitVec 32) (k0_hw5 : k0_chk5 i v44), ∀ a, (k0_off14 i v44) a + S1.size a ≤ S960.size a := fun i v44 k0_hw5 => k0_hw5.2.1
theorem k0_off33_inb : ∀ (i : grid0.Coords) (v44 : BitVec 32) (k0_hw5 : k0_chk5 i v44), ∀ a, (k0_off33 v44) a + S1x1x1x384x128.size a ≤ S1x96x1x384x128.size a := fun i v44 k0_hw5 => k0_hw5.2.2

def k0_off34 (v50 : BitVec 32) : Fin 5 → Nat :=
  let c0_208 : Index := 0#32
  let v497 : Index := Scalar.indexCast v50
  let c0_209 : Index := 0#32
  let c0_210 : Index := 0#32
  let c0_211 : Index := 0#32
  ![0, v497.toNat, 0, 0, 0]

def k0_chk6 (i : grid0.Coords) (v50 : BitVec 32) : Prop :=
  (∀ a, (k0_off13 v50) a + S1x1x1x384x128.size a ≤ S1x96x1x384x128.size a) ∧
  (∀ a, (k0_off15 i v50) a + S1.size a ≤ S960.size a) ∧
  (∀ a, (k0_off34 v50) a + S1x1x1x384x128.size a ≤ S1x96x1x384x128.size a)
theorem k0_off13_inb : ∀ (i : grid0.Coords) (v50 : BitVec 32) (k0_hw6 : k0_chk6 i v50), ∀ a, (k0_off13 v50) a + S1x1x1x384x128.size a ≤ S1x96x1x384x128.size a := fun i v50 k0_hw6 => k0_hw6.1
theorem k0_off15_inb : ∀ (i : grid0.Coords) (v50 : BitVec 32) (k0_hw6 : k0_chk6 i v50), ∀ a, (k0_off15 i v50) a + S1.size a ≤ S960.size a := fun i v50 k0_hw6 => k0_hw6.2.1
theorem k0_off34_inb : ∀ (i : grid0.Coords) (v50 : BitVec 32) (k0_hw6 : k0_chk6 i v50), ∀ a, (k0_off34 v50) a + S1x1x1x384x128.size a ≤ S1x96x1x384x128.size a := fun i v50 k0_hw6 => k0_hw6.2.2

def k0_off35 (v56 : BitVec 32) : Fin 5 → Nat :=
  let c0_228 : Index := 0#32
  let v535 : Index := Scalar.indexCast v56
  let c0_229 : Index := 0#32
  let c0_230 : Index := 0#32
  let c0_231 : Index := 0#32
  ![0, v535.toNat, 0, 0, 0]

def k0_chk7 (i : grid0.Coords) (v56 : BitVec 32) : Prop :=
  (∀ a, (k0_off16 v56) a + S1x1x1x384x128.size a ≤ S1x96x1x384x128.size a) ∧
  (∀ a, (k0_off18 i v56) a + S1.size a ≤ S960.size a) ∧
  (∀ a, (k0_off35 v56) a + S1x1x1x384x128.size a ≤ S1x96x1x384x128.size a)
theorem k0_off16_inb : ∀ (i : grid0.Coords) (v56 : BitVec 32) (k0_hw7 : k0_chk7 i v56), ∀ a, (k0_off16 v56) a + S1x1x1x384x128.size a ≤ S1x96x1x384x128.size a := fun i v56 k0_hw7 => k0_hw7.1
theorem k0_off18_inb : ∀ (i : grid0.Coords) (v56 : BitVec 32) (k0_hw7 : k0_chk7 i v56), ∀ a, (k0_off18 i v56) a + S1.size a ≤ S960.size a := fun i v56 k0_hw7 => k0_hw7.2.1
theorem k0_off35_inb : ∀ (i : grid0.Coords) (v56 : BitVec 32) (k0_hw7 : k0_chk7 i v56), ∀ a, (k0_off35 v56) a + S1x1x1x384x128.size a ≤ S1x96x1x384x128.size a := fun i v56 k0_hw7 => k0_hw7.2.2

def k0_off36 (v62 : BitVec 32) : Fin 5 → Nat :=
  let c0_232 : Index := 0#32
  let v538 : Index := Scalar.indexCast v62
  let c0_233 : Index := 0#32
  let c0_234 : Index := 0#32
  let c0_235 : Index := 0#32
  ![0, v538.toNat, 0, 0, 0]

def k0_chk8 (i : grid0.Coords) (v62 : BitVec 32) : Prop :=
  (∀ a, (k0_off17 v62) a + S1x1x1x384x128.size a ≤ S1x96x1x384x128.size a) ∧
  (∀ a, (k0_off19 i v62) a + S1.size a ≤ S960.size a) ∧
  (∀ a, (k0_off36 v62) a + S1x1x1x384x128.size a ≤ S1x96x1x384x128.size a)
theorem k0_off17_inb : ∀ (i : grid0.Coords) (v62 : BitVec 32) (k0_hw8 : k0_chk8 i v62), ∀ a, (k0_off17 v62) a + S1x1x1x384x128.size a ≤ S1x96x1x384x128.size a := fun i v62 k0_hw8 => k0_hw8.1
theorem k0_off19_inb : ∀ (i : grid0.Coords) (v62 : BitVec 32) (k0_hw8 : k0_chk8 i v62), ∀ a, (k0_off19 i v62) a + S1.size a ≤ S960.size a := fun i v62 k0_hw8 => k0_hw8.2.1
theorem k0_off36_inb : ∀ (i : grid0.Coords) (v62 : BitVec 32) (k0_hw8 : k0_chk8 i v62), ∀ a, (k0_off36 v62) a + S1x1x1x384x128.size a ≤ S1x96x1x384x128.size a := fun i v62 k0_hw8 => k0_hw8.2.2

def k0_off37 (v68 : BitVec 32) : Fin 5 → Nat :=
  let c0_252 : Index := 0#32
  let v576 : Index := Scalar.indexCast v68
  let c0_253 : Index := 0#32
  let c0_254 : Index := 0#32
  let c0_255 : Index := 0#32
  ![0, v576.toNat, 0, 0, 0]

def k0_chk9 (i : grid0.Coords) (v68 : BitVec 32) : Prop :=
  (∀ a, (k0_off20 v68) a + S1x1x1x384x128.size a ≤ S1x96x1x384x128.size a) ∧
  (∀ a, (k0_off22 i v68) a + S1.size a ≤ S960.size a) ∧
  (∀ a, (k0_off37 v68) a + S1x1x1x384x128.size a ≤ S1x96x1x384x128.size a)
theorem k0_off20_inb : ∀ (i : grid0.Coords) (v68 : BitVec 32) (k0_hw9 : k0_chk9 i v68), ∀ a, (k0_off20 v68) a + S1x1x1x384x128.size a ≤ S1x96x1x384x128.size a := fun i v68 k0_hw9 => k0_hw9.1
theorem k0_off22_inb : ∀ (i : grid0.Coords) (v68 : BitVec 32) (k0_hw9 : k0_chk9 i v68), ∀ a, (k0_off22 i v68) a + S1.size a ≤ S960.size a := fun i v68 k0_hw9 => k0_hw9.2.1
theorem k0_off37_inb : ∀ (i : grid0.Coords) (v68 : BitVec 32) (k0_hw9 : k0_chk9 i v68), ∀ a, (k0_off37 v68) a + S1x1x1x384x128.size a ≤ S1x96x1x384x128.size a := fun i v68 k0_hw9 => k0_hw9.2.2

def k0_off38 (v74 : BitVec 32) : Fin 5 → Nat :=
  let c0_256 : Index := 0#32
  let v579 : Index := Scalar.indexCast v74
  let c0_257 : Index := 0#32
  let c0_258 : Index := 0#32
  let c0_259 : Index := 0#32
  ![0, v579.toNat, 0, 0, 0]

def k0_chk10 (i : grid0.Coords) (v74 : BitVec 32) : Prop :=
  (∀ a, (k0_off21 v74) a + S1x1x1x384x128.size a ≤ S1x96x1x384x128.size a) ∧
  (∀ a, (k0_off23 i v74) a + S1.size a ≤ S960.size a) ∧
  (∀ a, (k0_off38 v74) a + S1x1x1x384x128.size a ≤ S1x96x1x384x128.size a)
theorem k0_off21_inb : ∀ (i : grid0.Coords) (v74 : BitVec 32) (k0_hw10 : k0_chk10 i v74), ∀ a, (k0_off21 v74) a + S1x1x1x384x128.size a ≤ S1x96x1x384x128.size a := fun i v74 k0_hw10 => k0_hw10.1
theorem k0_off23_inb : ∀ (i : grid0.Coords) (v74 : BitVec 32) (k0_hw10 : k0_chk10 i v74), ∀ a, (k0_off23 i v74) a + S1.size a ≤ S960.size a := fun i v74 k0_hw10 => k0_hw10.2.1
theorem k0_off38_inb : ∀ (i : grid0.Coords) (v74 : BitVec 32) (k0_hw10 : k0_chk10 i v74), ∀ a, (k0_off38 v74) a + S1x1x1x384x128.size a ≤ S1x96x1x384x128.size a := fun i v74 k0_hw10 => k0_hw10.2.2

def k0_off39 (v80 : BitVec 32) : Fin 5 → Nat :=
  let c0_276 : Index := 0#32
  let v617 : Index := Scalar.indexCast v80
  let c0_277 : Index := 0#32
  let c0_278 : Index := 0#32
  let c0_279 : Index := 0#32
  ![0, v617.toNat, 0, 0, 0]

def k0_chk11 (i : grid0.Coords) (v80 : BitVec 32) : Prop :=
  (∀ a, (k0_off24 v80) a + S1x1x1x384x128.size a ≤ S1x96x1x384x128.size a) ∧
  (∀ a, (k0_off26 i v80) a + S1.size a ≤ S960.size a) ∧
  (∀ a, (k0_off39 v80) a + S1x1x1x384x128.size a ≤ S1x96x1x384x128.size a)
theorem k0_off24_inb : ∀ (i : grid0.Coords) (v80 : BitVec 32) (k0_hw11 : k0_chk11 i v80), ∀ a, (k0_off24 v80) a + S1x1x1x384x128.size a ≤ S1x96x1x384x128.size a := fun i v80 k0_hw11 => k0_hw11.1
theorem k0_off26_inb : ∀ (i : grid0.Coords) (v80 : BitVec 32) (k0_hw11 : k0_chk11 i v80), ∀ a, (k0_off26 i v80) a + S1.size a ≤ S960.size a := fun i v80 k0_hw11 => k0_hw11.2.1
theorem k0_off39_inb : ∀ (i : grid0.Coords) (v80 : BitVec 32) (k0_hw11 : k0_chk11 i v80), ∀ a, (k0_off39 v80) a + S1x1x1x384x128.size a ≤ S1x96x1x384x128.size a := fun i v80 k0_hw11 => k0_hw11.2.2

def k0_off40 (i : grid0.Coords) : Fin 1 → Nat :=
  let arg1 : BitVec 32 := BitVec.ofNat 32 (i 1).val
  let v699 : Index := Scalar.indexCast arg1
  ![v699.toNat]
def k0_off41 (i : grid0.Coords) : Fin 4 → Nat :=
  let c0_322 : Index := 0#32
  let c0_323 : Index := 0#32
  let arg2 : BitVec 32 := BitVec.ofNat 32 (i 2).val
  let c6_i32 : BitVec 32 := 6#32
  let v4 : BitVec 32 := Scalar.muli arg2 c6_i32
  let c0_i32 : BitVec 32 := 0#32
  let v5 : BitVec 32 := Scalar.addi v4 c0_i32
  let v701 : Index := Scalar.indexCast v5
  let c0_324 : Index := 0#32
  ![0, 0, v701.toNat, 0]
def k0_off42 (i : grid0.Coords) : Fin 1 → Nat :=
  let arg0 : BitVec 32 := BitVec.ofNat 32 (i 0).val
  let c96_i32_392 : BitVec 32 := 96#32
  let v802 : BitVec 32 := Scalar.muli arg0 c96_i32_392
  let arg2 : BitVec 32 := BitVec.ofNat 32 (i 2).val
  let c6_i32_386 : BitVec 32 := 6#32
  let v798 : BitVec 32 := Scalar.muli arg2 c6_i32_386
  let c1_i32_387 : BitVec 32 := 1#32
  let v799 : BitVec 32 := Scalar.addi v798 c1_i32_387
  let v803 : BitVec 32 := Scalar.addi v802 v799
  let c5_i32_393 : BitVec 32 := 5#32
  let v804 : BitVec 32 := Scalar.muli v803 c5_i32_393
  let arg1 : BitVec 32 := BitVec.ofNat 32 (i 1).val
  let v805 : BitVec 32 := Scalar.addi v804 arg1
  let v806 : Index := Scalar.indexCast v805
  ![v806.toNat]
def k0_off43 (i : grid0.Coords) (c0_i32_397 : BitVec 32) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c96_i32_395 : BitVec 32 := 96#32
  let v809 : BitVec 32 := Scalar.muli v1 c96_i32_395
  let arg2 : BitVec 32 := BitVec.ofNat 32 (i 2).val
  let c6_i32_386 : BitVec 32 := 6#32
  let v798 : BitVec 32 := Scalar.muli arg2 c6_i32_386
  let c1_i32_387 : BitVec 32 := 1#32
  let v799 : BitVec 32 := Scalar.addi v798 c1_i32_387
  let v810 : BitVec 32 := Scalar.addi v809 v799
  let c12_i32_396 : BitVec 32 := 12#32
  let v811 : BitVec 32 := Scalar.muli v810 c12_i32_396
  let v812 : BitVec 32 := Scalar.addi v811 c0_i32_397
  let v813 : Index := Scalar.indexCast v812
  ![v813.toNat]
def k0_off44 (v814 : BitVec 32) : Fin 5 → Nat :=
  let c0_434 : Index := 0#32
  let v885 : Index := Scalar.indexCast v814
  let c0_435 : Index := 0#32
  let c0_436 : Index := 0#32
  let c0_437 : Index := 0#32
  ![0, v885.toNat, 0, 0, 0]

def k0_off45 (v820 : BitVec 32) : Fin 5 → Nat :=
  let c0_438 : Index := 0#32
  let v888 : Index := Scalar.indexCast v820
  let c0_439 : Index := 0#32
  let c0_440 : Index := 0#32
  let c0_441 : Index := 0#32
  ![0, v888.toNat, 0, 0, 0]

def k0_off46 (i : grid0.Coords) (v814 : BitVec 32) : Fin 1 → Nat :=
  let arg0 : BitVec 32 := BitVec.ofNat 32 (i 0).val
  let c96_i32_443 : BitVec 32 := 96#32
  let v894 : BitVec 32 := Scalar.muli arg0 c96_i32_443
  let v895 : BitVec 32 := Scalar.addi v894 v814
  let c5_i32_444 : BitVec 32 := 5#32
  let v896 : BitVec 32 := Scalar.muli v895 c5_i32_444
  let arg1 : BitVec 32 := BitVec.ofNat 32 (i 1).val
  let v897 : BitVec 32 := Scalar.addi v896 arg1
  let v898 : Index := Scalar.indexCast v897
  ![v898.toNat]
def k0_off47 (i : grid0.Coords) (v820 : BitVec 32) : Fin 1 → Nat :=
  let arg0 : BitVec 32 := BitVec.ofNat 32 (i 0).val
  let c96_i32_445 : BitVec 32 := 96#32
  let v904 : BitVec 32 := Scalar.muli arg0 c96_i32_445
  let v905 : BitVec 32 := Scalar.addi v904 v820
  let c5_i32_446 : BitVec 32 := 5#32
  let v906 : BitVec 32 := Scalar.muli v905 c5_i32_446
  let arg1 : BitVec 32 := BitVec.ofNat 32 (i 1).val
  let v907 : BitVec 32 := Scalar.addi v906 arg1
  let v908 : Index := Scalar.indexCast v907
  ![v908.toNat]
def k0_off48 (v826 : BitVec 32) : Fin 5 → Nat :=
  let c0_453 : Index := 0#32
  let v933 : Index := Scalar.indexCast v826
  let c0_454 : Index := 0#32
  let c0_455 : Index := 0#32
  let c0_456 : Index := 0#32
  ![0, v933.toNat, 0, 0, 0]

def k0_off49 (v832 : BitVec 32) : Fin 5 → Nat :=
  let c0_457 : Index := 0#32
  let v936 : Index := Scalar.indexCast v832
  let c0_458 : Index := 0#32
  let c0_459 : Index := 0#32
  let c0_460 : Index := 0#32
  ![0, v936.toNat, 0, 0, 0]

def k0_off50 (i : grid0.Coords) (v826 : BitVec 32) : Fin 1 → Nat :=
  let arg0 : BitVec 32 := BitVec.ofNat 32 (i 0).val
  let c96_i32_462 : BitVec 32 := 96#32
  let v942 : BitVec 32 := Scalar.muli arg0 c96_i32_462
  let v943 : BitVec 32 := Scalar.addi v942 v826
  let c5_i32_463 : BitVec 32 := 5#32
  let v944 : BitVec 32 := Scalar.muli v943 c5_i32_463
  let arg1 : BitVec 32 := BitVec.ofNat 32 (i 1).val
  let v945 : BitVec 32 := Scalar.addi v944 arg1
  let v946 : Index := Scalar.indexCast v945
  ![v946.toNat]
def k0_off51 (i : grid0.Coords) (v832 : BitVec 32) : Fin 1 → Nat :=
  let arg0 : BitVec 32 := BitVec.ofNat 32 (i 0).val
  let c96_i32_464 : BitVec 32 := 96#32
  let v952 : BitVec 32 := Scalar.muli arg0 c96_i32_464
  let v953 : BitVec 32 := Scalar.addi v952 v832
  let c5_i32_465 : BitVec 32 := 5#32
  let v954 : BitVec 32 := Scalar.muli v953 c5_i32_465
  let arg1 : BitVec 32 := BitVec.ofNat 32 (i 1).val
  let v955 : BitVec 32 := Scalar.addi v954 arg1
  let v956 : Index := Scalar.indexCast v955
  ![v956.toNat]
def k0_off52 (v838 : BitVec 32) : Fin 5 → Nat :=
  let c0_472 : Index := 0#32
  let v981 : Index := Scalar.indexCast v838
  let c0_473 : Index := 0#32
  let c0_474 : Index := 0#32
  let c0_475 : Index := 0#32
  ![0, v981.toNat, 0, 0, 0]

def k0_off53 (v844 : BitVec 32) : Fin 5 → Nat :=
  let c0_476 : Index := 0#32
  let v984 : Index := Scalar.indexCast v844
  let c0_477 : Index := 0#32
  let c0_478 : Index := 0#32
  let c0_479 : Index := 0#32
  ![0, v984.toNat, 0, 0, 0]

def k0_off54 (i : grid0.Coords) (v838 : BitVec 32) : Fin 1 → Nat :=
  let arg0 : BitVec 32 := BitVec.ofNat 32 (i 0).val
  let c96_i32_481 : BitVec 32 := 96#32
  let v990 : BitVec 32 := Scalar.muli arg0 c96_i32_481
  let v991 : BitVec 32 := Scalar.addi v990 v838
  let c5_i32_482 : BitVec 32 := 5#32
  let v992 : BitVec 32 := Scalar.muli v991 c5_i32_482
  let arg1 : BitVec 32 := BitVec.ofNat 32 (i 1).val
  let v993 : BitVec 32 := Scalar.addi v992 arg1
  let v994 : Index := Scalar.indexCast v993
  ![v994.toNat]
def k0_off55 (i : grid0.Coords) (v844 : BitVec 32) : Fin 1 → Nat :=
  let arg0 : BitVec 32 := BitVec.ofNat 32 (i 0).val
  let c96_i32_483 : BitVec 32 := 96#32
  let v1000 : BitVec 32 := Scalar.muli arg0 c96_i32_483
  let v1001 : BitVec 32 := Scalar.addi v1000 v844
  let c5_i32_484 : BitVec 32 := 5#32
  let v1002 : BitVec 32 := Scalar.muli v1001 c5_i32_484
  let arg1 : BitVec 32 := BitVec.ofNat 32 (i 1).val
  let v1003 : BitVec 32 := Scalar.addi v1002 arg1
  let v1004 : Index := Scalar.indexCast v1003
  ![v1004.toNat]
def k0_off56 (v850 : BitVec 32) : Fin 5 → Nat :=
  let c0_491 : Index := 0#32
  let v1029 : Index := Scalar.indexCast v850
  let c0_492 : Index := 0#32
  let c0_493 : Index := 0#32
  let c0_494 : Index := 0#32
  ![0, v1029.toNat, 0, 0, 0]

def k0_off57 (v856 : BitVec 32) : Fin 5 → Nat :=
  let c0_495 : Index := 0#32
  let v1032 : Index := Scalar.indexCast v856
  let c0_496 : Index := 0#32
  let c0_497 : Index := 0#32
  let c0_498 : Index := 0#32
  ![0, v1032.toNat, 0, 0, 0]

def k0_off58 (i : grid0.Coords) (v850 : BitVec 32) : Fin 1 → Nat :=
  let arg0 : BitVec 32 := BitVec.ofNat 32 (i 0).val
  let c96_i32_500 : BitVec 32 := 96#32
  let v1038 : BitVec 32 := Scalar.muli arg0 c96_i32_500
  let v1039 : BitVec 32 := Scalar.addi v1038 v850
  let c5_i32_501 : BitVec 32 := 5#32
  let v1040 : BitVec 32 := Scalar.muli v1039 c5_i32_501
  let arg1 : BitVec 32 := BitVec.ofNat 32 (i 1).val
  let v1041 : BitVec 32 := Scalar.addi v1040 arg1
  let v1042 : Index := Scalar.indexCast v1041
  ![v1042.toNat]
def k0_off59 (i : grid0.Coords) (v856 : BitVec 32) : Fin 1 → Nat :=
  let arg0 : BitVec 32 := BitVec.ofNat 32 (i 0).val
  let c96_i32_502 : BitVec 32 := 96#32
  let v1048 : BitVec 32 := Scalar.muli arg0 c96_i32_502
  let v1049 : BitVec 32 := Scalar.addi v1048 v856
  let c5_i32_503 : BitVec 32 := 5#32
  let v1050 : BitVec 32 := Scalar.muli v1049 c5_i32_503
  let arg1 : BitVec 32 := BitVec.ofNat 32 (i 1).val
  let v1051 : BitVec 32 := Scalar.addi v1050 arg1
  let v1052 : Index := Scalar.indexCast v1051
  ![v1052.toNat]
def k0_off60 (v862 : BitVec 32) : Fin 5 → Nat :=
  let c0_510 : Index := 0#32
  let v1077 : Index := Scalar.indexCast v862
  let c0_511 : Index := 0#32
  let c0_512 : Index := 0#32
  let c0_513 : Index := 0#32
  ![0, v1077.toNat, 0, 0, 0]

def k0_off61 (v868 : BitVec 32) : Fin 5 → Nat :=
  let c0_514 : Index := 0#32
  let v1080 : Index := Scalar.indexCast v868
  let c0_515 : Index := 0#32
  let c0_516 : Index := 0#32
  let c0_517 : Index := 0#32
  ![0, v1080.toNat, 0, 0, 0]

def k0_off62 (i : grid0.Coords) (v862 : BitVec 32) : Fin 1 → Nat :=
  let arg0 : BitVec 32 := BitVec.ofNat 32 (i 0).val
  let c96_i32_519 : BitVec 32 := 96#32
  let v1086 : BitVec 32 := Scalar.muli arg0 c96_i32_519
  let v1087 : BitVec 32 := Scalar.addi v1086 v862
  let c5_i32_520 : BitVec 32 := 5#32
  let v1088 : BitVec 32 := Scalar.muli v1087 c5_i32_520
  let arg1 : BitVec 32 := BitVec.ofNat 32 (i 1).val
  let v1089 : BitVec 32 := Scalar.addi v1088 arg1
  let v1090 : Index := Scalar.indexCast v1089
  ![v1090.toNat]
def k0_off63 (i : grid0.Coords) (v868 : BitVec 32) : Fin 1 → Nat :=
  let arg0 : BitVec 32 := BitVec.ofNat 32 (i 0).val
  let c96_i32_521 : BitVec 32 := 96#32
  let v1096 : BitVec 32 := Scalar.muli arg0 c96_i32_521
  let v1097 : BitVec 32 := Scalar.addi v1096 v868
  let c5_i32_522 : BitVec 32 := 5#32
  let v1098 : BitVec 32 := Scalar.muli v1097 c5_i32_522
  let arg1 : BitVec 32 := BitVec.ofNat 32 (i 1).val
  let v1099 : BitVec 32 := Scalar.addi v1098 arg1
  let v1100 : Index := Scalar.indexCast v1099
  ![v1100.toNat]
def k0_off64 (v874 : BitVec 32) : Fin 5 → Nat :=
  let c0_529 : Index := 0#32
  let v1125 : Index := Scalar.indexCast v874
  let c0_530 : Index := 0#32
  let c0_531 : Index := 0#32
  let c0_532 : Index := 0#32
  ![0, v1125.toNat, 0, 0, 0]

def k0_off65 (v880 : BitVec 32) : Fin 5 → Nat :=
  let c0_533 : Index := 0#32
  let v1128 : Index := Scalar.indexCast v880
  let c0_534 : Index := 0#32
  let c0_535 : Index := 0#32
  let c0_536 : Index := 0#32
  ![0, v1128.toNat, 0, 0, 0]

def k0_off66 (i : grid0.Coords) (v874 : BitVec 32) : Fin 1 → Nat :=
  let arg0 : BitVec 32 := BitVec.ofNat 32 (i 0).val
  let c96_i32_538 : BitVec 32 := 96#32
  let v1134 : BitVec 32 := Scalar.muli arg0 c96_i32_538
  let v1135 : BitVec 32 := Scalar.addi v1134 v874
  let c5_i32_539 : BitVec 32 := 5#32
  let v1136 : BitVec 32 := Scalar.muli v1135 c5_i32_539
  let arg1 : BitVec 32 := BitVec.ofNat 32 (i 1).val
  let v1137 : BitVec 32 := Scalar.addi v1136 arg1
  let v1138 : Index := Scalar.indexCast v1137
  ![v1138.toNat]
def k0_off67 (i : grid0.Coords) (v880 : BitVec 32) : Fin 1 → Nat :=
  let arg0 : BitVec 32 := BitVec.ofNat 32 (i 0).val
  let c96_i32_540 : BitVec 32 := 96#32
  let v1144 : BitVec 32 := Scalar.muli arg0 c96_i32_540
  let v1145 : BitVec 32 := Scalar.addi v1144 v880
  let c5_i32_541 : BitVec 32 := 5#32
  let v1146 : BitVec 32 := Scalar.muli v1145 c5_i32_541
  let arg1 : BitVec 32 := BitVec.ofNat 32 (i 1).val
  let v1147 : BitVec 32 := Scalar.addi v1146 arg1
  let v1148 : Index := Scalar.indexCast v1147
  ![v1148.toNat]

def k0_chk24 (i : grid0.Coords) (v880 : BitVec 32) : Prop :=
  (∀ a, (k0_off65 v880) a + S1x1x1x384x128.size a ≤ S1x96x1x384x128.size a) ∧
  (∀ a, (k0_off67 i v880) a + S1.size a ≤ S960.size a)
theorem k0_off65_inb : ∀ (i : grid0.Coords) (v880 : BitVec 32) (k0_hw24 : k0_chk24 i v880), ∀ a, (k0_off65 v880) a + S1x1x1x384x128.size a ≤ S1x96x1x384x128.size a := fun i v880 k0_hw24 => k0_hw24.1
theorem k0_off67_inb : ∀ (i : grid0.Coords) (v880 : BitVec 32) (k0_hw24 : k0_chk24 i v880), ∀ a, (k0_off67 i v880) a + S1.size a ≤ S960.size a := fun i v880 k0_hw24 => k0_hw24.2

def k0_off68 (i : grid0.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let v1176 : Index := Scalar.indexCast v1
  ![v1176.toNat]
def k0_off69 (v814 : BitVec 32) : Fin 5 → Nat :=
  let c0_564 : Index := 0#32
  let v1208 : Index := Scalar.indexCast v814
  let c0_565 : Index := 0#32
  let c0_566 : Index := 0#32
  let c0_567 : Index := 0#32
  ![0, v1208.toNat, 0, 0, 0]

def k0_chk13 (i : grid0.Coords) (v814 : BitVec 32) : Prop :=
  (∀ a, (k0_off44 v814) a + S1x1x1x384x128.size a ≤ S1x96x1x384x128.size a) ∧
  (∀ a, (k0_off46 i v814) a + S1.size a ≤ S960.size a) ∧
  (∀ a, (k0_off69 v814) a + S1x1x1x384x128.size a ≤ S1x96x1x384x128.size a)
theorem k0_off44_inb : ∀ (i : grid0.Coords) (v814 : BitVec 32) (k0_hw13 : k0_chk13 i v814), ∀ a, (k0_off44 v814) a + S1x1x1x384x128.size a ≤ S1x96x1x384x128.size a := fun i v814 k0_hw13 => k0_hw13.1
theorem k0_off46_inb : ∀ (i : grid0.Coords) (v814 : BitVec 32) (k0_hw13 : k0_chk13 i v814), ∀ a, (k0_off46 i v814) a + S1.size a ≤ S960.size a := fun i v814 k0_hw13 => k0_hw13.2.1
theorem k0_off69_inb : ∀ (i : grid0.Coords) (v814 : BitVec 32) (k0_hw13 : k0_chk13 i v814), ∀ a, (k0_off69 v814) a + S1x1x1x384x128.size a ≤ S1x96x1x384x128.size a := fun i v814 k0_hw13 => k0_hw13.2.2

def k0_off70 (v820 : BitVec 32) : Fin 5 → Nat :=
  let c0_568 : Index := 0#32
  let v1211 : Index := Scalar.indexCast v820
  let c0_569 : Index := 0#32
  let c0_570 : Index := 0#32
  let c0_571 : Index := 0#32
  ![0, v1211.toNat, 0, 0, 0]

def k0_chk14 (i : grid0.Coords) (v820 : BitVec 32) : Prop :=
  (∀ a, (k0_off45 v820) a + S1x1x1x384x128.size a ≤ S1x96x1x384x128.size a) ∧
  (∀ a, (k0_off47 i v820) a + S1.size a ≤ S960.size a) ∧
  (∀ a, (k0_off70 v820) a + S1x1x1x384x128.size a ≤ S1x96x1x384x128.size a)
theorem k0_off45_inb : ∀ (i : grid0.Coords) (v820 : BitVec 32) (k0_hw14 : k0_chk14 i v820), ∀ a, (k0_off45 v820) a + S1x1x1x384x128.size a ≤ S1x96x1x384x128.size a := fun i v820 k0_hw14 => k0_hw14.1
theorem k0_off47_inb : ∀ (i : grid0.Coords) (v820 : BitVec 32) (k0_hw14 : k0_chk14 i v820), ∀ a, (k0_off47 i v820) a + S1.size a ≤ S960.size a := fun i v820 k0_hw14 => k0_hw14.2.1
theorem k0_off70_inb : ∀ (i : grid0.Coords) (v820 : BitVec 32) (k0_hw14 : k0_chk14 i v820), ∀ a, (k0_off70 v820) a + S1x1x1x384x128.size a ≤ S1x96x1x384x128.size a := fun i v820 k0_hw14 => k0_hw14.2.2

def k0_off71 (v826 : BitVec 32) : Fin 5 → Nat :=
  let c0_586 : Index := 0#32
  let v1247 : Index := Scalar.indexCast v826
  let c0_587 : Index := 0#32
  let c0_588 : Index := 0#32
  let c0_589 : Index := 0#32
  ![0, v1247.toNat, 0, 0, 0]

def k0_chk15 (i : grid0.Coords) (v826 : BitVec 32) : Prop :=
  (∀ a, (k0_off48 v826) a + S1x1x1x384x128.size a ≤ S1x96x1x384x128.size a) ∧
  (∀ a, (k0_off50 i v826) a + S1.size a ≤ S960.size a) ∧
  (∀ a, (k0_off71 v826) a + S1x1x1x384x128.size a ≤ S1x96x1x384x128.size a)
theorem k0_off48_inb : ∀ (i : grid0.Coords) (v826 : BitVec 32) (k0_hw15 : k0_chk15 i v826), ∀ a, (k0_off48 v826) a + S1x1x1x384x128.size a ≤ S1x96x1x384x128.size a := fun i v826 k0_hw15 => k0_hw15.1
theorem k0_off50_inb : ∀ (i : grid0.Coords) (v826 : BitVec 32) (k0_hw15 : k0_chk15 i v826), ∀ a, (k0_off50 i v826) a + S1.size a ≤ S960.size a := fun i v826 k0_hw15 => k0_hw15.2.1
theorem k0_off71_inb : ∀ (i : grid0.Coords) (v826 : BitVec 32) (k0_hw15 : k0_chk15 i v826), ∀ a, (k0_off71 v826) a + S1x1x1x384x128.size a ≤ S1x96x1x384x128.size a := fun i v826 k0_hw15 => k0_hw15.2.2

def k0_off72 (v832 : BitVec 32) : Fin 5 → Nat :=
  let c0_590 : Index := 0#32
  let v1250 : Index := Scalar.indexCast v832
  let c0_591 : Index := 0#32
  let c0_592 : Index := 0#32
  let c0_593 : Index := 0#32
  ![0, v1250.toNat, 0, 0, 0]

def k0_chk16 (i : grid0.Coords) (v832 : BitVec 32) : Prop :=
  (∀ a, (k0_off49 v832) a + S1x1x1x384x128.size a ≤ S1x96x1x384x128.size a) ∧
  (∀ a, (k0_off51 i v832) a + S1.size a ≤ S960.size a) ∧
  (∀ a, (k0_off72 v832) a + S1x1x1x384x128.size a ≤ S1x96x1x384x128.size a)
theorem k0_off49_inb : ∀ (i : grid0.Coords) (v832 : BitVec 32) (k0_hw16 : k0_chk16 i v832), ∀ a, (k0_off49 v832) a + S1x1x1x384x128.size a ≤ S1x96x1x384x128.size a := fun i v832 k0_hw16 => k0_hw16.1
theorem k0_off51_inb : ∀ (i : grid0.Coords) (v832 : BitVec 32) (k0_hw16 : k0_chk16 i v832), ∀ a, (k0_off51 i v832) a + S1.size a ≤ S960.size a := fun i v832 k0_hw16 => k0_hw16.2.1
theorem k0_off72_inb : ∀ (i : grid0.Coords) (v832 : BitVec 32) (k0_hw16 : k0_chk16 i v832), ∀ a, (k0_off72 v832) a + S1x1x1x384x128.size a ≤ S1x96x1x384x128.size a := fun i v832 k0_hw16 => k0_hw16.2.2

def k0_off73 (v838 : BitVec 32) : Fin 5 → Nat :=
  let c0_610 : Index := 0#32
  let v1288 : Index := Scalar.indexCast v838
  let c0_611 : Index := 0#32
  let c0_612 : Index := 0#32
  let c0_613 : Index := 0#32
  ![0, v1288.toNat, 0, 0, 0]

def k0_chk17 (i : grid0.Coords) (v838 : BitVec 32) : Prop :=
  (∀ a, (k0_off52 v838) a + S1x1x1x384x128.size a ≤ S1x96x1x384x128.size a) ∧
  (∀ a, (k0_off54 i v838) a + S1.size a ≤ S960.size a) ∧
  (∀ a, (k0_off73 v838) a + S1x1x1x384x128.size a ≤ S1x96x1x384x128.size a)
theorem k0_off52_inb : ∀ (i : grid0.Coords) (v838 : BitVec 32) (k0_hw17 : k0_chk17 i v838), ∀ a, (k0_off52 v838) a + S1x1x1x384x128.size a ≤ S1x96x1x384x128.size a := fun i v838 k0_hw17 => k0_hw17.1
theorem k0_off54_inb : ∀ (i : grid0.Coords) (v838 : BitVec 32) (k0_hw17 : k0_chk17 i v838), ∀ a, (k0_off54 i v838) a + S1.size a ≤ S960.size a := fun i v838 k0_hw17 => k0_hw17.2.1
theorem k0_off73_inb : ∀ (i : grid0.Coords) (v838 : BitVec 32) (k0_hw17 : k0_chk17 i v838), ∀ a, (k0_off73 v838) a + S1x1x1x384x128.size a ≤ S1x96x1x384x128.size a := fun i v838 k0_hw17 => k0_hw17.2.2

def k0_off74 (v844 : BitVec 32) : Fin 5 → Nat :=
  let c0_614 : Index := 0#32
  let v1291 : Index := Scalar.indexCast v844
  let c0_615 : Index := 0#32
  let c0_616 : Index := 0#32
  let c0_617 : Index := 0#32
  ![0, v1291.toNat, 0, 0, 0]

def k0_chk18 (i : grid0.Coords) (v844 : BitVec 32) : Prop :=
  (∀ a, (k0_off53 v844) a + S1x1x1x384x128.size a ≤ S1x96x1x384x128.size a) ∧
  (∀ a, (k0_off55 i v844) a + S1.size a ≤ S960.size a) ∧
  (∀ a, (k0_off74 v844) a + S1x1x1x384x128.size a ≤ S1x96x1x384x128.size a)
theorem k0_off53_inb : ∀ (i : grid0.Coords) (v844 : BitVec 32) (k0_hw18 : k0_chk18 i v844), ∀ a, (k0_off53 v844) a + S1x1x1x384x128.size a ≤ S1x96x1x384x128.size a := fun i v844 k0_hw18 => k0_hw18.1
theorem k0_off55_inb : ∀ (i : grid0.Coords) (v844 : BitVec 32) (k0_hw18 : k0_chk18 i v844), ∀ a, (k0_off55 i v844) a + S1.size a ≤ S960.size a := fun i v844 k0_hw18 => k0_hw18.2.1
theorem k0_off74_inb : ∀ (i : grid0.Coords) (v844 : BitVec 32) (k0_hw18 : k0_chk18 i v844), ∀ a, (k0_off74 v844) a + S1x1x1x384x128.size a ≤ S1x96x1x384x128.size a := fun i v844 k0_hw18 => k0_hw18.2.2

def k0_off75 (v850 : BitVec 32) : Fin 5 → Nat :=
  let c0_634 : Index := 0#32
  let v1329 : Index := Scalar.indexCast v850
  let c0_635 : Index := 0#32
  let c0_636 : Index := 0#32
  let c0_637 : Index := 0#32
  ![0, v1329.toNat, 0, 0, 0]

def k0_chk19 (i : grid0.Coords) (v850 : BitVec 32) : Prop :=
  (∀ a, (k0_off56 v850) a + S1x1x1x384x128.size a ≤ S1x96x1x384x128.size a) ∧
  (∀ a, (k0_off58 i v850) a + S1.size a ≤ S960.size a) ∧
  (∀ a, (k0_off75 v850) a + S1x1x1x384x128.size a ≤ S1x96x1x384x128.size a)
theorem k0_off56_inb : ∀ (i : grid0.Coords) (v850 : BitVec 32) (k0_hw19 : k0_chk19 i v850), ∀ a, (k0_off56 v850) a + S1x1x1x384x128.size a ≤ S1x96x1x384x128.size a := fun i v850 k0_hw19 => k0_hw19.1
theorem k0_off58_inb : ∀ (i : grid0.Coords) (v850 : BitVec 32) (k0_hw19 : k0_chk19 i v850), ∀ a, (k0_off58 i v850) a + S1.size a ≤ S960.size a := fun i v850 k0_hw19 => k0_hw19.2.1
theorem k0_off75_inb : ∀ (i : grid0.Coords) (v850 : BitVec 32) (k0_hw19 : k0_chk19 i v850), ∀ a, (k0_off75 v850) a + S1x1x1x384x128.size a ≤ S1x96x1x384x128.size a := fun i v850 k0_hw19 => k0_hw19.2.2

def k0_off76 (v856 : BitVec 32) : Fin 5 → Nat :=
  let c0_638 : Index := 0#32
  let v1332 : Index := Scalar.indexCast v856
  let c0_639 : Index := 0#32
  let c0_640 : Index := 0#32
  let c0_641 : Index := 0#32
  ![0, v1332.toNat, 0, 0, 0]

def k0_chk20 (i : grid0.Coords) (v856 : BitVec 32) : Prop :=
  (∀ a, (k0_off57 v856) a + S1x1x1x384x128.size a ≤ S1x96x1x384x128.size a) ∧
  (∀ a, (k0_off59 i v856) a + S1.size a ≤ S960.size a) ∧
  (∀ a, (k0_off76 v856) a + S1x1x1x384x128.size a ≤ S1x96x1x384x128.size a)
theorem k0_off57_inb : ∀ (i : grid0.Coords) (v856 : BitVec 32) (k0_hw20 : k0_chk20 i v856), ∀ a, (k0_off57 v856) a + S1x1x1x384x128.size a ≤ S1x96x1x384x128.size a := fun i v856 k0_hw20 => k0_hw20.1
theorem k0_off59_inb : ∀ (i : grid0.Coords) (v856 : BitVec 32) (k0_hw20 : k0_chk20 i v856), ∀ a, (k0_off59 i v856) a + S1.size a ≤ S960.size a := fun i v856 k0_hw20 => k0_hw20.2.1
theorem k0_off76_inb : ∀ (i : grid0.Coords) (v856 : BitVec 32) (k0_hw20 : k0_chk20 i v856), ∀ a, (k0_off76 v856) a + S1x1x1x384x128.size a ≤ S1x96x1x384x128.size a := fun i v856 k0_hw20 => k0_hw20.2.2

def k0_off77 (v862 : BitVec 32) : Fin 5 → Nat :=
  let c0_658 : Index := 0#32
  let v1370 : Index := Scalar.indexCast v862
  let c0_659 : Index := 0#32
  let c0_660 : Index := 0#32
  let c0_661 : Index := 0#32
  ![0, v1370.toNat, 0, 0, 0]

def k0_chk21 (i : grid0.Coords) (v862 : BitVec 32) : Prop :=
  (∀ a, (k0_off60 v862) a + S1x1x1x384x128.size a ≤ S1x96x1x384x128.size a) ∧
  (∀ a, (k0_off62 i v862) a + S1.size a ≤ S960.size a) ∧
  (∀ a, (k0_off77 v862) a + S1x1x1x384x128.size a ≤ S1x96x1x384x128.size a)
theorem k0_off60_inb : ∀ (i : grid0.Coords) (v862 : BitVec 32) (k0_hw21 : k0_chk21 i v862), ∀ a, (k0_off60 v862) a + S1x1x1x384x128.size a ≤ S1x96x1x384x128.size a := fun i v862 k0_hw21 => k0_hw21.1
theorem k0_off62_inb : ∀ (i : grid0.Coords) (v862 : BitVec 32) (k0_hw21 : k0_chk21 i v862), ∀ a, (k0_off62 i v862) a + S1.size a ≤ S960.size a := fun i v862 k0_hw21 => k0_hw21.2.1
theorem k0_off77_inb : ∀ (i : grid0.Coords) (v862 : BitVec 32) (k0_hw21 : k0_chk21 i v862), ∀ a, (k0_off77 v862) a + S1x1x1x384x128.size a ≤ S1x96x1x384x128.size a := fun i v862 k0_hw21 => k0_hw21.2.2

def k0_off78 (v868 : BitVec 32) : Fin 5 → Nat :=
  let c0_662 : Index := 0#32
  let v1373 : Index := Scalar.indexCast v868
  let c0_663 : Index := 0#32
  let c0_664 : Index := 0#32
  let c0_665 : Index := 0#32
  ![0, v1373.toNat, 0, 0, 0]

def k0_chk22 (i : grid0.Coords) (v868 : BitVec 32) : Prop :=
  (∀ a, (k0_off61 v868) a + S1x1x1x384x128.size a ≤ S1x96x1x384x128.size a) ∧
  (∀ a, (k0_off63 i v868) a + S1.size a ≤ S960.size a) ∧
  (∀ a, (k0_off78 v868) a + S1x1x1x384x128.size a ≤ S1x96x1x384x128.size a)
theorem k0_off61_inb : ∀ (i : grid0.Coords) (v868 : BitVec 32) (k0_hw22 : k0_chk22 i v868), ∀ a, (k0_off61 v868) a + S1x1x1x384x128.size a ≤ S1x96x1x384x128.size a := fun i v868 k0_hw22 => k0_hw22.1
theorem k0_off63_inb : ∀ (i : grid0.Coords) (v868 : BitVec 32) (k0_hw22 : k0_chk22 i v868), ∀ a, (k0_off63 i v868) a + S1.size a ≤ S960.size a := fun i v868 k0_hw22 => k0_hw22.2.1
theorem k0_off78_inb : ∀ (i : grid0.Coords) (v868 : BitVec 32) (k0_hw22 : k0_chk22 i v868), ∀ a, (k0_off78 v868) a + S1x1x1x384x128.size a ≤ S1x96x1x384x128.size a := fun i v868 k0_hw22 => k0_hw22.2.2

def k0_off79 (v874 : BitVec 32) : Fin 5 → Nat :=
  let c0_682 : Index := 0#32
  let v1411 : Index := Scalar.indexCast v874
  let c0_683 : Index := 0#32
  let c0_684 : Index := 0#32
  let c0_685 : Index := 0#32
  ![0, v1411.toNat, 0, 0, 0]

def k0_chk23 (i : grid0.Coords) (v874 : BitVec 32) : Prop :=
  (∀ a, (k0_off64 v874) a + S1x1x1x384x128.size a ≤ S1x96x1x384x128.size a) ∧
  (∀ a, (k0_off66 i v874) a + S1.size a ≤ S960.size a) ∧
  (∀ a, (k0_off79 v874) a + S1x1x1x384x128.size a ≤ S1x96x1x384x128.size a)
theorem k0_off64_inb : ∀ (i : grid0.Coords) (v874 : BitVec 32) (k0_hw23 : k0_chk23 i v874), ∀ a, (k0_off64 v874) a + S1x1x1x384x128.size a ≤ S1x96x1x384x128.size a := fun i v874 k0_hw23 => k0_hw23.1
theorem k0_off66_inb : ∀ (i : grid0.Coords) (v874 : BitVec 32) (k0_hw23 : k0_chk23 i v874), ∀ a, (k0_off66 i v874) a + S1.size a ≤ S960.size a := fun i v874 k0_hw23 => k0_hw23.2.1
theorem k0_off79_inb : ∀ (i : grid0.Coords) (v874 : BitVec 32) (k0_hw23 : k0_chk23 i v874), ∀ a, (k0_off79 v874) a + S1x1x1x384x128.size a ≤ S1x96x1x384x128.size a := fun i v874 k0_hw23 => k0_hw23.2.2

def k0_off80 (i : grid0.Coords) : Fin 1 → Nat :=
  let arg1 : BitVec 32 := BitVec.ofNat 32 (i 1).val
  let v1493 : Index := Scalar.indexCast arg1
  ![v1493.toNat]
def k0_off81 (i : grid0.Coords) : Fin 4 → Nat :=
  let c0_728 : Index := 0#32
  let c0_729 : Index := 0#32
  let arg2 : BitVec 32 := BitVec.ofNat 32 (i 2).val
  let c6_i32_386 : BitVec 32 := 6#32
  let v798 : BitVec 32 := Scalar.muli arg2 c6_i32_386
  let c1_i32_387 : BitVec 32 := 1#32
  let v799 : BitVec 32 := Scalar.addi v798 c1_i32_387
  let v1495 : Index := Scalar.indexCast v799
  let c0_730 : Index := 0#32
  ![0, 0, v1495.toNat, 0]
def k0_off82 (i : grid0.Coords) : Fin 1 → Nat :=
  let arg0 : BitVec 32 := BitVec.ofNat 32 (i 0).val
  let c96_i32_797 : BitVec 32 := 96#32
  let v1596 : BitVec 32 := Scalar.muli arg0 c96_i32_797
  let arg2 : BitVec 32 := BitVec.ofNat 32 (i 2).val
  let c6_i32_791 : BitVec 32 := 6#32
  let v1592 : BitVec 32 := Scalar.muli arg2 c6_i32_791
  let c2_i32_792 : BitVec 32 := 2#32
  let v1593 : BitVec 32 := Scalar.addi v1592 c2_i32_792
  let v1597 : BitVec 32 := Scalar.addi v1596 v1593
  let c5_i32_798 : BitVec 32 := 5#32
  let v1598 : BitVec 32 := Scalar.muli v1597 c5_i32_798
  let arg1 : BitVec 32 := BitVec.ofNat 32 (i 1).val
  let v1599 : BitVec 32 := Scalar.addi v1598 arg1
  let v1600 : Index := Scalar.indexCast v1599
  ![v1600.toNat]
def k0_off83 (i : grid0.Coords) (c0_i32_802 : BitVec 32) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c96_i32_800 : BitVec 32 := 96#32
  let v1603 : BitVec 32 := Scalar.muli v1 c96_i32_800
  let arg2 : BitVec 32 := BitVec.ofNat 32 (i 2).val
  let c6_i32_791 : BitVec 32 := 6#32
  let v1592 : BitVec 32 := Scalar.muli arg2 c6_i32_791
  let c2_i32_792 : BitVec 32 := 2#32
  let v1593 : BitVec 32 := Scalar.addi v1592 c2_i32_792
  let v1604 : BitVec 32 := Scalar.addi v1603 v1593
  let c12_i32_801 : BitVec 32 := 12#32
  let v1605 : BitVec 32 := Scalar.muli v1604 c12_i32_801
  let v1606 : BitVec 32 := Scalar.addi v1605 c0_i32_802
  let v1607 : Index := Scalar.indexCast v1606
  ![v1607.toNat]
def k0_off84 (v1608 : BitVec 32) : Fin 5 → Nat :=
  let c0_839 : Index := 0#32
  let v1679 : Index := Scalar.indexCast v1608
  let c0_840 : Index := 0#32
  let c0_841 : Index := 0#32
  let c0_842 : Index := 0#32
  ![0, v1679.toNat, 0, 0, 0]

def k0_off85 (v1614 : BitVec 32) : Fin 5 → Nat :=
  let c0_843 : Index := 0#32
  let v1682 : Index := Scalar.indexCast v1614
  let c0_844 : Index := 0#32
  let c0_845 : Index := 0#32
  let c0_846 : Index := 0#32
  ![0, v1682.toNat, 0, 0, 0]

def k0_off86 (i : grid0.Coords) (v1608 : BitVec 32) : Fin 1 → Nat :=
  let arg0 : BitVec 32 := BitVec.ofNat 32 (i 0).val
  let c96_i32_848 : BitVec 32 := 96#32
  let v1688 : BitVec 32 := Scalar.muli arg0 c96_i32_848
  let v1689 : BitVec 32 := Scalar.addi v1688 v1608
  let c5_i32_849 : BitVec 32 := 5#32
  let v1690 : BitVec 32 := Scalar.muli v1689 c5_i32_849
  let arg1 : BitVec 32 := BitVec.ofNat 32 (i 1).val
  let v1691 : BitVec 32 := Scalar.addi v1690 arg1
  let v1692 : Index := Scalar.indexCast v1691
  ![v1692.toNat]
def k0_off87 (i : grid0.Coords) (v1614 : BitVec 32) : Fin 1 → Nat :=
  let arg0 : BitVec 32 := BitVec.ofNat 32 (i 0).val
  let c96_i32_850 : BitVec 32 := 96#32
  let v1698 : BitVec 32 := Scalar.muli arg0 c96_i32_850
  let v1699 : BitVec 32 := Scalar.addi v1698 v1614
  let c5_i32_851 : BitVec 32 := 5#32
  let v1700 : BitVec 32 := Scalar.muli v1699 c5_i32_851
  let arg1 : BitVec 32 := BitVec.ofNat 32 (i 1).val
  let v1701 : BitVec 32 := Scalar.addi v1700 arg1
  let v1702 : Index := Scalar.indexCast v1701
  ![v1702.toNat]
def k0_off88 (v1620 : BitVec 32) : Fin 5 → Nat :=
  let c0_858 : Index := 0#32
  let v1727 : Index := Scalar.indexCast v1620
  let c0_859 : Index := 0#32
  let c0_860 : Index := 0#32
  let c0_861 : Index := 0#32
  ![0, v1727.toNat, 0, 0, 0]

def k0_off89 (v1626 : BitVec 32) : Fin 5 → Nat :=
  let c0_862 : Index := 0#32
  let v1730 : Index := Scalar.indexCast v1626
  let c0_863 : Index := 0#32
  let c0_864 : Index := 0#32
  let c0_865 : Index := 0#32
  ![0, v1730.toNat, 0, 0, 0]

def k0_off90 (i : grid0.Coords) (v1620 : BitVec 32) : Fin 1 → Nat :=
  let arg0 : BitVec 32 := BitVec.ofNat 32 (i 0).val
  let c96_i32_867 : BitVec 32 := 96#32
  let v1736 : BitVec 32 := Scalar.muli arg0 c96_i32_867
  let v1737 : BitVec 32 := Scalar.addi v1736 v1620
  let c5_i32_868 : BitVec 32 := 5#32
  let v1738 : BitVec 32 := Scalar.muli v1737 c5_i32_868
  let arg1 : BitVec 32 := BitVec.ofNat 32 (i 1).val
  let v1739 : BitVec 32 := Scalar.addi v1738 arg1
  let v1740 : Index := Scalar.indexCast v1739
  ![v1740.toNat]
def k0_off91 (i : grid0.Coords) (v1626 : BitVec 32) : Fin 1 → Nat :=
  let arg0 : BitVec 32 := BitVec.ofNat 32 (i 0).val
  let c96_i32_869 : BitVec 32 := 96#32
  let v1746 : BitVec 32 := Scalar.muli arg0 c96_i32_869
  let v1747 : BitVec 32 := Scalar.addi v1746 v1626
  let c5_i32_870 : BitVec 32 := 5#32
  let v1748 : BitVec 32 := Scalar.muli v1747 c5_i32_870
  let arg1 : BitVec 32 := BitVec.ofNat 32 (i 1).val
  let v1749 : BitVec 32 := Scalar.addi v1748 arg1
  let v1750 : Index := Scalar.indexCast v1749
  ![v1750.toNat]
def k0_off92 (v1632 : BitVec 32) : Fin 5 → Nat :=
  let c0_877 : Index := 0#32
  let v1775 : Index := Scalar.indexCast v1632
  let c0_878 : Index := 0#32
  let c0_879 : Index := 0#32
  let c0_880 : Index := 0#32
  ![0, v1775.toNat, 0, 0, 0]

def k0_off93 (v1638 : BitVec 32) : Fin 5 → Nat :=
  let c0_881 : Index := 0#32
  let v1778 : Index := Scalar.indexCast v1638
  let c0_882 : Index := 0#32
  let c0_883 : Index := 0#32
  let c0_884 : Index := 0#32
  ![0, v1778.toNat, 0, 0, 0]

def k0_off94 (i : grid0.Coords) (v1632 : BitVec 32) : Fin 1 → Nat :=
  let arg0 : BitVec 32 := BitVec.ofNat 32 (i 0).val
  let c96_i32_886 : BitVec 32 := 96#32
  let v1784 : BitVec 32 := Scalar.muli arg0 c96_i32_886
  let v1785 : BitVec 32 := Scalar.addi v1784 v1632
  let c5_i32_887 : BitVec 32 := 5#32
  let v1786 : BitVec 32 := Scalar.muli v1785 c5_i32_887
  let arg1 : BitVec 32 := BitVec.ofNat 32 (i 1).val
  let v1787 : BitVec 32 := Scalar.addi v1786 arg1
  let v1788 : Index := Scalar.indexCast v1787
  ![v1788.toNat]
def k0_off95 (i : grid0.Coords) (v1638 : BitVec 32) : Fin 1 → Nat :=
  let arg0 : BitVec 32 := BitVec.ofNat 32 (i 0).val
  let c96_i32_888 : BitVec 32 := 96#32
  let v1794 : BitVec 32 := Scalar.muli arg0 c96_i32_888
  let v1795 : BitVec 32 := Scalar.addi v1794 v1638
  let c5_i32_889 : BitVec 32 := 5#32
  let v1796 : BitVec 32 := Scalar.muli v1795 c5_i32_889
  let arg1 : BitVec 32 := BitVec.ofNat 32 (i 1).val
  let v1797 : BitVec 32 := Scalar.addi v1796 arg1
  let v1798 : Index := Scalar.indexCast v1797
  ![v1798.toNat]
def k0_off96 (v1644 : BitVec 32) : Fin 5 → Nat :=
  let c0_896 : Index := 0#32
  let v1823 : Index := Scalar.indexCast v1644
  let c0_897 : Index := 0#32
  let c0_898 : Index := 0#32
  let c0_899 : Index := 0#32
  ![0, v1823.toNat, 0, 0, 0]

def k0_off97 (v1650 : BitVec 32) : Fin 5 → Nat :=
  let c0_900 : Index := 0#32
  let v1826 : Index := Scalar.indexCast v1650
  let c0_901 : Index := 0#32
  let c0_902 : Index := 0#32
  let c0_903 : Index := 0#32
  ![0, v1826.toNat, 0, 0, 0]

def k0_off98 (i : grid0.Coords) (v1644 : BitVec 32) : Fin 1 → Nat :=
  let arg0 : BitVec 32 := BitVec.ofNat 32 (i 0).val
  let c96_i32_905 : BitVec 32 := 96#32
  let v1832 : BitVec 32 := Scalar.muli arg0 c96_i32_905
  let v1833 : BitVec 32 := Scalar.addi v1832 v1644
  let c5_i32_906 : BitVec 32 := 5#32
  let v1834 : BitVec 32 := Scalar.muli v1833 c5_i32_906
  let arg1 : BitVec 32 := BitVec.ofNat 32 (i 1).val
  let v1835 : BitVec 32 := Scalar.addi v1834 arg1
  let v1836 : Index := Scalar.indexCast v1835
  ![v1836.toNat]
def k0_off99 (i : grid0.Coords) (v1650 : BitVec 32) : Fin 1 → Nat :=
  let arg0 : BitVec 32 := BitVec.ofNat 32 (i 0).val
  let c96_i32_907 : BitVec 32 := 96#32
  let v1842 : BitVec 32 := Scalar.muli arg0 c96_i32_907
  let v1843 : BitVec 32 := Scalar.addi v1842 v1650
  let c5_i32_908 : BitVec 32 := 5#32
  let v1844 : BitVec 32 := Scalar.muli v1843 c5_i32_908
  let arg1 : BitVec 32 := BitVec.ofNat 32 (i 1).val
  let v1845 : BitVec 32 := Scalar.addi v1844 arg1
  let v1846 : Index := Scalar.indexCast v1845
  ![v1846.toNat]
def k0_off100 (v1656 : BitVec 32) : Fin 5 → Nat :=
  let c0_915 : Index := 0#32
  let v1871 : Index := Scalar.indexCast v1656
  let c0_916 : Index := 0#32
  let c0_917 : Index := 0#32
  let c0_918 : Index := 0#32
  ![0, v1871.toNat, 0, 0, 0]

def k0_off101 (v1662 : BitVec 32) : Fin 5 → Nat :=
  let c0_919 : Index := 0#32
  let v1874 : Index := Scalar.indexCast v1662
  let c0_920 : Index := 0#32
  let c0_921 : Index := 0#32
  let c0_922 : Index := 0#32
  ![0, v1874.toNat, 0, 0, 0]

def k0_off102 (i : grid0.Coords) (v1656 : BitVec 32) : Fin 1 → Nat :=
  let arg0 : BitVec 32 := BitVec.ofNat 32 (i 0).val
  let c96_i32_924 : BitVec 32 := 96#32
  let v1880 : BitVec 32 := Scalar.muli arg0 c96_i32_924
  let v1881 : BitVec 32 := Scalar.addi v1880 v1656
  let c5_i32_925 : BitVec 32 := 5#32
  let v1882 : BitVec 32 := Scalar.muli v1881 c5_i32_925
  let arg1 : BitVec 32 := BitVec.ofNat 32 (i 1).val
  let v1883 : BitVec 32 := Scalar.addi v1882 arg1
  let v1884 : Index := Scalar.indexCast v1883
  ![v1884.toNat]
def k0_off103 (i : grid0.Coords) (v1662 : BitVec 32) : Fin 1 → Nat :=
  let arg0 : BitVec 32 := BitVec.ofNat 32 (i 0).val
  let c96_i32_926 : BitVec 32 := 96#32
  let v1890 : BitVec 32 := Scalar.muli arg0 c96_i32_926
  let v1891 : BitVec 32 := Scalar.addi v1890 v1662
  let c5_i32_927 : BitVec 32 := 5#32
  let v1892 : BitVec 32 := Scalar.muli v1891 c5_i32_927
  let arg1 : BitVec 32 := BitVec.ofNat 32 (i 1).val
  let v1893 : BitVec 32 := Scalar.addi v1892 arg1
  let v1894 : Index := Scalar.indexCast v1893
  ![v1894.toNat]
def k0_off104 (v1668 : BitVec 32) : Fin 5 → Nat :=
  let c0_934 : Index := 0#32
  let v1919 : Index := Scalar.indexCast v1668
  let c0_935 : Index := 0#32
  let c0_936 : Index := 0#32
  let c0_937 : Index := 0#32
  ![0, v1919.toNat, 0, 0, 0]

def k0_off105 (v1674 : BitVec 32) : Fin 5 → Nat :=
  let c0_938 : Index := 0#32
  let v1922 : Index := Scalar.indexCast v1674
  let c0_939 : Index := 0#32
  let c0_940 : Index := 0#32
  let c0_941 : Index := 0#32
  ![0, v1922.toNat, 0, 0, 0]

def k0_off106 (i : grid0.Coords) (v1668 : BitVec 32) : Fin 1 → Nat :=
  let arg0 : BitVec 32 := BitVec.ofNat 32 (i 0).val
  let c96_i32_943 : BitVec 32 := 96#32
  let v1928 : BitVec 32 := Scalar.muli arg0 c96_i32_943
  let v1929 : BitVec 32 := Scalar.addi v1928 v1668
  let c5_i32_944 : BitVec 32 := 5#32
  let v1930 : BitVec 32 := Scalar.muli v1929 c5_i32_944
  let arg1 : BitVec 32 := BitVec.ofNat 32 (i 1).val
  let v1931 : BitVec 32 := Scalar.addi v1930 arg1
  let v1932 : Index := Scalar.indexCast v1931
  ![v1932.toNat]
def k0_off107 (i : grid0.Coords) (v1674 : BitVec 32) : Fin 1 → Nat :=
  let arg0 : BitVec 32 := BitVec.ofNat 32 (i 0).val
  let c96_i32_945 : BitVec 32 := 96#32
  let v1938 : BitVec 32 := Scalar.muli arg0 c96_i32_945
  let v1939 : BitVec 32 := Scalar.addi v1938 v1674
  let c5_i32_946 : BitVec 32 := 5#32
  let v1940 : BitVec 32 := Scalar.muli v1939 c5_i32_946
  let arg1 : BitVec 32 := BitVec.ofNat 32 (i 1).val
  let v1941 : BitVec 32 := Scalar.addi v1940 arg1
  let v1942 : Index := Scalar.indexCast v1941
  ![v1942.toNat]

def k0_chk36 (i : grid0.Coords) (v1674 : BitVec 32) : Prop :=
  (∀ a, (k0_off105 v1674) a + S1x1x1x384x128.size a ≤ S1x96x1x384x128.size a) ∧
  (∀ a, (k0_off107 i v1674) a + S1.size a ≤ S960.size a)
theorem k0_off105_inb : ∀ (i : grid0.Coords) (v1674 : BitVec 32) (k0_hw36 : k0_chk36 i v1674), ∀ a, (k0_off105 v1674) a + S1x1x1x384x128.size a ≤ S1x96x1x384x128.size a := fun i v1674 k0_hw36 => k0_hw36.1
theorem k0_off107_inb : ∀ (i : grid0.Coords) (v1674 : BitVec 32) (k0_hw36 : k0_chk36 i v1674), ∀ a, (k0_off107 i v1674) a + S1.size a ≤ S960.size a := fun i v1674 k0_hw36 => k0_hw36.2

def k0_off108 (i : grid0.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let v1970 : Index := Scalar.indexCast v1
  ![v1970.toNat]
def k0_off109 (v1608 : BitVec 32) : Fin 5 → Nat :=
  let c0_969 : Index := 0#32
  let v2002 : Index := Scalar.indexCast v1608
  let c0_970 : Index := 0#32
  let c0_971 : Index := 0#32
  let c0_972 : Index := 0#32
  ![0, v2002.toNat, 0, 0, 0]

def k0_chk25 (i : grid0.Coords) (v1608 : BitVec 32) : Prop :=
  (∀ a, (k0_off84 v1608) a + S1x1x1x384x128.size a ≤ S1x96x1x384x128.size a) ∧
  (∀ a, (k0_off86 i v1608) a + S1.size a ≤ S960.size a) ∧
  (∀ a, (k0_off109 v1608) a + S1x1x1x384x128.size a ≤ S1x96x1x384x128.size a)
theorem k0_off84_inb : ∀ (i : grid0.Coords) (v1608 : BitVec 32) (k0_hw25 : k0_chk25 i v1608), ∀ a, (k0_off84 v1608) a + S1x1x1x384x128.size a ≤ S1x96x1x384x128.size a := fun i v1608 k0_hw25 => k0_hw25.1
theorem k0_off86_inb : ∀ (i : grid0.Coords) (v1608 : BitVec 32) (k0_hw25 : k0_chk25 i v1608), ∀ a, (k0_off86 i v1608) a + S1.size a ≤ S960.size a := fun i v1608 k0_hw25 => k0_hw25.2.1
theorem k0_off109_inb : ∀ (i : grid0.Coords) (v1608 : BitVec 32) (k0_hw25 : k0_chk25 i v1608), ∀ a, (k0_off109 v1608) a + S1x1x1x384x128.size a ≤ S1x96x1x384x128.size a := fun i v1608 k0_hw25 => k0_hw25.2.2

def k0_off110 (v1614 : BitVec 32) : Fin 5 → Nat :=
  let c0_973 : Index := 0#32
  let v2005 : Index := Scalar.indexCast v1614
  let c0_974 : Index := 0#32
  let c0_975 : Index := 0#32
  let c0_976 : Index := 0#32
  ![0, v2005.toNat, 0, 0, 0]

def k0_chk26 (i : grid0.Coords) (v1614 : BitVec 32) : Prop :=
  (∀ a, (k0_off85 v1614) a + S1x1x1x384x128.size a ≤ S1x96x1x384x128.size a) ∧
  (∀ a, (k0_off87 i v1614) a + S1.size a ≤ S960.size a) ∧
  (∀ a, (k0_off110 v1614) a + S1x1x1x384x128.size a ≤ S1x96x1x384x128.size a)
theorem k0_off85_inb : ∀ (i : grid0.Coords) (v1614 : BitVec 32) (k0_hw26 : k0_chk26 i v1614), ∀ a, (k0_off85 v1614) a + S1x1x1x384x128.size a ≤ S1x96x1x384x128.size a := fun i v1614 k0_hw26 => k0_hw26.1
theorem k0_off87_inb : ∀ (i : grid0.Coords) (v1614 : BitVec 32) (k0_hw26 : k0_chk26 i v1614), ∀ a, (k0_off87 i v1614) a + S1.size a ≤ S960.size a := fun i v1614 k0_hw26 => k0_hw26.2.1
theorem k0_off110_inb : ∀ (i : grid0.Coords) (v1614 : BitVec 32) (k0_hw26 : k0_chk26 i v1614), ∀ a, (k0_off110 v1614) a + S1x1x1x384x128.size a ≤ S1x96x1x384x128.size a := fun i v1614 k0_hw26 => k0_hw26.2.2

def k0_off111 (v1620 : BitVec 32) : Fin 5 → Nat :=
  let c0_991 : Index := 0#32
  let v2041 : Index := Scalar.indexCast v1620
  let c0_992 : Index := 0#32
  let c0_993 : Index := 0#32
  let c0_994 : Index := 0#32
  ![0, v2041.toNat, 0, 0, 0]

def k0_chk27 (i : grid0.Coords) (v1620 : BitVec 32) : Prop :=
  (∀ a, (k0_off88 v1620) a + S1x1x1x384x128.size a ≤ S1x96x1x384x128.size a) ∧
  (∀ a, (k0_off90 i v1620) a + S1.size a ≤ S960.size a) ∧
  (∀ a, (k0_off111 v1620) a + S1x1x1x384x128.size a ≤ S1x96x1x384x128.size a)
theorem k0_off88_inb : ∀ (i : grid0.Coords) (v1620 : BitVec 32) (k0_hw27 : k0_chk27 i v1620), ∀ a, (k0_off88 v1620) a + S1x1x1x384x128.size a ≤ S1x96x1x384x128.size a := fun i v1620 k0_hw27 => k0_hw27.1
theorem k0_off90_inb : ∀ (i : grid0.Coords) (v1620 : BitVec 32) (k0_hw27 : k0_chk27 i v1620), ∀ a, (k0_off90 i v1620) a + S1.size a ≤ S960.size a := fun i v1620 k0_hw27 => k0_hw27.2.1
theorem k0_off111_inb : ∀ (i : grid0.Coords) (v1620 : BitVec 32) (k0_hw27 : k0_chk27 i v1620), ∀ a, (k0_off111 v1620) a + S1x1x1x384x128.size a ≤ S1x96x1x384x128.size a := fun i v1620 k0_hw27 => k0_hw27.2.2

def k0_off112 (v1626 : BitVec 32) : Fin 5 → Nat :=
  let c0_995 : Index := 0#32
  let v2044 : Index := Scalar.indexCast v1626
  let c0_996 : Index := 0#32
  let c0_997 : Index := 0#32
  let c0_998 : Index := 0#32
  ![0, v2044.toNat, 0, 0, 0]

def k0_chk28 (i : grid0.Coords) (v1626 : BitVec 32) : Prop :=
  (∀ a, (k0_off89 v1626) a + S1x1x1x384x128.size a ≤ S1x96x1x384x128.size a) ∧
  (∀ a, (k0_off91 i v1626) a + S1.size a ≤ S960.size a) ∧
  (∀ a, (k0_off112 v1626) a + S1x1x1x384x128.size a ≤ S1x96x1x384x128.size a)
theorem k0_off89_inb : ∀ (i : grid0.Coords) (v1626 : BitVec 32) (k0_hw28 : k0_chk28 i v1626), ∀ a, (k0_off89 v1626) a + S1x1x1x384x128.size a ≤ S1x96x1x384x128.size a := fun i v1626 k0_hw28 => k0_hw28.1
theorem k0_off91_inb : ∀ (i : grid0.Coords) (v1626 : BitVec 32) (k0_hw28 : k0_chk28 i v1626), ∀ a, (k0_off91 i v1626) a + S1.size a ≤ S960.size a := fun i v1626 k0_hw28 => k0_hw28.2.1
theorem k0_off112_inb : ∀ (i : grid0.Coords) (v1626 : BitVec 32) (k0_hw28 : k0_chk28 i v1626), ∀ a, (k0_off112 v1626) a + S1x1x1x384x128.size a ≤ S1x96x1x384x128.size a := fun i v1626 k0_hw28 => k0_hw28.2.2

def k0_off113 (v1632 : BitVec 32) : Fin 5 → Nat :=
  let c0_1015 : Index := 0#32
  let v2082 : Index := Scalar.indexCast v1632
  let c0_1016 : Index := 0#32
  let c0_1017 : Index := 0#32
  let c0_1018 : Index := 0#32
  ![0, v2082.toNat, 0, 0, 0]

def k0_chk29 (i : grid0.Coords) (v1632 : BitVec 32) : Prop :=
  (∀ a, (k0_off92 v1632) a + S1x1x1x384x128.size a ≤ S1x96x1x384x128.size a) ∧
  (∀ a, (k0_off94 i v1632) a + S1.size a ≤ S960.size a) ∧
  (∀ a, (k0_off113 v1632) a + S1x1x1x384x128.size a ≤ S1x96x1x384x128.size a)
theorem k0_off92_inb : ∀ (i : grid0.Coords) (v1632 : BitVec 32) (k0_hw29 : k0_chk29 i v1632), ∀ a, (k0_off92 v1632) a + S1x1x1x384x128.size a ≤ S1x96x1x384x128.size a := fun i v1632 k0_hw29 => k0_hw29.1
theorem k0_off94_inb : ∀ (i : grid0.Coords) (v1632 : BitVec 32) (k0_hw29 : k0_chk29 i v1632), ∀ a, (k0_off94 i v1632) a + S1.size a ≤ S960.size a := fun i v1632 k0_hw29 => k0_hw29.2.1
theorem k0_off113_inb : ∀ (i : grid0.Coords) (v1632 : BitVec 32) (k0_hw29 : k0_chk29 i v1632), ∀ a, (k0_off113 v1632) a + S1x1x1x384x128.size a ≤ S1x96x1x384x128.size a := fun i v1632 k0_hw29 => k0_hw29.2.2

def k0_off114 (v1638 : BitVec 32) : Fin 5 → Nat :=
  let c0_1019 : Index := 0#32
  let v2085 : Index := Scalar.indexCast v1638
  let c0_1020 : Index := 0#32
  let c0_1021 : Index := 0#32
  let c0_1022 : Index := 0#32
  ![0, v2085.toNat, 0, 0, 0]

def k0_chk30 (i : grid0.Coords) (v1638 : BitVec 32) : Prop :=
  (∀ a, (k0_off93 v1638) a + S1x1x1x384x128.size a ≤ S1x96x1x384x128.size a) ∧
  (∀ a, (k0_off95 i v1638) a + S1.size a ≤ S960.size a) ∧
  (∀ a, (k0_off114 v1638) a + S1x1x1x384x128.size a ≤ S1x96x1x384x128.size a)
theorem k0_off93_inb : ∀ (i : grid0.Coords) (v1638 : BitVec 32) (k0_hw30 : k0_chk30 i v1638), ∀ a, (k0_off93 v1638) a + S1x1x1x384x128.size a ≤ S1x96x1x384x128.size a := fun i v1638 k0_hw30 => k0_hw30.1
theorem k0_off95_inb : ∀ (i : grid0.Coords) (v1638 : BitVec 32) (k0_hw30 : k0_chk30 i v1638), ∀ a, (k0_off95 i v1638) a + S1.size a ≤ S960.size a := fun i v1638 k0_hw30 => k0_hw30.2.1
theorem k0_off114_inb : ∀ (i : grid0.Coords) (v1638 : BitVec 32) (k0_hw30 : k0_chk30 i v1638), ∀ a, (k0_off114 v1638) a + S1x1x1x384x128.size a ≤ S1x96x1x384x128.size a := fun i v1638 k0_hw30 => k0_hw30.2.2

def k0_off115 (v1644 : BitVec 32) : Fin 5 → Nat :=
  let c0_1039 : Index := 0#32
  let v2123 : Index := Scalar.indexCast v1644
  let c0_1040 : Index := 0#32
  let c0_1041 : Index := 0#32
  let c0_1042 : Index := 0#32
  ![0, v2123.toNat, 0, 0, 0]

def k0_chk31 (i : grid0.Coords) (v1644 : BitVec 32) : Prop :=
  (∀ a, (k0_off96 v1644) a + S1x1x1x384x128.size a ≤ S1x96x1x384x128.size a) ∧
  (∀ a, (k0_off98 i v1644) a + S1.size a ≤ S960.size a) ∧
  (∀ a, (k0_off115 v1644) a + S1x1x1x384x128.size a ≤ S1x96x1x384x128.size a)
theorem k0_off96_inb : ∀ (i : grid0.Coords) (v1644 : BitVec 32) (k0_hw31 : k0_chk31 i v1644), ∀ a, (k0_off96 v1644) a + S1x1x1x384x128.size a ≤ S1x96x1x384x128.size a := fun i v1644 k0_hw31 => k0_hw31.1
theorem k0_off98_inb : ∀ (i : grid0.Coords) (v1644 : BitVec 32) (k0_hw31 : k0_chk31 i v1644), ∀ a, (k0_off98 i v1644) a + S1.size a ≤ S960.size a := fun i v1644 k0_hw31 => k0_hw31.2.1
theorem k0_off115_inb : ∀ (i : grid0.Coords) (v1644 : BitVec 32) (k0_hw31 : k0_chk31 i v1644), ∀ a, (k0_off115 v1644) a + S1x1x1x384x128.size a ≤ S1x96x1x384x128.size a := fun i v1644 k0_hw31 => k0_hw31.2.2

def k0_off116 (v1650 : BitVec 32) : Fin 5 → Nat :=
  let c0_1043 : Index := 0#32
  let v2126 : Index := Scalar.indexCast v1650
  let c0_1044 : Index := 0#32
  let c0_1045 : Index := 0#32
  let c0_1046 : Index := 0#32
  ![0, v2126.toNat, 0, 0, 0]

def k0_chk32 (i : grid0.Coords) (v1650 : BitVec 32) : Prop :=
  (∀ a, (k0_off97 v1650) a + S1x1x1x384x128.size a ≤ S1x96x1x384x128.size a) ∧
  (∀ a, (k0_off99 i v1650) a + S1.size a ≤ S960.size a) ∧
  (∀ a, (k0_off116 v1650) a + S1x1x1x384x128.size a ≤ S1x96x1x384x128.size a)
theorem k0_off97_inb : ∀ (i : grid0.Coords) (v1650 : BitVec 32) (k0_hw32 : k0_chk32 i v1650), ∀ a, (k0_off97 v1650) a + S1x1x1x384x128.size a ≤ S1x96x1x384x128.size a := fun i v1650 k0_hw32 => k0_hw32.1
theorem k0_off99_inb : ∀ (i : grid0.Coords) (v1650 : BitVec 32) (k0_hw32 : k0_chk32 i v1650), ∀ a, (k0_off99 i v1650) a + S1.size a ≤ S960.size a := fun i v1650 k0_hw32 => k0_hw32.2.1
theorem k0_off116_inb : ∀ (i : grid0.Coords) (v1650 : BitVec 32) (k0_hw32 : k0_chk32 i v1650), ∀ a, (k0_off116 v1650) a + S1x1x1x384x128.size a ≤ S1x96x1x384x128.size a := fun i v1650 k0_hw32 => k0_hw32.2.2

def k0_off117 (v1656 : BitVec 32) : Fin 5 → Nat :=
  let c0_1063 : Index := 0#32
  let v2164 : Index := Scalar.indexCast v1656
  let c0_1064 : Index := 0#32
  let c0_1065 : Index := 0#32
  let c0_1066 : Index := 0#32
  ![0, v2164.toNat, 0, 0, 0]

def k0_chk33 (i : grid0.Coords) (v1656 : BitVec 32) : Prop :=
  (∀ a, (k0_off100 v1656) a + S1x1x1x384x128.size a ≤ S1x96x1x384x128.size a) ∧
  (∀ a, (k0_off102 i v1656) a + S1.size a ≤ S960.size a) ∧
  (∀ a, (k0_off117 v1656) a + S1x1x1x384x128.size a ≤ S1x96x1x384x128.size a)
theorem k0_off100_inb : ∀ (i : grid0.Coords) (v1656 : BitVec 32) (k0_hw33 : k0_chk33 i v1656), ∀ a, (k0_off100 v1656) a + S1x1x1x384x128.size a ≤ S1x96x1x384x128.size a := fun i v1656 k0_hw33 => k0_hw33.1
theorem k0_off102_inb : ∀ (i : grid0.Coords) (v1656 : BitVec 32) (k0_hw33 : k0_chk33 i v1656), ∀ a, (k0_off102 i v1656) a + S1.size a ≤ S960.size a := fun i v1656 k0_hw33 => k0_hw33.2.1
theorem k0_off117_inb : ∀ (i : grid0.Coords) (v1656 : BitVec 32) (k0_hw33 : k0_chk33 i v1656), ∀ a, (k0_off117 v1656) a + S1x1x1x384x128.size a ≤ S1x96x1x384x128.size a := fun i v1656 k0_hw33 => k0_hw33.2.2

def k0_off118 (v1662 : BitVec 32) : Fin 5 → Nat :=
  let c0_1067 : Index := 0#32
  let v2167 : Index := Scalar.indexCast v1662
  let c0_1068 : Index := 0#32
  let c0_1069 : Index := 0#32
  let c0_1070 : Index := 0#32
  ![0, v2167.toNat, 0, 0, 0]

def k0_chk34 (i : grid0.Coords) (v1662 : BitVec 32) : Prop :=
  (∀ a, (k0_off101 v1662) a + S1x1x1x384x128.size a ≤ S1x96x1x384x128.size a) ∧
  (∀ a, (k0_off103 i v1662) a + S1.size a ≤ S960.size a) ∧
  (∀ a, (k0_off118 v1662) a + S1x1x1x384x128.size a ≤ S1x96x1x384x128.size a)
theorem k0_off101_inb : ∀ (i : grid0.Coords) (v1662 : BitVec 32) (k0_hw34 : k0_chk34 i v1662), ∀ a, (k0_off101 v1662) a + S1x1x1x384x128.size a ≤ S1x96x1x384x128.size a := fun i v1662 k0_hw34 => k0_hw34.1
theorem k0_off103_inb : ∀ (i : grid0.Coords) (v1662 : BitVec 32) (k0_hw34 : k0_chk34 i v1662), ∀ a, (k0_off103 i v1662) a + S1.size a ≤ S960.size a := fun i v1662 k0_hw34 => k0_hw34.2.1
theorem k0_off118_inb : ∀ (i : grid0.Coords) (v1662 : BitVec 32) (k0_hw34 : k0_chk34 i v1662), ∀ a, (k0_off118 v1662) a + S1x1x1x384x128.size a ≤ S1x96x1x384x128.size a := fun i v1662 k0_hw34 => k0_hw34.2.2

def k0_off119 (v1668 : BitVec 32) : Fin 5 → Nat :=
  let c0_1087 : Index := 0#32
  let v2205 : Index := Scalar.indexCast v1668
  let c0_1088 : Index := 0#32
  let c0_1089 : Index := 0#32
  let c0_1090 : Index := 0#32
  ![0, v2205.toNat, 0, 0, 0]

def k0_chk35 (i : grid0.Coords) (v1668 : BitVec 32) : Prop :=
  (∀ a, (k0_off104 v1668) a + S1x1x1x384x128.size a ≤ S1x96x1x384x128.size a) ∧
  (∀ a, (k0_off106 i v1668) a + S1.size a ≤ S960.size a) ∧
  (∀ a, (k0_off119 v1668) a + S1x1x1x384x128.size a ≤ S1x96x1x384x128.size a)
theorem k0_off104_inb : ∀ (i : grid0.Coords) (v1668 : BitVec 32) (k0_hw35 : k0_chk35 i v1668), ∀ a, (k0_off104 v1668) a + S1x1x1x384x128.size a ≤ S1x96x1x384x128.size a := fun i v1668 k0_hw35 => k0_hw35.1
theorem k0_off106_inb : ∀ (i : grid0.Coords) (v1668 : BitVec 32) (k0_hw35 : k0_chk35 i v1668), ∀ a, (k0_off106 i v1668) a + S1.size a ≤ S960.size a := fun i v1668 k0_hw35 => k0_hw35.2.1
theorem k0_off119_inb : ∀ (i : grid0.Coords) (v1668 : BitVec 32) (k0_hw35 : k0_chk35 i v1668), ∀ a, (k0_off119 v1668) a + S1x1x1x384x128.size a ≤ S1x96x1x384x128.size a := fun i v1668 k0_hw35 => k0_hw35.2.2

def k0_off120 (i : grid0.Coords) : Fin 1 → Nat :=
  let arg1 : BitVec 32 := BitVec.ofNat 32 (i 1).val
  let v2287 : Index := Scalar.indexCast arg1
  ![v2287.toNat]
def k0_off121 (i : grid0.Coords) : Fin 4 → Nat :=
  let c0_1133 : Index := 0#32
  let c0_1134 : Index := 0#32
  let arg2 : BitVec 32 := BitVec.ofNat 32 (i 2).val
  let c6_i32_791 : BitVec 32 := 6#32
  let v1592 : BitVec 32 := Scalar.muli arg2 c6_i32_791
  let c2_i32_792 : BitVec 32 := 2#32
  let v1593 : BitVec 32 := Scalar.addi v1592 c2_i32_792
  let v2289 : Index := Scalar.indexCast v1593
  let c0_1135 : Index := 0#32
  ![0, 0, v2289.toNat, 0]
def k0_off122 (i : grid0.Coords) : Fin 1 → Nat :=
  let arg0 : BitVec 32 := BitVec.ofNat 32 (i 0).val
  let c96_i32_1202 : BitVec 32 := 96#32
  let v2390 : BitVec 32 := Scalar.muli arg0 c96_i32_1202
  let arg2 : BitVec 32 := BitVec.ofNat 32 (i 2).val
  let c6_i32_1196 : BitVec 32 := 6#32
  let v2386 : BitVec 32 := Scalar.muli arg2 c6_i32_1196
  let c3_i32_1197 : BitVec 32 := 3#32
  let v2387 : BitVec 32 := Scalar.addi v2386 c3_i32_1197
  let v2391 : BitVec 32 := Scalar.addi v2390 v2387
  let c5_i32_1203 : BitVec 32 := 5#32
  let v2392 : BitVec 32 := Scalar.muli v2391 c5_i32_1203
  let arg1 : BitVec 32 := BitVec.ofNat 32 (i 1).val
  let v2393 : BitVec 32 := Scalar.addi v2392 arg1
  let v2394 : Index := Scalar.indexCast v2393
  ![v2394.toNat]
def k0_off123 (i : grid0.Coords) (c0_i32_1207 : BitVec 32) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c96_i32_1205 : BitVec 32 := 96#32
  let v2397 : BitVec 32 := Scalar.muli v1 c96_i32_1205
  let arg2 : BitVec 32 := BitVec.ofNat 32 (i 2).val
  let c6_i32_1196 : BitVec 32 := 6#32
  let v2386 : BitVec 32 := Scalar.muli arg2 c6_i32_1196
  let c3_i32_1197 : BitVec 32 := 3#32
  let v2387 : BitVec 32 := Scalar.addi v2386 c3_i32_1197
  let v2398 : BitVec 32 := Scalar.addi v2397 v2387
  let c12_i32_1206 : BitVec 32 := 12#32
  let v2399 : BitVec 32 := Scalar.muli v2398 c12_i32_1206
  let v2400 : BitVec 32 := Scalar.addi v2399 c0_i32_1207
  let v2401 : Index := Scalar.indexCast v2400
  ![v2401.toNat]
def k0_off124 (v2402 : BitVec 32) : Fin 5 → Nat :=
  let c0_1244 : Index := 0#32
  let v2473 : Index := Scalar.indexCast v2402
  let c0_1245 : Index := 0#32
  let c0_1246 : Index := 0#32
  let c0_1247 : Index := 0#32
  ![0, v2473.toNat, 0, 0, 0]

def k0_off125 (v2408 : BitVec 32) : Fin 5 → Nat :=
  let c0_1248 : Index := 0#32
  let v2476 : Index := Scalar.indexCast v2408
  let c0_1249 : Index := 0#32
  let c0_1250 : Index := 0#32
  let c0_1251 : Index := 0#32
  ![0, v2476.toNat, 0, 0, 0]

def k0_off126 (i : grid0.Coords) (v2402 : BitVec 32) : Fin 1 → Nat :=
  let arg0 : BitVec 32 := BitVec.ofNat 32 (i 0).val
  let c96_i32_1253 : BitVec 32 := 96#32
  let v2482 : BitVec 32 := Scalar.muli arg0 c96_i32_1253
  let v2483 : BitVec 32 := Scalar.addi v2482 v2402
  let c5_i32_1254 : BitVec 32 := 5#32
  let v2484 : BitVec 32 := Scalar.muli v2483 c5_i32_1254
  let arg1 : BitVec 32 := BitVec.ofNat 32 (i 1).val
  let v2485 : BitVec 32 := Scalar.addi v2484 arg1
  let v2486 : Index := Scalar.indexCast v2485
  ![v2486.toNat]
def k0_off127 (i : grid0.Coords) (v2408 : BitVec 32) : Fin 1 → Nat :=
  let arg0 : BitVec 32 := BitVec.ofNat 32 (i 0).val
  let c96_i32_1255 : BitVec 32 := 96#32
  let v2492 : BitVec 32 := Scalar.muli arg0 c96_i32_1255
  let v2493 : BitVec 32 := Scalar.addi v2492 v2408
  let c5_i32_1256 : BitVec 32 := 5#32
  let v2494 : BitVec 32 := Scalar.muli v2493 c5_i32_1256
  let arg1 : BitVec 32 := BitVec.ofNat 32 (i 1).val
  let v2495 : BitVec 32 := Scalar.addi v2494 arg1
  let v2496 : Index := Scalar.indexCast v2495
  ![v2496.toNat]
def k0_off128 (v2414 : BitVec 32) : Fin 5 → Nat :=
  let c0_1263 : Index := 0#32
  let v2521 : Index := Scalar.indexCast v2414
  let c0_1264 : Index := 0#32
  let c0_1265 : Index := 0#32
  let c0_1266 : Index := 0#32
  ![0, v2521.toNat, 0, 0, 0]

def k0_off129 (v2420 : BitVec 32) : Fin 5 → Nat :=
  let c0_1267 : Index := 0#32
  let v2524 : Index := Scalar.indexCast v2420
  let c0_1268 : Index := 0#32
  let c0_1269 : Index := 0#32
  let c0_1270 : Index := 0#32
  ![0, v2524.toNat, 0, 0, 0]

def k0_off130 (i : grid0.Coords) (v2414 : BitVec 32) : Fin 1 → Nat :=
  let arg0 : BitVec 32 := BitVec.ofNat 32 (i 0).val
  let c96_i32_1272 : BitVec 32 := 96#32
  let v2530 : BitVec 32 := Scalar.muli arg0 c96_i32_1272
  let v2531 : BitVec 32 := Scalar.addi v2530 v2414
  let c5_i32_1273 : BitVec 32 := 5#32
  let v2532 : BitVec 32 := Scalar.muli v2531 c5_i32_1273
  let arg1 : BitVec 32 := BitVec.ofNat 32 (i 1).val
  let v2533 : BitVec 32 := Scalar.addi v2532 arg1
  let v2534 : Index := Scalar.indexCast v2533
  ![v2534.toNat]
def k0_off131 (i : grid0.Coords) (v2420 : BitVec 32) : Fin 1 → Nat :=
  let arg0 : BitVec 32 := BitVec.ofNat 32 (i 0).val
  let c96_i32_1274 : BitVec 32 := 96#32
  let v2540 : BitVec 32 := Scalar.muli arg0 c96_i32_1274
  let v2541 : BitVec 32 := Scalar.addi v2540 v2420
  let c5_i32_1275 : BitVec 32 := 5#32
  let v2542 : BitVec 32 := Scalar.muli v2541 c5_i32_1275
  let arg1 : BitVec 32 := BitVec.ofNat 32 (i 1).val
  let v2543 : BitVec 32 := Scalar.addi v2542 arg1
  let v2544 : Index := Scalar.indexCast v2543
  ![v2544.toNat]
def k0_off132 (v2426 : BitVec 32) : Fin 5 → Nat :=
  let c0_1282 : Index := 0#32
  let v2569 : Index := Scalar.indexCast v2426
  let c0_1283 : Index := 0#32
  let c0_1284 : Index := 0#32
  let c0_1285 : Index := 0#32
  ![0, v2569.toNat, 0, 0, 0]

def k0_off133 (v2432 : BitVec 32) : Fin 5 → Nat :=
  let c0_1286 : Index := 0#32
  let v2572 : Index := Scalar.indexCast v2432
  let c0_1287 : Index := 0#32
  let c0_1288 : Index := 0#32
  let c0_1289 : Index := 0#32
  ![0, v2572.toNat, 0, 0, 0]

def k0_off134 (i : grid0.Coords) (v2426 : BitVec 32) : Fin 1 → Nat :=
  let arg0 : BitVec 32 := BitVec.ofNat 32 (i 0).val
  let c96_i32_1291 : BitVec 32 := 96#32
  let v2578 : BitVec 32 := Scalar.muli arg0 c96_i32_1291
  let v2579 : BitVec 32 := Scalar.addi v2578 v2426
  let c5_i32_1292 : BitVec 32 := 5#32
  let v2580 : BitVec 32 := Scalar.muli v2579 c5_i32_1292
  let arg1 : BitVec 32 := BitVec.ofNat 32 (i 1).val
  let v2581 : BitVec 32 := Scalar.addi v2580 arg1
  let v2582 : Index := Scalar.indexCast v2581
  ![v2582.toNat]
def k0_off135 (i : grid0.Coords) (v2432 : BitVec 32) : Fin 1 → Nat :=
  let arg0 : BitVec 32 := BitVec.ofNat 32 (i 0).val
  let c96_i32_1293 : BitVec 32 := 96#32
  let v2588 : BitVec 32 := Scalar.muli arg0 c96_i32_1293
  let v2589 : BitVec 32 := Scalar.addi v2588 v2432
  let c5_i32_1294 : BitVec 32 := 5#32
  let v2590 : BitVec 32 := Scalar.muli v2589 c5_i32_1294
  let arg1 : BitVec 32 := BitVec.ofNat 32 (i 1).val
  let v2591 : BitVec 32 := Scalar.addi v2590 arg1
  let v2592 : Index := Scalar.indexCast v2591
  ![v2592.toNat]
def k0_off136 (v2438 : BitVec 32) : Fin 5 → Nat :=
  let c0_1301 : Index := 0#32
  let v2617 : Index := Scalar.indexCast v2438
  let c0_1302 : Index := 0#32
  let c0_1303 : Index := 0#32
  let c0_1304 : Index := 0#32
  ![0, v2617.toNat, 0, 0, 0]

def k0_off137 (v2444 : BitVec 32) : Fin 5 → Nat :=
  let c0_1305 : Index := 0#32
  let v2620 : Index := Scalar.indexCast v2444
  let c0_1306 : Index := 0#32
  let c0_1307 : Index := 0#32
  let c0_1308 : Index := 0#32
  ![0, v2620.toNat, 0, 0, 0]

def k0_off138 (i : grid0.Coords) (v2438 : BitVec 32) : Fin 1 → Nat :=
  let arg0 : BitVec 32 := BitVec.ofNat 32 (i 0).val
  let c96_i32_1310 : BitVec 32 := 96#32
  let v2626 : BitVec 32 := Scalar.muli arg0 c96_i32_1310
  let v2627 : BitVec 32 := Scalar.addi v2626 v2438
  let c5_i32_1311 : BitVec 32 := 5#32
  let v2628 : BitVec 32 := Scalar.muli v2627 c5_i32_1311
  let arg1 : BitVec 32 := BitVec.ofNat 32 (i 1).val
  let v2629 : BitVec 32 := Scalar.addi v2628 arg1
  let v2630 : Index := Scalar.indexCast v2629
  ![v2630.toNat]
def k0_off139 (i : grid0.Coords) (v2444 : BitVec 32) : Fin 1 → Nat :=
  let arg0 : BitVec 32 := BitVec.ofNat 32 (i 0).val
  let c96_i32_1312 : BitVec 32 := 96#32
  let v2636 : BitVec 32 := Scalar.muli arg0 c96_i32_1312
  let v2637 : BitVec 32 := Scalar.addi v2636 v2444
  let c5_i32_1313 : BitVec 32 := 5#32
  let v2638 : BitVec 32 := Scalar.muli v2637 c5_i32_1313
  let arg1 : BitVec 32 := BitVec.ofNat 32 (i 1).val
  let v2639 : BitVec 32 := Scalar.addi v2638 arg1
  let v2640 : Index := Scalar.indexCast v2639
  ![v2640.toNat]
def k0_off140 (v2450 : BitVec 32) : Fin 5 → Nat :=
  let c0_1320 : Index := 0#32
  let v2665 : Index := Scalar.indexCast v2450
  let c0_1321 : Index := 0#32
  let c0_1322 : Index := 0#32
  let c0_1323 : Index := 0#32
  ![0, v2665.toNat, 0, 0, 0]

def k0_off141 (v2456 : BitVec 32) : Fin 5 → Nat :=
  let c0_1324 : Index := 0#32
  let v2668 : Index := Scalar.indexCast v2456
  let c0_1325 : Index := 0#32
  let c0_1326 : Index := 0#32
  let c0_1327 : Index := 0#32
  ![0, v2668.toNat, 0, 0, 0]

def k0_off142 (i : grid0.Coords) (v2450 : BitVec 32) : Fin 1 → Nat :=
  let arg0 : BitVec 32 := BitVec.ofNat 32 (i 0).val
  let c96_i32_1329 : BitVec 32 := 96#32
  let v2674 : BitVec 32 := Scalar.muli arg0 c96_i32_1329
  let v2675 : BitVec 32 := Scalar.addi v2674 v2450
  let c5_i32_1330 : BitVec 32 := 5#32
  let v2676 : BitVec 32 := Scalar.muli v2675 c5_i32_1330
  let arg1 : BitVec 32 := BitVec.ofNat 32 (i 1).val
  let v2677 : BitVec 32 := Scalar.addi v2676 arg1
  let v2678 : Index := Scalar.indexCast v2677
  ![v2678.toNat]
def k0_off143 (i : grid0.Coords) (v2456 : BitVec 32) : Fin 1 → Nat :=
  let arg0 : BitVec 32 := BitVec.ofNat 32 (i 0).val
  let c96_i32_1331 : BitVec 32 := 96#32
  let v2684 : BitVec 32 := Scalar.muli arg0 c96_i32_1331
  let v2685 : BitVec 32 := Scalar.addi v2684 v2456
  let c5_i32_1332 : BitVec 32 := 5#32
  let v2686 : BitVec 32 := Scalar.muli v2685 c5_i32_1332
  let arg1 : BitVec 32 := BitVec.ofNat 32 (i 1).val
  let v2687 : BitVec 32 := Scalar.addi v2686 arg1
  let v2688 : Index := Scalar.indexCast v2687
  ![v2688.toNat]
def k0_off144 (v2462 : BitVec 32) : Fin 5 → Nat :=
  let c0_1339 : Index := 0#32
  let v2713 : Index := Scalar.indexCast v2462
  let c0_1340 : Index := 0#32
  let c0_1341 : Index := 0#32
  let c0_1342 : Index := 0#32
  ![0, v2713.toNat, 0, 0, 0]

def k0_off145 (v2468 : BitVec 32) : Fin 5 → Nat :=
  let c0_1343 : Index := 0#32
  let v2716 : Index := Scalar.indexCast v2468
  let c0_1344 : Index := 0#32
  let c0_1345 : Index := 0#32
  let c0_1346 : Index := 0#32
  ![0, v2716.toNat, 0, 0, 0]

def k0_off146 (i : grid0.Coords) (v2462 : BitVec 32) : Fin 1 → Nat :=
  let arg0 : BitVec 32 := BitVec.ofNat 32 (i 0).val
  let c96_i32_1348 : BitVec 32 := 96#32
  let v2722 : BitVec 32 := Scalar.muli arg0 c96_i32_1348
  let v2723 : BitVec 32 := Scalar.addi v2722 v2462
  let c5_i32_1349 : BitVec 32 := 5#32
  let v2724 : BitVec 32 := Scalar.muli v2723 c5_i32_1349
  let arg1 : BitVec 32 := BitVec.ofNat 32 (i 1).val
  let v2725 : BitVec 32 := Scalar.addi v2724 arg1
  let v2726 : Index := Scalar.indexCast v2725
  ![v2726.toNat]
def k0_off147 (i : grid0.Coords) (v2468 : BitVec 32) : Fin 1 → Nat :=
  let arg0 : BitVec 32 := BitVec.ofNat 32 (i 0).val
  let c96_i32_1350 : BitVec 32 := 96#32
  let v2732 : BitVec 32 := Scalar.muli arg0 c96_i32_1350
  let v2733 : BitVec 32 := Scalar.addi v2732 v2468
  let c5_i32_1351 : BitVec 32 := 5#32
  let v2734 : BitVec 32 := Scalar.muli v2733 c5_i32_1351
  let arg1 : BitVec 32 := BitVec.ofNat 32 (i 1).val
  let v2735 : BitVec 32 := Scalar.addi v2734 arg1
  let v2736 : Index := Scalar.indexCast v2735
  ![v2736.toNat]

def k0_chk48 (i : grid0.Coords) (v2468 : BitVec 32) : Prop :=
  (∀ a, (k0_off145 v2468) a + S1x1x1x384x128.size a ≤ S1x96x1x384x128.size a) ∧
  (∀ a, (k0_off147 i v2468) a + S1.size a ≤ S960.size a)
theorem k0_off145_inb : ∀ (i : grid0.Coords) (v2468 : BitVec 32) (k0_hw48 : k0_chk48 i v2468), ∀ a, (k0_off145 v2468) a + S1x1x1x384x128.size a ≤ S1x96x1x384x128.size a := fun i v2468 k0_hw48 => k0_hw48.1
theorem k0_off147_inb : ∀ (i : grid0.Coords) (v2468 : BitVec 32) (k0_hw48 : k0_chk48 i v2468), ∀ a, (k0_off147 i v2468) a + S1.size a ≤ S960.size a := fun i v2468 k0_hw48 => k0_hw48.2

def k0_off148 (i : grid0.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let v2764 : Index := Scalar.indexCast v1
  ![v2764.toNat]
def k0_off149 (v2402 : BitVec 32) : Fin 5 → Nat :=
  let c0_1374 : Index := 0#32
  let v2796 : Index := Scalar.indexCast v2402
  let c0_1375 : Index := 0#32
  let c0_1376 : Index := 0#32
  let c0_1377 : Index := 0#32
  ![0, v2796.toNat, 0, 0, 0]

def k0_chk37 (i : grid0.Coords) (v2402 : BitVec 32) : Prop :=
  (∀ a, (k0_off124 v2402) a + S1x1x1x384x128.size a ≤ S1x96x1x384x128.size a) ∧
  (∀ a, (k0_off126 i v2402) a + S1.size a ≤ S960.size a) ∧
  (∀ a, (k0_off149 v2402) a + S1x1x1x384x128.size a ≤ S1x96x1x384x128.size a)
theorem k0_off124_inb : ∀ (i : grid0.Coords) (v2402 : BitVec 32) (k0_hw37 : k0_chk37 i v2402), ∀ a, (k0_off124 v2402) a + S1x1x1x384x128.size a ≤ S1x96x1x384x128.size a := fun i v2402 k0_hw37 => k0_hw37.1
theorem k0_off126_inb : ∀ (i : grid0.Coords) (v2402 : BitVec 32) (k0_hw37 : k0_chk37 i v2402), ∀ a, (k0_off126 i v2402) a + S1.size a ≤ S960.size a := fun i v2402 k0_hw37 => k0_hw37.2.1
theorem k0_off149_inb : ∀ (i : grid0.Coords) (v2402 : BitVec 32) (k0_hw37 : k0_chk37 i v2402), ∀ a, (k0_off149 v2402) a + S1x1x1x384x128.size a ≤ S1x96x1x384x128.size a := fun i v2402 k0_hw37 => k0_hw37.2.2

def k0_off150 (v2408 : BitVec 32) : Fin 5 → Nat :=
  let c0_1378 : Index := 0#32
  let v2799 : Index := Scalar.indexCast v2408
  let c0_1379 : Index := 0#32
  let c0_1380 : Index := 0#32
  let c0_1381 : Index := 0#32
  ![0, v2799.toNat, 0, 0, 0]

def k0_chk38 (i : grid0.Coords) (v2408 : BitVec 32) : Prop :=
  (∀ a, (k0_off125 v2408) a + S1x1x1x384x128.size a ≤ S1x96x1x384x128.size a) ∧
  (∀ a, (k0_off127 i v2408) a + S1.size a ≤ S960.size a) ∧
  (∀ a, (k0_off150 v2408) a + S1x1x1x384x128.size a ≤ S1x96x1x384x128.size a)
theorem k0_off125_inb : ∀ (i : grid0.Coords) (v2408 : BitVec 32) (k0_hw38 : k0_chk38 i v2408), ∀ a, (k0_off125 v2408) a + S1x1x1x384x128.size a ≤ S1x96x1x384x128.size a := fun i v2408 k0_hw38 => k0_hw38.1
theorem k0_off127_inb : ∀ (i : grid0.Coords) (v2408 : BitVec 32) (k0_hw38 : k0_chk38 i v2408), ∀ a, (k0_off127 i v2408) a + S1.size a ≤ S960.size a := fun i v2408 k0_hw38 => k0_hw38.2.1
theorem k0_off150_inb : ∀ (i : grid0.Coords) (v2408 : BitVec 32) (k0_hw38 : k0_chk38 i v2408), ∀ a, (k0_off150 v2408) a + S1x1x1x384x128.size a ≤ S1x96x1x384x128.size a := fun i v2408 k0_hw38 => k0_hw38.2.2

def k0_off151 (v2414 : BitVec 32) : Fin 5 → Nat :=
  let c0_1396 : Index := 0#32
  let v2835 : Index := Scalar.indexCast v2414
  let c0_1397 : Index := 0#32
  let c0_1398 : Index := 0#32
  let c0_1399 : Index := 0#32
  ![0, v2835.toNat, 0, 0, 0]

def k0_chk39 (i : grid0.Coords) (v2414 : BitVec 32) : Prop :=
  (∀ a, (k0_off128 v2414) a + S1x1x1x384x128.size a ≤ S1x96x1x384x128.size a) ∧
  (∀ a, (k0_off130 i v2414) a + S1.size a ≤ S960.size a) ∧
  (∀ a, (k0_off151 v2414) a + S1x1x1x384x128.size a ≤ S1x96x1x384x128.size a)
theorem k0_off128_inb : ∀ (i : grid0.Coords) (v2414 : BitVec 32) (k0_hw39 : k0_chk39 i v2414), ∀ a, (k0_off128 v2414) a + S1x1x1x384x128.size a ≤ S1x96x1x384x128.size a := fun i v2414 k0_hw39 => k0_hw39.1
theorem k0_off130_inb : ∀ (i : grid0.Coords) (v2414 : BitVec 32) (k0_hw39 : k0_chk39 i v2414), ∀ a, (k0_off130 i v2414) a + S1.size a ≤ S960.size a := fun i v2414 k0_hw39 => k0_hw39.2.1
theorem k0_off151_inb : ∀ (i : grid0.Coords) (v2414 : BitVec 32) (k0_hw39 : k0_chk39 i v2414), ∀ a, (k0_off151 v2414) a + S1x1x1x384x128.size a ≤ S1x96x1x384x128.size a := fun i v2414 k0_hw39 => k0_hw39.2.2

def k0_off152 (v2420 : BitVec 32) : Fin 5 → Nat :=
  let c0_1400 : Index := 0#32
  let v2838 : Index := Scalar.indexCast v2420
  let c0_1401 : Index := 0#32
  let c0_1402 : Index := 0#32
  let c0_1403 : Index := 0#32
  ![0, v2838.toNat, 0, 0, 0]

def k0_chk40 (i : grid0.Coords) (v2420 : BitVec 32) : Prop :=
  (∀ a, (k0_off129 v2420) a + S1x1x1x384x128.size a ≤ S1x96x1x384x128.size a) ∧
  (∀ a, (k0_off131 i v2420) a + S1.size a ≤ S960.size a) ∧
  (∀ a, (k0_off152 v2420) a + S1x1x1x384x128.size a ≤ S1x96x1x384x128.size a)
theorem k0_off129_inb : ∀ (i : grid0.Coords) (v2420 : BitVec 32) (k0_hw40 : k0_chk40 i v2420), ∀ a, (k0_off129 v2420) a + S1x1x1x384x128.size a ≤ S1x96x1x384x128.size a := fun i v2420 k0_hw40 => k0_hw40.1
theorem k0_off131_inb : ∀ (i : grid0.Coords) (v2420 : BitVec 32) (k0_hw40 : k0_chk40 i v2420), ∀ a, (k0_off131 i v2420) a + S1.size a ≤ S960.size a := fun i v2420 k0_hw40 => k0_hw40.2.1
theorem k0_off152_inb : ∀ (i : grid0.Coords) (v2420 : BitVec 32) (k0_hw40 : k0_chk40 i v2420), ∀ a, (k0_off152 v2420) a + S1x1x1x384x128.size a ≤ S1x96x1x384x128.size a := fun i v2420 k0_hw40 => k0_hw40.2.2

def k0_off153 (v2426 : BitVec 32) : Fin 5 → Nat :=
  let c0_1420 : Index := 0#32
  let v2876 : Index := Scalar.indexCast v2426
  let c0_1421 : Index := 0#32
  let c0_1422 : Index := 0#32
  let c0_1423 : Index := 0#32
  ![0, v2876.toNat, 0, 0, 0]

def k0_chk41 (i : grid0.Coords) (v2426 : BitVec 32) : Prop :=
  (∀ a, (k0_off132 v2426) a + S1x1x1x384x128.size a ≤ S1x96x1x384x128.size a) ∧
  (∀ a, (k0_off134 i v2426) a + S1.size a ≤ S960.size a) ∧
  (∀ a, (k0_off153 v2426) a + S1x1x1x384x128.size a ≤ S1x96x1x384x128.size a)
theorem k0_off132_inb : ∀ (i : grid0.Coords) (v2426 : BitVec 32) (k0_hw41 : k0_chk41 i v2426), ∀ a, (k0_off132 v2426) a + S1x1x1x384x128.size a ≤ S1x96x1x384x128.size a := fun i v2426 k0_hw41 => k0_hw41.1
theorem k0_off134_inb : ∀ (i : grid0.Coords) (v2426 : BitVec 32) (k0_hw41 : k0_chk41 i v2426), ∀ a, (k0_off134 i v2426) a + S1.size a ≤ S960.size a := fun i v2426 k0_hw41 => k0_hw41.2.1
theorem k0_off153_inb : ∀ (i : grid0.Coords) (v2426 : BitVec 32) (k0_hw41 : k0_chk41 i v2426), ∀ a, (k0_off153 v2426) a + S1x1x1x384x128.size a ≤ S1x96x1x384x128.size a := fun i v2426 k0_hw41 => k0_hw41.2.2

def k0_off154 (v2432 : BitVec 32) : Fin 5 → Nat :=
  let c0_1424 : Index := 0#32
  let v2879 : Index := Scalar.indexCast v2432
  let c0_1425 : Index := 0#32
  let c0_1426 : Index := 0#32
  let c0_1427 : Index := 0#32
  ![0, v2879.toNat, 0, 0, 0]

def k0_chk42 (i : grid0.Coords) (v2432 : BitVec 32) : Prop :=
  (∀ a, (k0_off133 v2432) a + S1x1x1x384x128.size a ≤ S1x96x1x384x128.size a) ∧
  (∀ a, (k0_off135 i v2432) a + S1.size a ≤ S960.size a) ∧
  (∀ a, (k0_off154 v2432) a + S1x1x1x384x128.size a ≤ S1x96x1x384x128.size a)
theorem k0_off133_inb : ∀ (i : grid0.Coords) (v2432 : BitVec 32) (k0_hw42 : k0_chk42 i v2432), ∀ a, (k0_off133 v2432) a + S1x1x1x384x128.size a ≤ S1x96x1x384x128.size a := fun i v2432 k0_hw42 => k0_hw42.1
theorem k0_off135_inb : ∀ (i : grid0.Coords) (v2432 : BitVec 32) (k0_hw42 : k0_chk42 i v2432), ∀ a, (k0_off135 i v2432) a + S1.size a ≤ S960.size a := fun i v2432 k0_hw42 => k0_hw42.2.1
theorem k0_off154_inb : ∀ (i : grid0.Coords) (v2432 : BitVec 32) (k0_hw42 : k0_chk42 i v2432), ∀ a, (k0_off154 v2432) a + S1x1x1x384x128.size a ≤ S1x96x1x384x128.size a := fun i v2432 k0_hw42 => k0_hw42.2.2

def k0_off155 (v2438 : BitVec 32) : Fin 5 → Nat :=
  let c0_1444 : Index := 0#32
  let v2917 : Index := Scalar.indexCast v2438
  let c0_1445 : Index := 0#32
  let c0_1446 : Index := 0#32
  let c0_1447 : Index := 0#32
  ![0, v2917.toNat, 0, 0, 0]

def k0_chk43 (i : grid0.Coords) (v2438 : BitVec 32) : Prop :=
  (∀ a, (k0_off136 v2438) a + S1x1x1x384x128.size a ≤ S1x96x1x384x128.size a) ∧
  (∀ a, (k0_off138 i v2438) a + S1.size a ≤ S960.size a) ∧
  (∀ a, (k0_off155 v2438) a + S1x1x1x384x128.size a ≤ S1x96x1x384x128.size a)
theorem k0_off136_inb : ∀ (i : grid0.Coords) (v2438 : BitVec 32) (k0_hw43 : k0_chk43 i v2438), ∀ a, (k0_off136 v2438) a + S1x1x1x384x128.size a ≤ S1x96x1x384x128.size a := fun i v2438 k0_hw43 => k0_hw43.1
theorem k0_off138_inb : ∀ (i : grid0.Coords) (v2438 : BitVec 32) (k0_hw43 : k0_chk43 i v2438), ∀ a, (k0_off138 i v2438) a + S1.size a ≤ S960.size a := fun i v2438 k0_hw43 => k0_hw43.2.1
theorem k0_off155_inb : ∀ (i : grid0.Coords) (v2438 : BitVec 32) (k0_hw43 : k0_chk43 i v2438), ∀ a, (k0_off155 v2438) a + S1x1x1x384x128.size a ≤ S1x96x1x384x128.size a := fun i v2438 k0_hw43 => k0_hw43.2.2

def k0_off156 (v2444 : BitVec 32) : Fin 5 → Nat :=
  let c0_1448 : Index := 0#32
  let v2920 : Index := Scalar.indexCast v2444
  let c0_1449 : Index := 0#32
  let c0_1450 : Index := 0#32
  let c0_1451 : Index := 0#32
  ![0, v2920.toNat, 0, 0, 0]

def k0_chk44 (i : grid0.Coords) (v2444 : BitVec 32) : Prop :=
  (∀ a, (k0_off137 v2444) a + S1x1x1x384x128.size a ≤ S1x96x1x384x128.size a) ∧
  (∀ a, (k0_off139 i v2444) a + S1.size a ≤ S960.size a) ∧
  (∀ a, (k0_off156 v2444) a + S1x1x1x384x128.size a ≤ S1x96x1x384x128.size a)
theorem k0_off137_inb : ∀ (i : grid0.Coords) (v2444 : BitVec 32) (k0_hw44 : k0_chk44 i v2444), ∀ a, (k0_off137 v2444) a + S1x1x1x384x128.size a ≤ S1x96x1x384x128.size a := fun i v2444 k0_hw44 => k0_hw44.1
theorem k0_off139_inb : ∀ (i : grid0.Coords) (v2444 : BitVec 32) (k0_hw44 : k0_chk44 i v2444), ∀ a, (k0_off139 i v2444) a + S1.size a ≤ S960.size a := fun i v2444 k0_hw44 => k0_hw44.2.1
theorem k0_off156_inb : ∀ (i : grid0.Coords) (v2444 : BitVec 32) (k0_hw44 : k0_chk44 i v2444), ∀ a, (k0_off156 v2444) a + S1x1x1x384x128.size a ≤ S1x96x1x384x128.size a := fun i v2444 k0_hw44 => k0_hw44.2.2

def k0_off157 (v2450 : BitVec 32) : Fin 5 → Nat :=
  let c0_1468 : Index := 0#32
  let v2958 : Index := Scalar.indexCast v2450
  let c0_1469 : Index := 0#32
  let c0_1470 : Index := 0#32
  let c0_1471 : Index := 0#32
  ![0, v2958.toNat, 0, 0, 0]

def k0_chk45 (i : grid0.Coords) (v2450 : BitVec 32) : Prop :=
  (∀ a, (k0_off140 v2450) a + S1x1x1x384x128.size a ≤ S1x96x1x384x128.size a) ∧
  (∀ a, (k0_off142 i v2450) a + S1.size a ≤ S960.size a) ∧
  (∀ a, (k0_off157 v2450) a + S1x1x1x384x128.size a ≤ S1x96x1x384x128.size a)
theorem k0_off140_inb : ∀ (i : grid0.Coords) (v2450 : BitVec 32) (k0_hw45 : k0_chk45 i v2450), ∀ a, (k0_off140 v2450) a + S1x1x1x384x128.size a ≤ S1x96x1x384x128.size a := fun i v2450 k0_hw45 => k0_hw45.1
theorem k0_off142_inb : ∀ (i : grid0.Coords) (v2450 : BitVec 32) (k0_hw45 : k0_chk45 i v2450), ∀ a, (k0_off142 i v2450) a + S1.size a ≤ S960.size a := fun i v2450 k0_hw45 => k0_hw45.2.1
theorem k0_off157_inb : ∀ (i : grid0.Coords) (v2450 : BitVec 32) (k0_hw45 : k0_chk45 i v2450), ∀ a, (k0_off157 v2450) a + S1x1x1x384x128.size a ≤ S1x96x1x384x128.size a := fun i v2450 k0_hw45 => k0_hw45.2.2

def k0_off158 (v2456 : BitVec 32) : Fin 5 → Nat :=
  let c0_1472 : Index := 0#32
  let v2961 : Index := Scalar.indexCast v2456
  let c0_1473 : Index := 0#32
  let c0_1474 : Index := 0#32
  let c0_1475 : Index := 0#32
  ![0, v2961.toNat, 0, 0, 0]

def k0_chk46 (i : grid0.Coords) (v2456 : BitVec 32) : Prop :=
  (∀ a, (k0_off141 v2456) a + S1x1x1x384x128.size a ≤ S1x96x1x384x128.size a) ∧
  (∀ a, (k0_off143 i v2456) a + S1.size a ≤ S960.size a) ∧
  (∀ a, (k0_off158 v2456) a + S1x1x1x384x128.size a ≤ S1x96x1x384x128.size a)
theorem k0_off141_inb : ∀ (i : grid0.Coords) (v2456 : BitVec 32) (k0_hw46 : k0_chk46 i v2456), ∀ a, (k0_off141 v2456) a + S1x1x1x384x128.size a ≤ S1x96x1x384x128.size a := fun i v2456 k0_hw46 => k0_hw46.1
theorem k0_off143_inb : ∀ (i : grid0.Coords) (v2456 : BitVec 32) (k0_hw46 : k0_chk46 i v2456), ∀ a, (k0_off143 i v2456) a + S1.size a ≤ S960.size a := fun i v2456 k0_hw46 => k0_hw46.2.1
theorem k0_off158_inb : ∀ (i : grid0.Coords) (v2456 : BitVec 32) (k0_hw46 : k0_chk46 i v2456), ∀ a, (k0_off158 v2456) a + S1x1x1x384x128.size a ≤ S1x96x1x384x128.size a := fun i v2456 k0_hw46 => k0_hw46.2.2

def k0_off159 (v2462 : BitVec 32) : Fin 5 → Nat :=
  let c0_1492 : Index := 0#32
  let v2999 : Index := Scalar.indexCast v2462
  let c0_1493 : Index := 0#32
  let c0_1494 : Index := 0#32
  let c0_1495 : Index := 0#32
  ![0, v2999.toNat, 0, 0, 0]

def k0_chk47 (i : grid0.Coords) (v2462 : BitVec 32) : Prop :=
  (∀ a, (k0_off144 v2462) a + S1x1x1x384x128.size a ≤ S1x96x1x384x128.size a) ∧
  (∀ a, (k0_off146 i v2462) a + S1.size a ≤ S960.size a) ∧
  (∀ a, (k0_off159 v2462) a + S1x1x1x384x128.size a ≤ S1x96x1x384x128.size a)
theorem k0_off144_inb : ∀ (i : grid0.Coords) (v2462 : BitVec 32) (k0_hw47 : k0_chk47 i v2462), ∀ a, (k0_off144 v2462) a + S1x1x1x384x128.size a ≤ S1x96x1x384x128.size a := fun i v2462 k0_hw47 => k0_hw47.1
theorem k0_off146_inb : ∀ (i : grid0.Coords) (v2462 : BitVec 32) (k0_hw47 : k0_chk47 i v2462), ∀ a, (k0_off146 i v2462) a + S1.size a ≤ S960.size a := fun i v2462 k0_hw47 => k0_hw47.2.1
theorem k0_off159_inb : ∀ (i : grid0.Coords) (v2462 : BitVec 32) (k0_hw47 : k0_chk47 i v2462), ∀ a, (k0_off159 v2462) a + S1x1x1x384x128.size a ≤ S1x96x1x384x128.size a := fun i v2462 k0_hw47 => k0_hw47.2.2

def k0_off160 (i : grid0.Coords) : Fin 1 → Nat :=
  let arg1 : BitVec 32 := BitVec.ofNat 32 (i 1).val
  let v3081 : Index := Scalar.indexCast arg1
  ![v3081.toNat]
def k0_off161 (i : grid0.Coords) : Fin 4 → Nat :=
  let c0_1538 : Index := 0#32
  let c0_1539 : Index := 0#32
  let arg2 : BitVec 32 := BitVec.ofNat 32 (i 2).val
  let c6_i32_1196 : BitVec 32 := 6#32
  let v2386 : BitVec 32 := Scalar.muli arg2 c6_i32_1196
  let c3_i32_1197 : BitVec 32 := 3#32
  let v2387 : BitVec 32 := Scalar.addi v2386 c3_i32_1197
  let v3083 : Index := Scalar.indexCast v2387
  let c0_1540 : Index := 0#32
  ![0, 0, v3083.toNat, 0]
def k0_off162 (i : grid0.Coords) : Fin 1 → Nat :=
  let arg0 : BitVec 32 := BitVec.ofNat 32 (i 0).val
  let c96_i32_1607 : BitVec 32 := 96#32
  let v3184 : BitVec 32 := Scalar.muli arg0 c96_i32_1607
  let arg2 : BitVec 32 := BitVec.ofNat 32 (i 2).val
  let c6_i32_1601 : BitVec 32 := 6#32
  let v3180 : BitVec 32 := Scalar.muli arg2 c6_i32_1601
  let c4_i32_1602 : BitVec 32 := 4#32
  let v3181 : BitVec 32 := Scalar.addi v3180 c4_i32_1602
  let v3185 : BitVec 32 := Scalar.addi v3184 v3181
  let c5_i32_1608 : BitVec 32 := 5#32
  let v3186 : BitVec 32 := Scalar.muli v3185 c5_i32_1608
  let arg1 : BitVec 32 := BitVec.ofNat 32 (i 1).val
  let v3187 : BitVec 32 := Scalar.addi v3186 arg1
  let v3188 : Index := Scalar.indexCast v3187
  ![v3188.toNat]
def k0_off163 (i : grid0.Coords) (c0_i32_1612 : BitVec 32) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c96_i32_1610 : BitVec 32 := 96#32
  let v3191 : BitVec 32 := Scalar.muli v1 c96_i32_1610
  let arg2 : BitVec 32 := BitVec.ofNat 32 (i 2).val
  let c6_i32_1601 : BitVec 32 := 6#32
  let v3180 : BitVec 32 := Scalar.muli arg2 c6_i32_1601
  let c4_i32_1602 : BitVec 32 := 4#32
  let v3181 : BitVec 32 := Scalar.addi v3180 c4_i32_1602
  let v3192 : BitVec 32 := Scalar.addi v3191 v3181
  let c12_i32_1611 : BitVec 32 := 12#32
  let v3193 : BitVec 32 := Scalar.muli v3192 c12_i32_1611
  let v3194 : BitVec 32 := Scalar.addi v3193 c0_i32_1612
  let v3195 : Index := Scalar.indexCast v3194
  ![v3195.toNat]
def k0_off164 (v3196 : BitVec 32) : Fin 5 → Nat :=
  let c0_1649 : Index := 0#32
  let v3267 : Index := Scalar.indexCast v3196
  let c0_1650 : Index := 0#32
  let c0_1651 : Index := 0#32
  let c0_1652 : Index := 0#32
  ![0, v3267.toNat, 0, 0, 0]

def k0_off165 (v3202 : BitVec 32) : Fin 5 → Nat :=
  let c0_1653 : Index := 0#32
  let v3270 : Index := Scalar.indexCast v3202
  let c0_1654 : Index := 0#32
  let c0_1655 : Index := 0#32
  let c0_1656 : Index := 0#32
  ![0, v3270.toNat, 0, 0, 0]

def k0_off166 (i : grid0.Coords) (v3196 : BitVec 32) : Fin 1 → Nat :=
  let arg0 : BitVec 32 := BitVec.ofNat 32 (i 0).val
  let c96_i32_1658 : BitVec 32 := 96#32
  let v3276 : BitVec 32 := Scalar.muli arg0 c96_i32_1658
  let v3277 : BitVec 32 := Scalar.addi v3276 v3196
  let c5_i32_1659 : BitVec 32 := 5#32
  let v3278 : BitVec 32 := Scalar.muli v3277 c5_i32_1659
  let arg1 : BitVec 32 := BitVec.ofNat 32 (i 1).val
  let v3279 : BitVec 32 := Scalar.addi v3278 arg1
  let v3280 : Index := Scalar.indexCast v3279
  ![v3280.toNat]
def k0_off167 (i : grid0.Coords) (v3202 : BitVec 32) : Fin 1 → Nat :=
  let arg0 : BitVec 32 := BitVec.ofNat 32 (i 0).val
  let c96_i32_1660 : BitVec 32 := 96#32
  let v3286 : BitVec 32 := Scalar.muli arg0 c96_i32_1660
  let v3287 : BitVec 32 := Scalar.addi v3286 v3202
  let c5_i32_1661 : BitVec 32 := 5#32
  let v3288 : BitVec 32 := Scalar.muli v3287 c5_i32_1661
  let arg1 : BitVec 32 := BitVec.ofNat 32 (i 1).val
  let v3289 : BitVec 32 := Scalar.addi v3288 arg1
  let v3290 : Index := Scalar.indexCast v3289
  ![v3290.toNat]
def k0_off168 (v3208 : BitVec 32) : Fin 5 → Nat :=
  let c0_1668 : Index := 0#32
  let v3315 : Index := Scalar.indexCast v3208
  let c0_1669 : Index := 0#32
  let c0_1670 : Index := 0#32
  let c0_1671 : Index := 0#32
  ![0, v3315.toNat, 0, 0, 0]

def k0_off169 (v3214 : BitVec 32) : Fin 5 → Nat :=
  let c0_1672 : Index := 0#32
  let v3318 : Index := Scalar.indexCast v3214
  let c0_1673 : Index := 0#32
  let c0_1674 : Index := 0#32
  let c0_1675 : Index := 0#32
  ![0, v3318.toNat, 0, 0, 0]

def k0_off170 (i : grid0.Coords) (v3208 : BitVec 32) : Fin 1 → Nat :=
  let arg0 : BitVec 32 := BitVec.ofNat 32 (i 0).val
  let c96_i32_1677 : BitVec 32 := 96#32
  let v3324 : BitVec 32 := Scalar.muli arg0 c96_i32_1677
  let v3325 : BitVec 32 := Scalar.addi v3324 v3208
  let c5_i32_1678 : BitVec 32 := 5#32
  let v3326 : BitVec 32 := Scalar.muli v3325 c5_i32_1678
  let arg1 : BitVec 32 := BitVec.ofNat 32 (i 1).val
  let v3327 : BitVec 32 := Scalar.addi v3326 arg1
  let v3328 : Index := Scalar.indexCast v3327
  ![v3328.toNat]
def k0_off171 (i : grid0.Coords) (v3214 : BitVec 32) : Fin 1 → Nat :=
  let arg0 : BitVec 32 := BitVec.ofNat 32 (i 0).val
  let c96_i32_1679 : BitVec 32 := 96#32
  let v3334 : BitVec 32 := Scalar.muli arg0 c96_i32_1679
  let v3335 : BitVec 32 := Scalar.addi v3334 v3214
  let c5_i32_1680 : BitVec 32 := 5#32
  let v3336 : BitVec 32 := Scalar.muli v3335 c5_i32_1680
  let arg1 : BitVec 32 := BitVec.ofNat 32 (i 1).val
  let v3337 : BitVec 32 := Scalar.addi v3336 arg1
  let v3338 : Index := Scalar.indexCast v3337
  ![v3338.toNat]
def k0_off172 (v3220 : BitVec 32) : Fin 5 → Nat :=
  let c0_1687 : Index := 0#32
  let v3363 : Index := Scalar.indexCast v3220
  let c0_1688 : Index := 0#32
  let c0_1689 : Index := 0#32
  let c0_1690 : Index := 0#32
  ![0, v3363.toNat, 0, 0, 0]

def k0_off173 (v3226 : BitVec 32) : Fin 5 → Nat :=
  let c0_1691 : Index := 0#32
  let v3366 : Index := Scalar.indexCast v3226
  let c0_1692 : Index := 0#32
  let c0_1693 : Index := 0#32
  let c0_1694 : Index := 0#32
  ![0, v3366.toNat, 0, 0, 0]

def k0_off174 (i : grid0.Coords) (v3220 : BitVec 32) : Fin 1 → Nat :=
  let arg0 : BitVec 32 := BitVec.ofNat 32 (i 0).val
  let c96_i32_1696 : BitVec 32 := 96#32
  let v3372 : BitVec 32 := Scalar.muli arg0 c96_i32_1696
  let v3373 : BitVec 32 := Scalar.addi v3372 v3220
  let c5_i32_1697 : BitVec 32 := 5#32
  let v3374 : BitVec 32 := Scalar.muli v3373 c5_i32_1697
  let arg1 : BitVec 32 := BitVec.ofNat 32 (i 1).val
  let v3375 : BitVec 32 := Scalar.addi v3374 arg1
  let v3376 : Index := Scalar.indexCast v3375
  ![v3376.toNat]
def k0_off175 (i : grid0.Coords) (v3226 : BitVec 32) : Fin 1 → Nat :=
  let arg0 : BitVec 32 := BitVec.ofNat 32 (i 0).val
  let c96_i32_1698 : BitVec 32 := 96#32
  let v3382 : BitVec 32 := Scalar.muli arg0 c96_i32_1698
  let v3383 : BitVec 32 := Scalar.addi v3382 v3226
  let c5_i32_1699 : BitVec 32 := 5#32
  let v3384 : BitVec 32 := Scalar.muli v3383 c5_i32_1699
  let arg1 : BitVec 32 := BitVec.ofNat 32 (i 1).val
  let v3385 : BitVec 32 := Scalar.addi v3384 arg1
  let v3386 : Index := Scalar.indexCast v3385
  ![v3386.toNat]
def k0_off176 (v3232 : BitVec 32) : Fin 5 → Nat :=
  let c0_1706 : Index := 0#32
  let v3411 : Index := Scalar.indexCast v3232
  let c0_1707 : Index := 0#32
  let c0_1708 : Index := 0#32
  let c0_1709 : Index := 0#32
  ![0, v3411.toNat, 0, 0, 0]

def k0_off177 (v3238 : BitVec 32) : Fin 5 → Nat :=
  let c0_1710 : Index := 0#32
  let v3414 : Index := Scalar.indexCast v3238
  let c0_1711 : Index := 0#32
  let c0_1712 : Index := 0#32
  let c0_1713 : Index := 0#32
  ![0, v3414.toNat, 0, 0, 0]

def k0_off178 (i : grid0.Coords) (v3232 : BitVec 32) : Fin 1 → Nat :=
  let arg0 : BitVec 32 := BitVec.ofNat 32 (i 0).val
  let c96_i32_1715 : BitVec 32 := 96#32
  let v3420 : BitVec 32 := Scalar.muli arg0 c96_i32_1715
  let v3421 : BitVec 32 := Scalar.addi v3420 v3232
  let c5_i32_1716 : BitVec 32 := 5#32
  let v3422 : BitVec 32 := Scalar.muli v3421 c5_i32_1716
  let arg1 : BitVec 32 := BitVec.ofNat 32 (i 1).val
  let v3423 : BitVec 32 := Scalar.addi v3422 arg1
  let v3424 : Index := Scalar.indexCast v3423
  ![v3424.toNat]
def k0_off179 (i : grid0.Coords) (v3238 : BitVec 32) : Fin 1 → Nat :=
  let arg0 : BitVec 32 := BitVec.ofNat 32 (i 0).val
  let c96_i32_1717 : BitVec 32 := 96#32
  let v3430 : BitVec 32 := Scalar.muli arg0 c96_i32_1717
  let v3431 : BitVec 32 := Scalar.addi v3430 v3238
  let c5_i32_1718 : BitVec 32 := 5#32
  let v3432 : BitVec 32 := Scalar.muli v3431 c5_i32_1718
  let arg1 : BitVec 32 := BitVec.ofNat 32 (i 1).val
  let v3433 : BitVec 32 := Scalar.addi v3432 arg1
  let v3434 : Index := Scalar.indexCast v3433
  ![v3434.toNat]
def k0_off180 (v3244 : BitVec 32) : Fin 5 → Nat :=
  let c0_1725 : Index := 0#32
  let v3459 : Index := Scalar.indexCast v3244
  let c0_1726 : Index := 0#32
  let c0_1727 : Index := 0#32
  let c0_1728 : Index := 0#32
  ![0, v3459.toNat, 0, 0, 0]

def k0_off181 (v3250 : BitVec 32) : Fin 5 → Nat :=
  let c0_1729 : Index := 0#32
  let v3462 : Index := Scalar.indexCast v3250
  let c0_1730 : Index := 0#32
  let c0_1731 : Index := 0#32
  let c0_1732 : Index := 0#32
  ![0, v3462.toNat, 0, 0, 0]

def k0_off182 (i : grid0.Coords) (v3244 : BitVec 32) : Fin 1 → Nat :=
  let arg0 : BitVec 32 := BitVec.ofNat 32 (i 0).val
  let c96_i32_1734 : BitVec 32 := 96#32
  let v3468 : BitVec 32 := Scalar.muli arg0 c96_i32_1734
  let v3469 : BitVec 32 := Scalar.addi v3468 v3244
  let c5_i32_1735 : BitVec 32 := 5#32
  let v3470 : BitVec 32 := Scalar.muli v3469 c5_i32_1735
  let arg1 : BitVec 32 := BitVec.ofNat 32 (i 1).val
  let v3471 : BitVec 32 := Scalar.addi v3470 arg1
  let v3472 : Index := Scalar.indexCast v3471
  ![v3472.toNat]
def k0_off183 (i : grid0.Coords) (v3250 : BitVec 32) : Fin 1 → Nat :=
  let arg0 : BitVec 32 := BitVec.ofNat 32 (i 0).val
  let c96_i32_1736 : BitVec 32 := 96#32
  let v3478 : BitVec 32 := Scalar.muli arg0 c96_i32_1736
  let v3479 : BitVec 32 := Scalar.addi v3478 v3250
  let c5_i32_1737 : BitVec 32 := 5#32
  let v3480 : BitVec 32 := Scalar.muli v3479 c5_i32_1737
  let arg1 : BitVec 32 := BitVec.ofNat 32 (i 1).val
  let v3481 : BitVec 32 := Scalar.addi v3480 arg1
  let v3482 : Index := Scalar.indexCast v3481
  ![v3482.toNat]
def k0_off184 (v3256 : BitVec 32) : Fin 5 → Nat :=
  let c0_1744 : Index := 0#32
  let v3507 : Index := Scalar.indexCast v3256
  let c0_1745 : Index := 0#32
  let c0_1746 : Index := 0#32
  let c0_1747 : Index := 0#32
  ![0, v3507.toNat, 0, 0, 0]

def k0_off185 (v3262 : BitVec 32) : Fin 5 → Nat :=
  let c0_1748 : Index := 0#32
  let v3510 : Index := Scalar.indexCast v3262
  let c0_1749 : Index := 0#32
  let c0_1750 : Index := 0#32
  let c0_1751 : Index := 0#32
  ![0, v3510.toNat, 0, 0, 0]

def k0_off186 (i : grid0.Coords) (v3256 : BitVec 32) : Fin 1 → Nat :=
  let arg0 : BitVec 32 := BitVec.ofNat 32 (i 0).val
  let c96_i32_1753 : BitVec 32 := 96#32
  let v3516 : BitVec 32 := Scalar.muli arg0 c96_i32_1753
  let v3517 : BitVec 32 := Scalar.addi v3516 v3256
  let c5_i32_1754 : BitVec 32 := 5#32
  let v3518 : BitVec 32 := Scalar.muli v3517 c5_i32_1754
  let arg1 : BitVec 32 := BitVec.ofNat 32 (i 1).val
  let v3519 : BitVec 32 := Scalar.addi v3518 arg1
  let v3520 : Index := Scalar.indexCast v3519
  ![v3520.toNat]
def k0_off187 (i : grid0.Coords) (v3262 : BitVec 32) : Fin 1 → Nat :=
  let arg0 : BitVec 32 := BitVec.ofNat 32 (i 0).val
  let c96_i32_1755 : BitVec 32 := 96#32
  let v3526 : BitVec 32 := Scalar.muli arg0 c96_i32_1755
  let v3527 : BitVec 32 := Scalar.addi v3526 v3262
  let c5_i32_1756 : BitVec 32 := 5#32
  let v3528 : BitVec 32 := Scalar.muli v3527 c5_i32_1756
  let arg1 : BitVec 32 := BitVec.ofNat 32 (i 1).val
  let v3529 : BitVec 32 := Scalar.addi v3528 arg1
  let v3530 : Index := Scalar.indexCast v3529
  ![v3530.toNat]

def k0_chk60 (i : grid0.Coords) (v3262 : BitVec 32) : Prop :=
  (∀ a, (k0_off185 v3262) a + S1x1x1x384x128.size a ≤ S1x96x1x384x128.size a) ∧
  (∀ a, (k0_off187 i v3262) a + S1.size a ≤ S960.size a)
theorem k0_off185_inb : ∀ (i : grid0.Coords) (v3262 : BitVec 32) (k0_hw60 : k0_chk60 i v3262), ∀ a, (k0_off185 v3262) a + S1x1x1x384x128.size a ≤ S1x96x1x384x128.size a := fun i v3262 k0_hw60 => k0_hw60.1
theorem k0_off187_inb : ∀ (i : grid0.Coords) (v3262 : BitVec 32) (k0_hw60 : k0_chk60 i v3262), ∀ a, (k0_off187 i v3262) a + S1.size a ≤ S960.size a := fun i v3262 k0_hw60 => k0_hw60.2

def k0_off188 (i : grid0.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let v3558 : Index := Scalar.indexCast v1
  ![v3558.toNat]
def k0_off189 (v3196 : BitVec 32) : Fin 5 → Nat :=
  let c0_1779 : Index := 0#32
  let v3590 : Index := Scalar.indexCast v3196
  let c0_1780 : Index := 0#32
  let c0_1781 : Index := 0#32
  let c0_1782 : Index := 0#32
  ![0, v3590.toNat, 0, 0, 0]

def k0_chk49 (i : grid0.Coords) (v3196 : BitVec 32) : Prop :=
  (∀ a, (k0_off164 v3196) a + S1x1x1x384x128.size a ≤ S1x96x1x384x128.size a) ∧
  (∀ a, (k0_off166 i v3196) a + S1.size a ≤ S960.size a) ∧
  (∀ a, (k0_off189 v3196) a + S1x1x1x384x128.size a ≤ S1x96x1x384x128.size a)
theorem k0_off164_inb : ∀ (i : grid0.Coords) (v3196 : BitVec 32) (k0_hw49 : k0_chk49 i v3196), ∀ a, (k0_off164 v3196) a + S1x1x1x384x128.size a ≤ S1x96x1x384x128.size a := fun i v3196 k0_hw49 => k0_hw49.1
theorem k0_off166_inb : ∀ (i : grid0.Coords) (v3196 : BitVec 32) (k0_hw49 : k0_chk49 i v3196), ∀ a, (k0_off166 i v3196) a + S1.size a ≤ S960.size a := fun i v3196 k0_hw49 => k0_hw49.2.1
theorem k0_off189_inb : ∀ (i : grid0.Coords) (v3196 : BitVec 32) (k0_hw49 : k0_chk49 i v3196), ∀ a, (k0_off189 v3196) a + S1x1x1x384x128.size a ≤ S1x96x1x384x128.size a := fun i v3196 k0_hw49 => k0_hw49.2.2

def k0_off190 (v3202 : BitVec 32) : Fin 5 → Nat :=
  let c0_1783 : Index := 0#32
  let v3593 : Index := Scalar.indexCast v3202
  let c0_1784 : Index := 0#32
  let c0_1785 : Index := 0#32
  let c0_1786 : Index := 0#32
  ![0, v3593.toNat, 0, 0, 0]

def k0_chk50 (i : grid0.Coords) (v3202 : BitVec 32) : Prop :=
  (∀ a, (k0_off165 v3202) a + S1x1x1x384x128.size a ≤ S1x96x1x384x128.size a) ∧
  (∀ a, (k0_off167 i v3202) a + S1.size a ≤ S960.size a) ∧
  (∀ a, (k0_off190 v3202) a + S1x1x1x384x128.size a ≤ S1x96x1x384x128.size a)
theorem k0_off165_inb : ∀ (i : grid0.Coords) (v3202 : BitVec 32) (k0_hw50 : k0_chk50 i v3202), ∀ a, (k0_off165 v3202) a + S1x1x1x384x128.size a ≤ S1x96x1x384x128.size a := fun i v3202 k0_hw50 => k0_hw50.1
theorem k0_off167_inb : ∀ (i : grid0.Coords) (v3202 : BitVec 32) (k0_hw50 : k0_chk50 i v3202), ∀ a, (k0_off167 i v3202) a + S1.size a ≤ S960.size a := fun i v3202 k0_hw50 => k0_hw50.2.1
theorem k0_off190_inb : ∀ (i : grid0.Coords) (v3202 : BitVec 32) (k0_hw50 : k0_chk50 i v3202), ∀ a, (k0_off190 v3202) a + S1x1x1x384x128.size a ≤ S1x96x1x384x128.size a := fun i v3202 k0_hw50 => k0_hw50.2.2

def k0_off191 (v3208 : BitVec 32) : Fin 5 → Nat :=
  let c0_1801 : Index := 0#32
  let v3629 : Index := Scalar.indexCast v3208
  let c0_1802 : Index := 0#32
  let c0_1803 : Index := 0#32
  let c0_1804 : Index := 0#32
  ![0, v3629.toNat, 0, 0, 0]

def k0_chk51 (i : grid0.Coords) (v3208 : BitVec 32) : Prop :=
  (∀ a, (k0_off168 v3208) a + S1x1x1x384x128.size a ≤ S1x96x1x384x128.size a) ∧
  (∀ a, (k0_off170 i v3208) a + S1.size a ≤ S960.size a) ∧
  (∀ a, (k0_off191 v3208) a + S1x1x1x384x128.size a ≤ S1x96x1x384x128.size a)
theorem k0_off168_inb : ∀ (i : grid0.Coords) (v3208 : BitVec 32) (k0_hw51 : k0_chk51 i v3208), ∀ a, (k0_off168 v3208) a + S1x1x1x384x128.size a ≤ S1x96x1x384x128.size a := fun i v3208 k0_hw51 => k0_hw51.1
theorem k0_off170_inb : ∀ (i : grid0.Coords) (v3208 : BitVec 32) (k0_hw51 : k0_chk51 i v3208), ∀ a, (k0_off170 i v3208) a + S1.size a ≤ S960.size a := fun i v3208 k0_hw51 => k0_hw51.2.1
theorem k0_off191_inb : ∀ (i : grid0.Coords) (v3208 : BitVec 32) (k0_hw51 : k0_chk51 i v3208), ∀ a, (k0_off191 v3208) a + S1x1x1x384x128.size a ≤ S1x96x1x384x128.size a := fun i v3208 k0_hw51 => k0_hw51.2.2

def k0_off192 (v3214 : BitVec 32) : Fin 5 → Nat :=
  let c0_1805 : Index := 0#32
  let v3632 : Index := Scalar.indexCast v3214
  let c0_1806 : Index := 0#32
  let c0_1807 : Index := 0#32
  let c0_1808 : Index := 0#32
  ![0, v3632.toNat, 0, 0, 0]

def k0_chk52 (i : grid0.Coords) (v3214 : BitVec 32) : Prop :=
  (∀ a, (k0_off169 v3214) a + S1x1x1x384x128.size a ≤ S1x96x1x384x128.size a) ∧
  (∀ a, (k0_off171 i v3214) a + S1.size a ≤ S960.size a) ∧
  (∀ a, (k0_off192 v3214) a + S1x1x1x384x128.size a ≤ S1x96x1x384x128.size a)
theorem k0_off169_inb : ∀ (i : grid0.Coords) (v3214 : BitVec 32) (k0_hw52 : k0_chk52 i v3214), ∀ a, (k0_off169 v3214) a + S1x1x1x384x128.size a ≤ S1x96x1x384x128.size a := fun i v3214 k0_hw52 => k0_hw52.1
theorem k0_off171_inb : ∀ (i : grid0.Coords) (v3214 : BitVec 32) (k0_hw52 : k0_chk52 i v3214), ∀ a, (k0_off171 i v3214) a + S1.size a ≤ S960.size a := fun i v3214 k0_hw52 => k0_hw52.2.1
theorem k0_off192_inb : ∀ (i : grid0.Coords) (v3214 : BitVec 32) (k0_hw52 : k0_chk52 i v3214), ∀ a, (k0_off192 v3214) a + S1x1x1x384x128.size a ≤ S1x96x1x384x128.size a := fun i v3214 k0_hw52 => k0_hw52.2.2

def k0_off193 (v3220 : BitVec 32) : Fin 5 → Nat :=
  let c0_1825 : Index := 0#32
  let v3670 : Index := Scalar.indexCast v3220
  let c0_1826 : Index := 0#32
  let c0_1827 : Index := 0#32
  let c0_1828 : Index := 0#32
  ![0, v3670.toNat, 0, 0, 0]

def k0_chk53 (i : grid0.Coords) (v3220 : BitVec 32) : Prop :=
  (∀ a, (k0_off172 v3220) a + S1x1x1x384x128.size a ≤ S1x96x1x384x128.size a) ∧
  (∀ a, (k0_off174 i v3220) a + S1.size a ≤ S960.size a) ∧
  (∀ a, (k0_off193 v3220) a + S1x1x1x384x128.size a ≤ S1x96x1x384x128.size a)
theorem k0_off172_inb : ∀ (i : grid0.Coords) (v3220 : BitVec 32) (k0_hw53 : k0_chk53 i v3220), ∀ a, (k0_off172 v3220) a + S1x1x1x384x128.size a ≤ S1x96x1x384x128.size a := fun i v3220 k0_hw53 => k0_hw53.1
theorem k0_off174_inb : ∀ (i : grid0.Coords) (v3220 : BitVec 32) (k0_hw53 : k0_chk53 i v3220), ∀ a, (k0_off174 i v3220) a + S1.size a ≤ S960.size a := fun i v3220 k0_hw53 => k0_hw53.2.1
theorem k0_off193_inb : ∀ (i : grid0.Coords) (v3220 : BitVec 32) (k0_hw53 : k0_chk53 i v3220), ∀ a, (k0_off193 v3220) a + S1x1x1x384x128.size a ≤ S1x96x1x384x128.size a := fun i v3220 k0_hw53 => k0_hw53.2.2

def k0_off194 (v3226 : BitVec 32) : Fin 5 → Nat :=
  let c0_1829 : Index := 0#32
  let v3673 : Index := Scalar.indexCast v3226
  let c0_1830 : Index := 0#32
  let c0_1831 : Index := 0#32
  let c0_1832 : Index := 0#32
  ![0, v3673.toNat, 0, 0, 0]

def k0_chk54 (i : grid0.Coords) (v3226 : BitVec 32) : Prop :=
  (∀ a, (k0_off173 v3226) a + S1x1x1x384x128.size a ≤ S1x96x1x384x128.size a) ∧
  (∀ a, (k0_off175 i v3226) a + S1.size a ≤ S960.size a) ∧
  (∀ a, (k0_off194 v3226) a + S1x1x1x384x128.size a ≤ S1x96x1x384x128.size a)
theorem k0_off173_inb : ∀ (i : grid0.Coords) (v3226 : BitVec 32) (k0_hw54 : k0_chk54 i v3226), ∀ a, (k0_off173 v3226) a + S1x1x1x384x128.size a ≤ S1x96x1x384x128.size a := fun i v3226 k0_hw54 => k0_hw54.1
theorem k0_off175_inb : ∀ (i : grid0.Coords) (v3226 : BitVec 32) (k0_hw54 : k0_chk54 i v3226), ∀ a, (k0_off175 i v3226) a + S1.size a ≤ S960.size a := fun i v3226 k0_hw54 => k0_hw54.2.1
theorem k0_off194_inb : ∀ (i : grid0.Coords) (v3226 : BitVec 32) (k0_hw54 : k0_chk54 i v3226), ∀ a, (k0_off194 v3226) a + S1x1x1x384x128.size a ≤ S1x96x1x384x128.size a := fun i v3226 k0_hw54 => k0_hw54.2.2

def k0_off195 (v3232 : BitVec 32) : Fin 5 → Nat :=
  let c0_1849 : Index := 0#32
  let v3711 : Index := Scalar.indexCast v3232
  let c0_1850 : Index := 0#32
  let c0_1851 : Index := 0#32
  let c0_1852 : Index := 0#32
  ![0, v3711.toNat, 0, 0, 0]

def k0_chk55 (i : grid0.Coords) (v3232 : BitVec 32) : Prop :=
  (∀ a, (k0_off176 v3232) a + S1x1x1x384x128.size a ≤ S1x96x1x384x128.size a) ∧
  (∀ a, (k0_off178 i v3232) a + S1.size a ≤ S960.size a) ∧
  (∀ a, (k0_off195 v3232) a + S1x1x1x384x128.size a ≤ S1x96x1x384x128.size a)
theorem k0_off176_inb : ∀ (i : grid0.Coords) (v3232 : BitVec 32) (k0_hw55 : k0_chk55 i v3232), ∀ a, (k0_off176 v3232) a + S1x1x1x384x128.size a ≤ S1x96x1x384x128.size a := fun i v3232 k0_hw55 => k0_hw55.1
theorem k0_off178_inb : ∀ (i : grid0.Coords) (v3232 : BitVec 32) (k0_hw55 : k0_chk55 i v3232), ∀ a, (k0_off178 i v3232) a + S1.size a ≤ S960.size a := fun i v3232 k0_hw55 => k0_hw55.2.1
theorem k0_off195_inb : ∀ (i : grid0.Coords) (v3232 : BitVec 32) (k0_hw55 : k0_chk55 i v3232), ∀ a, (k0_off195 v3232) a + S1x1x1x384x128.size a ≤ S1x96x1x384x128.size a := fun i v3232 k0_hw55 => k0_hw55.2.2

def k0_off196 (v3238 : BitVec 32) : Fin 5 → Nat :=
  let c0_1853 : Index := 0#32
  let v3714 : Index := Scalar.indexCast v3238
  let c0_1854 : Index := 0#32
  let c0_1855 : Index := 0#32
  let c0_1856 : Index := 0#32
  ![0, v3714.toNat, 0, 0, 0]

def k0_chk56 (i : grid0.Coords) (v3238 : BitVec 32) : Prop :=
  (∀ a, (k0_off177 v3238) a + S1x1x1x384x128.size a ≤ S1x96x1x384x128.size a) ∧
  (∀ a, (k0_off179 i v3238) a + S1.size a ≤ S960.size a) ∧
  (∀ a, (k0_off196 v3238) a + S1x1x1x384x128.size a ≤ S1x96x1x384x128.size a)
theorem k0_off177_inb : ∀ (i : grid0.Coords) (v3238 : BitVec 32) (k0_hw56 : k0_chk56 i v3238), ∀ a, (k0_off177 v3238) a + S1x1x1x384x128.size a ≤ S1x96x1x384x128.size a := fun i v3238 k0_hw56 => k0_hw56.1
theorem k0_off179_inb : ∀ (i : grid0.Coords) (v3238 : BitVec 32) (k0_hw56 : k0_chk56 i v3238), ∀ a, (k0_off179 i v3238) a + S1.size a ≤ S960.size a := fun i v3238 k0_hw56 => k0_hw56.2.1
theorem k0_off196_inb : ∀ (i : grid0.Coords) (v3238 : BitVec 32) (k0_hw56 : k0_chk56 i v3238), ∀ a, (k0_off196 v3238) a + S1x1x1x384x128.size a ≤ S1x96x1x384x128.size a := fun i v3238 k0_hw56 => k0_hw56.2.2

def k0_off197 (v3244 : BitVec 32) : Fin 5 → Nat :=
  let c0_1873 : Index := 0#32
  let v3752 : Index := Scalar.indexCast v3244
  let c0_1874 : Index := 0#32
  let c0_1875 : Index := 0#32
  let c0_1876 : Index := 0#32
  ![0, v3752.toNat, 0, 0, 0]

def k0_chk57 (i : grid0.Coords) (v3244 : BitVec 32) : Prop :=
  (∀ a, (k0_off180 v3244) a + S1x1x1x384x128.size a ≤ S1x96x1x384x128.size a) ∧
  (∀ a, (k0_off182 i v3244) a + S1.size a ≤ S960.size a) ∧
  (∀ a, (k0_off197 v3244) a + S1x1x1x384x128.size a ≤ S1x96x1x384x128.size a)
theorem k0_off180_inb : ∀ (i : grid0.Coords) (v3244 : BitVec 32) (k0_hw57 : k0_chk57 i v3244), ∀ a, (k0_off180 v3244) a + S1x1x1x384x128.size a ≤ S1x96x1x384x128.size a := fun i v3244 k0_hw57 => k0_hw57.1
theorem k0_off182_inb : ∀ (i : grid0.Coords) (v3244 : BitVec 32) (k0_hw57 : k0_chk57 i v3244), ∀ a, (k0_off182 i v3244) a + S1.size a ≤ S960.size a := fun i v3244 k0_hw57 => k0_hw57.2.1
theorem k0_off197_inb : ∀ (i : grid0.Coords) (v3244 : BitVec 32) (k0_hw57 : k0_chk57 i v3244), ∀ a, (k0_off197 v3244) a + S1x1x1x384x128.size a ≤ S1x96x1x384x128.size a := fun i v3244 k0_hw57 => k0_hw57.2.2

def k0_off198 (v3250 : BitVec 32) : Fin 5 → Nat :=
  let c0_1877 : Index := 0#32
  let v3755 : Index := Scalar.indexCast v3250
  let c0_1878 : Index := 0#32
  let c0_1879 : Index := 0#32
  let c0_1880 : Index := 0#32
  ![0, v3755.toNat, 0, 0, 0]

def k0_chk58 (i : grid0.Coords) (v3250 : BitVec 32) : Prop :=
  (∀ a, (k0_off181 v3250) a + S1x1x1x384x128.size a ≤ S1x96x1x384x128.size a) ∧
  (∀ a, (k0_off183 i v3250) a + S1.size a ≤ S960.size a) ∧
  (∀ a, (k0_off198 v3250) a + S1x1x1x384x128.size a ≤ S1x96x1x384x128.size a)
theorem k0_off181_inb : ∀ (i : grid0.Coords) (v3250 : BitVec 32) (k0_hw58 : k0_chk58 i v3250), ∀ a, (k0_off181 v3250) a + S1x1x1x384x128.size a ≤ S1x96x1x384x128.size a := fun i v3250 k0_hw58 => k0_hw58.1
theorem k0_off183_inb : ∀ (i : grid0.Coords) (v3250 : BitVec 32) (k0_hw58 : k0_chk58 i v3250), ∀ a, (k0_off183 i v3250) a + S1.size a ≤ S960.size a := fun i v3250 k0_hw58 => k0_hw58.2.1
theorem k0_off198_inb : ∀ (i : grid0.Coords) (v3250 : BitVec 32) (k0_hw58 : k0_chk58 i v3250), ∀ a, (k0_off198 v3250) a + S1x1x1x384x128.size a ≤ S1x96x1x384x128.size a := fun i v3250 k0_hw58 => k0_hw58.2.2

def k0_off199 (v3256 : BitVec 32) : Fin 5 → Nat :=
  let c0_1897 : Index := 0#32
  let v3793 : Index := Scalar.indexCast v3256
  let c0_1898 : Index := 0#32
  let c0_1899 : Index := 0#32
  let c0_1900 : Index := 0#32
  ![0, v3793.toNat, 0, 0, 0]

def k0_chk59 (i : grid0.Coords) (v3256 : BitVec 32) : Prop :=
  (∀ a, (k0_off184 v3256) a + S1x1x1x384x128.size a ≤ S1x96x1x384x128.size a) ∧
  (∀ a, (k0_off186 i v3256) a + S1.size a ≤ S960.size a) ∧
  (∀ a, (k0_off199 v3256) a + S1x1x1x384x128.size a ≤ S1x96x1x384x128.size a)
theorem k0_off184_inb : ∀ (i : grid0.Coords) (v3256 : BitVec 32) (k0_hw59 : k0_chk59 i v3256), ∀ a, (k0_off184 v3256) a + S1x1x1x384x128.size a ≤ S1x96x1x384x128.size a := fun i v3256 k0_hw59 => k0_hw59.1
theorem k0_off186_inb : ∀ (i : grid0.Coords) (v3256 : BitVec 32) (k0_hw59 : k0_chk59 i v3256), ∀ a, (k0_off186 i v3256) a + S1.size a ≤ S960.size a := fun i v3256 k0_hw59 => k0_hw59.2.1
theorem k0_off199_inb : ∀ (i : grid0.Coords) (v3256 : BitVec 32) (k0_hw59 : k0_chk59 i v3256), ∀ a, (k0_off199 v3256) a + S1x1x1x384x128.size a ≤ S1x96x1x384x128.size a := fun i v3256 k0_hw59 => k0_hw59.2.2

def k0_off200 (i : grid0.Coords) : Fin 1 → Nat :=
  let arg1 : BitVec 32 := BitVec.ofNat 32 (i 1).val
  let v3875 : Index := Scalar.indexCast arg1
  ![v3875.toNat]
def k0_off201 (i : grid0.Coords) : Fin 4 → Nat :=
  let c0_1943 : Index := 0#32
  let c0_1944 : Index := 0#32
  let arg2 : BitVec 32 := BitVec.ofNat 32 (i 2).val
  let c6_i32_1601 : BitVec 32 := 6#32
  let v3180 : BitVec 32 := Scalar.muli arg2 c6_i32_1601
  let c4_i32_1602 : BitVec 32 := 4#32
  let v3181 : BitVec 32 := Scalar.addi v3180 c4_i32_1602
  let v3877 : Index := Scalar.indexCast v3181
  let c0_1945 : Index := 0#32
  ![0, 0, v3877.toNat, 0]
def k0_off202 (i : grid0.Coords) : Fin 1 → Nat :=
  let arg0 : BitVec 32 := BitVec.ofNat 32 (i 0).val
  let c96_i32_2012 : BitVec 32 := 96#32
  let v3978 : BitVec 32 := Scalar.muli arg0 c96_i32_2012
  let arg2 : BitVec 32 := BitVec.ofNat 32 (i 2).val
  let c6_i32_2006 : BitVec 32 := 6#32
  let v3974 : BitVec 32 := Scalar.muli arg2 c6_i32_2006
  let c5_i32_2007 : BitVec 32 := 5#32
  let v3975 : BitVec 32 := Scalar.addi v3974 c5_i32_2007
  let v3979 : BitVec 32 := Scalar.addi v3978 v3975
  let c5_i32_2013 : BitVec 32 := 5#32
  let v3980 : BitVec 32 := Scalar.muli v3979 c5_i32_2013
  let arg1 : BitVec 32 := BitVec.ofNat 32 (i 1).val
  let v3981 : BitVec 32 := Scalar.addi v3980 arg1
  let v3982 : Index := Scalar.indexCast v3981
  ![v3982.toNat]
def k0_off203 (i : grid0.Coords) (c0_i32_2017 : BitVec 32) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c96_i32_2015 : BitVec 32 := 96#32
  let v3985 : BitVec 32 := Scalar.muli v1 c96_i32_2015
  let arg2 : BitVec 32 := BitVec.ofNat 32 (i 2).val
  let c6_i32_2006 : BitVec 32 := 6#32
  let v3974 : BitVec 32 := Scalar.muli arg2 c6_i32_2006
  let c5_i32_2007 : BitVec 32 := 5#32
  let v3975 : BitVec 32 := Scalar.addi v3974 c5_i32_2007
  let v3986 : BitVec 32 := Scalar.addi v3985 v3975
  let c12_i32_2016 : BitVec 32 := 12#32
  let v3987 : BitVec 32 := Scalar.muli v3986 c12_i32_2016
  let v3988 : BitVec 32 := Scalar.addi v3987 c0_i32_2017
  let v3989 : Index := Scalar.indexCast v3988
  ![v3989.toNat]
def k0_off204 (v3990 : BitVec 32) : Fin 5 → Nat :=
  let c0_2054 : Index := 0#32
  let v4061 : Index := Scalar.indexCast v3990
  let c0_2055 : Index := 0#32
  let c0_2056 : Index := 0#32
  let c0_2057 : Index := 0#32
  ![0, v4061.toNat, 0, 0, 0]

def k0_off205 (v3996 : BitVec 32) : Fin 5 → Nat :=
  let c0_2058 : Index := 0#32
  let v4064 : Index := Scalar.indexCast v3996
  let c0_2059 : Index := 0#32
  let c0_2060 : Index := 0#32
  let c0_2061 : Index := 0#32
  ![0, v4064.toNat, 0, 0, 0]

def k0_off206 (i : grid0.Coords) (v3990 : BitVec 32) : Fin 1 → Nat :=
  let arg0 : BitVec 32 := BitVec.ofNat 32 (i 0).val
  let c96_i32_2063 : BitVec 32 := 96#32
  let v4070 : BitVec 32 := Scalar.muli arg0 c96_i32_2063
  let v4071 : BitVec 32 := Scalar.addi v4070 v3990
  let c5_i32_2064 : BitVec 32 := 5#32
  let v4072 : BitVec 32 := Scalar.muli v4071 c5_i32_2064
  let arg1 : BitVec 32 := BitVec.ofNat 32 (i 1).val
  let v4073 : BitVec 32 := Scalar.addi v4072 arg1
  let v4074 : Index := Scalar.indexCast v4073
  ![v4074.toNat]
def k0_off207 (i : grid0.Coords) (v3996 : BitVec 32) : Fin 1 → Nat :=
  let arg0 : BitVec 32 := BitVec.ofNat 32 (i 0).val
  let c96_i32_2065 : BitVec 32 := 96#32
  let v4080 : BitVec 32 := Scalar.muli arg0 c96_i32_2065
  let v4081 : BitVec 32 := Scalar.addi v4080 v3996
  let c5_i32_2066 : BitVec 32 := 5#32
  let v4082 : BitVec 32 := Scalar.muli v4081 c5_i32_2066
  let arg1 : BitVec 32 := BitVec.ofNat 32 (i 1).val
  let v4083 : BitVec 32 := Scalar.addi v4082 arg1
  let v4084 : Index := Scalar.indexCast v4083
  ![v4084.toNat]
def k0_off208 (v4002 : BitVec 32) : Fin 5 → Nat :=
  let c0_2073 : Index := 0#32
  let v4109 : Index := Scalar.indexCast v4002
  let c0_2074 : Index := 0#32
  let c0_2075 : Index := 0#32
  let c0_2076 : Index := 0#32
  ![0, v4109.toNat, 0, 0, 0]

def k0_off209 (v4008 : BitVec 32) : Fin 5 → Nat :=
  let c0_2077 : Index := 0#32
  let v4112 : Index := Scalar.indexCast v4008
  let c0_2078 : Index := 0#32
  let c0_2079 : Index := 0#32
  let c0_2080 : Index := 0#32
  ![0, v4112.toNat, 0, 0, 0]

def k0_off210 (i : grid0.Coords) (v4002 : BitVec 32) : Fin 1 → Nat :=
  let arg0 : BitVec 32 := BitVec.ofNat 32 (i 0).val
  let c96_i32_2082 : BitVec 32 := 96#32
  let v4118 : BitVec 32 := Scalar.muli arg0 c96_i32_2082
  let v4119 : BitVec 32 := Scalar.addi v4118 v4002
  let c5_i32_2083 : BitVec 32 := 5#32
  let v4120 : BitVec 32 := Scalar.muli v4119 c5_i32_2083
  let arg1 : BitVec 32 := BitVec.ofNat 32 (i 1).val
  let v4121 : BitVec 32 := Scalar.addi v4120 arg1
  let v4122 : Index := Scalar.indexCast v4121
  ![v4122.toNat]
def k0_off211 (i : grid0.Coords) (v4008 : BitVec 32) : Fin 1 → Nat :=
  let arg0 : BitVec 32 := BitVec.ofNat 32 (i 0).val
  let c96_i32_2084 : BitVec 32 := 96#32
  let v4128 : BitVec 32 := Scalar.muli arg0 c96_i32_2084
  let v4129 : BitVec 32 := Scalar.addi v4128 v4008
  let c5_i32_2085 : BitVec 32 := 5#32
  let v4130 : BitVec 32 := Scalar.muli v4129 c5_i32_2085
  let arg1 : BitVec 32 := BitVec.ofNat 32 (i 1).val
  let v4131 : BitVec 32 := Scalar.addi v4130 arg1
  let v4132 : Index := Scalar.indexCast v4131
  ![v4132.toNat]
def k0_off212 (v4014 : BitVec 32) : Fin 5 → Nat :=
  let c0_2092 : Index := 0#32
  let v4157 : Index := Scalar.indexCast v4014
  let c0_2093 : Index := 0#32
  let c0_2094 : Index := 0#32
  let c0_2095 : Index := 0#32
  ![0, v4157.toNat, 0, 0, 0]

def k0_off213 (v4020 : BitVec 32) : Fin 5 → Nat :=
  let c0_2096 : Index := 0#32
  let v4160 : Index := Scalar.indexCast v4020
  let c0_2097 : Index := 0#32
  let c0_2098 : Index := 0#32
  let c0_2099 : Index := 0#32
  ![0, v4160.toNat, 0, 0, 0]

def k0_off214 (i : grid0.Coords) (v4014 : BitVec 32) : Fin 1 → Nat :=
  let arg0 : BitVec 32 := BitVec.ofNat 32 (i 0).val
  let c96_i32_2101 : BitVec 32 := 96#32
  let v4166 : BitVec 32 := Scalar.muli arg0 c96_i32_2101
  let v4167 : BitVec 32 := Scalar.addi v4166 v4014
  let c5_i32_2102 : BitVec 32 := 5#32
  let v4168 : BitVec 32 := Scalar.muli v4167 c5_i32_2102
  let arg1 : BitVec 32 := BitVec.ofNat 32 (i 1).val
  let v4169 : BitVec 32 := Scalar.addi v4168 arg1
  let v4170 : Index := Scalar.indexCast v4169
  ![v4170.toNat]
def k0_off215 (i : grid0.Coords) (v4020 : BitVec 32) : Fin 1 → Nat :=
  let arg0 : BitVec 32 := BitVec.ofNat 32 (i 0).val
  let c96_i32_2103 : BitVec 32 := 96#32
  let v4176 : BitVec 32 := Scalar.muli arg0 c96_i32_2103
  let v4177 : BitVec 32 := Scalar.addi v4176 v4020
  let c5_i32_2104 : BitVec 32 := 5#32
  let v4178 : BitVec 32 := Scalar.muli v4177 c5_i32_2104
  let arg1 : BitVec 32 := BitVec.ofNat 32 (i 1).val
  let v4179 : BitVec 32 := Scalar.addi v4178 arg1
  let v4180 : Index := Scalar.indexCast v4179
  ![v4180.toNat]
def k0_off216 (v4026 : BitVec 32) : Fin 5 → Nat :=
  let c0_2111 : Index := 0#32
  let v4205 : Index := Scalar.indexCast v4026
  let c0_2112 : Index := 0#32
  let c0_2113 : Index := 0#32
  let c0_2114 : Index := 0#32
  ![0, v4205.toNat, 0, 0, 0]

def k0_off217 (v4032 : BitVec 32) : Fin 5 → Nat :=
  let c0_2115 : Index := 0#32
  let v4208 : Index := Scalar.indexCast v4032
  let c0_2116 : Index := 0#32
  let c0_2117 : Index := 0#32
  let c0_2118 : Index := 0#32
  ![0, v4208.toNat, 0, 0, 0]

def k0_off218 (i : grid0.Coords) (v4026 : BitVec 32) : Fin 1 → Nat :=
  let arg0 : BitVec 32 := BitVec.ofNat 32 (i 0).val
  let c96_i32_2120 : BitVec 32 := 96#32
  let v4214 : BitVec 32 := Scalar.muli arg0 c96_i32_2120
  let v4215 : BitVec 32 := Scalar.addi v4214 v4026
  let c5_i32_2121 : BitVec 32 := 5#32
  let v4216 : BitVec 32 := Scalar.muli v4215 c5_i32_2121
  let arg1 : BitVec 32 := BitVec.ofNat 32 (i 1).val
  let v4217 : BitVec 32 := Scalar.addi v4216 arg1
  let v4218 : Index := Scalar.indexCast v4217
  ![v4218.toNat]
def k0_off219 (i : grid0.Coords) (v4032 : BitVec 32) : Fin 1 → Nat :=
  let arg0 : BitVec 32 := BitVec.ofNat 32 (i 0).val
  let c96_i32_2122 : BitVec 32 := 96#32
  let v4224 : BitVec 32 := Scalar.muli arg0 c96_i32_2122
  let v4225 : BitVec 32 := Scalar.addi v4224 v4032
  let c5_i32_2123 : BitVec 32 := 5#32
  let v4226 : BitVec 32 := Scalar.muli v4225 c5_i32_2123
  let arg1 : BitVec 32 := BitVec.ofNat 32 (i 1).val
  let v4227 : BitVec 32 := Scalar.addi v4226 arg1
  let v4228 : Index := Scalar.indexCast v4227
  ![v4228.toNat]
def k0_off220 (v4038 : BitVec 32) : Fin 5 → Nat :=
  let c0_2130 : Index := 0#32
  let v4253 : Index := Scalar.indexCast v4038
  let c0_2131 : Index := 0#32
  let c0_2132 : Index := 0#32
  let c0_2133 : Index := 0#32
  ![0, v4253.toNat, 0, 0, 0]

def k0_off221 (v4044 : BitVec 32) : Fin 5 → Nat :=
  let c0_2134 : Index := 0#32
  let v4256 : Index := Scalar.indexCast v4044
  let c0_2135 : Index := 0#32
  let c0_2136 : Index := 0#32
  let c0_2137 : Index := 0#32
  ![0, v4256.toNat, 0, 0, 0]

def k0_off222 (i : grid0.Coords) (v4038 : BitVec 32) : Fin 1 → Nat :=
  let arg0 : BitVec 32 := BitVec.ofNat 32 (i 0).val
  let c96_i32_2139 : BitVec 32 := 96#32
  let v4262 : BitVec 32 := Scalar.muli arg0 c96_i32_2139
  let v4263 : BitVec 32 := Scalar.addi v4262 v4038
  let c5_i32_2140 : BitVec 32 := 5#32
  let v4264 : BitVec 32 := Scalar.muli v4263 c5_i32_2140
  let arg1 : BitVec 32 := BitVec.ofNat 32 (i 1).val
  let v4265 : BitVec 32 := Scalar.addi v4264 arg1
  let v4266 : Index := Scalar.indexCast v4265
  ![v4266.toNat]
def k0_off223 (i : grid0.Coords) (v4044 : BitVec 32) : Fin 1 → Nat :=
  let arg0 : BitVec 32 := BitVec.ofNat 32 (i 0).val
  let c96_i32_2141 : BitVec 32 := 96#32
  let v4272 : BitVec 32 := Scalar.muli arg0 c96_i32_2141
  let v4273 : BitVec 32 := Scalar.addi v4272 v4044
  let c5_i32_2142 : BitVec 32 := 5#32
  let v4274 : BitVec 32 := Scalar.muli v4273 c5_i32_2142
  let arg1 : BitVec 32 := BitVec.ofNat 32 (i 1).val
  let v4275 : BitVec 32 := Scalar.addi v4274 arg1
  let v4276 : Index := Scalar.indexCast v4275
  ![v4276.toNat]
def k0_off224 (v4050 : BitVec 32) : Fin 5 → Nat :=
  let c0_2149 : Index := 0#32
  let v4301 : Index := Scalar.indexCast v4050
  let c0_2150 : Index := 0#32
  let c0_2151 : Index := 0#32
  let c0_2152 : Index := 0#32
  ![0, v4301.toNat, 0, 0, 0]

def k0_off225 (v4056 : BitVec 32) : Fin 5 → Nat :=
  let c0_2153 : Index := 0#32
  let v4304 : Index := Scalar.indexCast v4056
  let c0_2154 : Index := 0#32
  let c0_2155 : Index := 0#32
  let c0_2156 : Index := 0#32
  ![0, v4304.toNat, 0, 0, 0]

def k0_off226 (i : grid0.Coords) (v4050 : BitVec 32) : Fin 1 → Nat :=
  let arg0 : BitVec 32 := BitVec.ofNat 32 (i 0).val
  let c96_i32_2158 : BitVec 32 := 96#32
  let v4310 : BitVec 32 := Scalar.muli arg0 c96_i32_2158
  let v4311 : BitVec 32 := Scalar.addi v4310 v4050
  let c5_i32_2159 : BitVec 32 := 5#32
  let v4312 : BitVec 32 := Scalar.muli v4311 c5_i32_2159
  let arg1 : BitVec 32 := BitVec.ofNat 32 (i 1).val
  let v4313 : BitVec 32 := Scalar.addi v4312 arg1
  let v4314 : Index := Scalar.indexCast v4313
  ![v4314.toNat]
def k0_off227 (i : grid0.Coords) (v4056 : BitVec 32) : Fin 1 → Nat :=
  let arg0 : BitVec 32 := BitVec.ofNat 32 (i 0).val
  let c96_i32_2160 : BitVec 32 := 96#32
  let v4320 : BitVec 32 := Scalar.muli arg0 c96_i32_2160
  let v4321 : BitVec 32 := Scalar.addi v4320 v4056
  let c5_i32_2161 : BitVec 32 := 5#32
  let v4322 : BitVec 32 := Scalar.muli v4321 c5_i32_2161
  let arg1 : BitVec 32 := BitVec.ofNat 32 (i 1).val
  let v4323 : BitVec 32 := Scalar.addi v4322 arg1
  let v4324 : Index := Scalar.indexCast v4323
  ![v4324.toNat]

def k0_chk72 (i : grid0.Coords) (v4056 : BitVec 32) : Prop :=
  (∀ a, (k0_off225 v4056) a + S1x1x1x384x128.size a ≤ S1x96x1x384x128.size a) ∧
  (∀ a, (k0_off227 i v4056) a + S1.size a ≤ S960.size a)
theorem k0_off225_inb : ∀ (i : grid0.Coords) (v4056 : BitVec 32) (k0_hw72 : k0_chk72 i v4056), ∀ a, (k0_off225 v4056) a + S1x1x1x384x128.size a ≤ S1x96x1x384x128.size a := fun i v4056 k0_hw72 => k0_hw72.1
theorem k0_off227_inb : ∀ (i : grid0.Coords) (v4056 : BitVec 32) (k0_hw72 : k0_chk72 i v4056), ∀ a, (k0_off227 i v4056) a + S1.size a ≤ S960.size a := fun i v4056 k0_hw72 => k0_hw72.2

def k0_off228 (i : grid0.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let v4352 : Index := Scalar.indexCast v1
  ![v4352.toNat]
def k0_off229 (v3990 : BitVec 32) : Fin 5 → Nat :=
  let c0_2184 : Index := 0#32
  let v4384 : Index := Scalar.indexCast v3990
  let c0_2185 : Index := 0#32
  let c0_2186 : Index := 0#32
  let c0_2187 : Index := 0#32
  ![0, v4384.toNat, 0, 0, 0]

def k0_chk61 (i : grid0.Coords) (v3990 : BitVec 32) : Prop :=
  (∀ a, (k0_off204 v3990) a + S1x1x1x384x128.size a ≤ S1x96x1x384x128.size a) ∧
  (∀ a, (k0_off206 i v3990) a + S1.size a ≤ S960.size a) ∧
  (∀ a, (k0_off229 v3990) a + S1x1x1x384x128.size a ≤ S1x96x1x384x128.size a)
theorem k0_off204_inb : ∀ (i : grid0.Coords) (v3990 : BitVec 32) (k0_hw61 : k0_chk61 i v3990), ∀ a, (k0_off204 v3990) a + S1x1x1x384x128.size a ≤ S1x96x1x384x128.size a := fun i v3990 k0_hw61 => k0_hw61.1
theorem k0_off206_inb : ∀ (i : grid0.Coords) (v3990 : BitVec 32) (k0_hw61 : k0_chk61 i v3990), ∀ a, (k0_off206 i v3990) a + S1.size a ≤ S960.size a := fun i v3990 k0_hw61 => k0_hw61.2.1
theorem k0_off229_inb : ∀ (i : grid0.Coords) (v3990 : BitVec 32) (k0_hw61 : k0_chk61 i v3990), ∀ a, (k0_off229 v3990) a + S1x1x1x384x128.size a ≤ S1x96x1x384x128.size a := fun i v3990 k0_hw61 => k0_hw61.2.2

def k0_off230 (v3996 : BitVec 32) : Fin 5 → Nat :=
  let c0_2188 : Index := 0#32
  let v4387 : Index := Scalar.indexCast v3996
  let c0_2189 : Index := 0#32
  let c0_2190 : Index := 0#32
  let c0_2191 : Index := 0#32
  ![0, v4387.toNat, 0, 0, 0]

def k0_chk62 (i : grid0.Coords) (v3996 : BitVec 32) : Prop :=
  (∀ a, (k0_off205 v3996) a + S1x1x1x384x128.size a ≤ S1x96x1x384x128.size a) ∧
  (∀ a, (k0_off207 i v3996) a + S1.size a ≤ S960.size a) ∧
  (∀ a, (k0_off230 v3996) a + S1x1x1x384x128.size a ≤ S1x96x1x384x128.size a)
theorem k0_off205_inb : ∀ (i : grid0.Coords) (v3996 : BitVec 32) (k0_hw62 : k0_chk62 i v3996), ∀ a, (k0_off205 v3996) a + S1x1x1x384x128.size a ≤ S1x96x1x384x128.size a := fun i v3996 k0_hw62 => k0_hw62.1
theorem k0_off207_inb : ∀ (i : grid0.Coords) (v3996 : BitVec 32) (k0_hw62 : k0_chk62 i v3996), ∀ a, (k0_off207 i v3996) a + S1.size a ≤ S960.size a := fun i v3996 k0_hw62 => k0_hw62.2.1
theorem k0_off230_inb : ∀ (i : grid0.Coords) (v3996 : BitVec 32) (k0_hw62 : k0_chk62 i v3996), ∀ a, (k0_off230 v3996) a + S1x1x1x384x128.size a ≤ S1x96x1x384x128.size a := fun i v3996 k0_hw62 => k0_hw62.2.2

def k0_off231 (v4002 : BitVec 32) : Fin 5 → Nat :=
  let c0_2206 : Index := 0#32
  let v4423 : Index := Scalar.indexCast v4002
  let c0_2207 : Index := 0#32
  let c0_2208 : Index := 0#32
  let c0_2209 : Index := 0#32
  ![0, v4423.toNat, 0, 0, 0]

def k0_chk63 (i : grid0.Coords) (v4002 : BitVec 32) : Prop :=
  (∀ a, (k0_off208 v4002) a + S1x1x1x384x128.size a ≤ S1x96x1x384x128.size a) ∧
  (∀ a, (k0_off210 i v4002) a + S1.size a ≤ S960.size a) ∧
  (∀ a, (k0_off231 v4002) a + S1x1x1x384x128.size a ≤ S1x96x1x384x128.size a)
theorem k0_off208_inb : ∀ (i : grid0.Coords) (v4002 : BitVec 32) (k0_hw63 : k0_chk63 i v4002), ∀ a, (k0_off208 v4002) a + S1x1x1x384x128.size a ≤ S1x96x1x384x128.size a := fun i v4002 k0_hw63 => k0_hw63.1
theorem k0_off210_inb : ∀ (i : grid0.Coords) (v4002 : BitVec 32) (k0_hw63 : k0_chk63 i v4002), ∀ a, (k0_off210 i v4002) a + S1.size a ≤ S960.size a := fun i v4002 k0_hw63 => k0_hw63.2.1
theorem k0_off231_inb : ∀ (i : grid0.Coords) (v4002 : BitVec 32) (k0_hw63 : k0_chk63 i v4002), ∀ a, (k0_off231 v4002) a + S1x1x1x384x128.size a ≤ S1x96x1x384x128.size a := fun i v4002 k0_hw63 => k0_hw63.2.2

def k0_off232 (v4008 : BitVec 32) : Fin 5 → Nat :=
  let c0_2210 : Index := 0#32
  let v4426 : Index := Scalar.indexCast v4008
  let c0_2211 : Index := 0#32
  let c0_2212 : Index := 0#32
  let c0_2213 : Index := 0#32
  ![0, v4426.toNat, 0, 0, 0]

def k0_chk64 (i : grid0.Coords) (v4008 : BitVec 32) : Prop :=
  (∀ a, (k0_off209 v4008) a + S1x1x1x384x128.size a ≤ S1x96x1x384x128.size a) ∧
  (∀ a, (k0_off211 i v4008) a + S1.size a ≤ S960.size a) ∧
  (∀ a, (k0_off232 v4008) a + S1x1x1x384x128.size a ≤ S1x96x1x384x128.size a)
theorem k0_off209_inb : ∀ (i : grid0.Coords) (v4008 : BitVec 32) (k0_hw64 : k0_chk64 i v4008), ∀ a, (k0_off209 v4008) a + S1x1x1x384x128.size a ≤ S1x96x1x384x128.size a := fun i v4008 k0_hw64 => k0_hw64.1
theorem k0_off211_inb : ∀ (i : grid0.Coords) (v4008 : BitVec 32) (k0_hw64 : k0_chk64 i v4008), ∀ a, (k0_off211 i v4008) a + S1.size a ≤ S960.size a := fun i v4008 k0_hw64 => k0_hw64.2.1
theorem k0_off232_inb : ∀ (i : grid0.Coords) (v4008 : BitVec 32) (k0_hw64 : k0_chk64 i v4008), ∀ a, (k0_off232 v4008) a + S1x1x1x384x128.size a ≤ S1x96x1x384x128.size a := fun i v4008 k0_hw64 => k0_hw64.2.2

def k0_off233 (v4014 : BitVec 32) : Fin 5 → Nat :=
  let c0_2230 : Index := 0#32
  let v4464 : Index := Scalar.indexCast v4014
  let c0_2231 : Index := 0#32
  let c0_2232 : Index := 0#32
  let c0_2233 : Index := 0#32
  ![0, v4464.toNat, 0, 0, 0]

def k0_chk65 (i : grid0.Coords) (v4014 : BitVec 32) : Prop :=
  (∀ a, (k0_off212 v4014) a + S1x1x1x384x128.size a ≤ S1x96x1x384x128.size a) ∧
  (∀ a, (k0_off214 i v4014) a + S1.size a ≤ S960.size a) ∧
  (∀ a, (k0_off233 v4014) a + S1x1x1x384x128.size a ≤ S1x96x1x384x128.size a)
theorem k0_off212_inb : ∀ (i : grid0.Coords) (v4014 : BitVec 32) (k0_hw65 : k0_chk65 i v4014), ∀ a, (k0_off212 v4014) a + S1x1x1x384x128.size a ≤ S1x96x1x384x128.size a := fun i v4014 k0_hw65 => k0_hw65.1
theorem k0_off214_inb : ∀ (i : grid0.Coords) (v4014 : BitVec 32) (k0_hw65 : k0_chk65 i v4014), ∀ a, (k0_off214 i v4014) a + S1.size a ≤ S960.size a := fun i v4014 k0_hw65 => k0_hw65.2.1
theorem k0_off233_inb : ∀ (i : grid0.Coords) (v4014 : BitVec 32) (k0_hw65 : k0_chk65 i v4014), ∀ a, (k0_off233 v4014) a + S1x1x1x384x128.size a ≤ S1x96x1x384x128.size a := fun i v4014 k0_hw65 => k0_hw65.2.2

def k0_off234 (v4020 : BitVec 32) : Fin 5 → Nat :=
  let c0_2234 : Index := 0#32
  let v4467 : Index := Scalar.indexCast v4020
  let c0_2235 : Index := 0#32
  let c0_2236 : Index := 0#32
  let c0_2237 : Index := 0#32
  ![0, v4467.toNat, 0, 0, 0]

def k0_chk66 (i : grid0.Coords) (v4020 : BitVec 32) : Prop :=
  (∀ a, (k0_off213 v4020) a + S1x1x1x384x128.size a ≤ S1x96x1x384x128.size a) ∧
  (∀ a, (k0_off215 i v4020) a + S1.size a ≤ S960.size a) ∧
  (∀ a, (k0_off234 v4020) a + S1x1x1x384x128.size a ≤ S1x96x1x384x128.size a)
theorem k0_off213_inb : ∀ (i : grid0.Coords) (v4020 : BitVec 32) (k0_hw66 : k0_chk66 i v4020), ∀ a, (k0_off213 v4020) a + S1x1x1x384x128.size a ≤ S1x96x1x384x128.size a := fun i v4020 k0_hw66 => k0_hw66.1
theorem k0_off215_inb : ∀ (i : grid0.Coords) (v4020 : BitVec 32) (k0_hw66 : k0_chk66 i v4020), ∀ a, (k0_off215 i v4020) a + S1.size a ≤ S960.size a := fun i v4020 k0_hw66 => k0_hw66.2.1
theorem k0_off234_inb : ∀ (i : grid0.Coords) (v4020 : BitVec 32) (k0_hw66 : k0_chk66 i v4020), ∀ a, (k0_off234 v4020) a + S1x1x1x384x128.size a ≤ S1x96x1x384x128.size a := fun i v4020 k0_hw66 => k0_hw66.2.2

def k0_off235 (v4026 : BitVec 32) : Fin 5 → Nat :=
  let c0_2254 : Index := 0#32
  let v4505 : Index := Scalar.indexCast v4026
  let c0_2255 : Index := 0#32
  let c0_2256 : Index := 0#32
  let c0_2257 : Index := 0#32
  ![0, v4505.toNat, 0, 0, 0]

def k0_chk67 (i : grid0.Coords) (v4026 : BitVec 32) : Prop :=
  (∀ a, (k0_off216 v4026) a + S1x1x1x384x128.size a ≤ S1x96x1x384x128.size a) ∧
  (∀ a, (k0_off218 i v4026) a + S1.size a ≤ S960.size a) ∧
  (∀ a, (k0_off235 v4026) a + S1x1x1x384x128.size a ≤ S1x96x1x384x128.size a)
theorem k0_off216_inb : ∀ (i : grid0.Coords) (v4026 : BitVec 32) (k0_hw67 : k0_chk67 i v4026), ∀ a, (k0_off216 v4026) a + S1x1x1x384x128.size a ≤ S1x96x1x384x128.size a := fun i v4026 k0_hw67 => k0_hw67.1
theorem k0_off218_inb : ∀ (i : grid0.Coords) (v4026 : BitVec 32) (k0_hw67 : k0_chk67 i v4026), ∀ a, (k0_off218 i v4026) a + S1.size a ≤ S960.size a := fun i v4026 k0_hw67 => k0_hw67.2.1
theorem k0_off235_inb : ∀ (i : grid0.Coords) (v4026 : BitVec 32) (k0_hw67 : k0_chk67 i v4026), ∀ a, (k0_off235 v4026) a + S1x1x1x384x128.size a ≤ S1x96x1x384x128.size a := fun i v4026 k0_hw67 => k0_hw67.2.2

def k0_off236 (v4032 : BitVec 32) : Fin 5 → Nat :=
  let c0_2258 : Index := 0#32
  let v4508 : Index := Scalar.indexCast v4032
  let c0_2259 : Index := 0#32
  let c0_2260 : Index := 0#32
  let c0_2261 : Index := 0#32
  ![0, v4508.toNat, 0, 0, 0]

def k0_chk68 (i : grid0.Coords) (v4032 : BitVec 32) : Prop :=
  (∀ a, (k0_off217 v4032) a + S1x1x1x384x128.size a ≤ S1x96x1x384x128.size a) ∧
  (∀ a, (k0_off219 i v4032) a + S1.size a ≤ S960.size a) ∧
  (∀ a, (k0_off236 v4032) a + S1x1x1x384x128.size a ≤ S1x96x1x384x128.size a)
theorem k0_off217_inb : ∀ (i : grid0.Coords) (v4032 : BitVec 32) (k0_hw68 : k0_chk68 i v4032), ∀ a, (k0_off217 v4032) a + S1x1x1x384x128.size a ≤ S1x96x1x384x128.size a := fun i v4032 k0_hw68 => k0_hw68.1
theorem k0_off219_inb : ∀ (i : grid0.Coords) (v4032 : BitVec 32) (k0_hw68 : k0_chk68 i v4032), ∀ a, (k0_off219 i v4032) a + S1.size a ≤ S960.size a := fun i v4032 k0_hw68 => k0_hw68.2.1
theorem k0_off236_inb : ∀ (i : grid0.Coords) (v4032 : BitVec 32) (k0_hw68 : k0_chk68 i v4032), ∀ a, (k0_off236 v4032) a + S1x1x1x384x128.size a ≤ S1x96x1x384x128.size a := fun i v4032 k0_hw68 => k0_hw68.2.2

def k0_off237 (v4038 : BitVec 32) : Fin 5 → Nat :=
  let c0_2278 : Index := 0#32
  let v4546 : Index := Scalar.indexCast v4038
  let c0_2279 : Index := 0#32
  let c0_2280 : Index := 0#32
  let c0_2281 : Index := 0#32
  ![0, v4546.toNat, 0, 0, 0]

def k0_chk69 (i : grid0.Coords) (v4038 : BitVec 32) : Prop :=
  (∀ a, (k0_off220 v4038) a + S1x1x1x384x128.size a ≤ S1x96x1x384x128.size a) ∧
  (∀ a, (k0_off222 i v4038) a + S1.size a ≤ S960.size a) ∧
  (∀ a, (k0_off237 v4038) a + S1x1x1x384x128.size a ≤ S1x96x1x384x128.size a)
theorem k0_off220_inb : ∀ (i : grid0.Coords) (v4038 : BitVec 32) (k0_hw69 : k0_chk69 i v4038), ∀ a, (k0_off220 v4038) a + S1x1x1x384x128.size a ≤ S1x96x1x384x128.size a := fun i v4038 k0_hw69 => k0_hw69.1
theorem k0_off222_inb : ∀ (i : grid0.Coords) (v4038 : BitVec 32) (k0_hw69 : k0_chk69 i v4038), ∀ a, (k0_off222 i v4038) a + S1.size a ≤ S960.size a := fun i v4038 k0_hw69 => k0_hw69.2.1
theorem k0_off237_inb : ∀ (i : grid0.Coords) (v4038 : BitVec 32) (k0_hw69 : k0_chk69 i v4038), ∀ a, (k0_off237 v4038) a + S1x1x1x384x128.size a ≤ S1x96x1x384x128.size a := fun i v4038 k0_hw69 => k0_hw69.2.2

def k0_off238 (v4044 : BitVec 32) : Fin 5 → Nat :=
  let c0_2282 : Index := 0#32
  let v4549 : Index := Scalar.indexCast v4044
  let c0_2283 : Index := 0#32
  let c0_2284 : Index := 0#32
  let c0_2285 : Index := 0#32
  ![0, v4549.toNat, 0, 0, 0]

def k0_chk70 (i : grid0.Coords) (v4044 : BitVec 32) : Prop :=
  (∀ a, (k0_off221 v4044) a + S1x1x1x384x128.size a ≤ S1x96x1x384x128.size a) ∧
  (∀ a, (k0_off223 i v4044) a + S1.size a ≤ S960.size a) ∧
  (∀ a, (k0_off238 v4044) a + S1x1x1x384x128.size a ≤ S1x96x1x384x128.size a)
theorem k0_off221_inb : ∀ (i : grid0.Coords) (v4044 : BitVec 32) (k0_hw70 : k0_chk70 i v4044), ∀ a, (k0_off221 v4044) a + S1x1x1x384x128.size a ≤ S1x96x1x384x128.size a := fun i v4044 k0_hw70 => k0_hw70.1
theorem k0_off223_inb : ∀ (i : grid0.Coords) (v4044 : BitVec 32) (k0_hw70 : k0_chk70 i v4044), ∀ a, (k0_off223 i v4044) a + S1.size a ≤ S960.size a := fun i v4044 k0_hw70 => k0_hw70.2.1
theorem k0_off238_inb : ∀ (i : grid0.Coords) (v4044 : BitVec 32) (k0_hw70 : k0_chk70 i v4044), ∀ a, (k0_off238 v4044) a + S1x1x1x384x128.size a ≤ S1x96x1x384x128.size a := fun i v4044 k0_hw70 => k0_hw70.2.2

def k0_off239 (v4050 : BitVec 32) : Fin 5 → Nat :=
  let c0_2302 : Index := 0#32
  let v4587 : Index := Scalar.indexCast v4050
  let c0_2303 : Index := 0#32
  let c0_2304 : Index := 0#32
  let c0_2305 : Index := 0#32
  ![0, v4587.toNat, 0, 0, 0]

def k0_chk71 (i : grid0.Coords) (v4050 : BitVec 32) : Prop :=
  (∀ a, (k0_off224 v4050) a + S1x1x1x384x128.size a ≤ S1x96x1x384x128.size a) ∧
  (∀ a, (k0_off226 i v4050) a + S1.size a ≤ S960.size a) ∧
  (∀ a, (k0_off239 v4050) a + S1x1x1x384x128.size a ≤ S1x96x1x384x128.size a)
theorem k0_off224_inb : ∀ (i : grid0.Coords) (v4050 : BitVec 32) (k0_hw71 : k0_chk71 i v4050), ∀ a, (k0_off224 v4050) a + S1x1x1x384x128.size a ≤ S1x96x1x384x128.size a := fun i v4050 k0_hw71 => k0_hw71.1
theorem k0_off226_inb : ∀ (i : grid0.Coords) (v4050 : BitVec 32) (k0_hw71 : k0_chk71 i v4050), ∀ a, (k0_off226 i v4050) a + S1.size a ≤ S960.size a := fun i v4050 k0_hw71 => k0_hw71.2.1
theorem k0_off239_inb : ∀ (i : grid0.Coords) (v4050 : BitVec 32) (k0_hw71 : k0_chk71 i v4050), ∀ a, (k0_off239 v4050) a + S1x1x1x384x128.size a ≤ S1x96x1x384x128.size a := fun i v4050 k0_hw71 => k0_hw71.2.2

def k0_off240 (i : grid0.Coords) : Fin 1 → Nat :=
  let arg1 : BitVec 32 := BitVec.ofNat 32 (i 1).val
  let v4669 : Index := Scalar.indexCast arg1
  ![v4669.toNat]
def k0_off241 (i : grid0.Coords) : Fin 4 → Nat :=
  let c0_2348 : Index := 0#32
  let c0_2349 : Index := 0#32
  let arg2 : BitVec 32 := BitVec.ofNat 32 (i 2).val
  let c6_i32_2006 : BitVec 32 := 6#32
  let v3974 : BitVec 32 := Scalar.muli arg2 c6_i32_2006
  let c5_i32_2007 : BitVec 32 := 5#32
  let v3975 : BitVec 32 := Scalar.addi v3974 c5_i32_2007
  let v4671 : Index := Scalar.indexCast v3975
  let c0_2350 : Index := 0#32
  ![0, 0, v4671.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, arg1.toNat, c0_i32.toNat, c0_i32_0.toNat]

def cc0_transform_9 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_10 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![arg0.toNat, arg1.toNat, v16.toNat, v26.toNat, c0_i32_10.toNat]

def cc0_transform_15 (i : grid0.Coords) : Fin 6 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![arg0.toNat, arg1.toNat, v16.toNat, v26.toNat, c0_i32_10.toNat, c0_i32_11.toNat]

abbrev stage0_0 : Fin 1 → Memref sig .tc .smem S11520 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S960 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .smem S960 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .smem S10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .smem S10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .smem S10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .smem S2 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .smem S5 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x6x1x384x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x96x1x384x128 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x96x1x384x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x1x256x128 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S1x1x256x128 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1x1x96x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 2 → Memref sig .tc .vmem S1x1x6x384x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S1x1x6x1x1x384 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]
-- ==== ReferenceIdeal.lean ====
abbrev S2x5x96x12 : Shape := ⟨4, ![2, 5, 96, 12]⟩
abbrev S2x96x5 : Shape := ⟨3, ![2, 96, 5]⟩
abbrev S2x5 : Shape := ⟨2, ![2, 5]⟩
abbrev S2 : Shape := ⟨1, ![2]⟩
abbrev S5 : Shape := ⟨1, ![5]⟩
abbrev S2x96x5x384x128 : Shape := ⟨5, ![2, 96, 5, 384, 128]⟩
abbrev S2x5x256x128 : Shape := ⟨4, ![2, 5, 256, 128]⟩
abbrev S2x5x96x128 : Shape := ⟨4, ![2, 5, 96, 128]⟩
abbrev S_ : Shape := ⟨0, ![]⟩
abbrev S2x5x96x12x1 : Shape := ⟨5, ![2, 5, 96, 12, 1]⟩
abbrev S2x5x96x384x128 : Shape := ⟨5, ![2, 5, 96, 384, 128]⟩
abbrev S2x5x96x12x384x128 : Shape := ⟨6, ![2, 5, 96, 12, 384, 128]⟩
abbrev S2x5x96 : Shape := ⟨3, ![2, 5, 96]⟩
abbrev S960x384x128 : Shape := ⟨3, ![960, 384, 128]⟩
abbrev S960x4608x128 : Shape := ⟨3, ![960, 4608, 128]⟩
abbrev S2x5x1x256x128 : Shape := ⟨5, ![2, 5, 1, 256, 128]⟩
abbrev S2x5x96x256x128 : Shape := ⟨5, ![2, 5, 96, 256, 128]⟩
abbrev S960x256x128 : Shape := ⟨3, ![960, 256, 128]⟩
abbrev S960x1x1 : Shape := ⟨3, ![960, 1, 1]⟩
abbrev S960x1x12x1 : Shape := ⟨4, ![960, 1, 12, 1]⟩
abbrev S2x5x1 : Shape := ⟨3, ![2, 5, 1]⟩
abbrev S2x1x1 : Shape := ⟨3, ![2, 1, 1]⟩
abbrev S1x5x1 : Shape := ⟨3, ![1, 5, 1]⟩
abbrev S960x1x128 : Shape := ⟨3, ![960, 1, 128]⟩
abbrev S2x5x24x1536x128 : Shape := ⟨5, ![2, 5, 24, 1536, 128]⟩
abbrev S2x5x24x4x1x384 : Shape := ⟨6, ![2, 5, 24, 4, 1, 384]⟩
abbrev S960x384x4608 : Shape := ⟨3, ![960, 384, 4608]⟩
abbrev S960x384x12x384 : Shape := ⟨4, ![960, 384, 12, 384]⟩
abbrev S960x1x1x1 : Shape := ⟨4, ![960, 1, 1, 1]⟩
abbrev S960x384x256 : Shape := ⟨3, ![960, 384, 256]⟩
abbrev S960x1x256 : Shape := ⟨3, ![960, 1, 256]⟩
abbrev S960x384x12 : Shape := ⟨3, ![960, 384, 12]⟩
abbrev S960x384 : Shape := ⟨2, ![960, 384]⟩
abbrev S960x384x1 : Shape := ⟨3, ![960, 384, 1]⟩
abbrev S960x384x1x1 : Shape := ⟨4, ![960, 384, 1, 1]⟩
abbrev S2x5x4x4x6x6x8x8x128 : Shape := ⟨9, ![2, 5, 4, 4, 6, 6, 8, 8, 128]⟩
abbrev S2x5x4x6x4x8x6x8x128 : Shape := ⟨9, ![2, 5, 4, 6, 4, 8, 6, 8, 128]⟩
abbrev S2x5x4x4x6x6x8x8 : Shape := ⟨8, ![2, 5, 4, 4, 6, 6, 8, 8]⟩
abbrev S2x5x4x6x4x8x6x8 : Shape := ⟨8, ![2, 5, 4, 6, 4, 8, 6, 8]⟩

abbrev nBuf : Space → Nat
  | .hbm => 75
  | .vmem => 15
  | .smem => 0
  | _ => 0

abbrev bufTy : (tb : Table) → Fin (tcTables nBuf tb) → BufTy
  | .hbm, ⟨0, _⟩ => ⟨S2x5x96x12, .i32⟩
  | .hbm, ⟨1, _⟩ => ⟨S2x96x5, .f32⟩
  | .hbm, ⟨2, _⟩ => ⟨S2x96x5, .f32⟩
  | .hbm, ⟨3, _⟩ => ⟨S2x5, .f32⟩
  | .hbm, ⟨4, _⟩ => ⟨S2x5, .f32⟩
  | .hbm, ⟨5, _⟩ => ⟨S2x5, .f32⟩
  | .hbm, ⟨6, _⟩ => ⟨S2, .i32⟩
  | .hbm, ⟨7, _⟩ => ⟨S5, .f32⟩
  | .hbm, ⟨8, _⟩ => ⟨S2x96x5x384x128, .fp8e4m3⟩
  | .hbm, ⟨9, _⟩ => ⟨S2x96x5x384x128, .fp8e4m3⟩
  | .hbm, ⟨10, _⟩ => ⟨S2x96x5x384x128, .fp8e4m3⟩
  | .hbm, ⟨11, _⟩ => ⟨S2x5x256x128, .fp8e4m3⟩
  | .hbm, ⟨12, _⟩ => ⟨S2x5x256x128, .fp8e4m3⟩
  | .hbm, ⟨13, _⟩ => ⟨S2x5x96x128, .f32⟩
  | .hbm, ⟨14, _⟩ => ⟨S_, .i32⟩
  | .hbm, ⟨15, _⟩ => ⟨S2x5x96x12, .i32⟩
  | .hbm, ⟨16, _⟩ => ⟨S2x5x96x12, .i1⟩
  | .hbm, ⟨17, _⟩ => ⟨S_, .i32⟩
  | .hbm, ⟨18, _⟩ => ⟨S2x5x96x12, .i32⟩
  | .hbm, ⟨19, _⟩ => ⟨S2x5x96x12, .i32⟩
  | .hbm, ⟨20, _⟩ => ⟨S2x5x96x12, .i32⟩
  | .hbm, ⟨21, _⟩ => ⟨S2x5x96x12x1, .i32⟩
  | .hbm, ⟨22, _⟩ => ⟨S2x5x96x384x128, .fp8e4m3⟩
  | .hbm, ⟨23, _⟩ => ⟨S2x5x96x12x384x128, .fp8e4m3⟩
  | .hbm, ⟨24, _⟩ => ⟨S_, .i32⟩
  | .hbm, ⟨25, _⟩ => ⟨S2x5x96x12, .i32⟩
  | .hbm, ⟨26, _⟩ => ⟨S2x5x96x12, .i1⟩
  | .hbm, ⟨27, _⟩ => ⟨S_, .i32⟩
  | .hbm, ⟨28, _⟩ => ⟨S2x5x96x12, .i32⟩
  | .hbm, ⟨29, _⟩ => ⟨S2x5x96x12, .i32⟩
  | .hbm, ⟨30, _⟩ => ⟨S2x5x96x12, .i32⟩
  | .hbm, ⟨31, _⟩ => ⟨S2x5x96x12x1, .i32⟩
  | .hbm, ⟨32, _⟩ => ⟨S2x5x96x384x128, .fp8e4m3⟩
  | .hbm, ⟨33, _⟩ => ⟨S2x5x96x12x384x128, .fp8e4m3⟩
  | .hbm, ⟨34, _⟩ => ⟨S_, .i32⟩
  | .hbm, ⟨35, _⟩ => ⟨S2x5x96x12, .i32⟩
  | .hbm, ⟨36, _⟩ => ⟨S2x5x96x12, .i1⟩
  | .hbm, ⟨37, _⟩ => ⟨S_, .i32⟩
  | .hbm, ⟨38, _⟩ => ⟨S2x5x96x12, .i32⟩
  | .hbm, ⟨39, _⟩ => ⟨S2x5x96x12, .i32⟩
  | .hbm, ⟨40, _⟩ => ⟨S2x5x96x12, .i32⟩
  | .hbm, ⟨41, _⟩ => ⟨S2x5x96x12x1, .i32⟩
  | .hbm, ⟨42, _⟩ => ⟨S2x5x96, .f32⟩
  | .hbm, ⟨43, _⟩ => ⟨S2x5x96x12, .f32⟩
  | .hbm, ⟨44, _⟩ => ⟨S2x5x96x384x128, .fp8e4m3⟩
  | .hbm, ⟨45, _⟩ => ⟨S960x384x128, .fp8e4m3⟩
  | .hbm, ⟨46, _⟩ => ⟨S960x4608x128, .fp8e4m3⟩
  | .hbm, ⟨47, _⟩ => ⟨S960x4608x128, .fp8e4m3⟩
  | .hbm, ⟨48, _⟩ => ⟨S2x5x1x256x128, .fp8e4m3⟩
  | .hbm, ⟨49, _⟩ => ⟨S2x5x96x256x128, .fp8e4m3⟩
  | .hbm, ⟨50, _⟩ => ⟨S960x256x128, .fp8e4m3⟩
  | .hbm, ⟨51, _⟩ => ⟨S2x5x1x256x128, .fp8e4m3⟩
  | .hbm, ⟨52, _⟩ => ⟨S2x5x96x256x128, .fp8e4m3⟩
  | .hbm, ⟨53, _⟩ => ⟨S960x256x128, .fp8e4m3⟩
  | .hbm, ⟨54, _⟩ => ⟨S2x5x96, .f32⟩
  | .hbm, ⟨55, _⟩ => ⟨S960x1x1, .f32⟩
  | .hbm, ⟨56, _⟩ => ⟨S960x1x12x1, .f32⟩
  | .hbm, ⟨57, _⟩ => ⟨S2x5x1, .f32⟩
  | .hbm, ⟨58, _⟩ => ⟨S2x5x96, .f32⟩
  | .hbm, ⟨59, _⟩ => ⟨S960x1x1, .f32⟩
  | .hbm, ⟨60, _⟩ => ⟨S2x5x1, .f32⟩
  | .hbm, ⟨61, _⟩ => ⟨S2x5x96, .f32⟩
  | .hbm, ⟨62, _⟩ => ⟨S960x1x1, .f32⟩
  | .hbm, ⟨63, _⟩ => ⟨S2x5x1, .f32⟩
  | .hbm, ⟨64, _⟩ => ⟨S2x5x96, .f32⟩
  | .hbm, ⟨65, _⟩ => ⟨S960x1x1, .f32⟩
  | .hbm, ⟨66, _⟩ => ⟨S2x1x1, .i32⟩
  | .hbm, ⟨67, _⟩ => ⟨S2x5x96, .i32⟩
  | .hbm, ⟨68, _⟩ => ⟨S960x1x1, .i32⟩
  | .hbm, ⟨69, _⟩ => ⟨S1x5x1, .f32⟩
  | .hbm, ⟨70, _⟩ => ⟨S2x5x96, .f32⟩
  | .hbm, ⟨71, _⟩ => ⟨S960x1x1, .f32⟩
  | .hbm, ⟨72, _⟩ => ⟨S960x1x128, .f32⟩
  | .hbm, ⟨73, _⟩ => ⟨S2x5x24x1536x128, .f32⟩
  | .hbm, ⟨74, _⟩ => ⟨S2x5x24x4x1x384, .f32⟩
  | .local _ .vmem, ⟨0, _⟩ => ⟨S960x384x128, .fp8e4m3⟩
  | .local _ .vmem, ⟨1, _⟩ => ⟨S960x4608x128, .fp8e4m3⟩
  | .local _ .vmem, ⟨2, _⟩ => ⟨S960x4608x128, .fp8e4m3⟩
  | .local _ .vmem, ⟨3, _⟩ => ⟨S960x256x128, .fp8e4m3⟩
  | .local _ .vmem, ⟨4, _⟩ => ⟨S960x256x128, .fp8e4m3⟩
  | .local _ .vmem, ⟨5, _⟩ => ⟨S960x1x1, .f32⟩
  | .local _ .vmem, ⟨6, _⟩ => ⟨S960x1x12x1, .f32⟩
  | .local _ .vmem, ⟨7, _⟩ => ⟨S960x1x1, .f32⟩
  | .local _ .vmem, ⟨8, _⟩ => ⟨S960x1x1, .f32⟩
  | .local _ .vmem, ⟨9, _⟩ => ⟨S960x1x1, .f32⟩
  | .local _ .vmem, ⟨10, _⟩ => ⟨S960x1x1, .i32⟩
  | .local _ .vmem, ⟨11, _⟩ => ⟨S960x1x1, .f32⟩
  | .local _ .vmem, ⟨12, _⟩ => ⟨S960x1x128, .f32⟩
  | .local _ .vmem, ⟨13, _⟩ => ⟨S2x5x24x1536x128, .f32⟩
  | .local _ .vmem, ⟨14, _⟩ => ⟨S2x5x24x4x1x384, .f32⟩
  | _, _ => ⟨S2x5x96x12, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c_1 : Ref sig .tc := ⟨.hbm, 24, rfl⟩
abbrev main_v8 : Ref sig .tc := ⟨.hbm, 25, rfl⟩
abbrev main_v9 : Ref sig .tc := ⟨.hbm, 26, rfl⟩
abbrev main_c_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53_0 : Ref sig .tc := ⟨.hbm, 73, rfl⟩
abbrev main_v53_1 : Ref sig .tc := ⟨.hbm, 74, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S960x384x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S960x4608x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S960x4608x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S960x256x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S960x256x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S960x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S960x1x12x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S960x1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S960x1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S960x1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S960x1x1 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S960x1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S960x1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x5x24x1536x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x5x24x4x1x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.KernelRuns.lean ====
/- The kernel body's run, what its statement needs: the staging memrefs of every window at a grid point, and the
   side conditions on the tile numbers the body reads: each is smaller than the number of tiles (`Hyps`), so every
   load at a tile number is inside its array. -/
module

public import proofs.«01_k».proof.Proof.Gen.Kernel.Frame
public import proofs.«01_k».proof.Proof.Gen.Kernel.Skeleton

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- A run that leaves every input array at its entry contents is the frame claim. -/
theorem frame_of_run (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (Pipeline.RDat.FramePost.arr_in h c 6 rfl).trans ((hA c 6).trans (V_main_arg6 m c)),
      (Pipeline.RDat.FramePost.arr_in h c 7 rfl).trans ((hA c 7).trans (V_main_arg7 m c)),
      (Pipeline.RDat.FramePost.arr_in h c 8 rfl).trans ((hA c 8).trans (V_main_arg8 m c)),
      (Pipeline.RDat.FramePost.arr_in h c 9 rfl).trans ((hA c 9).trans (V_main_arg9 m c)),
      (Pipeline.RDat.FramePost.arr_in h c 10 rfl).trans ((hA c 10).trans (V_main_arg10 m c)),
      (Pipeline.RDat.FramePost.arr_in h c 11 rfl).trans ((hA c 11).trans (V_main_arg11 m c)),
      (Pipeline.RDat.FramePost.arr_in h c 12 rfl).trans ((hA c 12).trans (V_main_arg12 m c)),
      (Pipeline.RDat.FramePost.arr_in h c 13 rfl).trans ((hA c 13).trans (V_main_arg13 m c))⟩) h

/-! ## The kernel body on any staging memrefs: a subtype the run finds -/

/-- Each window's current staging memref at point `t`, spelled as the pipeline passes it (`bodyAt0`), and its wholeness. -/
abbrev ms0_0 (t : Fin cfg0.N) : Memref sig .tc .smem S11520 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S960 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S960 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S10 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S10 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S10 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .smem S2 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .smem S5 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x6x1x384x128 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x96x1x384x128 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x96x1x384x128 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x256x128 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1x256x128 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1x96x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1x6x384x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1x6x1x1x384 .f32 := win0_15.stage (cfg0.slots t 15)
abbrev hs0_15 (t : Fin cfg0.N) : (ms0_15 t).IsWhole := hstage0_15 ((cfg0.slots t 15).cast nbuf0_15)

/-! ## The side conditions the body assumes -/

/-- A tile number below 96 keeps the load of one tile inside the array of tiles. -/
theorem tile_inb (v : BitVec 32) (h : v.toNat < 96) :
    ∀ a, (![0, (Scalar.indexCast v).toNat, 0, 0, 0] : Fin 5 → Nat) a + S1x1x1x384x128.size a ≤ S1x96x1x384x128.size a := by
  have h' : (Scalar.indexCast v).toNat = v.toNat := by simp [Scalar.indexCast]
  intro a; fin_cases a <;> simp [S1x1x1x384x128, S1x96x1x384x128, h'] <;> omega

/-- A tile number below 96 keeps the load of one tile's key scale inside the array of scales. -/
theorem scale_inb (i : grid0.Coords) (v : BitVec 32) (h : v.toNat < 96) :
    ∀ a, (k0_off6 i v) a + S1.size a ≤ S960.size a := by
  have h0 : (i 0).val < 2 := (i 0).isLt
  have h1 : (i 1).val < 5 := (i 1).isLt
  intro a; fin_cases a
  simp [k0_off6, S1, S960, Scalar.indexCast, Scalar.muli, Scalar.addi, IntOp.muli, IntOp.addi]
  generalize (i 0).val = a at h0 ⊢
  generalize (i 1).val = b at h1 ⊢
  generalize v.toNat = w at h ⊢
  have e : ((a * 96 + w) * 5 + b) % 4294967296 = (a * 96 + w) * 5 + b := Nat.mod_eq_of_lt (by omega)
  first | rw [e] | skip
  omega

/-- Every tile number the body can read (the words of the first window's block) is below 96. -/
def Hyps : Prop := ∀ (c : Dev nD) (t : Fin cfg0.N) (j : S11520.Idx), (iblk m c 0 t j : BitVec 32).toNat < 96

variable {m} in
/-- A word loaded from the first window is a tile number below 96. -/
theorem Hyps.word (hH : Hyps m) (c : Dev nD) (t : Fin cfg0.N) (r : Rect S11520) (j : r.toLoadRect.shape.Idx) :
    ((ms0_0 t).view.readAt (Elt F) r.toLoadRect ((hs0_0 t).unread (iblk m c 0 t)) j : BitVec 32).toNat < 96 := by
  rw [View.readAt_eq_ld, Memref.IsWhole.read_unread]
  exact hH c t _

/-! Each side condition of the body, from the bound on the words. -/

variable {m} in
theorem Hyps.c0 (hH : Hyps m) (c : Dev nD) (t : Fin cfg0.N) :
    k0_chk1 (grid0.coords t) ((ms0_0 t).view.readAt (Elt F) (Rect.unit (s := S11520) (k0_off3 (grid0.coords t) 0#32) S1.size (k0_off3_inb (grid0.coords t) 0)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c1 (hH : Hyps m) (c : Dev nD) (t : Fin cfg0.N) :
    k0_chk2 (grid0.coords t) ((ms0_0 t).view.readAt (Elt F) (Rect.unit (s := S11520) (k0_off3 (grid0.coords t) 1#32) S1.size (k0_off3_inb (grid0.coords t) 1)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c2 (hH : Hyps m) (c : Dev nD) (t : Fin cfg0.N) :
    k0_chk3 (grid0.coords t) ((ms0_0 t).view.readAt (Elt F) (Rect.unit (s := S11520) (k0_off3 (grid0.coords t) 2#32) S1.size (k0_off3_inb (grid0.coords t) 2)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c3 (hH : Hyps m) (c : Dev nD) (t : Fin cfg0.N) :
    k0_chk4 (grid0.coords t) ((ms0_0 t).view.readAt (Elt F) (Rect.unit (s := S11520) (k0_off3 (grid0.coords t) 3#32) S1.size (k0_off3_inb (grid0.coords t) 3)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c4 (hH : Hyps m) (c : Dev nD) (t : Fin cfg0.N) :
    k0_chk5 (grid0.coords t) ((ms0_0 t).view.readAt (Elt F) (Rect.unit (s := S11520) (k0_off3 (grid0.coords t) 4#32) S1.size (k0_off3_inb (grid0.coords t) 4)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c5 (hH : Hyps m) (c : Dev nD) (t : Fin cfg0.N) :
    k0_chk6 (grid0.coords t) ((ms0_0 t).view.readAt (Elt F) (Rect.unit (s := S11520) (k0_off3 (grid0.coords t) 5#32) S1.size (k0_off3_inb (grid0.coords t) 5)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c6 (hH : Hyps m) (c : Dev nD) (t : Fin cfg0.N) :
    k0_chk7 (grid0.coords t) ((ms0_0 t).view.readAt (Elt F) (Rect.unit (s := S11520) (k0_off3 (grid0.coords t) 6#32) S1.size (k0_off3_inb (grid0.coords t) 6)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c7 (hH : Hyps m) (c : Dev nD) (t : Fin cfg0.N) :
    k0_chk8 (grid0.coords t) ((ms0_0 t).view.readAt (Elt F) (Rect.unit (s := S11520) (k0_off3 (grid0.coords t) 7#32) S1.size (k0_off3_inb (grid0.coords t) 7)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c8 (hH : Hyps m) (c : Dev nD) (t : Fin cfg0.N) :
    k0_chk9 (grid0.coords t) ((ms0_0 t).view.readAt (Elt F) (Rect.unit (s := S11520) (k0_off3 (grid0.coords t) 8#32) S1.size (k0_off3_inb (grid0.coords t) 8)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c9 (hH : Hyps m) (c : Dev nD) (t : Fin cfg0.N) :
    k0_chk10 (grid0.coords t) ((ms0_0 t).view.readAt (Elt F) (Rect.unit (s := S11520) (k0_off3 (grid0.coords t) 9#32) S1.size (k0_off3_inb (grid0.coords t) 9)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c10 (hH : Hyps m) (c : Dev nD) (t : Fin cfg0.N) :
    k0_chk11 (grid0.coords t) ((ms0_0 t).view.readAt (Elt F) (Rect.unit (s := S11520) (k0_off3 (grid0.coords t) 10#32) S1.size (k0_off3_inb (grid0.coords t) 10)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c11 (hH : Hyps m) (c : Dev nD) (t : Fin cfg0.N) :
    k0_chk12 (grid0.coords t) ((ms0_0 t).view.readAt (Elt F) (Rect.unit (s := S11520) (k0_off3 (grid0.coords t) 11#32) S1.size (k0_off3_inb (grid0.coords t) 11)).toLoadRect ((hs0_0 t).unread (iblk m c 0 t)) (Shape.Idx.first (numel1_S1.symm ▸ Nat.one_pos))) :=
  ⟨tile_inb _ (hH.word c t _ _), scale_inb _ _ (hH.word c t _ _)⟩
variable {m} in
theorem Hyps.c12 (hH : Hyps m) (c : Dev nD) (t : Fin cfg0.N) :
    k0_chk13 (grid0.coords t) ((ms0_0 t).view.readAt (Elt F) (Rect.unit (s := S11520) (k0_off43 (grid0.coords t) 0#32) S1.size (k0_off43_inb (grid0.coords t) 0)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c13 (hH : Hyps m) (c : Dev nD) (t : Fin cfg0.N) :
    k0_chk14 (grid0.coords t) ((ms0_0 t).view.readAt (Elt F) (Rect.unit (s := S11520) (k0_off43 (grid0.coords t) 1#32) S1.size (k0_off43_inb (grid0.coords t) 1)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c14 (hH : Hyps m) (c : Dev nD) (t : Fin cfg0.N) :
    k0_chk15 (grid0.coords t) ((ms0_0 t).view.readAt (Elt F) (Rect.unit (s := S11520) (k0_off43 (grid0.coords t) 2#32) S1.size (k0_off43_inb (grid0.coords t) 2)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c15 (hH : Hyps m) (c : Dev nD) (t : Fin cfg0.N) :
    k0_chk16 (grid0.coords t) ((ms0_0 t).view.readAt (Elt F) (Rect.unit (s := S11520) (k0_off43 (grid0.coords t) 3#32) S1.size (k0_off43_inb (grid0.coords t) 3)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c16 (hH : Hyps m) (c : Dev nD) (t : Fin cfg0.N) :
    k0_chk17 (grid0.coords t) ((ms0_0 t).view.readAt (Elt F) (Rect.unit (s := S11520) (k0_off43 (grid0.coords t) 4#32) S1.size (k0_off43_inb (grid0.coords t) 4)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c17 (hH : Hyps m) (c : Dev nD) (t : Fin cfg0.N) :
    k0_chk18 (grid0.coords t) ((ms0_0 t).view.readAt (Elt F) (Rect.unit (s := S11520) (k0_off43 (grid0.coords t) 5#32) S1.size (k0_off43_inb (grid0.coords t) 5)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c18 (hH : Hyps m) (c : Dev nD) (t : Fin cfg0.N) :
    k0_chk19 (grid0.coords t) ((ms0_0 t).view.readAt (Elt F) (Rect.unit (s := S11520) (k0_off43 (grid0.coords t) 6#32) S1.size (k0_off43_inb (grid0.coords t) 6)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c19 (hH : Hyps m) (c : Dev nD) (t : Fin cfg0.N) :
    k0_chk20 (grid0.coords t) ((ms0_0 t).view.readAt (Elt F) (Rect.unit (s := S11520) (k0_off43 (grid0.coords t) 7#32) S1.size (k0_off43_inb (grid0.coords t) 7)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c20 (hH : Hyps m) (c : Dev nD) (t : Fin cfg0.N) :
    k0_chk21 (grid0.coords t) ((ms0_0 t).view.readAt (Elt F) (Rect.unit (s := S11520) (k0_off43 (grid0.coords t) 8#32) S1.size (k0_off43_inb (grid0.coords t) 8)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c21 (hH : Hyps m) (c : Dev nD) (t : Fin cfg0.N) :
    k0_chk22 (grid0.coords t) ((ms0_0 t).view.readAt (Elt F) (Rect.unit (s := S11520) (k0_off43 (grid0.coords t) 9#32) S1.size (k0_off43_inb (grid0.coords t) 9)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c22 (hH : Hyps m) (c : Dev nD) (t : Fin cfg0.N) :
    k0_chk23 (grid0.coords t) ((ms0_0 t).view.readAt (Elt F) (Rect.unit (s := S11520) (k0_off43 (grid0.coords t) 10#32) S1.size (k0_off43_inb (grid0.coords t) 10)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c23 (hH : Hyps m) (c : Dev nD) (t : Fin cfg0.N) :
    k0_chk24 (grid0.coords t) ((ms0_0 t).view.readAt (Elt F) (Rect.unit (s := S11520) (k0_off43 (grid0.coords t) 11#32) S1.size (k0_off43_inb (grid0.coords t) 11)).toLoadRect ((hs0_0 t).unread (iblk m c 0 t)) (Shape.Idx.first (numel1_S1.symm ▸ Nat.one_pos))) :=
  ⟨tile_inb _ (hH.word c t _ _), scale_inb _ _ (hH.word c t _ _)⟩
variable {m} in
theorem Hyps.c24 (hH : Hyps m) (c : Dev nD) (t : Fin cfg0.N) :
    k0_chk25 (grid0.coords t) ((ms0_0 t).view.readAt (Elt F) (Rect.unit (s := S11520) (k0_off83 (grid0.coords t) 0#32) S1.size (k0_off83_inb (grid0.coords t) 0)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c25 (hH : Hyps m) (c : Dev nD) (t : Fin cfg0.N) :
    k0_chk26 (grid0.coords t) ((ms0_0 t).view.readAt (Elt F) (Rect.unit (s := S11520) (k0_off83 (grid0.coords t) 1#32) S1.size (k0_off83_inb (grid0.coords t) 1)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c26 (hH : Hyps m) (c : Dev nD) (t : Fin cfg0.N) :
    k0_chk27 (grid0.coords t) ((ms0_0 t).view.readAt (Elt F) (Rect.unit (s := S11520) (k0_off83 (grid0.coords t) 2#32) S1.size (k0_off83_inb (grid0.coords t) 2)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c27 (hH : Hyps m) (c : Dev nD) (t : Fin cfg0.N) :
    k0_chk28 (grid0.coords t) ((ms0_0 t).view.readAt (Elt F) (Rect.unit (s := S11520) (k0_off83 (grid0.coords t) 3#32) S1.size (k0_off83_inb (grid0.coords t) 3)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c28 (hH : Hyps m) (c : Dev nD) (t : Fin cfg0.N) :
    k0_chk29 (grid0.coords t) ((ms0_0 t).view.readAt (Elt F) (Rect.unit (s := S11520) (k0_off83 (grid0.coords t) 4#32) S1.size (k0_off83_inb (grid0.coords t) 4)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c29 (hH : Hyps m) (c : Dev nD) (t : Fin cfg0.N) :
    k0_chk30 (grid0.coords t) ((ms0_0 t).view.readAt (Elt F) (Rect.unit (s := S11520) (k0_off83 (grid0.coords t) 5#32) S1.size (k0_off83_inb (grid0.coords t) 5)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c30 (hH : Hyps m) (c : Dev nD) (t : Fin cfg0.N) :
    k0_chk31 (grid0.coords t) ((ms0_0 t).view.readAt (Elt F) (Rect.unit (s := S11520) (k0_off83 (grid0.coords t) 6#32) S1.size (k0_off83_inb (grid0.coords t) 6)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c31 (hH : Hyps m) (c : Dev nD) (t : Fin cfg0.N) :
    k0_chk32 (grid0.coords t) ((ms0_0 t).view.readAt (Elt F) (Rect.unit (s := S11520) (k0_off83 (grid0.coords t) 7#32) S1.size (k0_off83_inb (grid0.coords t) 7)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c32 (hH : Hyps m) (c : Dev nD) (t : Fin cfg0.N) :
    k0_chk33 (grid0.coords t) ((ms0_0 t).view.readAt (Elt F) (Rect.unit (s := S11520) (k0_off83 (grid0.coords t) 8#32) S1.size (k0_off83_inb (grid0.coords t) 8)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c33 (hH : Hyps m) (c : Dev nD) (t : Fin cfg0.N) :
    k0_chk34 (grid0.coords t) ((ms0_0 t).view.readAt (Elt F) (Rect.unit (s := S11520) (k0_off83 (grid0.coords t) 9#32) S1.size (k0_off83_inb (grid0.coords t) 9)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c34 (hH : Hyps m) (c : Dev nD) (t : Fin cfg0.N) :
    k0_chk35 (grid0.coords t) ((ms0_0 t).view.readAt (Elt F) (Rect.unit (s := S11520) (k0_off83 (grid0.coords t) 10#32) S1.size (k0_off83_inb (grid0.coords t) 10)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c35 (hH : Hyps m) (c : Dev nD) (t : Fin cfg0.N) :
    k0_chk36 (grid0.coords t) ((ms0_0 t).view.readAt (Elt F) (Rect.unit (s := S11520) (k0_off83 (grid0.coords t) 11#32) S1.size (k0_off83_inb (grid0.coords t) 11)).toLoadRect ((hs0_0 t).unread (iblk m c 0 t)) (Shape.Idx.first (numel1_S1.symm ▸ Nat.one_pos))) :=
  ⟨tile_inb _ (hH.word c t _ _), scale_inb _ _ (hH.word c t _ _)⟩
variable {m} in
theorem Hyps.c36 (hH : Hyps m) (c : Dev nD) (t : Fin cfg0.N) :
    k0_chk37 (grid0.coords t) ((ms0_0 t).view.readAt (Elt F) (Rect.unit (s := S11520) (k0_off123 (grid0.coords t) 0#32) S1.size (k0_off123_inb (grid0.coords t) 0)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c37 (hH : Hyps m) (c : Dev nD) (t : Fin cfg0.N) :
    k0_chk38 (grid0.coords t) ((ms0_0 t).view.readAt (Elt F) (Rect.unit (s := S11520) (k0_off123 (grid0.coords t) 1#32) S1.size (k0_off123_inb (grid0.coords t) 1)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c38 (hH : Hyps m) (c : Dev nD) (t : Fin cfg0.N) :
    k0_chk39 (grid0.coords t) ((ms0_0 t).view.readAt (Elt F) (Rect.unit (s := S11520) (k0_off123 (grid0.coords t) 2#32) S1.size (k0_off123_inb (grid0.coords t) 2)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c39 (hH : Hyps m) (c : Dev nD) (t : Fin cfg0.N) :
    k0_chk40 (grid0.coords t) ((ms0_0 t).view.readAt (Elt F) (Rect.unit (s := S11520) (k0_off123 (grid0.coords t) 3#32) S1.size (k0_off123_inb (grid0.coords t) 3)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c40 (hH : Hyps m) (c : Dev nD) (t : Fin cfg0.N) :
    k0_chk41 (grid0.coords t) ((ms0_0 t).view.readAt (Elt F) (Rect.unit (s := S11520) (k0_off123 (grid0.coords t) 4#32) S1.size (k0_off123_inb (grid0.coords t) 4)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c41 (hH : Hyps m) (c : Dev nD) (t : Fin cfg0.N) :
    k0_chk42 (grid0.coords t) ((ms0_0 t).view.readAt (Elt F) (Rect.unit (s := S11520) (k0_off123 (grid0.coords t) 5#32) S1.size (k0_off123_inb (grid0.coords t) 5)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c42 (hH : Hyps m) (c : Dev nD) (t : Fin cfg0.N) :
    k0_chk43 (grid0.coords t) ((ms0_0 t).view.readAt (Elt F) (Rect.unit (s := S11520) (k0_off123 (grid0.coords t) 6#32) S1.size (k0_off123_inb (grid0.coords t) 6)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c43 (hH : Hyps m) (c : Dev nD) (t : Fin cfg0.N) :
    k0_chk44 (grid0.coords t) ((ms0_0 t).view.readAt (Elt F) (Rect.unit (s := S11520) (k0_off123 (grid0.coords t) 7#32) S1.size (k0_off123_inb (grid0.coords t) 7)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c44 (hH : Hyps m) (c : Dev nD) (t : Fin cfg0.N) :
    k0_chk45 (grid0.coords t) ((ms0_0 t).view.readAt (Elt F) (Rect.unit (s := S11520) (k0_off123 (grid0.coords t) 8#32) S1.size (k0_off123_inb (grid0.coords t) 8)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c45 (hH : Hyps m) (c : Dev nD) (t : Fin cfg0.N) :
    k0_chk46 (grid0.coords t) ((ms0_0 t).view.readAt (Elt F) (Rect.unit (s := S11520) (k0_off123 (grid0.coords t) 9#32) S1.size (k0_off123_inb (grid0.coords t) 9)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c46 (hH : Hyps m) (c : Dev nD) (t : Fin cfg0.N) :
    k0_chk47 (grid0.coords t) ((ms0_0 t).view.readAt (Elt F) (Rect.unit (s := S11520) (k0_off123 (grid0.coords t) 10#32) S1.size (k0_off123_inb (grid0.coords t) 10)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c47 (hH : Hyps m) (c : Dev nD) (t : Fin cfg0.N) :
    k0_chk48 (grid0.coords t) ((ms0_0 t).view.readAt (Elt F) (Rect.unit (s := S11520) (k0_off123 (grid0.coords t) 11#32) S1.size (k0_off123_inb (grid0.coords t) 11)).toLoadRect ((hs0_0 t).unread (iblk m c 0 t)) (Shape.Idx.first (numel1_S1.symm ▸ Nat.one_pos))) :=
  ⟨tile_inb _ (hH.word c t _ _), scale_inb _ _ (hH.word c t _ _)⟩
variable {m} in
theorem Hyps.c48 (hH : Hyps m) (c : Dev nD) (t : Fin cfg0.N) :
    k0_chk49 (grid0.coords t) ((ms0_0 t).view.readAt (Elt F) (Rect.unit (s := S11520) (k0_off163 (grid0.coords t) 0#32) S1.size (k0_off163_inb (grid0.coords t) 0)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c49 (hH : Hyps m) (c : Dev nD) (t : Fin cfg0.N) :
    k0_chk50 (grid0.coords t) ((ms0_0 t).view.readAt (Elt F) (Rect.unit (s := S11520) (k0_off163 (grid0.coords t) 1#32) S1.size (k0_off163_inb (grid0.coords t) 1)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c50 (hH : Hyps m) (c : Dev nD) (t : Fin cfg0.N) :
    k0_chk51 (grid0.coords t) ((ms0_0 t).view.readAt (Elt F) (Rect.unit (s := S11520) (k0_off163 (grid0.coords t) 2#32) S1.size (k0_off163_inb (grid0.coords t) 2)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c51 (hH : Hyps m) (c : Dev nD) (t : Fin cfg0.N) :
    k0_chk52 (grid0.coords t) ((ms0_0 t).view.readAt (Elt F) (Rect.unit (s := S11520) (k0_off163 (grid0.coords t) 3#32) S1.size (k0_off163_inb (grid0.coords t) 3)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c52 (hH : Hyps m) (c : Dev nD) (t : Fin cfg0.N) :
    k0_chk53 (grid0.coords t) ((ms0_0 t).view.readAt (Elt F) (Rect.unit (s := S11520) (k0_off163 (grid0.coords t) 4#32) S1.size (k0_off163_inb (grid0.coords t) 4)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c53 (hH : Hyps m) (c : Dev nD) (t : Fin cfg0.N) :
    k0_chk54 (grid0.coords t) ((ms0_0 t).view.readAt (Elt F) (Rect.unit (s := S11520) (k0_off163 (grid0.coords t) 5#32) S1.size (k0_off163_inb (grid0.coords t) 5)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c54 (hH : Hyps m) (c : Dev nD) (t : Fin cfg0.N) :
    k0_chk55 (grid0.coords t) ((ms0_0 t).view.readAt (Elt F) (Rect.unit (s := S11520) (k0_off163 (grid0.coords t) 6#32) S1.size (k0_off163_inb (grid0.coords t) 6)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c55 (hH : Hyps m) (c : Dev nD) (t : Fin cfg0.N) :
    k0_chk56 (grid0.coords t) ((ms0_0 t).view.readAt (Elt F) (Rect.unit (s := S11520) (k0_off163 (grid0.coords t) 7#32) S1.size (k0_off163_inb (grid0.coords t) 7)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c56 (hH : Hyps m) (c : Dev nD) (t : Fin cfg0.N) :
    k0_chk57 (grid0.coords t) ((ms0_0 t).view.readAt (Elt F) (Rect.unit (s := S11520) (k0_off163 (grid0.coords t) 8#32) S1.size (k0_off163_inb (grid0.coords t) 8)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c57 (hH : Hyps m) (c : Dev nD) (t : Fin cfg0.N) :
    k0_chk58 (grid0.coords t) ((ms0_0 t).view.readAt (Elt F) (Rect.unit (s := S11520) (k0_off163 (grid0.coords t) 9#32) S1.size (k0_off163_inb (grid0.coords t) 9)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c58 (hH : Hyps m) (c : Dev nD) (t : Fin cfg0.N) :
    k0_chk59 (grid0.coords t) ((ms0_0 t).view.readAt (Elt F) (Rect.unit (s := S11520) (k0_off163 (grid0.coords t) 10#32) S1.size (k0_off163_inb (grid0.coords t) 10)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c59 (hH : Hyps m) (c : Dev nD) (t : Fin cfg0.N) :
    k0_chk60 (grid0.coords t) ((ms0_0 t).view.readAt (Elt F) (Rect.unit (s := S11520) (k0_off163 (grid0.coords t) 11#32) S1.size (k0_off163_inb (grid0.coords t) 11)).toLoadRect ((hs0_0 t).unread (iblk m c 0 t)) (Shape.Idx.first (numel1_S1.symm ▸ Nat.one_pos))) :=
  ⟨tile_inb _ (hH.word c t _ _), scale_inb _ _ (hH.word c t _ _)⟩
variable {m} in
theorem Hyps.c60 (hH : Hyps m) (c : Dev nD) (t : Fin cfg0.N) :
    k0_chk61 (grid0.coords t) ((ms0_0 t).view.readAt (Elt F) (Rect.unit (s := S11520) (k0_off203 (grid0.coords t) 0#32) S1.size (k0_off203_inb (grid0.coords t) 0)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c61 (hH : Hyps m) (c : Dev nD) (t : Fin cfg0.N) :
    k0_chk62 (grid0.coords t) ((ms0_0 t).view.readAt (Elt F) (Rect.unit (s := S11520) (k0_off203 (grid0.coords t) 1#32) S1.size (k0_off203_inb (grid0.coords t) 1)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c62 (hH : Hyps m) (c : Dev nD) (t : Fin cfg0.N) :
    k0_chk63 (grid0.coords t) ((ms0_0 t).view.readAt (Elt F) (Rect.unit (s := S11520) (k0_off203 (grid0.coords t) 2#32) S1.size (k0_off203_inb (grid0.coords t) 2)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c63 (hH : Hyps m) (c : Dev nD) (t : Fin cfg0.N) :
    k0_chk64 (grid0.coords t) ((ms0_0 t).view.readAt (Elt F) (Rect.unit (s := S11520) (k0_off203 (grid0.coords t) 3#32) S1.size (k0_off203_inb (grid0.coords t) 3)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c64 (hH : Hyps m) (c : Dev nD) (t : Fin cfg0.N) :
    k0_chk65 (grid0.coords t) ((ms0_0 t).view.readAt (Elt F) (Rect.unit (s := S11520) (k0_off203 (grid0.coords t) 4#32) S1.size (k0_off203_inb (grid0.coords t) 4)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c65 (hH : Hyps m) (c : Dev nD) (t : Fin cfg0.N) :
    k0_chk66 (grid0.coords t) ((ms0_0 t).view.readAt (Elt F) (Rect.unit (s := S11520) (k0_off203 (grid0.coords t) 5#32) S1.size (k0_off203_inb (grid0.coords t) 5)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c66 (hH : Hyps m) (c : Dev nD) (t : Fin cfg0.N) :
    k0_chk67 (grid0.coords t) ((ms0_0 t).view.readAt (Elt F) (Rect.unit (s := S11520) (k0_off203 (grid0.coords t) 6#32) S1.size (k0_off203_inb (grid0.coords t) 6)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c67 (hH : Hyps m) (c : Dev nD) (t : Fin cfg0.N) :
    k0_chk68 (grid0.coords t) ((ms0_0 t).view.readAt (Elt F) (Rect.unit (s := S11520) (k0_off203 (grid0.coords t) 7#32) S1.size (k0_off203_inb (grid0.coords t) 7)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c68 (hH : Hyps m) (c : Dev nD) (t : Fin cfg0.N) :
    k0_chk69 (grid0.coords t) ((ms0_0 t).view.readAt (Elt F) (Rect.unit (s := S11520) (k0_off203 (grid0.coords t) 8#32) S1.size (k0_off203_inb (grid0.coords t) 8)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c69 (hH : Hyps m) (c : Dev nD) (t : Fin cfg0.N) :
    k0_chk70 (grid0.coords t) ((ms0_0 t).view.readAt (Elt F) (Rect.unit (s := S11520) (k0_off203 (grid0.coords t) 9#32) S1.size (k0_off203_inb (grid0.coords t) 9)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c70 (hH : Hyps m) (c : Dev nD) (t : Fin cfg0.N) :
    k0_chk71 (grid0.coords t) ((ms0_0 t).view.readAt (Elt F) (Rect.unit (s := S11520) (k0_off203 (grid0.coords t) 10#32) S1.size (k0_off203_inb (grid0.coords t) 10)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c71 (hH : Hyps m) (c : Dev nD) (t : Fin cfg0.N) :
    k0_chk72 (grid0.coords t) ((ms0_0 t).view.readAt (Elt F) (Rect.unit (s := S11520) (k0_off203 (grid0.coords t) 11#32) S1.size (k0_off203_inb (grid0.coords t) 11)).toLoadRect ((hs0_0 t).unread (iblk m c 0 t)) (Shape.Idx.first (numel1_S1.symm ▸ Nat.one_pos))) :=
  ⟨tile_inb _ (hH.word c t _ _), scale_inb _ _ (hH.word c t _ _)⟩

/-- The scratch operands: whole scoped buffers of the kernel's own, passed beside the windows. -/
abbrev scM0_0 : Memref sig .tc .vmem S384x4864 .f32 := Memref.whole cc0_scratch0
abbrev scM0_1 : Memref sig .tc .vmem S384x128 .f32 := Memref.whole cc0_scratch1
abbrev scM0_2 : Memref sig .tc .vmem S384x128 .f32 := Memref.whole cc0_scratch2
abbrev scM0_3 : Memref sig .tc .vmem S384x128 .f32 := Memref.whole cc0_scratch3
abbrev scM0_4 : Memref sig .tc .vmem S6x384x128 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Gen

end
-- ==== Proof.KernelRunA.lean ====
/- The run of the kernel body at one grid point, symbolically executed: what each store leaves in each buffer. -/
module

public import proofs.«01_k».proof.Proof.KernelRuns

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 10744000 in
/-- The body's triple: on whole staging memrefs — the inputs' at their contents,
    the FORGOTTEN outputs' (14, 15) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg3 : Memref sig .tc .smem S11520 .i32) (harg3 : arg3.IsWhole) (arg4 : Memref sig .tc .smem S960 .f32) (harg4 : arg4.IsWhole) (arg5 : Memref sig .tc .smem S960 .f32) (harg5 : arg5.IsWhole) (arg6 : Memref sig .tc .smem S10 .f32) (harg6 : arg6.IsWhole) (arg7 : Memref sig .tc .smem S10 .f32) (harg7 : arg7.IsWhole) (arg8 : Memref sig .tc .smem S10 .f32) (harg8 : arg8.IsWhole) (arg9 : Memref sig .tc .smem S2 .i32) (harg9 : arg9.IsWhole) (arg10 : Memref sig .tc .smem S5 .f32) (harg10 : arg10.IsWhole) (arg11 : Memref sig .tc .vmem S1x6x1x384x128 .fp8e4m3) (harg11 : arg11.IsWhole) (arg12 : Memref sig .tc .vmem S1x96x1x384x128 .fp8e4m3) (harg12 : arg12.IsWhole) (arg13 : Memref sig .tc .vmem S1x96x1x384x128 .fp8e4m3) (harg13 : arg13.IsWhole) (arg14 : Memref sig .tc .vmem S1x1x256x128 .fp8e4m3) (harg14 : arg14.IsWhole) (arg15 : Memref sig .tc .vmem S1x1x256x128 .fp8e4m3) (harg15 : arg15.IsWhole) (arg16 : Memref sig .tc .vmem S1x1x96x128 .f32) (harg16 : arg16.IsWhole) (arg17 : Memref sig .tc .vmem S1x1x6x384x128 .f32) (harg17 : arg17.IsWhole) (arg18 : Memref sig .tc .vmem S1x1x6x1x1x384 .f32) (harg18 : arg18.IsWhole) (arg19 : Memref sig .tc .vmem S384x4864 .f32) (harg19 : arg19.IsWhole) (arg20 : Memref sig .tc .vmem S384x128 .f32) (harg20 : arg20.IsWhole) (arg21 : Memref sig .tc .vmem S384x128 .f32) (harg21 : arg21.IsWhole) (arg22 : Memref sig .tc .vmem S384x128 .f32) (harg22 : arg22.IsWhole) (arg23 : Memref sig .tc .vmem S6x384x128 .f32) (harg23 : arg23.IsWhole)
    (x0 : Vec F S11520 .i32) (x1 : Vec F S960 .f32) (x2 : Vec F S960 .f32) (x3 : Vec F S10 .f32) (x4 : Vec F S10 .f32) (x5 : Vec F S10 .f32) (x6 : Vec F S2 .i32) (x7 : Vec F S5 .f32) (x8 : Vec F S1x6x1x384x128 .fp8e4m3) (x9 : Vec F S1x96x1x384x128 .fp8e4m3) (x10 : Vec F S1x96x1x384x128 .fp8e4m3) (x11 : Vec F S1x1x256x128 .fp8e4m3) (x12 : Vec F S1x1x256x128 .fp8e4m3) (x13 : Vec F S1x1x96x128 .f32) (k0_hw1 : k0_chk1 i (arg3.view.readAt (Elt F) (Rect.unit (s := S11520) (k0_off3 i 0#32) S1.size (k0_off3_inb i 0)).toLoadRect (harg3.unread x0) (Shape.Idx.first (numel1_S1.symm ▸ Nat.one_pos)))) (k0_hw2 : k0_chk2 i (arg3.view.readAt (Elt F) (Rect.unit (s := S11520) (k0_off3 i 1#32) S1.size (k0_off3_inb i 1)).toLoadRect (harg3.unread x0) (Shape.Idx.first (numel1_S1.symm ▸ Nat.one_pos)))) (k0_hw3 : k0_chk3 i (arg3.view.readAt (Elt F) (Rect.unit (s := S11520) (k0_off3 i 2#32) S1.size (k0_off3_inb i 2)).toLoadRect (harg3.unread x0) (Shape.Idx.first (numel1_S1.symm ▸ Nat.one_pos)))) (k0_hw4 : k0_chk4 i (arg3.view.readAt (Elt F) (Rect.unit (s := S11520) (k0_off3 i 3#32) S1.size (k0_off3_inb i 3)).toLoadRect (harg3.unread x0) (Shape.Idx.first (numel1_S1.symm ▸ Nat.one_pos)))) (k0_hw5 : k0_chk5 i (arg3.view.readAt (Elt F) (Rect.unit (s := S11520) (k0_off3 i 4#32) S1.size (k0_off3_inb i 4)).toLoadRect (harg3.unread x0) (Shape.Idx.first (numel1_S1.symm ▸ Nat.one_pos)))) (k0_hw6 : k0_chk6 i (arg3.view.readAt (Elt F) (Rect.unit (s := S11520) (k0_off3 i 5#32) S1.size (k0_off3_inb i 5)).toLoadRect (harg3.unread x0) (Shape.Idx.first (numel1_S1.symm ▸ Nat.one_pos)))) (k0_hw7 : k0_chk7 i (arg3.view.readAt (Elt F) (Rect.unit (s := S11520) (k0_off3 i 6#32) S1.size (k0_off3_inb i 6)).toLoadRect (harg3.unread x0) (Shape.Idx.first (numel1_S1.symm ▸ Nat.one_pos)))) (k0_hw8 : k0_chk8 i (arg3.view.readAt (Elt F) (Rect.unit (s := S11520) (k0_off3 i 7#32) S1.size (k0_off3_inb i 7)).toLoadRect (harg3.unread x0) (Shape.Idx.first (numel1_S1.symm ▸ Nat.one_pos)))) (k0_hw9 : k0_chk9 i (arg3.view.readAt (Elt F) (Rect.unit (s := S11520) (k0_off3 i 8#32) S1.size (k0_off3_inb i 8)).toLoadRect (harg3.unread x0) (Shape.Idx.first (numel1_S1.symm ▸ Nat.one_pos)))) (k0_hw10 : k0_chk10 i (arg3.view.readAt (Elt F) (Rect.unit (s := S11520) (k0_off3 i 9#32) S1.size (k0_off3_inb i 9)).toLoadRect (harg3.unread x0) (Shape.Idx.first (numel1_S1.symm ▸ Nat.one_pos)))) (k0_hw11 : k0_chk11 i (arg3.view.readAt (Elt F) (Rect.unit (s := S11520) (k0_off3 i 10#32) S1.size (k0_off3_inb i 10)).toLoadRect (harg3.unread x0) (Shape.Idx.first (numel1_S1.symm ▸ Nat.one_pos)))) (k0_hw12 : k0_chk12 i (arg3.view.readAt (Elt F) (Rect.unit (s := S11520) (k0_off3 i 11#32) S1.size (k0_off3_inb i 11)).toLoadRect (harg3.unread x0) (Shape.Idx.first (numel1_S1.symm ▸ Nat.one_pos)))) (k0_hw13 : k0_chk13 i (arg3.view.readAt (Elt F) (Rect.unit (s := S11520) (k0_off43 i 0#32) S1.size (k0_off43_inb i 0)).toLoadRect (harg3.unread x0) (Shape.Idx.first (numel1_S1.symm ▸ Nat.one_pos)))) (k0_hw14 : k0_chk14 i (arg3.view.readAt (Elt F) (Rect.unit (s := S11520) (k0_off43 i 1#32) S1.size (k0_off43_inb i 1)).toLoadRect (harg3.unread x0) (Shape.Idx.first (numel1_S1.symm ▸ Nat.one_pos)))) (k0_hw15 : k0_chk15 i (arg3.view.readAt (Elt F) (Rect.unit (s := S11520) (k0_off43 i 2#32) S1.size (k0_off43_inb i 2)).toLoadRect (harg3.unread x0) (Shape.Idx.first (numel1_S1.symm ▸ Nat.one_pos)))) (k0_hw16 : k0_chk16 i (arg3.view.readAt (Elt F) (Rect.unit (s := S11520) (k0_off43 i 3#32) S1.size (k0_off43_inb i 3)).toLoadRect (harg3.unread x0) (Shape.Idx.first (numel1_S1.symm ▸ Nat.one_pos)))) (k0_hw17 : k0_chk17 i (arg3.view.readAt (Elt F) (Rect.unit (s := S11520) (k0_off43 i 4#32) S1.size (k0_off43_inb i 4)).toLoadRect (harg3.unread x0) (Shape.Idx.first (numel1_S1.symm ▸ Nat.one_pos)))) (k0_hw18 : k0_chk18 i (arg3.view.readAt (Elt F) (Rect.unit (s := S11520) (k0_off43 i 5#32) S1.size (k0_off43_inb i 5)).toLoadRect (harg3.unread x0) (Shape.Idx.first (numel1_S1.symm ▸ Nat.one_pos)))) (k0_hw19 : k0_chk19 i (arg3.view.readAt (Elt F) (Rect.unit (s := S11520) (k0_off43 i 6#32) S1.size (k0_off43_inb i 6)).toLoadRect (harg3.unread x0) (Shape.Idx.first (numel1_S1.symm ▸ Nat.one_pos)))) (k0_hw20 : k0_chk20 i (arg3.view.readAt (Elt F) (Rect.unit (s := S11520) (k0_off43 i 7#32) S1.size (k0_off43_inb i 7)).toLoadRect (harg3.unread x0) (Shape.Idx.first (numel1_S1.symm ▸ Nat.one_pos)))) (k0_hw21 : k0_chk21 i (arg3.view.readAt (Elt F) (Rect.unit (s := S11520) (k0_off43 i 8#32) S1.size (k0_off43_inb i 8)).toLoadRect (harg3.unread x0) (Shape.Idx.first (numel1_S1.symm ▸ Nat.one_pos)))) (k0_hw22 : k0_chk22 i (arg3.view.readAt (Elt F) (Rect.unit (s := S11520) (k0_off43 i 9#32) S1.size (k0_off43_inb i 9)).toLoadRect (harg3.unread x0) (Shape.Idx.first (numel1_S1.symm ▸ Nat.one_pos)))) (k0_hw23 : k0_chk23 i (arg3.view.readAt (Elt F) (Rect.unit (s := S11520) (k0_off43 i 10#32) S1.size (k0_off43_inb i 10)).toLoadRect (harg3.unread x0) (Shape.Idx.first (numel1_S1.symm ▸ Nat.one_pos)))) (k0_hw24 : k0_chk24 i (arg3.view.readAt (Elt F) (Rect.unit (s := S11520) (k0_off43 i 11#32) S1.size (k0_off43_inb i 11)).toLoadRect (harg3.unread x0) (Shape.Idx.first (numel1_S1.symm ▸ Nat.one_pos)))) (k0_hw25 : k0_chk25 i (arg3.view.readAt (Elt F) (Rect.unit (s := S11520) (k0_off83 i 0#32) S1.size (k0_off83_inb i 0)).toLoadRect (harg3.unread x0) (Shape.Idx.first (numel1_S1.symm ▸ Nat.one_pos)))) (k0_hw26 : k0_chk26 i (arg3.view.readAt (Elt F) (Rect.unit (s := S11520) (k0_off83 i 1#32) S1.size (k0_off83_inb i 1)).toLoadRect (harg3.unread x0) (Shape.Idx.first (numel1_S1.symm ▸ Nat.one_pos)))) (k0_hw27 : k0_chk27 i (arg3.view.readAt (Elt F) (Rect.unit (s := S11520) (k0_off83 i 2#32) S1.size (k0_off83_inb i 2)).toLoadRect (harg3.unread x0) (Shape.Idx.first (numel1_S1.symm ▸ Nat.one_pos)))) (k0_hw28 : k0_chk28 i (arg3.view.readAt (Elt F) (Rect.unit (s := S11520) (k0_off83 i 3#32) S1.size (k0_off83_inb i 3)).toLoadRect (harg3.unread x0) (Shape.Idx.first (numel1_S1.symm ▸ Nat.one_pos)))) (k0_hw29 : k0_chk29 i (arg3.view.readAt (Elt F) (Rect.unit (s := S11520) (k0_off83 i 4#32) S1.size (k0_off83_inb i 4)).toLoadRect (harg3.unread x0) (Shape.Idx.first (numel1_S1.symm ▸ Nat.one_pos)))) (k0_hw30 : k0_chk30 i (arg3.view.readAt (Elt F) (Rect.unit (s := S11520) (k0_off83 i 5#32) S1.size (k0_off83_inb i 5)).toLoadRect (harg3.unread x0) (Shape.Idx.first (numel1_S1.symm ▸ Nat.one_pos)))) (k0_hw31 : k0_chk31 i (arg3.view.readAt (Elt F) (Rect.unit (s := S11520) (k0_off83 i 6#32) S1.size (k0_off83_inb i 6)).toLoadRect (harg3.unread x0) (Shape.Idx.first (numel1_S1.symm ▸ Nat.one_pos)))) (k0_hw32 : k0_chk32 i (arg3.view.readAt (Elt F) (Rect.unit (s := S11520) (k0_off83 i 7#32) S1.size (k0_off83_inb i 7)).toLoadRect (harg3.unread x0) (Shape.Idx.first (numel1_S1.symm ▸ Nat.one_pos)))) (k0_hw33 : k0_chk33 i (arg3.view.readAt (Elt F) (Rect.unit (s := S11520) (k0_off83 i 8#32) S1.size (k0_off83_inb i 8)).toLoadRect (harg3.unread x0) (Shape.Idx.first (numel1_S1.symm ▸ Nat.one_pos)))) (k0_hw34 : k0_chk34 i (arg3.view.readAt (Elt F) (Rect.unit (s := S11520) (k0_off83 i 9#32) S1.size (k0_off83_inb i 9)).toLoadRect (harg3.unread x0) (Shape.Idx.first (numel1_S1.symm ▸ Nat.one_pos)))) (k0_hw35 : k0_chk35 i (arg3.view.readAt (Elt F) (Rect.unit (s := S11520) (k0_off83 i 10#32) S1.size (k0_off83_inb i 10)).toLoadRect (harg3.unread x0) (Shape.Idx.first (numel1_S1.symm ▸ Nat.one_pos)))) (k0_hw36 : k0_chk36 i (arg3.view.readAt (Elt F) (Rect.unit (s := S11520) (k0_off83 i 11#32) S1.size (k0_off83_inb i 11)).toLoadRect (harg3.unread x0) (Shape.Idx.first (numel1_S1.symm ▸ Nat.one_pos)))) (k0_hw37 : k0_chk37 i (arg3.view.readAt (Elt F) (Rect.unit (s := S11520) (k0_off123 i 0#32) S1.size (k0_off123_inb i 0)).toLoadRect (harg3.unread x0) (Shape.Idx.first (numel1_S1.symm ▸ Nat.one_pos)))) (k0_hw38 : k0_chk38 i (arg3.view.readAt (Elt F) (Rect.unit (s := S11520) (k0_off123 i 1#32) S1.size (k0_off123_inb i 1)).toLoadRect (harg3.unread x0) (Shape.Idx.first (numel1_S1.symm ▸ Nat.one_pos)))) (k0_hw39 : k0_chk39 i (arg3.view.readAt (Elt F) (Rect.unit (s := S11520) (k0_off123 i 2#32) S1.size (k0_off123_inb i 2)).toLoadRect (harg3.unread x0) (Shape.Idx.first (numel1_S1.symm ▸ Nat.one_pos)))) (k0_hw40 : k0_chk40 i (arg3.view.readAt (Elt F) (Rect.unit (s := S11520) (k0_off123 i 3#32) S1.size (k0_off123_inb i 3)).toLoadRect (harg3.unread x0) (Shape.Idx.first (numel1_S1.symm ▸ Nat.one_pos)))) (k0_hw41 : k0_chk41 i (arg3.view.readAt (Elt F) (Rect.unit (s := S11520) (k0_off123 i 4#32) S1.size (k0_off123_inb i 4)).toLoadRect (harg3.unread x0) (Shape.Idx.first (numel1_S1.symm ▸ Nat.one_pos)))) (k0_hw42 : k0_chk42 i (arg3.view.readAt (Elt F) (Rect.unit (s := S11520) (k0_off123 i 5#32) S1.size (k0_off123_inb i 5)).toLoadRect (harg3.unread x0) (Shape.Idx.first (numel1_S1.symm ▸ Nat.one_pos)))) (k0_hw43 : k0_chk43 i (arg3.view.readAt (Elt F) (Rect.unit (s := S11520) (k0_off123 i 6#32) S1.size (k0_off123_inb i 6)).toLoadRect (harg3.unread x0) (Shape.Idx.first (numel1_S1.symm ▸ Nat.one_pos)))) (k0_hw44 : k0_chk44 i (arg3.view.readAt (Elt F) (Rect.unit (s := S11520) (k0_off123 i 7#32) S1.size (k0_off123_inb i 7)).toLoadRect (harg3.unread x0) (Shape.Idx.first (numel1_S1.symm ▸ Nat.one_pos)))) (k0_hw45 : k0_chk45 i (arg3.view.readAt (Elt F) (Rect.unit (s := S11520) (k0_off123 i 8#32) S1.size (k0_off123_inb i 8)).toLoadRect (harg3.unread x0) (Shape.Idx.first (numel1_S1.symm ▸ Nat.one_pos)))) (k0_hw46 : k0_chk46 i (arg3.view.readAt (Elt F) (Rect.unit (s := S11520) (k0_off123 i 9#32) S1.size (k0_off123_inb i 9)).toLoadRect (harg3.unread x0) (Shape.Idx.first (numel1_S1.symm ▸ Nat.one_pos)))) (k0_hw47 : k0_chk47 i (arg3.view.readAt (Elt F) (Rect.unit (s := S11520) (k0_off123 i 10#32) S1.size (k0_off123_inb i 10)).toLoadRect (harg3.unread x0) (Shape.Idx.first (numel1_S1.symm ▸ Nat.one_pos)))) (k0_hw48 : k0_chk48 i (arg3.view.readAt (Elt F) (Rect.unit (s := S11520) (k0_off123 i 11#32) S1.size (k0_off123_inb i 11)).toLoadRect (harg3.unread x0) (Shape.Idx.first (numel1_S1.symm ▸ Nat.one_pos)))) (k0_hw49 : k0_chk49 i (arg3.view.readAt (Elt F) (Rect.unit (s := S11520) (k0_off163 i 0#32) S1.size (k0_off163_inb i 0)).toLoadRect (harg3.unread x0) (Shape.Idx.first (numel1_S1.symm ▸ Nat.one_pos)))) (k0_hw50 : k0_chk50 i (arg3.view.readAt (Elt F) (Rect.unit (s := S11520) (k0_off163 i 1#32) S1.size (k0_off163_inb i 1)).toLoadRect (harg3.unread x0) (Shape.Idx.first (numel1_S1.symm ▸ Nat.one_pos)))) (k0_hw51 : k0_chk51 i (arg3.view.readAt (Elt F) (Rect.unit (s := S11520) (k0_off163 i 2#32) S1.size (k0_off163_inb i 2)).toLoadRect (harg3.unread x0) (Shape.Idx.first (numel1_S1.symm ▸ Nat.one_pos)))) (k0_hw52 : k0_chk52 i (arg3.view.readAt (Elt F) (Rect.unit (s := S11520) (k0_off163 i 3#32) S1.size (k0_off163_inb i 3)).toLoadRect (harg3.unread x0) (Shape.Idx.first (numel1_S1.symm ▸ Nat.one_pos)))) (k0_hw53 : k0_chk53 i (arg3.view.readAt (Elt F) (Rect.unit (s := S11520) (k0_off163 i 4#32) S1.size (k0_off163_inb i 4)).toLoadRect (harg3.unread x0) (Shape.Idx.first (numel1_S1.symm ▸ Nat.one_pos)))) (k0_hw54 : k0_chk54 i (arg3.view.readAt (Elt F) (Rect.unit (s := S11520) (k0_off163 i 5#32) S1.size (k0_off163_inb i 5)).toLoadRect (harg3.unread x0) (Shape.Idx.first (numel1_S1.symm ▸ Nat.one_pos)))) (k0_hw55 : k0_chk55 i (arg3.view.readAt (Elt F) (Rect.unit (s := S11520) (k0_off163 i 6#32) S1.size (k0_off163_inb i 6)).toLoadRect (harg3.unread x0) (Shape.Idx.first (numel1_S1.symm ▸ Nat.one_pos)))) (k0_hw56 : k0_chk56 i (arg3.view.readAt (Elt F) (Rect.unit (s := S11520) (k0_off163 i 7#32) S1.size (k0_off163_inb i 7)).toLoadRect (harg3.unread x0) (Shape.Idx.first (numel1_S1.symm ▸ Nat.one_pos)))) (k0_hw57 : k0_chk57 i (arg3.view.readAt (Elt F) (Rect.unit (s := S11520) (k0_off163 i 8#32) S1.size (k0_off163_inb i 8)).toLoadRect (harg3.unread x0) (Shape.Idx.first (numel1_S1.symm ▸ Nat.one_pos)))) (k0_hw58 : k0_chk58 i (arg3.view.readAt (Elt F) (Rect.unit (s := S11520) (k0_off163 i 9#32) S1.size (k0_off163_inb i 9)).toLoadRect (harg3.unread x0) (Shape.Idx.first (numel1_S1.symm ▸ Nat.one_pos)))) (k0_hw59 : k0_chk59 i (arg3.view.readAt (Elt F) (Rect.unit (s := S11520) (k0_off163 i 10#32) S1.size (k0_off163_inb i 10)).toLoadRect (harg3.unread x0) (Shape.Idx.first (numel1_S1.symm ▸ Nat.one_pos)))) (k0_hw60 : k0_chk60 i (arg3.view.readAt (Elt F) (Rect.unit (s := S11520) (k0_off163 i 11#32) S1.size (k0_off163_inb i 11)).toLoadRect (harg3.unread x0) (Shape.Idx.first (numel1_S1.symm ▸ Nat.one_pos)))) (k0_hw61 : k0_chk61 i (arg3.view.readAt (Elt F) (Rect.unit (s := S11520) (k0_off203 i 0#32) S1.size (k0_off203_inb i 0)).toLoadRect (harg3.unread x0) (Shape.Idx.first (numel1_S1.symm ▸ Nat.one_pos)))) (k0_hw62 : k0_chk62 i (arg3.view.readAt (Elt F) (Rect.unit (s := S11520) (k0_off203 i 1#32) S1.size (k0_off203_inb i 1)).toLoadRect (harg3.unread x0) (Shape.Idx.first (numel1_S1.symm ▸ Nat.one_pos)))) (k0_hw63 : k0_chk63 i (arg3.view.readAt (Elt F) (Rect.unit (s := S11520) (k0_off203 i 2#32) S1.size (k0_off203_inb i 2)).toLoadRect (harg3.unread x0) (Shape.Idx.first (numel1_S1.symm ▸ Nat.one_pos)))) (k0_hw64 : k0_chk64 i (arg3.view.readAt (Elt F) (Rect.unit (s := S11520) (k0_off203 i 3#32) S1.size (k0_off203_inb i 3)).toLoadRect (harg3.unread x0) (Shape.Idx.first (numel1_S1.symm ▸ Nat.one_pos)))) (k0_hw65 : k0_chk65 i (arg3.view.readAt (Elt F) (Rect.unit (s := S11520) (k0_off203 i 4#32) S1.size (k0_off203_inb i 4)).toLoadRect (harg3.unread x0) (Shape.Idx.first (numel1_S1.symm ▸ Nat.one_pos)))) (k0_hw66 : k0_chk66 i (arg3.view.readAt (Elt F) (Rect.unit (s := S11520) (k0_off203 i 5#32) S1.size (k0_off203_inb i 5)).toLoadRect (harg3.unread x0) (Shape.Idx.first (numel1_S1.symm ▸ Nat.one_pos)))) (k0_hw67 : k0_chk67 i (arg3.view.readAt (Elt F) (Rect.unit (s := S11520) (k0_off203 i 6#32) S1.size (k0_off203_inb i 6)).toLoadRect (harg3.unread x0) (Shape.Idx.first (numel1_S1.symm ▸ Nat.one_pos)))) (k0_hw68 : k0_chk68 i (arg3.view.readAt (Elt F) (Rect.unit (s := S11520) (k0_off203 i 7#32) S1.size (k0_off203_inb i 7)).toLoadRect (harg3.unread x0) (Shape.Idx.first (numel1_S1.symm ▸ Nat.one_pos)))) (k0_hw69 : k0_chk69 i (arg3.view.readAt (Elt F) (Rect.unit (s := S11520) (k0_off203 i 8#32) S1.size (k0_off203_inb i 8)).toLoadRect (harg3.unread x0) (Shape.Idx.first (numel1_S1.symm ▸ Nat.one_pos)))) (k0_hw70 : k0_chk70 i (arg3.view.readAt (Elt F) (Rect.unit (s := S11520) (k0_off203 i 9#32) S1.size (k0_off203_inb i 9)).toLoadRect (harg3.unread x0) (Shape.Idx.first (numel1_S1.symm ▸ Nat.one_pos)))) (k0_hw71 : k0_chk71 i (arg3.view.readAt (Elt F) (Rect.unit (s := S11520) (k0_off203 i 10#32) S1.size (k0_off203_inb i 10)).toLoadRect (harg3.unread x0) (Shape.Idx.first (numel1_S1.symm ▸ Nat.one_pos)))) (k0_hw72 : k0_chk72 i (arg3.view.readAt (Elt F) (Rect.unit (s := S11520) (k0_off203 i 11#32) S1.size (k0_off203_inb i 11)).toLoadRect (harg3.unread x0) (Shape.Idx.first (numel1_S1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0_fine_attn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [cc0_fine_attn_eq_skeleton]; unfold cc0_fine_attn_skel
    simp only [k0_part129_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part130_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13
    sl_exec (disch := first | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16 | sl_exact k0_hw17 | sl_exact k0_hw18 | sl_exact k0_hw19 | sl_exact k0_hw20 | sl_exact k0_hw21 | sl_exact k0_hw22 | sl_exact k0_hw23 | sl_exact k0_hw24 | sl_exact k0_hw25 | sl_exact k0_hw26 | sl_exact k0_hw27 | sl_exact k0_hw28 | sl_exact k0_hw29 | sl_exact k0_hw30 | sl_exact k0_hw31 | sl_exact k0_hw32 | sl_exact k0_hw33 | sl_exact k0_hw34 | sl_exact k0_hw35 | sl_exact k0_hw36 | sl_exact k0_hw37 | sl_exact k0_hw38 | sl_exact k0_hw39 | sl_exact k0_hw40 | sl_exact k0_hw41 | sl_exact k0_hw42 | sl_exact k0_hw43 | sl_exact k0_hw44 | sl_exact k0_hw45 | sl_exact k0_hw46 | sl_exact k0_hw47 | sl_exact k0_hw48 | sl_exact k0_hw49 | sl_exact k0_hw50 | sl_exact k0_hw51 | sl_exact k0_hw52 | sl_exact k0_hw53 | sl_exact k0_hw54 | sl_exact k0_hw55 | sl_exact k0_hw56 | sl_exact k0_hw57 | sl_exact k0_hw58 | sl_exact k0_hw59 | sl_exact k0_hw60 | sl_exact k0_hw61 | sl_exact k0_hw62 | sl_exact k0_hw63 | sl_exact k0_hw64 | sl_exact k0_hw65 | sl_exact k0_hw66 | sl_exact k0_hw67 | sl_exact k0_hw68 | sl_exact k0_hw69 | sl_exact k0_hw70 | sl_exact k0_hw71 | sl_exact k0_hw72)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _, _; isplitr; swap; · iexact H14
      ipureintro; rfl
    isplitl [H15]
    · iexists _, _; isplitr; swap; · iexact H15
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.KernelFrame.lean ====
/- The frame of the program: what its outputs hold after each grid point, the run of the whole grid, and the claim that
   the inputs are left as they were, under the bound on the tile numbers (`Hyps`). -/
module

public import proofs.«01_k».proof.Proof.KernelRunA
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (14, 15): nothing reads what the kernel leaves in them, so nothing
    of it is named (Lib/Pipeline/Dat.lean `Dat.toRForget`). -/
def forgets0 : Fin 16 → Bool := fun w => w.val == 14 || w.val == 15

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (hH : Hyps m) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, h⟩ => Pipeline.Dat.unnamed (cfg := cfg0) ⟨14, h⟩ t
    | ⟨15, h⟩ => Pipeline.Dat.unnamed (cfg := cfg0) ⟨15, h⟩ t
    | ⟨_ + 16, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (hH : Hyps m) (c : Dev nD) (w : Fin cfg0.W) : (dats m hH 0 c).A w = V m c (Pipeline.arrRef spec0 w) := by
  dsimp only [dats]

/-- What the body leaves, window by window (the proof data's `match` reduced by `dsimp`). -/
theorem after0_0 (hH : Hyps m) (c : Dev nD) (t : Fin cfg0.N) : (dats m hH 0 c).after 0 t = iblk m c 0 t := by dsimp only [dats]
theorem after0_1 (hH : Hyps m) (c : Dev nD) (t : Fin cfg0.N) : (dats m hH 0 c).after 1 t = iblk m c 1 t := by dsimp only [dats]
theorem after0_2 (hH : Hyps m) (c : Dev nD) (t : Fin cfg0.N) : (dats m hH 0 c).after 2 t = iblk m c 2 t := by dsimp only [dats]
theorem after0_3 (hH : Hyps m) (c : Dev nD) (t : Fin cfg0.N) : (dats m hH 0 c).after 3 t = iblk m c 3 t := by dsimp only [dats]
theorem after0_4 (hH : Hyps m) (c : Dev nD) (t : Fin cfg0.N) : (dats m hH 0 c).after 4 t = iblk m c 4 t := by dsimp only [dats]
theorem after0_5 (hH : Hyps m) (c : Dev nD) (t : Fin cfg0.N) : (dats m hH 0 c).after 5 t = iblk m c 5 t := by dsimp only [dats]
theorem after0_6 (hH : Hyps m) (c : Dev nD) (t : Fin cfg0.N) : (dats m hH 0 c).after 6 t = iblk m c 6 t := by dsimp only [dats]
theorem after0_7 (hH : Hyps m) (c : Dev nD) (t : Fin cfg0.N) : (dats m hH 0 c).after 7 t = iblk m c 7 t := by dsimp only [dats]
theorem after0_8 (hH : Hyps m) (c : Dev nD) (t : Fin cfg0.N) : (dats m hH 0 c).after 8 t = iblk m c 8 t := by dsimp only [dats]
theorem after0_9 (hH : Hyps m) (c : Dev nD) (t : Fin cfg0.N) : (dats m hH 0 c).after 9 t = iblk m c 9 t := by dsimp only [dats]
theorem after0_10 (hH : Hyps m) (c : Dev nD) (t : Fin cfg0.N) : (dats m hH 0 c).after 10 t = iblk m c 10 t := by dsimp only [dats]
theorem after0_11 (hH : Hyps m) (c : Dev nD) (t : Fin cfg0.N) : (dats m hH 0 c).after 11 t = iblk m c 11 t := by dsimp only [dats]
theorem after0_12 (hH : Hyps m) (c : Dev nD) (t : Fin cfg0.N) : (dats m hH 0 c).after 12 t = iblk m c 12 t := by dsimp only [dats]
theorem after0_13 (hH : Hyps m) (c : Dev nD) (t : Fin cfg0.N) : (dats m hH 0 c).after 13 t = iblk m c 13 t := by dsimp only [dats]

/-- Each input's current staging buffer holds its block at every point, fetched there or not (`beforeK_W_of`). -/
theorem before0_0 (hH : Hyps m) (c : Dev nD) (t : Fin cfg0.N) (d) : (dats m hH 0 c).before 0 t d = iblk m c 0 t :=
  before0_0_of m (dats m hH 0 c) (A_eq m hH c 0) (after0_0 m hH c) t d
theorem before0_1 (hH : Hyps m) (c : Dev nD) (t : Fin cfg0.N) (d) : (dats m hH 0 c).before 1 t d = iblk m c 1 t :=
  before0_1_of m (dats m hH 0 c) (A_eq m hH c 1) (after0_1 m hH c) t d
theorem before0_2 (hH : Hyps m) (c : Dev nD) (t : Fin cfg0.N) (d) : (dats m hH 0 c).before 2 t d = iblk m c 2 t :=
  before0_2_of m (dats m hH 0 c) (A_eq m hH c 2) (after0_2 m hH c) t d
theorem before0_3 (hH : Hyps m) (c : Dev nD) (t : Fin cfg0.N) (d) : (dats m hH 0 c).before 3 t d = iblk m c 3 t :=
  before0_3_of m (dats m hH 0 c) (A_eq m hH c 3) (after0_3 m hH c) t d
theorem before0_4 (hH : Hyps m) (c : Dev nD) (t : Fin cfg0.N) (d) : (dats m hH 0 c).before 4 t d = iblk m c 4 t :=
  before0_4_of m (dats m hH 0 c) (A_eq m hH c 4) (after0_4 m hH c) t d
theorem before0_5 (hH : Hyps m) (c : Dev nD) (t : Fin cfg0.N) (d) : (dats m hH 0 c).before 5 t d = iblk m c 5 t :=
  before0_5_of m (dats m hH 0 c) (A_eq m hH c 5) (after0_5 m hH c) t d
theorem before0_6 (hH : Hyps m) (c : Dev nD) (t : Fin cfg0.N) (d) : (dats m hH 0 c).before 6 t d = iblk m c 6 t :=
  before0_6_of m (dats m hH 0 c) (A_eq m hH c 6) (after0_6 m hH c) t d
theorem before0_7 (hH : Hyps m) (c : Dev nD) (t : Fin cfg0.N) (d) : (dats m hH 0 c).before 7 t d = iblk m c 7 t :=
  before0_7_of m (dats m hH 0 c) (A_eq m hH c 7) (after0_7 m hH c) t d
theorem before0_8 (hH : Hyps m) (c : Dev nD) (t : Fin cfg0.N) (d) : (dats m hH 0 c).before 8 t d = iblk m c 8 t :=
  before0_8_of m (dats m hH 0 c) (A_eq m hH c 8) (after0_8 m hH c) t d
theorem before0_9 (hH : Hyps m) (c : Dev nD) (t : Fin cfg0.N) (d) : (dats m hH 0 c).before 9 t d = iblk m c 9 t :=
  before0_9_of m (dats m hH 0 c) (A_eq m hH c 9) (after0_9 m hH c) t d
theorem before0_10 (hH : Hyps m) (c : Dev nD) (t : Fin cfg0.N) (d) : (dats m hH 0 c).before 10 t d = iblk m c 10 t :=
  before0_10_of m (dats m hH 0 c) (A_eq m hH c 10) (after0_10 m hH c) t d
theorem before0_11 (hH : Hyps m) (c : Dev nD) (t : Fin cfg0.N) (d) : (dats m hH 0 c).before 11 t d = iblk m c 11 t :=
  before0_11_of m (dats m hH 0 c) (A_eq m hH c 11) (after0_11 m hH c) t d
theorem before0_12 (hH : Hyps m) (c : Dev nD) (t : Fin cfg0.N) (d) : (dats m hH 0 c).before 12 t d = iblk m c 12 t :=
  before0_12_of m (dats m hH 0 c) (A_eq m hH c 12) (after0_12 m hH c) t d
theorem before0_13 (hH : Hyps m) (c : Dev nD) (t : Fin cfg0.N) (d) : (dats m hH 0 c).before 13 t d = iblk m c 13 t :=
  before0_13_of m (dats m hH 0 c) (A_eq m hH c 13) (after0_13 m hH c) t d

/-! ## The body obligation, at a generic point -/

/-- What the body is called with at point `t` (Lib/Pipeline.lean `BodyObligation`'s precondition, the windows one by one), -/
def bodyPre (hH : Hyps m) (c : Dev nD) (t : Fin cfg0.N) : sProp 𝕄 :=
  iprop((dats m hH 0 c).Φ t.castSucc ∗ (dats m hH 0 c).owesAt () t.castSucc
    ∗ (∃ d, owns (c : Thread nD τ) (ms0_0 t) fullShare ((dats m hH 0 c).before 0 t d))
    ∗ (∃ d, owns (c : Thread nD τ) (ms0_1 t) fullShare ((dats m hH 0 c).before 1 t d))
    ∗ (∃ d, owns (c : Thread nD τ) (ms0_2 t) fullShare ((dats m hH 0 c).before 2 t d))
    ∗ (∃ d, owns (c : Thread nD τ) (ms0_3 t) fullShare ((dats m hH 0 c).before 3 t d))
    ∗ (∃ d, owns (c : Thread nD τ) (ms0_4 t) fullShare ((dats m hH 0 c).before 4 t d))
    ∗ (∃ d, owns (c : Thread nD τ) (ms0_5 t) fullShare ((dats m hH 0 c).before 5 t d))
    ∗ (∃ d, owns (c : Thread nD τ) (ms0_6 t) fullShare ((dats m hH 0 c).before 6 t d))
    ∗ (∃ d, owns (c : Thread nD τ) (ms0_7 t) fullShare ((dats m hH 0 c).before 7 t d))
    ∗ (∃ d, owns (c : Thread nD τ) (ms0_8 t) fullShare ((dats m hH 0 c).before 8 t d))
    ∗ (∃ d, owns (c : Thread nD τ) (ms0_9 t) fullShare ((dats m hH 0 c).before 9 t d))
    ∗ (∃ d, owns (c : Thread nD τ) (ms0_10 t) fullShare ((dats m hH 0 c).before 10 t d))
    ∗ (∃ d, owns (c : Thread nD τ) (ms0_11 t) fullShare ((dats m hH 0 c).before 11 t d))
    ∗ (∃ d, owns (c : Thread nD τ) (ms0_12 t) fullShare ((dats m hH 0 c).before 12 t d))
    ∗ (∃ d, owns (c : Thread nD τ) (ms0_13 t) fullShare ((dats m hH 0 c).before 13 t d))
    ∗ (∃ d, owns (c : Thread nD τ) (ms0_14 t) fullShare d)
    ∗ (∃ d, owns (c : Thread nD τ) (ms0_15 t) fullShare d))

/-- and what it returns. -/
def bodyPost (hH : Hyps m) (c : Dev nD) (t : Fin cfg0.N) : sProp 𝕄 :=
  iprop((dats m hH 0 c).Φ t.succ ∗ (dats m hH 0 c).owesAt () t.succ
    ∗ owns (c : Thread nD τ) (ms0_0 t) fullShare ((dats m hH 0 c).after 0 t)
    ∗ owns (c : Thread nD τ) (ms0_1 t) fullShare ((dats m hH 0 c).after 1 t)
    ∗ owns (c : Thread nD τ) (ms0_2 t) fullShare ((dats m hH 0 c).after 2 t)
    ∗ owns (c : Thread nD τ) (ms0_3 t) fullShare ((dats m hH 0 c).after 3 t)
    ∗ owns (c : Thread nD τ) (ms0_4 t) fullShare ((dats m hH 0 c).after 4 t)
    ∗ owns (c : Thread nD τ) (ms0_5 t) fullShare ((dats m hH 0 c).after 5 t)
    ∗ owns (c : Thread nD τ) (ms0_6 t) fullShare ((dats m hH 0 c).after 6 t)
    ∗ owns (c : Thread nD τ) (ms0_7 t) fullShare ((dats m hH 0 c).after 7 t)
    ∗ owns (c : Thread nD τ) (ms0_8 t) fullShare ((dats m hH 0 c).after 8 t)
    ∗ owns (c : Thread nD τ) (ms0_9 t) fullShare ((dats m hH 0 c).after 9 t)
    ∗ owns (c : Thread nD τ) (ms0_10 t) fullShare ((dats m hH 0 c).after 10 t)
    ∗ owns (c : Thread nD τ) (ms0_11 t) fullShare ((dats m hH 0 c).after 11 t)
    ∗ owns (c : Thread nD τ) (ms0_12 t) fullShare ((dats m hH 0 c).after 12 t)
    ∗ owns (c : Thread nD τ) (ms0_13 t) fullShare ((dats m hH 0 c).after 13 t)
    ∗ (∃ d, owns (c : Thread nD τ) (ms0_14 t) fullShare d)
    ∗ (∃ d, owns (c : Thread nD τ) (ms0_15 t) fullShare d))

set_option maxHeartbeats 18000000 in
set_option maxRecDepth 131072 in
/-- The body at any point: the inputs' memrefs hold their blocks (`before0_W`); so the
    run applies; the invariant hands the body its scratch buffers at some contents (and the generator register) and takes them back at some contents (`PhiA_eq`); the core owes nothing throughout. -/
theorem sound_body (hH : Hyps m) (c : Dev nD) (t : Fin cfg0.N) :
    bodyPre m hH c t ⊢ wp frame (wpE (defs₀ (F := F)) Variants.none c none) Set.univ (bodyAt0 t) (fun _ => bodyPost m hH c t) := by
  unfold bodyPre bodyPost bodyAt0
  simp only [before0_0, before0_1, before0_2, before0_3, before0_4, before0_5, before0_6, before0_7, before0_8, before0_9, before0_10, before0_11, before0_12, before0_13]
  rw [show (dats m hH 0 c).Φ t.succ = (dats m hH 0 c).Φ t.castSucc from rfl,
    show (dats m hH 0 c).owesAt () t.succ = (dats m hH 0 c).owesAt () t.castSucc from rfl,
    after0_0, after0_1, after0_2, after0_3, after0_4, after0_5, after0_6, after0_7, after0_8, after0_9, after0_10, after0_11, after0_12, after0_13]
  rw [show (dats m hH 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((kernelRun0_A c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t) (Hyps.c16 hH c t) (Hyps.c17 hH c t) (Hyps.c18 hH c t) (Hyps.c19 hH c t) (Hyps.c20 hH c t) (Hyps.c21 hH c t) (Hyps.c22 hH c t) (Hyps.c23 hH c t) (Hyps.c24 hH c t) (Hyps.c25 hH c t) (Hyps.c26 hH c t) (Hyps.c27 hH c t) (Hyps.c28 hH c t) (Hyps.c29 hH c t) (Hyps.c30 hH c t) (Hyps.c31 hH c t) (Hyps.c32 hH c t) (Hyps.c33 hH c t) (Hyps.c34 hH c t) (Hyps.c35 hH c t) (Hyps.c36 hH c t) (Hyps.c37 hH c t) (Hyps.c38 hH c t) (Hyps.c39 hH c t) (Hyps.c40 hH c t) (Hyps.c41 hH c t) (Hyps.c42 hH c t) (Hyps.c43 hH c t) (Hyps.c44 hH c t) (Hyps.c45 hH c t) (Hyps.c46 hH c t) (Hyps.c47 hH c t) (Hyps.c48 hH c t) (Hyps.c49 hH c t) (Hyps.c50 hH c t) (Hyps.c51 hH c t) (Hyps.c52 hH c t) (Hyps.c53 hH c t) (Hyps.c54 hH c t) (Hyps.c55 hH c t) (Hyps.c56 hH c t) (Hyps.c57 hH c t) (Hyps.c58 hH c t) (Hyps.c59 hH c t) (Hyps.c60 hH c t) (Hyps.c61 hH c t) (Hyps.c62 hH c t) (Hyps.c63 hH c t) (Hyps.c64 hH c t) (Hyps.c65 hH c t) (Hyps.c66 hH c t) (Hyps.c67 hH c t) (Hyps.c68 hH c t) (Hyps.c69 hH c t) (Hyps.c70 hH c t) (Hyps.c71 hH c t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, H15, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (hH : Hyps m) (c : Dev nD) : BodyObligation (dats (F := F) m hH 0 c) (defs₀ (F := F)) Variants.none () Set.univ forgets0 := fun t => by
  rw [bigSep_W0, bigSep_W0, defs₀_row]
  exact triple_restated (sound_body m hH c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter at zero at every final state. -/
theorem run_main_quiescent (hH : Hyps m) : θ_run defs (onTc (τ := τ) (main (F := F))) (s₀ m ρ) (fun r => (Pipeline.RDat.FramePost (cfgs 0) (fun c => (dats m hH 0 c).toRForget forgets0) (V m)) r ∧ r.2.sem = fun _ => 0) :=
  Pipeline.θ_run_frame_forget (Q' := _) cfgs (dats m hH) (0 : Fin 1) launch0 defs₀ Variants.none forgets0 m ρ main
    (hbody := fun c => (body_obligation m hH c).loose) (hshare := fun c => (dats m hH 0 c).share_full fun _ => rfl)
    (howed := fun _ _ => rfl) (V := V m) (hmain := hmain m Variants.none) (hA := A_eq m hH) (hΦ := fun _ _ => rfl)

/-- At the compiled mesh, for any values, from any memory with zero counters: every weakly fair execution of @main on the
    TensorCores terminates, and every final state has every INPUT array of the pipeline unchanged, nothing stated of the
    FORGOTTEN outputs (windows 14, 15) (Lib/Pipeline/Frame.lean `RDat.FramePost` over the proof data with those windows
    forgotten, Dat.lean `Dat.toRForget`), and every other unscoped buffer at its region-entry contents. -/
theorem run_main (hH : Hyps m) : θ_run defs (onTc (τ := τ) (main (F := F))) (s₀ m ρ) (Pipeline.RDat.FramePost (cfgs 0) (fun c => (dats m hH 0 c).toRForget forgets0) (V m)) :=
  (θ_run defs _ _).mono (fun _ h => h.1) (run_main_quiescent m ρ hH)

/-- `frame` without the counters: the argument arrays end unchanged. -/
theorem unchanged (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of_run m ρ (fun c => (dats m hH 0 c).toRForget forgets0) (A_eq m hH) (run_main m ρ hH)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here UNDER `Gen.Hyps` (the side conditions the body assumes,
    at every point), which Proof.lean proves from the precondition: `⟨…, fun m ρ h => Cert.Kernel.Gen.frame m ρ (hyps_of_pre m h)⟩`. -/
theorem frame (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ hH) ((θ_run defs _ _).mono (fun _ h => h.2) (run_main_quiescent m ρ hH))

end Cert.Kernel.Gen

end
-- ==== Proof.IdealRuns.lean ====
/- The kernel body's run, what its statement needs: the staging memrefs of every window at a grid point, and the
   side conditions on the tile numbers the body reads: each is smaller than the number of tiles (`Hyps`), so every
   load at a tile number is inside its array. -/
module

public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The kernel body on any staging memrefs: a subtype the run finds -/

/-- One staging buffer of output window 14, through which its contents are stated (`View.read_writes_of_cover`: the
    choice does not matter). -/
abbrev VO0_14 : View sig .tc .vmem S1x1x6x384x128 .f32 := (Memref.whole cc0_stg14_0 : Memref sig .tc .vmem S1x1x6x384x128 .f32).view
/-- One staging buffer of output window 15, through which its contents are stated (`View.read_writes_of_cover`: the
    choice does not matter). -/
abbrev VO0_15 : View sig .tc .vmem S1x1x6x1x1x384 .f32 := (Memref.whole cc0_stg15_0 : Memref sig .tc .vmem S1x1x6x1x1x384 .f32).view
/-- Each window's current staging memref at point `t`, spelled as the pipeline passes it (`bodyAt0`), and its wholeness. -/
abbrev ms0_0 (t : Fin cfg0.N) : Memref sig .tc .smem S11520 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S960 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S960 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S10 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S10 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S10 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .smem S2 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .smem S5 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x6x1x384x128 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x96x1x384x128 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x96x1x384x128 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x256x128 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1x256x128 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1x96x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1x6x384x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1x6x1x1x384 .f32 := win0_15.stage (cfg0.slots t 15)
abbrev hs0_15 (t : Fin cfg0.N) : (ms0_15 t).IsWhole := hstage0_15 ((cfg0.slots t 15).cast nbuf0_15)

/-! ## The side conditions the body assumes -/

/-- A tile number below 96 keeps the load of one tile inside the array of tiles. -/
theorem tile_inb (v : BitVec 32) (h : v.toNat < 96) :
    ∀ a, (![0, (Scalar.indexCast v).toNat, 0, 0, 0] : Fin 5 → Nat) a + S1x1x1x384x128.size a ≤ S1x96x1x384x128.size a := by
  have h' : (Scalar.indexCast v).toNat = v.toNat := by simp [Scalar.indexCast]
  intro a; fin_cases a <;> simp [S1x1x1x384x128, S1x96x1x384x128, h'] <;> omega

/-- A tile number below 96 keeps the load of one tile's key scale inside the array of scales. -/
theorem scale_inb (i : grid0.Coords) (v : BitVec 32) (h : v.toNat < 96) :
    ∀ a, (k0_off6 i v) a + S1.size a ≤ S960.size a := by
  have h0 : (i 0).val < 2 := (i 0).isLt
  have h1 : (i 1).val < 5 := (i 1).isLt
  intro a; fin_cases a
  simp [k0_off6, S1, S960, Scalar.indexCast, Scalar.muli, Scalar.addi, IntOp.muli, IntOp.addi]
  generalize (i 0).val = a at h0 ⊢
  generalize (i 1).val = b at h1 ⊢
  generalize v.toNat = w at h ⊢
  have e : ((a * 96 + w) * 5 + b) % 4294967296 = (a * 96 + w) * 5 + b := Nat.mod_eq_of_lt (by omega)
  first | rw [e] | skip
  omega

/-- Every tile number the body can read (the words of the first window's block) is below 96. -/
def Hyps : Prop := ∀ (c : Dev nD) (t : Fin cfg0.N) (j : S11520.Idx), (iblk m c 0 t j : BitVec 32).toNat < 96

variable {m} in
/-- A word loaded from the first window is a tile number below 96. -/
theorem Hyps.word (hH : Hyps m) (c : Dev nD) (t : Fin cfg0.N) (r : Rect S11520) (j : r.toLoadRect.shape.Idx) :
    ((ms0_0 t).view.readAt (Elt F) r.toLoadRect ((hs0_0 t).unread (iblk m c 0 t)) j : BitVec 32).toNat < 96 := by
  rw [View.readAt_eq_ld, Memref.IsWhole.read_unread]
  exact hH c t _

/-! Each side condition of the body, from the bound on the words. -/

variable {m} in
theorem Hyps.c0 (hH : Hyps m) (c : Dev nD) (t : Fin cfg0.N) :
    k0_chk1 (grid0.coords t) ((ms0_0 t).view.readAt (Elt F) (Rect.unit (s := S11520) (k0_off3 (grid0.coords t) 0#32) S1.size (k0_off3_inb (grid0.coords t) 0)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c1 (hH : Hyps m) (c : Dev nD) (t : Fin cfg0.N) :
    k0_chk2 (grid0.coords t) ((ms0_0 t).view.readAt (Elt F) (Rect.unit (s := S11520) (k0_off3 (grid0.coords t) 1#32) S1.size (k0_off3_inb (grid0.coords t) 1)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c2 (hH : Hyps m) (c : Dev nD) (t : Fin cfg0.N) :
    k0_chk3 (grid0.coords t) ((ms0_0 t).view.readAt (Elt F) (Rect.unit (s := S11520) (k0_off3 (grid0.coords t) 2#32) S1.size (k0_off3_inb (grid0.coords t) 2)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c3 (hH : Hyps m) (c : Dev nD) (t : Fin cfg0.N) :
    k0_chk4 (grid0.coords t) ((ms0_0 t).view.readAt (Elt F) (Rect.unit (s := S11520) (k0_off3 (grid0.coords t) 3#32) S1.size (k0_off3_inb (grid0.coords t) 3)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c4 (hH : Hyps m) (c : Dev nD) (t : Fin cfg0.N) :
    k0_chk5 (grid0.coords t) ((ms0_0 t).view.readAt (Elt F) (Rect.unit (s := S11520) (k0_off3 (grid0.coords t) 4#32) S1.size (k0_off3_inb (grid0.coords t) 4)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c5 (hH : Hyps m) (c : Dev nD) (t : Fin cfg0.N) :
    k0_chk6 (grid0.coords t) ((ms0_0 t).view.readAt (Elt F) (Rect.unit (s := S11520) (k0_off3 (grid0.coords t) 5#32) S1.size (k0_off3_inb (grid0.coords t) 5)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c6 (hH : Hyps m) (c : Dev nD) (t : Fin cfg0.N) :
    k0_chk7 (grid0.coords t) ((ms0_0 t).view.readAt (Elt F) (Rect.unit (s := S11520) (k0_off3 (grid0.coords t) 6#32) S1.size (k0_off3_inb (grid0.coords t) 6)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c7 (hH : Hyps m) (c : Dev nD) (t : Fin cfg0.N) :
    k0_chk8 (grid0.coords t) ((ms0_0 t).view.readAt (Elt F) (Rect.unit (s := S11520) (k0_off3 (grid0.coords t) 7#32) S1.size (k0_off3_inb (grid0.coords t) 7)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c8 (hH : Hyps m) (c : Dev nD) (t : Fin cfg0.N) :
    k0_chk9 (grid0.coords t) ((ms0_0 t).view.readAt (Elt F) (Rect.unit (s := S11520) (k0_off3 (grid0.coords t) 8#32) S1.size (k0_off3_inb (grid0.coords t) 8)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c9 (hH : Hyps m) (c : Dev nD) (t : Fin cfg0.N) :
    k0_chk10 (grid0.coords t) ((ms0_0 t).view.readAt (Elt F) (Rect.unit (s := S11520) (k0_off3 (grid0.coords t) 9#32) S1.size (k0_off3_inb (grid0.coords t) 9)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c10 (hH : Hyps m) (c : Dev nD) (t : Fin cfg0.N) :
    k0_chk11 (grid0.coords t) ((ms0_0 t).view.readAt (Elt F) (Rect.unit (s := S11520) (k0_off3 (grid0.coords t) 10#32) S1.size (k0_off3_inb (grid0.coords t) 10)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c11 (hH : Hyps m) (c : Dev nD) (t : Fin cfg0.N) :
    k0_chk12 (grid0.coords t) ((ms0_0 t).view.readAt (Elt F) (Rect.unit (s := S11520) (k0_off3 (grid0.coords t) 11#32) S1.size (k0_off3_inb (grid0.coords t) 11)).toLoadRect ((hs0_0 t).unread (iblk m c 0 t)) (Shape.Idx.first (numel1_S1.symm ▸ Nat.one_pos))) :=
  ⟨tile_inb _ (hH.word c t _ _), scale_inb _ _ (hH.word c t _ _)⟩
variable {m} in
theorem Hyps.c12 (hH : Hyps m) (c : Dev nD) (t : Fin cfg0.N) :
    k0_chk13 (grid0.coords t) ((ms0_0 t).view.readAt (Elt F) (Rect.unit (s := S11520) (k0_off43 (grid0.coords t) 0#32) S1.size (k0_off43_inb (grid0.coords t) 0)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c13 (hH : Hyps m) (c : Dev nD) (t : Fin cfg0.N) :
    k0_chk14 (grid0.coords t) ((ms0_0 t).view.readAt (Elt F) (Rect.unit (s := S11520) (k0_off43 (grid0.coords t) 1#32) S1.size (k0_off43_inb (grid0.coords t) 1)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c14 (hH : Hyps m) (c : Dev nD) (t : Fin cfg0.N) :
    k0_chk15 (grid0.coords t) ((ms0_0 t).view.readAt (Elt F) (Rect.unit (s := S11520) (k0_off43 (grid0.coords t) 2#32) S1.size (k0_off43_inb (grid0.coords t) 2)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c15 (hH : Hyps m) (c : Dev nD) (t : Fin cfg0.N) :
    k0_chk16 (grid0.coords t) ((ms0_0 t).view.readAt (Elt F) (Rect.unit (s := S11520) (k0_off43 (grid0.coords t) 3#32) S1.size (k0_off43_inb (grid0.coords t) 3)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c16 (hH : Hyps m) (c : Dev nD) (t : Fin cfg0.N) :
    k0_chk17 (grid0.coords t) ((ms0_0 t).view.readAt (Elt F) (Rect.unit (s := S11520) (k0_off43 (grid0.coords t) 4#32) S1.size (k0_off43_inb (grid0.coords t) 4)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c17 (hH : Hyps m) (c : Dev nD) (t : Fin cfg0.N) :
    k0_chk18 (grid0.coords t) ((ms0_0 t).view.readAt (Elt F) (Rect.unit (s := S11520) (k0_off43 (grid0.coords t) 5#32) S1.size (k0_off43_inb (grid0.coords t) 5)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c18 (hH : Hyps m) (c : Dev nD) (t : Fin cfg0.N) :
    k0_chk19 (grid0.coords t) ((ms0_0 t).view.readAt (Elt F) (Rect.unit (s := S11520) (k0_off43 (grid0.coords t) 6#32) S1.size (k0_off43_inb (grid0.coords t) 6)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c19 (hH : Hyps m) (c : Dev nD) (t : Fin cfg0.N) :
    k0_chk20 (grid0.coords t) ((ms0_0 t).view.readAt (Elt F) (Rect.unit (s := S11520) (k0_off43 (grid0.coords t) 7#32) S1.size (k0_off43_inb (grid0.coords t) 7)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c20 (hH : Hyps m) (c : Dev nD) (t : Fin cfg0.N) :
    k0_chk21 (grid0.coords t) ((ms0_0 t).view.readAt (Elt F) (Rect.unit (s := S11520) (k0_off43 (grid0.coords t) 8#32) S1.size (k0_off43_inb (grid0.coords t) 8)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c21 (hH : Hyps m) (c : Dev nD) (t : Fin cfg0.N) :
    k0_chk22 (grid0.coords t) ((ms0_0 t).view.readAt (Elt F) (Rect.unit (s := S11520) (k0_off43 (grid0.coords t) 9#32) S1.size (k0_off43_inb (grid0.coords t) 9)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c22 (hH : Hyps m) (c : Dev nD) (t : Fin cfg0.N) :
    k0_chk23 (grid0.coords t) ((ms0_0 t).view.readAt (Elt F) (Rect.unit (s := S11520) (k0_off43 (grid0.coords t) 10#32) S1.size (k0_off43_inb (grid0.coords t) 10)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c23 (hH : Hyps m) (c : Dev nD) (t : Fin cfg0.N) :
    k0_chk24 (grid0.coords t) ((ms0_0 t).view.readAt (Elt F) (Rect.unit (s := S11520) (k0_off43 (grid0.coords t) 11#32) S1.size (k0_off43_inb (grid0.coords t) 11)).toLoadRect ((hs0_0 t).unread (iblk m c 0 t)) (Shape.Idx.first (numel1_S1.symm ▸ Nat.one_pos))) :=
  ⟨tile_inb _ (hH.word c t _ _), scale_inb _ _ (hH.word c t _ _)⟩
variable {m} in
theorem Hyps.c24 (hH : Hyps m) (c : Dev nD) (t : Fin cfg0.N) :
    k0_chk25 (grid0.coords t) ((ms0_0 t).view.readAt (Elt F) (Rect.unit (s := S11520) (k0_off83 (grid0.coords t) 0#32) S1.size (k0_off83_inb (grid0.coords t) 0)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c25 (hH : Hyps m) (c : Dev nD) (t : Fin cfg0.N) :
    k0_chk26 (grid0.coords t) ((ms0_0 t).view.readAt (Elt F) (Rect.unit (s := S11520) (k0_off83 (grid0.coords t) 1#32) S1.size (k0_off83_inb (grid0.coords t) 1)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c26 (hH : Hyps m) (c : Dev nD) (t : Fin cfg0.N) :
    k0_chk27 (grid0.coords t) ((ms0_0 t).view.readAt (Elt F) (Rect.unit (s := S11520) (k0_off83 (grid0.coords t) 2#32) S1.size (k0_off83_inb (grid0.coords t) 2)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c27 (hH : Hyps m) (c : Dev nD) (t : Fin cfg0.N) :
    k0_chk28 (grid0.coords t) ((ms0_0 t).view.readAt (Elt F) (Rect.unit (s := S11520) (k0_off83 (grid0.coords t) 3#32) S1.size (k0_off83_inb (grid0.coords t) 3)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c28 (hH : Hyps m) (c : Dev nD) (t : Fin cfg0.N) :
    k0_chk29 (grid0.coords t) ((ms0_0 t).view.readAt (Elt F) (Rect.unit (s := S11520) (k0_off83 (grid0.coords t) 4#32) S1.size (k0_off83_inb (grid0.coords t) 4)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c29 (hH : Hyps m) (c : Dev nD) (t : Fin cfg0.N) :
    k0_chk30 (grid0.coords t) ((ms0_0 t).view.readAt (Elt F) (Rect.unit (s := S11520) (k0_off83 (grid0.coords t) 5#32) S1.size (k0_off83_inb (grid0.coords t) 5)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c30 (hH : Hyps m) (c : Dev nD) (t : Fin cfg0.N) :
    k0_chk31 (grid0.coords t) ((ms0_0 t).view.readAt (Elt F) (Rect.unit (s := S11520) (k0_off83 (grid0.coords t) 6#32) S1.size (k0_off83_inb (grid0.coords t) 6)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c31 (hH : Hyps m) (c : Dev nD) (t : Fin cfg0.N) :
    k0_chk32 (grid0.coords t) ((ms0_0 t).view.readAt (Elt F) (Rect.unit (s := S11520) (k0_off83 (grid0.coords t) 7#32) S1.size (k0_off83_inb (grid0.coords t) 7)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c32 (hH : Hyps m) (c : Dev nD) (t : Fin cfg0.N) :
    k0_chk33 (grid0.coords t) ((ms0_0 t).view.readAt (Elt F) (Rect.unit (s := S11520) (k0_off83 (grid0.coords t) 8#32) S1.size (k0_off83_inb (grid0.coords t) 8)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c33 (hH : Hyps m) (c : Dev nD) (t : Fin cfg0.N) :
    k0_chk34 (grid0.coords t) ((ms0_0 t).view.readAt (Elt F) (Rect.unit (s := S11520) (k0_off83 (grid0.coords t) 9#32) S1.size (k0_off83_inb (grid0.coords t) 9)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c34 (hH : Hyps m) (c : Dev nD) (t : Fin cfg0.N) :
    k0_chk35 (grid0.coords t) ((ms0_0 t).view.readAt (Elt F) (Rect.unit (s := S11520) (k0_off83 (grid0.coords t) 10#32) S1.size (k0_off83_inb (grid0.coords t) 10)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c35 (hH : Hyps m) (c : Dev nD) (t : Fin cfg0.N) :
    k0_chk36 (grid0.coords t) ((ms0_0 t).view.readAt (Elt F) (Rect.unit (s := S11520) (k0_off83 (grid0.coords t) 11#32) S1.size (k0_off83_inb (grid0.coords t) 11)).toLoadRect ((hs0_0 t).unread (iblk m c 0 t)) (Shape.Idx.first (numel1_S1.symm ▸ Nat.one_pos))) :=
  ⟨tile_inb _ (hH.word c t _ _), scale_inb _ _ (hH.word c t _ _)⟩
variable {m} in
theorem Hyps.c36 (hH : Hyps m) (c : Dev nD) (t : Fin cfg0.N) :
    k0_chk37 (grid0.coords t) ((ms0_0 t).view.readAt (Elt F) (Rect.unit (s := S11520) (k0_off123 (grid0.coords t) 0#32) S1.size (k0_off123_inb (grid0.coords t) 0)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c37 (hH : Hyps m) (c : Dev nD) (t : Fin cfg0.N) :
    k0_chk38 (grid0.coords t) ((ms0_0 t).view.readAt (Elt F) (Rect.unit (s := S11520) (k0_off123 (grid0.coords t) 1#32) S1.size (k0_off123_inb (grid0.coords t) 1)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c38 (hH : Hyps m) (c : Dev nD) (t : Fin cfg0.N) :
    k0_chk39 (grid0.coords t) ((ms0_0 t).view.readAt (Elt F) (Rect.unit (s := S11520) (k0_off123 (grid0.coords t) 2#32) S1.size (k0_off123_inb (grid0.coords t) 2)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c39 (hH : Hyps m) (c : Dev nD) (t : Fin cfg0.N) :
    k0_chk40 (grid0.coords t) ((ms0_0 t).view.readAt (Elt F) (Rect.unit (s := S11520) (k0_off123 (grid0.coords t) 3#32) S1.size (k0_off123_inb (grid0.coords t) 3)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c40 (hH : Hyps m) (c : Dev nD) (t : Fin cfg0.N) :
    k0_chk41 (grid0.coords t) ((ms0_0 t).view.readAt (Elt F) (Rect.unit (s := S11520) (k0_off123 (grid0.coords t) 4#32) S1.size (k0_off123_inb (grid0.coords t) 4)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c41 (hH : Hyps m) (c : Dev nD) (t : Fin cfg0.N) :
    k0_chk42 (grid0.coords t) ((ms0_0 t).view.readAt (Elt F) (Rect.unit (s := S11520) (k0_off123 (grid0.coords t) 5#32) S1.size (k0_off123_inb (grid0.coords t) 5)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c42 (hH : Hyps m) (c : Dev nD) (t : Fin cfg0.N) :
    k0_chk43 (grid0.coords t) ((ms0_0 t).view.readAt (Elt F) (Rect.unit (s := S11520) (k0_off123 (grid0.coords t) 6#32) S1.size (k0_off123_inb (grid0.coords t) 6)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c43 (hH : Hyps m) (c : Dev nD) (t : Fin cfg0.N) :
    k0_chk44 (grid0.coords t) ((ms0_0 t).view.readAt (Elt F) (Rect.unit (s := S11520) (k0_off123 (grid0.coords t) 7#32) S1.size (k0_off123_inb (grid0.coords t) 7)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c44 (hH : Hyps m) (c : Dev nD) (t : Fin cfg0.N) :
    k0_chk45 (grid0.coords t) ((ms0_0 t).view.readAt (Elt F) (Rect.unit (s := S11520) (k0_off123 (grid0.coords t) 8#32) S1.size (k0_off123_inb (grid0.coords t) 8)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c45 (hH : Hyps m) (c : Dev nD) (t : Fin cfg0.N) :
    k0_chk46 (grid0.coords t) ((ms0_0 t).view.readAt (Elt F) (Rect.unit (s := S11520) (k0_off123 (grid0.coords t) 9#32) S1.size (k0_off123_inb (grid0.coords t) 9)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c46 (hH : Hyps m) (c : Dev nD) (t : Fin cfg0.N) :
    k0_chk47 (grid0.coords t) ((ms0_0 t).view.readAt (Elt F) (Rect.unit (s := S11520) (k0_off123 (grid0.coords t) 10#32) S1.size (k0_off123_inb (grid0.coords t) 10)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c47 (hH : Hyps m) (c : Dev nD) (t : Fin cfg0.N) :
    k0_chk48 (grid0.coords t) ((ms0_0 t).view.readAt (Elt F) (Rect.unit (s := S11520) (k0_off123 (grid0.coords t) 11#32) S1.size (k0_off123_inb (grid0.coords t) 11)).toLoadRect ((hs0_0 t).unread (iblk m c 0 t)) (Shape.Idx.first (numel1_S1.symm ▸ Nat.one_pos))) :=
  ⟨tile_inb _ (hH.word c t _ _), scale_inb _ _ (hH.word c t _ _)⟩
variable {m} in
theorem Hyps.c48 (hH : Hyps m) (c : Dev nD) (t : Fin cfg0.N) :
    k0_chk49 (grid0.coords t) ((ms0_0 t).view.readAt (Elt F) (Rect.unit (s := S11520) (k0_off163 (grid0.coords t) 0#32) S1.size (k0_off163_inb (grid0.coords t) 0)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c49 (hH : Hyps m) (c : Dev nD) (t : Fin cfg0.N) :
    k0_chk50 (grid0.coords t) ((ms0_0 t).view.readAt (Elt F) (Rect.unit (s := S11520) (k0_off163 (grid0.coords t) 1#32) S1.size (k0_off163_inb (grid0.coords t) 1)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c50 (hH : Hyps m) (c : Dev nD) (t : Fin cfg0.N) :
    k0_chk51 (grid0.coords t) ((ms0_0 t).view.readAt (Elt F) (Rect.unit (s := S11520) (k0_off163 (grid0.coords t) 2#32) S1.size (k0_off163_inb (grid0.coords t) 2)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c51 (hH : Hyps m) (c : Dev nD) (t : Fin cfg0.N) :
    k0_chk52 (grid0.coords t) ((ms0_0 t).view.readAt (Elt F) (Rect.unit (s := S11520) (k0_off163 (grid0.coords t) 3#32) S1.size (k0_off163_inb (grid0.coords t) 3)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c52 (hH : Hyps m) (c : Dev nD) (t : Fin cfg0.N) :
    k0_chk53 (grid0.coords t) ((ms0_0 t).view.readAt (Elt F) (Rect.unit (s := S11520) (k0_off163 (grid0.coords t) 4#32) S1.size (k0_off163_inb (grid0.coords t) 4)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c53 (hH : Hyps m) (c : Dev nD) (t : Fin cfg0.N) :
    k0_chk54 (grid0.coords t) ((ms0_0 t).view.readAt (Elt F) (Rect.unit (s := S11520) (k0_off163 (grid0.coords t) 5#32) S1.size (k0_off163_inb (grid0.coords t) 5)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c54 (hH : Hyps m) (c : Dev nD) (t : Fin cfg0.N) :
    k0_chk55 (grid0.coords t) ((ms0_0 t).view.readAt (Elt F) (Rect.unit (s := S11520) (k0_off163 (grid0.coords t) 6#32) S1.size (k0_off163_inb (grid0.coords t) 6)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c55 (hH : Hyps m) (c : Dev nD) (t : Fin cfg0.N) :
    k0_chk56 (grid0.coords t) ((ms0_0 t).view.readAt (Elt F) (Rect.unit (s := S11520) (k0_off163 (grid0.coords t) 7#32) S1.size (k0_off163_inb (grid0.coords t) 7)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c56 (hH : Hyps m) (c : Dev nD) (t : Fin cfg0.N) :
    k0_chk57 (grid0.coords t) ((ms0_0 t).view.readAt (Elt F) (Rect.unit (s := S11520) (k0_off163 (grid0.coords t) 8#32) S1.size (k0_off163_inb (grid0.coords t) 8)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c57 (hH : Hyps m) (c : Dev nD) (t : Fin cfg0.N) :
    k0_chk58 (grid0.coords t) ((ms0_0 t).view.readAt (Elt F) (Rect.unit (s := S11520) (k0_off163 (grid0.coords t) 9#32) S1.size (k0_off163_inb (grid0.coords t) 9)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c58 (hH : Hyps m) (c : Dev nD) (t : Fin cfg0.N) :
    k0_chk59 (grid0.coords t) ((ms0_0 t).view.readAt (Elt F) (Rect.unit (s := S11520) (k0_off163 (grid0.coords t) 10#32) S1.size (k0_off163_inb (grid0.coords t) 10)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c59 (hH : Hyps m) (c : Dev nD) (t : Fin cfg0.N) :
    k0_chk60 (grid0.coords t) ((ms0_0 t).view.readAt (Elt F) (Rect.unit (s := S11520) (k0_off163 (grid0.coords t) 11#32) S1.size (k0_off163_inb (grid0.coords t) 11)).toLoadRect ((hs0_0 t).unread (iblk m c 0 t)) (Shape.Idx.first (numel1_S1.symm ▸ Nat.one_pos))) :=
  ⟨tile_inb _ (hH.word c t _ _), scale_inb _ _ (hH.word c t _ _)⟩
variable {m} in
theorem Hyps.c60 (hH : Hyps m) (c : Dev nD) (t : Fin cfg0.N) :
    k0_chk61 (grid0.coords t) ((ms0_0 t).view.readAt (Elt F) (Rect.unit (s := S11520) (k0_off203 (grid0.coords t) 0#32) S1.size (k0_off203_inb (grid0.coords t) 0)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c61 (hH : Hyps m) (c : Dev nD) (t : Fin cfg0.N) :
    k0_chk62 (grid0.coords t) ((ms0_0 t).view.readAt (Elt F) (Rect.unit (s := S11520) (k0_off203 (grid0.coords t) 1#32) S1.size (k0_off203_inb (grid0.coords t) 1)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c62 (hH : Hyps m) (c : Dev nD) (t : Fin cfg0.N) :
    k0_chk63 (grid0.coords t) ((ms0_0 t).view.readAt (Elt F) (Rect.unit (s := S11520) (k0_off203 (grid0.coords t) 2#32) S1.size (k0_off203_inb (grid0.coords t) 2)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c63 (hH : Hyps m) (c : Dev nD) (t : Fin cfg0.N) :
    k0_chk64 (grid0.coords t) ((ms0_0 t).view.readAt (Elt F) (Rect.unit (s := S11520) (k0_off203 (grid0.coords t) 3#32) S1.size (k0_off203_inb (grid0.coords t) 3)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c64 (hH : Hyps m) (c : Dev nD) (t : Fin cfg0.N) :
    k0_chk65 (grid0.coords t) ((ms0_0 t).view.readAt (Elt F) (Rect.unit (s := S11520) (k0_off203 (grid0.coords t) 4#32) S1.size (k0_off203_inb (grid0.coords t) 4)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c65 (hH : Hyps m) (c : Dev nD) (t : Fin cfg0.N) :
    k0_chk66 (grid0.coords t) ((ms0_0 t).view.readAt (Elt F) (Rect.unit (s := S11520) (k0_off203 (grid0.coords t) 5#32) S1.size (k0_off203_inb (grid0.coords t) 5)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c66 (hH : Hyps m) (c : Dev nD) (t : Fin cfg0.N) :
    k0_chk67 (grid0.coords t) ((ms0_0 t).view.readAt (Elt F) (Rect.unit (s := S11520) (k0_off203 (grid0.coords t) 6#32) S1.size (k0_off203_inb (grid0.coords t) 6)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c67 (hH : Hyps m) (c : Dev nD) (t : Fin cfg0.N) :
    k0_chk68 (grid0.coords t) ((ms0_0 t).view.readAt (Elt F) (Rect.unit (s := S11520) (k0_off203 (grid0.coords t) 7#32) S1.size (k0_off203_inb (grid0.coords t) 7)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c68 (hH : Hyps m) (c : Dev nD) (t : Fin cfg0.N) :
    k0_chk69 (grid0.coords t) ((ms0_0 t).view.readAt (Elt F) (Rect.unit (s := S11520) (k0_off203 (grid0.coords t) 8#32) S1.size (k0_off203_inb (grid0.coords t) 8)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c69 (hH : Hyps m) (c : Dev nD) (t : Fin cfg0.N) :
    k0_chk70 (grid0.coords t) ((ms0_0 t).view.readAt (Elt F) (Rect.unit (s := S11520) (k0_off203 (grid0.coords t) 9#32) S1.size (k0_off203_inb (grid0.coords t) 9)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c70 (hH : Hyps m) (c : Dev nD) (t : Fin cfg0.N) :
    k0_chk71 (grid0.coords t) ((ms0_0 t).view.readAt (Elt F) (Rect.unit (s := S11520) (k0_off203 (grid0.coords t) 10#32) S1.size (k0_off203_inb (grid0.coords t) 10)).toLoadRect ((hs0_0 t).unread (iblk m c 0 t)) (Shape.Idx.first (numel1_S1.symm ▸ Nat.one_pos))) :=
  ⟨tile_inb _ (hH.word c t _ _), scale_inb _ _ (hH.word c t _ _), tile_inb _ (hH.word c t _ _)⟩
variable {m} in
theorem Hyps.c71 (hH : Hyps m) (c : Dev nD) (t : Fin cfg0.N) :
    k0_chk72 (grid0.coords t) ((ms0_0 t).view.readAt (Elt F) (Rect.unit (s := S11520) (k0_off203 (grid0.coords t) 11#32) S1.size (k0_off203_inb (grid0.coords t) 11)).toLoadRect ((hs0_0 t).unread (iblk m c 0 t)) (Shape.Idx.first (numel1_S1.symm ▸ Nat.one_pos))) :=
  ⟨tile_inb _ (hH.word c t _ _), scale_inb _ _ (hH.word c t _ _)⟩

/-- The scratch operands: whole scoped buffers of the kernel's own, passed beside the windows. -/
abbrev scM0_0 : Memref sig .tc .vmem S384x4864 .f32 := Memref.whole cc0_scratch0
abbrev scM0_1 : Memref sig .tc .vmem S384x128 .f32 := Memref.whole cc0_scratch1
abbrev scM0_2 : Memref sig .tc .vmem S384x128 .f32 := Memref.whole cc0_scratch2
abbrev scM0_3 : Memref sig .tc .vmem S384x128 .f32 := Memref.whole cc0_scratch3
abbrev scM0_4 : Memref sig .tc .vmem S6x384x128 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Gen

end
-- ==== Proof.IdealRunA.lean ====
/- The run of the kernel body at one grid point, symbolically executed: what each store leaves in each buffer. -/
module

public import proofs.«01_k».proof.Proof.IdealRuns

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 10744000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg3 : Memref sig .tc .smem S11520 .i32) (harg3 : arg3.IsWhole) (arg4 : Memref sig .tc .smem S960 .f32) (harg4 : arg4.IsWhole) (arg5 : Memref sig .tc .smem S960 .f32) (harg5 : arg5.IsWhole) (arg6 : Memref sig .tc .smem S10 .f32) (harg6 : arg6.IsWhole) (arg7 : Memref sig .tc .smem S10 .f32) (harg7 : arg7.IsWhole) (arg8 : Memref sig .tc .smem S10 .f32) (harg8 : arg8.IsWhole) (arg9 : Memref sig .tc .smem S2 .i32) (harg9 : arg9.IsWhole) (arg10 : Memref sig .tc .smem S5 .f32) (harg10 : arg10.IsWhole) (arg11 : Memref sig .tc .vmem S1x6x1x384x128 .fp8e4m3) (harg11 : arg11.IsWhole) (arg12 : Memref sig .tc .vmem S1x96x1x384x128 .fp8e4m3) (harg12 : arg12.IsWhole) (arg13 : Memref sig .tc .vmem S1x96x1x384x128 .fp8e4m3) (harg13 : arg13.IsWhole) (arg14 : Memref sig .tc .vmem S1x1x256x128 .fp8e4m3) (harg14 : arg14.IsWhole) (arg15 : Memref sig .tc .vmem S1x1x256x128 .fp8e4m3) (harg15 : arg15.IsWhole) (arg16 : Memref sig .tc .vmem S1x1x96x128 .f32) (harg16 : arg16.IsWhole) (arg17 : Memref sig .tc .vmem S1x1x6x384x128 .f32) (harg17 : arg17.IsWhole) (arg18 : Memref sig .tc .vmem S1x1x6x1x1x384 .f32) (harg18 : arg18.IsWhole) (arg19 : Memref sig .tc .vmem S384x4864 .f32) (harg19 : arg19.IsWhole) (arg20 : Memref sig .tc .vmem S384x128 .f32) (harg20 : arg20.IsWhole) (arg21 : Memref sig .tc .vmem S384x128 .f32) (harg21 : arg21.IsWhole) (arg22 : Memref sig .tc .vmem S384x128 .f32) (harg22 : arg22.IsWhole) (arg23 : Memref sig .tc .vmem S6x384x128 .f32) (harg23 : arg23.IsWhole)
    (x0 : Vec F S11520 .i32) (x1 : Vec F S960 .f32) (x2 : Vec F S960 .f32) (x3 : Vec F S10 .f32) (x4 : Vec F S10 .f32) (x5 : Vec F S10 .f32) (x6 : Vec F S2 .i32) (x7 : Vec F S5 .f32) (x8 : Vec F S1x6x1x384x128 .fp8e4m3) (x9 : Vec F S1x96x1x384x128 .fp8e4m3) (x10 : Vec F S1x96x1x384x128 .fp8e4m3) (x11 : Vec F S1x1x256x128 .fp8e4m3) (x12 : Vec F S1x1x256x128 .fp8e4m3) (x13 : Vec F S1x1x96x128 .f32) (k0_hw1 : k0_chk1 i (arg3.view.readAt (Elt F) (Rect.unit (s := S11520) (k0_off3 i 0#32) S1.size (k0_off3_inb i 0)).toLoadRect (harg3.unread x0) (Shape.Idx.first (numel1_S1.symm ▸ Nat.one_pos)))) (k0_hw2 : k0_chk2 i (arg3.view.readAt (Elt F) (Rect.unit (s := S11520) (k0_off3 i 1#32) S1.size (k0_off3_inb i 1)).toLoadRect (harg3.unread x0) (Shape.Idx.first (numel1_S1.symm ▸ Nat.one_pos)))) (k0_hw3 : k0_chk3 i (arg3.view.readAt (Elt F) (Rect.unit (s := S11520) (k0_off3 i 2#32) S1.size (k0_off3_inb i 2)).toLoadRect (harg3.unread x0) (Shape.Idx.first (numel1_S1.symm ▸ Nat.one_pos)))) (k0_hw4 : k0_chk4 i (arg3.view.readAt (Elt F) (Rect.unit (s := S11520) (k0_off3 i 3#32) S1.size (k0_off3_inb i 3)).toLoadRect (harg3.unread x0) (Shape.Idx.first (numel1_S1.symm ▸ Nat.one_pos)))) (k0_hw5 : k0_chk5 i (arg3.view.readAt (Elt F) (Rect.unit (s := S11520) (k0_off3 i 4#32) S1.size (k0_off3_inb i 4)).toLoadRect (harg3.unread x0) (Shape.Idx.first (numel1_S1.symm ▸ Nat.one_pos)))) (k0_hw6 : k0_chk6 i (arg3.view.readAt (Elt F) (Rect.unit (s := S11520) (k0_off3 i 5#32) S1.size (k0_off3_inb i 5)).toLoadRect (harg3.unread x0) (Shape.Idx.first (numel1_S1.symm ▸ Nat.one_pos)))) (k0_hw7 : k0_chk7 i (arg3.view.readAt (Elt F) (Rect.unit (s := S11520) (k0_off3 i 6#32) S1.size (k0_off3_inb i 6)).toLoadRect (harg3.unread x0) (Shape.Idx.first (numel1_S1.symm ▸ Nat.one_pos)))) (k0_hw8 : k0_chk8 i (arg3.view.readAt (Elt F) (Rect.unit (s := S11520) (k0_off3 i 7#32) S1.size (k0_off3_inb i 7)).toLoadRect (harg3.unread x0) (Shape.Idx.first (numel1_S1.symm ▸ Nat.one_pos)))) (k0_hw9 : k0_chk9 i (arg3.view.readAt (Elt F) (Rect.unit (s := S11520) (k0_off3 i 8#32) S1.size (k0_off3_inb i 8)).toLoadRect (harg3.unread x0) (Shape.Idx.first (numel1_S1.symm ▸ Nat.one_pos)))) (k0_hw10 : k0_chk10 i (arg3.view.readAt (Elt F) (Rect.unit (s := S11520) (k0_off3 i 9#32) S1.size (k0_off3_inb i 9)).toLoadRect (harg3.unread x0) (Shape.Idx.first (numel1_S1.symm ▸ Nat.one_pos)))) (k0_hw11 : k0_chk11 i (arg3.view.readAt (Elt F) (Rect.unit (s := S11520) (k0_off3 i 10#32) S1.size (k0_off3_inb i 10)).toLoadRect (harg3.unread x0) (Shape.Idx.first (numel1_S1.symm ▸ Nat.one_pos)))) (k0_hw12 : k0_chk12 i (arg3.view.readAt (Elt F) (Rect.unit (s := S11520) (k0_off3 i 11#32) S1.size (k0_off3_inb i 11)).toLoadRect (harg3.unread x0) (Shape.Idx.first (numel1_S1.symm ▸ Nat.one_pos)))) (k0_hw13 : k0_chk13 i (arg3.view.readAt (Elt F) (Rect.unit (s := S11520) (k0_off43 i 0#32) S1.size (k0_off43_inb i 0)).toLoadRect (harg3.unread x0) (Shape.Idx.first (numel1_S1.symm ▸ Nat.one_pos)))) (k0_hw14 : k0_chk14 i (arg3.view.readAt (Elt F) (Rect.unit (s := S11520) (k0_off43 i 1#32) S1.size (k0_off43_inb i 1)).toLoadRect (harg3.unread x0) (Shape.Idx.first (numel1_S1.symm ▸ Nat.one_pos)))) (k0_hw15 : k0_chk15 i (arg3.view.readAt (Elt F) (Rect.unit (s := S11520) (k0_off43 i 2#32) S1.size (k0_off43_inb i 2)).toLoadRect (harg3.unread x0) (Shape.Idx.first (numel1_S1.symm ▸ Nat.one_pos)))) (k0_hw16 : k0_chk16 i (arg3.view.readAt (Elt F) (Rect.unit (s := S11520) (k0_off43 i 3#32) S1.size (k0_off43_inb i 3)).toLoadRect (harg3.unread x0) (Shape.Idx.first (numel1_S1.symm ▸ Nat.one_pos)))) (k0_hw17 : k0_chk17 i (arg3.view.readAt (Elt F) (Rect.unit (s := S11520) (k0_off43 i 4#32) S1.size (k0_off43_inb i 4)).toLoadRect (harg3.unread x0) (Shape.Idx.first (numel1_S1.symm ▸ Nat.one_pos)))) (k0_hw18 : k0_chk18 i (arg3.view.readAt (Elt F) (Rect.unit (s := S11520) (k0_off43 i 5#32) S1.size (k0_off43_inb i 5)).toLoadRect (harg3.unread x0) (Shape.Idx.first (numel1_S1.symm ▸ Nat.one_pos)))) (k0_hw19 : k0_chk19 i (arg3.view.readAt (Elt F) (Rect.unit (s := S11520) (k0_off43 i 6#32) S1.size (k0_off43_inb i 6)).toLoadRect (harg3.unread x0) (Shape.Idx.first (numel1_S1.symm ▸ Nat.one_pos)))) (k0_hw20 : k0_chk20 i (arg3.view.readAt (Elt F) (Rect.unit (s := S11520) (k0_off43 i 7#32) S1.size (k0_off43_inb i 7)).toLoadRect (harg3.unread x0) (Shape.Idx.first (numel1_S1.symm ▸ Nat.one_pos)))) (k0_hw21 : k0_chk21 i (arg3.view.readAt (Elt F) (Rect.unit (s := S11520) (k0_off43 i 8#32) S1.size (k0_off43_inb i 8)).toLoadRect (harg3.unread x0) (Shape.Idx.first (numel1_S1.symm ▸ Nat.one_pos)))) (k0_hw22 : k0_chk22 i (arg3.view.readAt (Elt F) (Rect.unit (s := S11520) (k0_off43 i 9#32) S1.size (k0_off43_inb i 9)).toLoadRect (harg3.unread x0) (Shape.Idx.first (numel1_S1.symm ▸ Nat.one_pos)))) (k0_hw23 : k0_chk23 i (arg3.view.readAt (Elt F) (Rect.unit (s := S11520) (k0_off43 i 10#32) S1.size (k0_off43_inb i 10)).toLoadRect (harg3.unread x0) (Shape.Idx.first (numel1_S1.symm ▸ Nat.one_pos)))) (k0_hw24 : k0_chk24 i (arg3.view.readAt (Elt F) (Rect.unit (s := S11520) (k0_off43 i 11#32) S1.size (k0_off43_inb i 11)).toLoadRect (harg3.unread x0) (Shape.Idx.first (numel1_S1.symm ▸ Nat.one_pos)))) (k0_hw25 : k0_chk25 i (arg3.view.readAt (Elt F) (Rect.unit (s := S11520) (k0_off83 i 0#32) S1.size (k0_off83_inb i 0)).toLoadRect (harg3.unread x0) (Shape.Idx.first (numel1_S1.symm ▸ Nat.one_pos)))) (k0_hw26 : k0_chk26 i (arg3.view.readAt (Elt F) (Rect.unit (s := S11520) (k0_off83 i 1#32) S1.size (k0_off83_inb i 1)).toLoadRect (harg3.unread x0) (Shape.Idx.first (numel1_S1.symm ▸ Nat.one_pos)))) (k0_hw27 : k0_chk27 i (arg3.view.readAt (Elt F) (Rect.unit (s := S11520) (k0_off83 i 2#32) S1.size (k0_off83_inb i 2)).toLoadRect (harg3.unread x0) (Shape.Idx.first (numel1_S1.symm ▸ Nat.one_pos)))) (k0_hw28 : k0_chk28 i (arg3.view.readAt (Elt F) (Rect.unit (s := S11520) (k0_off83 i 3#32) S1.size (k0_off83_inb i 3)).toLoadRect (harg3.unread x0) (Shape.Idx.first (numel1_S1.symm ▸ Nat.one_pos)))) (k0_hw29 : k0_chk29 i (arg3.view.readAt (Elt F) (Rect.unit (s := S11520) (k0_off83 i 4#32) S1.size (k0_off83_inb i 4)).toLoadRect (harg3.unread x0) (Shape.Idx.first (numel1_S1.symm ▸ Nat.one_pos)))) (k0_hw30 : k0_chk30 i (arg3.view.readAt (Elt F) (Rect.unit (s := S11520) (k0_off83 i 5#32) S1.size (k0_off83_inb i 5)).toLoadRect (harg3.unread x0) (Shape.Idx.first (numel1_S1.symm ▸ Nat.one_pos)))) (k0_hw31 : k0_chk31 i (arg3.view.readAt (Elt F) (Rect.unit (s := S11520) (k0_off83 i 6#32) S1.size (k0_off83_inb i 6)).toLoadRect (harg3.unread x0) (Shape.Idx.first (numel1_S1.symm ▸ Nat.one_pos)))) (k0_hw32 : k0_chk32 i (arg3.view.readAt (Elt F) (Rect.unit (s := S11520) (k0_off83 i 7#32) S1.size (k0_off83_inb i 7)).toLoadRect (harg3.unread x0) (Shape.Idx.first (numel1_S1.symm ▸ Nat.one_pos)))) (k0_hw33 : k0_chk33 i (arg3.view.readAt (Elt F) (Rect.unit (s := S11520) (k0_off83 i 8#32) S1.size (k0_off83_inb i 8)).toLoadRect (harg3.unread x0) (Shape.Idx.first (numel1_S1.symm ▸ Nat.one_pos)))) (k0_hw34 : k0_chk34 i (arg3.view.readAt (Elt F) (Rect.unit (s := S11520) (k0_off83 i 9#32) S1.size (k0_off83_inb i 9)).toLoadRect (harg3.unread x0) (Shape.Idx.first (numel1_S1.symm ▸ Nat.one_pos)))) (k0_hw35 : k0_chk35 i (arg3.view.readAt (Elt F) (Rect.unit (s := S11520) (k0_off83 i 10#32) S1.size (k0_off83_inb i 10)).toLoadRect (harg3.unread x0) (Shape.Idx.first (numel1_S1.symm ▸ Nat.one_pos)))) (k0_hw36 : k0_chk36 i (arg3.view.readAt (Elt F) (Rect.unit (s := S11520) (k0_off83 i 11#32) S1.size (k0_off83_inb i 11)).toLoadRect (harg3.unread x0) (Shape.Idx.first (numel1_S1.symm ▸ Nat.one_pos)))) (k0_hw37 : k0_chk37 i (arg3.view.readAt (Elt F) (Rect.unit (s := S11520) (k0_off123 i 0#32) S1.size (k0_off123_inb i 0)).toLoadRect (harg3.unread x0) (Shape.Idx.first (numel1_S1.symm ▸ Nat.one_pos)))) (k0_hw38 : k0_chk38 i (arg3.view.readAt (Elt F) (Rect.unit (s := S11520) (k0_off123 i 1#32) S1.size (k0_off123_inb i 1)).toLoadRect (harg3.unread x0) (Shape.Idx.first (numel1_S1.symm ▸ Nat.one_pos)))) (k0_hw39 : k0_chk39 i (arg3.view.readAt (Elt F) (Rect.unit (s := S11520) (k0_off123 i 2#32) S1.size (k0_off123_inb i 2)).toLoadRect (harg3.unread x0) (Shape.Idx.first (numel1_S1.symm ▸ Nat.one_pos)))) (k0_hw40 : k0_chk40 i (arg3.view.readAt (Elt F) (Rect.unit (s := S11520) (k0_off123 i 3#32) S1.size (k0_off123_inb i 3)).toLoadRect (harg3.unread x0) (Shape.Idx.first (numel1_S1.symm ▸ Nat.one_pos)))) (k0_hw41 : k0_chk41 i (arg3.view.readAt (Elt F) (Rect.unit (s := S11520) (k0_off123 i 4#32) S1.size (k0_off123_inb i 4)).toLoadRect (harg3.unread x0) (Shape.Idx.first (numel1_S1.symm ▸ Nat.one_pos)))) (k0_hw42 : k0_chk42 i (arg3.view.readAt (Elt F) (Rect.unit (s := S11520) (k0_off123 i 5#32) S1.size (k0_off123_inb i 5)).toLoadRect (harg3.unread x0) (Shape.Idx.first (numel1_S1.symm ▸ Nat.one_pos)))) (k0_hw43 : k0_chk43 i (arg3.view.readAt (Elt F) (Rect.unit (s := S11520) (k0_off123 i 6#32) S1.size (k0_off123_inb i 6)).toLoadRect (harg3.unread x0) (Shape.Idx.first (numel1_S1.symm ▸ Nat.one_pos)))) (k0_hw44 : k0_chk44 i (arg3.view.readAt (Elt F) (Rect.unit (s := S11520) (k0_off123 i 7#32) S1.size (k0_off123_inb i 7)).toLoadRect (harg3.unread x0) (Shape.Idx.first (numel1_S1.symm ▸ Nat.one_pos)))) (k0_hw45 : k0_chk45 i (arg3.view.readAt (Elt F) (Rect.unit (s := S11520) (k0_off123 i 8#32) S1.size (k0_off123_inb i 8)).toLoadRect (harg3.unread x0) (Shape.Idx.first (numel1_S1.symm ▸ Nat.one_pos)))) (k0_hw46 : k0_chk46 i (arg3.view.readAt (Elt F) (Rect.unit (s := S11520) (k0_off123 i 9#32) S1.size (k0_off123_inb i 9)).toLoadRect (harg3.unread x0) (Shape.Idx.first (numel1_S1.symm ▸ Nat.one_pos)))) (k0_hw47 : k0_chk47 i (arg3.view.readAt (Elt F) (Rect.unit (s := S11520) (k0_off123 i 10#32) S1.size (k0_off123_inb i 10)).toLoadRect (harg3.unread x0) (Shape.Idx.first (numel1_S1.symm ▸ Nat.one_pos)))) (k0_hw48 : k0_chk48 i (arg3.view.readAt (Elt F) (Rect.unit (s := S11520) (k0_off123 i 11#32) S1.size (k0_off123_inb i 11)).toLoadRect (harg3.unread x0) (Shape.Idx.first (numel1_S1.symm ▸ Nat.one_pos)))) (k0_hw49 : k0_chk49 i (arg3.view.readAt (Elt F) (Rect.unit (s := S11520) (k0_off163 i 0#32) S1.size (k0_off163_inb i 0)).toLoadRect (harg3.unread x0) (Shape.Idx.first (numel1_S1.symm ▸ Nat.one_pos)))) (k0_hw50 : k0_chk50 i (arg3.view.readAt (Elt F) (Rect.unit (s := S11520) (k0_off163 i 1#32) S1.size (k0_off163_inb i 1)).toLoadRect (harg3.unread x0) (Shape.Idx.first (numel1_S1.symm ▸ Nat.one_pos)))) (k0_hw51 : k0_chk51 i (arg3.view.readAt (Elt F) (Rect.unit (s := S11520) (k0_off163 i 2#32) S1.size (k0_off163_inb i 2)).toLoadRect (harg3.unread x0) (Shape.Idx.first (numel1_S1.symm ▸ Nat.one_pos)))) (k0_hw52 : k0_chk52 i (arg3.view.readAt (Elt F) (Rect.unit (s := S11520) (k0_off163 i 3#32) S1.size (k0_off163_inb i 3)).toLoadRect (harg3.unread x0) (Shape.Idx.first (numel1_S1.symm ▸ Nat.one_pos)))) (k0_hw53 : k0_chk53 i (arg3.view.readAt (Elt F) (Rect.unit (s := S11520) (k0_off163 i 4#32) S1.size (k0_off163_inb i 4)).toLoadRect (harg3.unread x0) (Shape.Idx.first (numel1_S1.symm ▸ Nat.one_pos)))) (k0_hw54 : k0_chk54 i (arg3.view.readAt (Elt F) (Rect.unit (s := S11520) (k0_off163 i 5#32) S1.size (k0_off163_inb i 5)).toLoadRect (harg3.unread x0) (Shape.Idx.first (numel1_S1.symm ▸ Nat.one_pos)))) (k0_hw55 : k0_chk55 i (arg3.view.readAt (Elt F) (Rect.unit (s := S11520) (k0_off163 i 6#32) S1.size (k0_off163_inb i 6)).toLoadRect (harg3.unread x0) (Shape.Idx.first (numel1_S1.symm ▸ Nat.one_pos)))) (k0_hw56 : k0_chk56 i (arg3.view.readAt (Elt F) (Rect.unit (s := S11520) (k0_off163 i 7#32) S1.size (k0_off163_inb i 7)).toLoadRect (harg3.unread x0) (Shape.Idx.first (numel1_S1.symm ▸ Nat.one_pos)))) (k0_hw57 : k0_chk57 i (arg3.view.readAt (Elt F) (Rect.unit (s := S11520) (k0_off163 i 8#32) S1.size (k0_off163_inb i 8)).toLoadRect (harg3.unread x0) (Shape.Idx.first (numel1_S1.symm ▸ Nat.one_pos)))) (k0_hw58 : k0_chk58 i (arg3.view.readAt (Elt F) (Rect.unit (s := S11520) (k0_off163 i 9#32) S1.size (k0_off163_inb i 9)).toLoadRect (harg3.unread x0) (Shape.Idx.first (numel1_S1.symm ▸ Nat.one_pos)))) (k0_hw59 : k0_chk59 i (arg3.view.readAt (Elt F) (Rect.unit (s := S11520) (k0_off163 i 10#32) S1.size (k0_off163_inb i 10)).toLoadRect (harg3.unread x0) (Shape.Idx.first (numel1_S1.symm ▸ Nat.one_pos)))) (k0_hw60 : k0_chk60 i (arg3.view.readAt (Elt F) (Rect.unit (s := S11520) (k0_off163 i 11#32) S1.size (k0_off163_inb i 11)).toLoadRect (harg3.unread x0) (Shape.Idx.first (numel1_S1.symm ▸ Nat.one_pos)))) (k0_hw61 : k0_chk61 i (arg3.view.readAt (Elt F) (Rect.unit (s := S11520) (k0_off203 i 0#32) S1.size (k0_off203_inb i 0)).toLoadRect (harg3.unread x0) (Shape.Idx.first (numel1_S1.symm ▸ Nat.one_pos)))) (k0_hw62 : k0_chk62 i (arg3.view.readAt (Elt F) (Rect.unit (s := S11520) (k0_off203 i 1#32) S1.size (k0_off203_inb i 1)).toLoadRect (harg3.unread x0) (Shape.Idx.first (numel1_S1.symm ▸ Nat.one_pos)))) (k0_hw63 : k0_chk63 i (arg3.view.readAt (Elt F) (Rect.unit (s := S11520) (k0_off203 i 2#32) S1.size (k0_off203_inb i 2)).toLoadRect (harg3.unread x0) (Shape.Idx.first (numel1_S1.symm ▸ Nat.one_pos)))) (k0_hw64 : k0_chk64 i (arg3.view.readAt (Elt F) (Rect.unit (s := S11520) (k0_off203 i 3#32) S1.size (k0_off203_inb i 3)).toLoadRect (harg3.unread x0) (Shape.Idx.first (numel1_S1.symm ▸ Nat.one_pos)))) (k0_hw65 : k0_chk65 i (arg3.view.readAt (Elt F) (Rect.unit (s := S11520) (k0_off203 i 4#32) S1.size (k0_off203_inb i 4)).toLoadRect (harg3.unread x0) (Shape.Idx.first (numel1_S1.symm ▸ Nat.one_pos)))) (k0_hw66 : k0_chk66 i (arg3.view.readAt (Elt F) (Rect.unit (s := S11520) (k0_off203 i 5#32) S1.size (k0_off203_inb i 5)).toLoadRect (harg3.unread x0) (Shape.Idx.first (numel1_S1.symm ▸ Nat.one_pos)))) (k0_hw67 : k0_chk67 i (arg3.view.readAt (Elt F) (Rect.unit (s := S11520) (k0_off203 i 6#32) S1.size (k0_off203_inb i 6)).toLoadRect (harg3.unread x0) (Shape.Idx.first (numel1_S1.symm ▸ Nat.one_pos)))) (k0_hw68 : k0_chk68 i (arg3.view.readAt (Elt F) (Rect.unit (s := S11520) (k0_off203 i 7#32) S1.size (k0_off203_inb i 7)).toLoadRect (harg3.unread x0) (Shape.Idx.first (numel1_S1.symm ▸ Nat.one_pos)))) (k0_hw69 : k0_chk69 i (arg3.view.readAt (Elt F) (Rect.unit (s := S11520) (k0_off203 i 8#32) S1.size (k0_off203_inb i 8)).toLoadRect (harg3.unread x0) (Shape.Idx.first (numel1_S1.symm ▸ Nat.one_pos)))) (k0_hw70 : k0_chk70 i (arg3.view.readAt (Elt F) (Rect.unit (s := S11520) (k0_off203 i 9#32) S1.size (k0_off203_inb i 9)).toLoadRect (harg3.unread x0) (Shape.Idx.first (numel1_S1.symm ▸ Nat.one_pos)))) (k0_hw71 : k0_chk71 i (arg3.view.readAt (Elt F) (Rect.unit (s := S11520) (k0_off203 i 10#32) S1.size (k0_off203_inb i 10)).toLoadRect (harg3.unread x0) (Shape.Idx.first (numel1_S1.symm ▸ Nat.one_pos)))) (k0_hw72 : k0_chk72 i (arg3.view.readAt (Elt F) (Rect.unit (s := S11520) (k0_off203 i 11#32) S1.size (k0_off203_inb i 11)).toLoadRect (harg3.unread x0) (Shape.Idx.first (numel1_S1.symm ▸ Nat.one_pos)))) :
    Σ' (L14 : List (View.Piece (Elt F) S1x1x6x384x128 .f32)), Σ' (L15 : List (View.Piece (Elt F) S1x1x6x1x1x384 .f32)), Σ' (LT0 : List (View.Piece (Elt F) S384x4864 .f32)), Σ' (LT1 : List (View.Piece (Elt F) S384x128 .f32)), Σ' (LT2 : List (View.Piece (Elt F) S384x128 .f32)), Σ' (LT3 : List (View.Piece (Elt F) S384x128 .f32)), { LT4 : List (View.Piece (Elt F) S6x384x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ (∃ f, arg17.view.loc (c : Thread nD τ) ↦[arg17.view.set]{fullShare} arg17.view.writes (Elt F) f L14) ∗ (∃ f, arg18.view.loc (c : Thread nD τ) ↦[arg18.view.set]{fullShare} arg18.view.writes (Elt F) f L15) ∗ (∃ f, arg19.view.loc (c : Thread nD τ) ↦[arg19.view.set]{fullShare} arg19.view.writes (Elt F) f LT0) ∗ (∃ f, arg20.view.loc (c : Thread nD τ) ↦[arg20.view.set]{fullShare} arg20.view.writes (Elt F) f LT1) ∗ (∃ f, arg21.view.loc (c : Thread nD τ) ↦[arg21.view.set]{fullShare} arg21.view.writes (Elt F) f LT2) ∗ (∃ f, arg22.view.loc (c : Thread nD τ) ↦[arg22.view.set]{fullShare} arg22.view.writes (Elt F) f LT3) ∗ (∃ f, arg23.view.loc (c : Thread nD τ) ↦[arg23.view.set]{fullShare} arg23.view.writes (Elt F) f LT4)) -∗ K ⟨⟩))
          ⊢ wp frame (wpE (defs₀ (F := F)) Variants.none c none) E (cc0_fine_attn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, fun E K => ?run⟩
  case run =>
    simp only [cc0_fine_attn_eq_skeleton]; unfold cc0_fine_attn_skel
    simp only [k0_part129_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part130_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13
    sl_exec (disch := first | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16 | sl_exact k0_hw17 | sl_exact k0_hw18 | sl_exact k0_hw19 | sl_exact k0_hw20 | sl_exact k0_hw21 | sl_exact k0_hw22 | sl_exact k0_hw23 | sl_exact k0_hw24 | sl_exact k0_hw25 | sl_exact k0_hw26 | sl_exact k0_hw27 | sl_exact k0_hw28 | sl_exact k0_hw29 | sl_exact k0_hw30 | sl_exact k0_hw31 | sl_exact k0_hw32 | sl_exact k0_hw33 | sl_exact k0_hw34 | sl_exact k0_hw35 | sl_exact k0_hw36 | sl_exact k0_hw37 | sl_exact k0_hw38 | sl_exact k0_hw39 | sl_exact k0_hw40 | sl_exact k0_hw41 | sl_exact k0_hw42 | sl_exact k0_hw43 | sl_exact k0_hw44 | sl_exact k0_hw45 | sl_exact k0_hw46 | sl_exact k0_hw47 | sl_exact k0_hw48 | sl_exact k0_hw49 | sl_exact k0_hw50 | sl_exact k0_hw51 | sl_exact k0_hw52 | sl_exact k0_hw53 | sl_exact k0_hw54 | sl_exact k0_hw55 | sl_exact k0_hw56 | sl_exact k0_hw57 | sl_exact k0_hw58 | sl_exact k0_hw59 | sl_exact k0_hw60 | sl_exact k0_hw61 | sl_exact k0_hw62 | sl_exact k0_hw63 | sl_exact k0_hw64 | sl_exact k0_hw65 | sl_exact k0_hw66 | sl_exact k0_hw67 | sl_exact k0_hw68 | sl_exact k0_hw69 | sl_exact k0_hw70 | sl_exact k0_hw71 | sl_exact k0_hw72)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]; · iexists _; iexact H14
    isplitl [H15]; · iexists _; iexact H15
    isplitl [HS0]; · iexists _; iexact HS0
    isplitl [HS1]; · iexists _; iexact HS1
    isplitl [HS2]; · iexists _; iexact HS2
    isplitl [HS3]; · iexists _; iexact HS3
    iexists _; iexact HS4

end Cert.KernelIdeal.Gen

end
-- ==== Proof.IdealFrame.lean ====
/- The frame of the program: what its outputs hold after each grid point, the run of the whole grid, and the claim that
   the inputs are left as they were, under the bound on the tile numbers (`Hyps`). -/
module

public import proofs.«01_k».proof.Proof.IdealRunA
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 14 tile its block (48 stores of `S1x1x6x8x128`, checked by the kernel's evaluation: Lib/Ring.lean `Piece.tiledL`, linear in the pieces, through a loop's `@[irreducible]` trip theorem too), so they cover it. -/
theorem cover0_A_14 (c : Dev nD) (i : grid0.Coords) (arg3 : Memref sig .tc .smem S11520 .i32) (harg3 : arg3.IsWhole) (arg4 : Memref sig .tc .smem S960 .f32) (harg4 : arg4.IsWhole) (arg5 : Memref sig .tc .smem S960 .f32) (harg5 : arg5.IsWhole) (arg6 : Memref sig .tc .smem S10 .f32) (harg6 : arg6.IsWhole) (arg7 : Memref sig .tc .smem S10 .f32) (harg7 : arg7.IsWhole) (arg8 : Memref sig .tc .smem S10 .f32) (harg8 : arg8.IsWhole) (arg9 : Memref sig .tc .smem S2 .i32) (harg9 : arg9.IsWhole) (arg10 : Memref sig .tc .smem S5 .f32) (harg10 : arg10.IsWhole) (arg11 : Memref sig .tc .vmem S1x6x1x384x128 .fp8e4m3) (harg11 : arg11.IsWhole) (arg12 : Memref sig .tc .vmem S1x96x1x384x128 .fp8e4m3) (harg12 : arg12.IsWhole) (arg13 : Memref sig .tc .vmem S1x96x1x384x128 .fp8e4m3) (harg13 : arg13.IsWhole) (arg14 : Memref sig .tc .vmem S1x1x256x128 .fp8e4m3) (harg14 : arg14.IsWhole) (arg15 : Memref sig .tc .vmem S1x1x256x128 .fp8e4m3) (harg15 : arg15.IsWhole) (arg16 : Memref sig .tc .vmem S1x1x96x128 .f32) (harg16 : arg16.IsWhole) (arg17 : Memref sig .tc .vmem S1x1x6x384x128 .f32) (harg17 : arg17.IsWhole) (arg18 : Memref sig .tc .vmem S1x1x6x1x1x384 .f32) (harg18 : arg18.IsWhole) (arg19 : Memref sig .tc .vmem S384x4864 .f32) (harg19 : arg19.IsWhole) (arg20 : Memref sig .tc .vmem S384x128 .f32) (harg20 : arg20.IsWhole) (arg21 : Memref sig .tc .vmem S384x128 .f32) (harg21 : arg21.IsWhole) (arg22 : Memref sig .tc .vmem S384x128 .f32) (harg22 : arg22.IsWhole) (arg23 : Memref sig .tc .vmem S6x384x128 .f32) (harg23 : arg23.IsWhole)
    (x0 : Vec F S11520 .i32) (x1 : Vec F S960 .f32) (x2 : Vec F S960 .f32) (x3 : Vec F S10 .f32) (x4 : Vec F S10 .f32) (x5 : Vec F S10 .f32) (x6 : Vec F S2 .i32) (x7 : Vec F S5 .f32) (x8 : Vec F S1x6x1x384x128 .fp8e4m3) (x9 : Vec F S1x96x1x384x128 .fp8e4m3) (x10 : Vec F S1x96x1x384x128 .fp8e4m3) (x11 : Vec F S1x1x256x128 .fp8e4m3) (x12 : Vec F S1x1x256x128 .fp8e4m3) (x13 : Vec F S1x1x96x128 .f32) (k0_hw1 : k0_chk1 i (arg3.view.readAt (Elt F) (Rect.unit (s := S11520) (k0_off3 i 0#32) S1.size (k0_off3_inb i 0)).toLoadRect (harg3.unread x0) (Shape.Idx.first (numel1_S1.symm ▸ Nat.one_pos)))) (k0_hw2 : k0_chk2 i (arg3.view.readAt (Elt F) (Rect.unit (s := S11520) (k0_off3 i 1#32) S1.size (k0_off3_inb i 1)).toLoadRect (harg3.unread x0) (Shape.Idx.first (numel1_S1.symm ▸ Nat.one_pos)))) (k0_hw3 : k0_chk3 i (arg3.view.readAt (Elt F) (Rect.unit (s := S11520) (k0_off3 i 2#32) S1.size (k0_off3_inb i 2)).toLoadRect (harg3.unread x0) (Shape.Idx.first (numel1_S1.symm ▸ Nat.one_pos)))) (k0_hw4 : k0_chk4 i (arg3.view.readAt (Elt F) (Rect.unit (s := S11520) (k0_off3 i 3#32) S1.size (k0_off3_inb i 3)).toLoadRect (harg3.unread x0) (Shape.Idx.first (numel1_S1.symm ▸ Nat.one_pos)))) (k0_hw5 : k0_chk5 i (arg3.view.readAt (Elt F) (Rect.unit (s := S11520) (k0_off3 i 4#32) S1.size (k0_off3_inb i 4)).toLoadRect (harg3.unread x0) (Shape.Idx.first (numel1_S1.symm ▸ Nat.one_pos)))) (k0_hw6 : k0_chk6 i (arg3.view.readAt (Elt F) (Rect.unit (s := S11520) (k0_off3 i 5#32) S1.size (k0_off3_inb i 5)).toLoadRect (harg3.unread x0) (Shape.Idx.first (numel1_S1.symm ▸ Nat.one_pos)))) (k0_hw7 : k0_chk7 i (arg3.view.readAt (Elt F) (Rect.unit (s := S11520) (k0_off3 i 6#32) S1.size (k0_off3_inb i 6)).toLoadRect (harg3.unread x0) (Shape.Idx.first (numel1_S1.symm ▸ Nat.one_pos)))) (k0_hw8 : k0_chk8 i (arg3.view.readAt (Elt F) (Rect.unit (s := S11520) (k0_off3 i 7#32) S1.size (k0_off3_inb i 7)).toLoadRect (harg3.unread x0) (Shape.Idx.first (numel1_S1.symm ▸ Nat.one_pos)))) (k0_hw9 : k0_chk9 i (arg3.view.readAt (Elt F) (Rect.unit (s := S11520) (k0_off3 i 8#32) S1.size (k0_off3_inb i 8)).toLoadRect (harg3.unread x0) (Shape.Idx.first (numel1_S1.symm ▸ Nat.one_pos)))) (k0_hw10 : k0_chk10 i (arg3.view.readAt (Elt F) (Rect.unit (s := S11520) (k0_off3 i 9#32) S1.size (k0_off3_inb i 9)).toLoadRect (harg3.unread x0) (Shape.Idx.first (numel1_S1.symm ▸ Nat.one_pos)))) (k0_hw11 : k0_chk11 i (arg3.view.readAt (Elt F) (Rect.unit (s := S11520) (k0_off3 i 10#32) S1.size (k0_off3_inb i 10)).toLoadRect (harg3.unread x0) (Shape.Idx.first (numel1_S1.symm ▸ Nat.one_pos)))) (k0_hw12 : k0_chk12 i (arg3.view.readAt (Elt F) (Rect.unit (s := S11520) (k0_off3 i 11#32) S1.size (k0_off3_inb i 11)).toLoadRect (harg3.unread x0) (Shape.Idx.first (numel1_S1.symm ▸ Nat.one_pos)))) (k0_hw13 : k0_chk13 i (arg3.view.readAt (Elt F) (Rect.unit (s := S11520) (k0_off43 i 0#32) S1.size (k0_off43_inb i 0)).toLoadRect (harg3.unread x0) (Shape.Idx.first (numel1_S1.symm ▸ Nat.one_pos)))) (k0_hw14 : k0_chk14 i (arg3.view.readAt (Elt F) (Rect.unit (s := S11520) (k0_off43 i 1#32) S1.size (k0_off43_inb i 1)).toLoadRect (harg3.unread x0) (Shape.Idx.first (numel1_S1.symm ▸ Nat.one_pos)))) (k0_hw15 : k0_chk15 i (arg3.view.readAt (Elt F) (Rect.unit (s := S11520) (k0_off43 i 2#32) S1.size (k0_off43_inb i 2)).toLoadRect (harg3.unread x0) (Shape.Idx.first (numel1_S1.symm ▸ Nat.one_pos)))) (k0_hw16 : k0_chk16 i (arg3.view.readAt (Elt F) (Rect.unit (s := S11520) (k0_off43 i 3#32) S1.size (k0_off43_inb i 3)).toLoadRect (harg3.unread x0) (Shape.Idx.first (numel1_S1.symm ▸ Nat.one_pos)))) (k0_hw17 : k0_chk17 i (arg3.view.readAt (Elt F) (Rect.unit (s := S11520) (k0_off43 i 4#32) S1.size (k0_off43_inb i 4)).toLoadRect (harg3.unread x0) (Shape.Idx.first (numel1_S1.symm ▸ Nat.one_pos)))) (k0_hw18 : k0_chk18 i (arg3.view.readAt (Elt F) (Rect.unit (s := S11520) (k0_off43 i 5#32) S1.size (k0_off43_inb i 5)).toLoadRect (harg3.unread x0) (Shape.Idx.first (numel1_S1.symm ▸ Nat.one_pos)))) (k0_hw19 : k0_chk19 i (arg3.view.readAt (Elt F) (Rect.unit (s := S11520) (k0_off43 i 6#32) S1.size (k0_off43_inb i 6)).toLoadRect (harg3.unread x0) (Shape.Idx.first (numel1_S1.symm ▸ Nat.one_pos)))) (k0_hw20 : k0_chk20 i (arg3.view.readAt (Elt F) (Rect.unit (s := S11520) (k0_off43 i 7#32) S1.size (k0_off43_inb i 7)).toLoadRect (harg3.unread x0) (Shape.Idx.first (numel1_S1.symm ▸ Nat.one_pos)))) (k0_hw21 : k0_chk21 i (arg3.view.readAt (Elt F) (Rect.unit (s := S11520) (k0_off43 i 8#32) S1.size (k0_off43_inb i 8)).toLoadRect (harg3.unread x0) (Shape.Idx.first (numel1_S1.symm ▸ Nat.one_pos)))) (k0_hw22 : k0_chk22 i (arg3.view.readAt (Elt F) (Rect.unit (s := S11520) (k0_off43 i 9#32) S1.size (k0_off43_inb i 9)).toLoadRect (harg3.unread x0) (Shape.Idx.first (numel1_S1.symm ▸ Nat.one_pos)))) (k0_hw23 : k0_chk23 i (arg3.view.readAt (Elt F) (Rect.unit (s := S11520) (k0_off43 i 10#32) S1.size (k0_off43_inb i 10)).toLoadRect (harg3.unread x0) (Shape.Idx.first (numel1_S1.symm ▸ Nat.one_pos)))) (k0_hw24 : k0_chk24 i (arg3.view.readAt (Elt F) (Rect.unit (s := S11520) (k0_off43 i 11#32) S1.size (k0_off43_inb i 11)).toLoadRect (harg3.unread x0) (Shape.Idx.first (numel1_S1.symm ▸ Nat.one_pos)))) (k0_hw25 : k0_chk25 i (arg3.view.readAt (Elt F) (Rect.unit (s := S11520) (k0_off83 i 0#32) S1.size (k0_off83_inb i 0)).toLoadRect (harg3.unread x0) (Shape.Idx.first (numel1_S1.symm ▸ Nat.one_pos)))) (k0_hw26 : k0_chk26 i (arg3.view.readAt (Elt F) (Rect.unit (s := S11520) (k0_off83 i 1#32) S1.size (k0_off83_inb i 1)).toLoadRect (harg3.unread x0) (Shape.Idx.first (numel1_S1.symm ▸ Nat.one_pos)))) (k0_hw27 : k0_chk27 i (arg3.view.readAt (Elt F) (Rect.unit (s := S11520) (k0_off83 i 2#32) S1.size (k0_off83_inb i 2)).toLoadRect (harg3.unread x0) (Shape.Idx.first (numel1_S1.symm ▸ Nat.one_pos)))) (k0_hw28 : k0_chk28 i (arg3.view.readAt (Elt F) (Rect.unit (s := S11520) (k0_off83 i 3#32) S1.size (k0_off83_inb i 3)).toLoadRect (harg3.unread x0) (Shape.Idx.first (numel1_S1.symm ▸ Nat.one_pos)))) (k0_hw29 : k0_chk29 i (arg3.view.readAt (Elt F) (Rect.unit (s := S11520) (k0_off83 i 4#32) S1.size (k0_off83_inb i 4)).toLoadRect (harg3.unread x0) (Shape.Idx.first (numel1_S1.symm ▸ Nat.one_pos)))) (k0_hw30 : k0_chk30 i (arg3.view.readAt (Elt F) (Rect.unit (s := S11520) (k0_off83 i 5#32) S1.size (k0_off83_inb i 5)).toLoadRect (harg3.unread x0) (Shape.Idx.first (numel1_S1.symm ▸ Nat.one_pos)))) (k0_hw31 : k0_chk31 i (arg3.view.readAt (Elt F) (Rect.unit (s := S11520) (k0_off83 i 6#32) S1.size (k0_off83_inb i 6)).toLoadRect (harg3.unread x0) (Shape.Idx.first (numel1_S1.symm ▸ Nat.one_pos)))) (k0_hw32 : k0_chk32 i (arg3.view.readAt (Elt F) (Rect.unit (s := S11520) (k0_off83 i 7#32) S1.size (k0_off83_inb i 7)).toLoadRect (harg3.unread x0) (Shape.Idx.first (numel1_S1.symm ▸ Nat.one_pos)))) (k0_hw33 : k0_chk33 i (arg3.view.readAt (Elt F) (Rect.unit (s := S11520) (k0_off83 i 8#32) S1.size (k0_off83_inb i 8)).toLoadRect (harg3.unread x0) (Shape.Idx.first (numel1_S1.symm ▸ Nat.one_pos)))) (k0_hw34 : k0_chk34 i (arg3.view.readAt (Elt F) (Rect.unit (s := S11520) (k0_off83 i 9#32) S1.size (k0_off83_inb i 9)).toLoadRect (harg3.unread x0) (Shape.Idx.first (numel1_S1.symm ▸ Nat.one_pos)))) (k0_hw35 : k0_chk35 i (arg3.view.readAt (Elt F) (Rect.unit (s := S11520) (k0_off83 i 10#32) S1.size (k0_off83_inb i 10)).toLoadRect (harg3.unread x0) (Shape.Idx.first (numel1_S1.symm ▸ Nat.one_pos)))) (k0_hw36 : k0_chk36 i (arg3.view.readAt (Elt F) (Rect.unit (s := S11520) (k0_off83 i 11#32) S1.size (k0_off83_inb i 11)).toLoadRect (harg3.unread x0) (Shape.Idx.first (numel1_S1.symm ▸ Nat.one_pos)))) (k0_hw37 : k0_chk37 i (arg3.view.readAt (Elt F) (Rect.unit (s := S11520) (k0_off123 i 0#32) S1.size (k0_off123_inb i 0)).toLoadRect (harg3.unread x0) (Shape.Idx.first (numel1_S1.symm ▸ Nat.one_pos)))) (k0_hw38 : k0_chk38 i (arg3.view.readAt (Elt F) (Rect.unit (s := S11520) (k0_off123 i 1#32) S1.size (k0_off123_inb i 1)).toLoadRect (harg3.unread x0) (Shape.Idx.first (numel1_S1.symm ▸ Nat.one_pos)))) (k0_hw39 : k0_chk39 i (arg3.view.readAt (Elt F) (Rect.unit (s := S11520) (k0_off123 i 2#32) S1.size (k0_off123_inb i 2)).toLoadRect (harg3.unread x0) (Shape.Idx.first (numel1_S1.symm ▸ Nat.one_pos)))) (k0_hw40 : k0_chk40 i (arg3.view.readAt (Elt F) (Rect.unit (s := S11520) (k0_off123 i 3#32) S1.size (k0_off123_inb i 3)).toLoadRect (harg3.unread x0) (Shape.Idx.first (numel1_S1.symm ▸ Nat.one_pos)))) (k0_hw41 : k0_chk41 i (arg3.view.readAt (Elt F) (Rect.unit (s := S11520) (k0_off123 i 4#32) S1.size (k0_off123_inb i 4)).toLoadRect (harg3.unread x0) (Shape.Idx.first (numel1_S1.symm ▸ Nat.one_pos)))) (k0_hw42 : k0_chk42 i (arg3.view.readAt (Elt F) (Rect.unit (s := S11520) (k0_off123 i 5#32) S1.size (k0_off123_inb i 5)).toLoadRect (harg3.unread x0) (Shape.Idx.first (numel1_S1.symm ▸ Nat.one_pos)))) (k0_hw43 : k0_chk43 i (arg3.view.readAt (Elt F) (Rect.unit (s := S11520) (k0_off123 i 6#32) S1.size (k0_off123_inb i 6)).toLoadRect (harg3.unread x0) (Shape.Idx.first (numel1_S1.symm ▸ Nat.one_pos)))) (k0_hw44 : k0_chk44 i (arg3.view.readAt (Elt F) (Rect.unit (s := S11520) (k0_off123 i 7#32) S1.size (k0_off123_inb i 7)).toLoadRect (harg3.unread x0) (Shape.Idx.first (numel1_S1.symm ▸ Nat.one_pos)))) (k0_hw45 : k0_chk45 i (arg3.view.readAt (Elt F) (Rect.unit (s := S11520) (k0_off123 i 8#32) S1.size (k0_off123_inb i 8)).toLoadRect (harg3.unread x0) (Shape.Idx.first (numel1_S1.symm ▸ Nat.one_pos)))) (k0_hw46 : k0_chk46 i (arg3.view.readAt (Elt F) (Rect.unit (s := S11520) (k0_off123 i 9#32) S1.size (k0_off123_inb i 9)).toLoadRect (harg3.unread x0) (Shape.Idx.first (numel1_S1.symm ▸ Nat.one_pos)))) (k0_hw47 : k0_chk47 i (arg3.view.readAt (Elt F) (Rect.unit (s := S11520) (k0_off123 i 10#32) S1.size (k0_off123_inb i 10)).toLoadRect (harg3.unread x0) (Shape.Idx.first (numel1_S1.symm ▸ Nat.one_pos)))) (k0_hw48 : k0_chk48 i (arg3.view.readAt (Elt F) (Rect.unit (s := S11520) (k0_off123 i 11#32) S1.size (k0_off123_inb i 11)).toLoadRect (harg3.unread x0) (Shape.Idx.first (numel1_S1.symm ▸ Nat.one_pos)))) (k0_hw49 : k0_chk49 i (arg3.view.readAt (Elt F) (Rect.unit (s := S11520) (k0_off163 i 0#32) S1.size (k0_off163_inb i 0)).toLoadRect (harg3.unread x0) (Shape.Idx.first (numel1_S1.symm ▸ Nat.one_pos)))) (k0_hw50 : k0_chk50 i (arg3.view.readAt (Elt F) (Rect.unit (s := S11520) (k0_off163 i 1#32) S1.size (k0_off163_inb i 1)).toLoadRect (harg3.unread x0) (Shape.Idx.first (numel1_S1.symm ▸ Nat.one_pos)))) (k0_hw51 : k0_chk51 i (arg3.view.readAt (Elt F) (Rect.unit (s := S11520) (k0_off163 i 2#32) S1.size (k0_off163_inb i 2)).toLoadRect (harg3.unread x0) (Shape.Idx.first (numel1_S1.symm ▸ Nat.one_pos)))) (k0_hw52 : k0_chk52 i (arg3.view.readAt (Elt F) (Rect.unit (s := S11520) (k0_off163 i 3#32) S1.size (k0_off163_inb i 3)).toLoadRect (harg3.unread x0) (Shape.Idx.first (numel1_S1.symm ▸ Nat.one_pos)))) (k0_hw53 : k0_chk53 i (arg3.view.readAt (Elt F) (Rect.unit (s := S11520) (k0_off163 i 4#32) S1.size (k0_off163_inb i 4)).toLoadRect (harg3.unread x0) (Shape.Idx.first (numel1_S1.symm ▸ Nat.one_pos)))) (k0_hw54 : k0_chk54 i (arg3.view.readAt (Elt F) (Rect.unit (s := S11520) (k0_off163 i 5#32) S1.size (k0_off163_inb i 5)).toLoadRect (harg3.unread x0) (Shape.Idx.first (numel1_S1.symm ▸ Nat.one_pos)))) (k0_hw55 : k0_chk55 i (arg3.view.readAt (Elt F) (Rect.unit (s := S11520) (k0_off163 i 6#32) S1.size (k0_off163_inb i 6)).toLoadRect (harg3.unread x0) (Shape.Idx.first (numel1_S1.symm ▸ Nat.one_pos)))) (k0_hw56 : k0_chk56 i (arg3.view.readAt (Elt F) (Rect.unit (s := S11520) (k0_off163 i 7#32) S1.size (k0_off163_inb i 7)).toLoadRect (harg3.unread x0) (Shape.Idx.first (numel1_S1.symm ▸ Nat.one_pos)))) (k0_hw57 : k0_chk57 i (arg3.view.readAt (Elt F) (Rect.unit (s := S11520) (k0_off163 i 8#32) S1.size (k0_off163_inb i 8)).toLoadRect (harg3.unread x0) (Shape.Idx.first (numel1_S1.symm ▸ Nat.one_pos)))) (k0_hw58 : k0_chk58 i (arg3.view.readAt (Elt F) (Rect.unit (s := S11520) (k0_off163 i 9#32) S1.size (k0_off163_inb i 9)).toLoadRect (harg3.unread x0) (Shape.Idx.first (numel1_S1.symm ▸ Nat.one_pos)))) (k0_hw59 : k0_chk59 i (arg3.view.readAt (Elt F) (Rect.unit (s := S11520) (k0_off163 i 10#32) S1.size (k0_off163_inb i 10)).toLoadRect (harg3.unread x0) (Shape.Idx.first (numel1_S1.symm ▸ Nat.one_pos)))) (k0_hw60 : k0_chk60 i (arg3.view.readAt (Elt F) (Rect.unit (s := S11520) (k0_off163 i 11#32) S1.size (k0_off163_inb i 11)).toLoadRect (harg3.unread x0) (Shape.Idx.first (numel1_S1.symm ▸ Nat.one_pos)))) (k0_hw61 : k0_chk61 i (arg3.view.readAt (Elt F) (Rect.unit (s := S11520) (k0_off203 i 0#32) S1.size (k0_off203_inb i 0)).toLoadRect (harg3.unread x0) (Shape.Idx.first (numel1_S1.symm ▸ Nat.one_pos)))) (k0_hw62 : k0_chk62 i (arg3.view.readAt (Elt F) (Rect.unit (s := S11520) (k0_off203 i 1#32) S1.size (k0_off203_inb i 1)).toLoadRect (harg3.unread x0) (Shape.Idx.first (numel1_S1.symm ▸ Nat.one_pos)))) (k0_hw63 : k0_chk63 i (arg3.view.readAt (Elt F) (Rect.unit (s := S11520) (k0_off203 i 2#32) S1.size (k0_off203_inb i 2)).toLoadRect (harg3.unread x0) (Shape.Idx.first (numel1_S1.symm ▸ Nat.one_pos)))) (k0_hw64 : k0_chk64 i (arg3.view.readAt (Elt F) (Rect.unit (s := S11520) (k0_off203 i 3#32) S1.size (k0_off203_inb i 3)).toLoadRect (harg3.unread x0) (Shape.Idx.first (numel1_S1.symm ▸ Nat.one_pos)))) (k0_hw65 : k0_chk65 i (arg3.view.readAt (Elt F) (Rect.unit (s := S11520) (k0_off203 i 4#32) S1.size (k0_off203_inb i 4)).toLoadRect (harg3.unread x0) (Shape.Idx.first (numel1_S1.symm ▸ Nat.one_pos)))) (k0_hw66 : k0_chk66 i (arg3.view.readAt (Elt F) (Rect.unit (s := S11520) (k0_off203 i 5#32) S1.size (k0_off203_inb i 5)).toLoadRect (harg3.unread x0) (Shape.Idx.first (numel1_S1.symm ▸ Nat.one_pos)))) (k0_hw67 : k0_chk67 i (arg3.view.readAt (Elt F) (Rect.unit (s := S11520) (k0_off203 i 6#32) S1.size (k0_off203_inb i 6)).toLoadRect (harg3.unread x0) (Shape.Idx.first (numel1_S1.symm ▸ Nat.one_pos)))) (k0_hw68 : k0_chk68 i (arg3.view.readAt (Elt F) (Rect.unit (s := S11520) (k0_off203 i 7#32) S1.size (k0_off203_inb i 7)).toLoadRect (harg3.unread x0) (Shape.Idx.first (numel1_S1.symm ▸ Nat.one_pos)))) (k0_hw69 : k0_chk69 i (arg3.view.readAt (Elt F) (Rect.unit (s := S11520) (k0_off203 i 8#32) S1.size (k0_off203_inb i 8)).toLoadRect (harg3.unread x0) (Shape.Idx.first (numel1_S1.symm ▸ Nat.one_pos)))) (k0_hw70 : k0_chk70 i (arg3.view.readAt (Elt F) (Rect.unit (s := S11520) (k0_off203 i 9#32) S1.size (k0_off203_inb i 9)).toLoadRect (harg3.unread x0) (Shape.Idx.first (numel1_S1.symm ▸ Nat.one_pos)))) (k0_hw71 : k0_chk71 i (arg3.view.readAt (Elt F) (Rect.unit (s := S11520) (k0_off203 i 10#32) S1.size (k0_off203_inb i 10)).toLoadRect (harg3.unread x0) (Shape.Idx.first (numel1_S1.symm ▸ Nat.one_pos)))) (k0_hw72 : k0_chk72 i (arg3.view.readAt (Elt F) (Rect.unit (s := S11520) (k0_off203 i 11#32) S1.size (k0_off203_inb i 11)).toLoadRect (harg3.unread x0) (Shape.Idx.first (numel1_S1.symm ▸ Nat.one_pos)))) (y : S1x1x6x384x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40 k0_hw41 k0_hw42 k0_hw43 k0_hw44 k0_hw45 k0_hw46 k0_hw47 k0_hw48 k0_hw49 k0_hw50 k0_hw51 k0_hw52 k0_hw53 k0_hw54 k0_hw55 k0_hw56 k0_hw57 k0_hw58 k0_hw59 k0_hw60 k0_hw61 k0_hw62 k0_hw63 k0_hw64 k0_hw65 k0_hw66 k0_hw67 k0_hw68 k0_hw69 k0_hw70 k0_hw71 k0_hw72).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40 k0_hw41 k0_hw42 k0_hw43 k0_hw44 k0_hw45 k0_hw46 k0_hw47 k0_hw48 k0_hw49 k0_hw50 k0_hw51 k0_hw52 k0_hw53 k0_hw54 k0_hw55 k0_hw56 k0_hw57 k0_hw58 k0_hw59 k0_hw60 k0_hw61 k0_hw62 k0_hw63 k0_hw64 k0_hw65 k0_hw66 k0_hw67 k0_hw68 k0_hw69 k0_hw70 k0_hw71 k0_hw72).1 S1x1x6x8x128.size (by sl_kernel_rfl) y

/-- What the run leaves in output 14's staging buffer: its pieces read back over junk. -/
def out0_A_14 (c : Dev nD) (i : grid0.Coords) (arg3 : Memref sig .tc .smem S11520 .i32) (harg3 : arg3.IsWhole) (arg4 : Memref sig .tc .smem S960 .f32) (harg4 : arg4.IsWhole) (arg5 : Memref sig .tc .smem S960 .f32) (harg5 : arg5.IsWhole) (arg6 : Memref sig .tc .smem S10 .f32) (harg6 : arg6.IsWhole) (arg7 : Memref sig .tc .smem S10 .f32) (harg7 : arg7.IsWhole) (arg8 : Memref sig .tc .smem S10 .f32) (harg8 : arg8.IsWhole) (arg9 : Memref sig .tc .smem S2 .i32) (harg9 : arg9.IsWhole) (arg10 : Memref sig .tc .smem S5 .f32) (harg10 : arg10.IsWhole) (arg11 : Memref sig .tc .vmem S1x6x1x384x128 .fp8e4m3) (harg11 : arg11.IsWhole) (arg12 : Memref sig .tc .vmem S1x96x1x384x128 .fp8e4m3) (harg12 : arg12.IsWhole) (arg13 : Memref sig .tc .vmem S1x96x1x384x128 .fp8e4m3) (harg13 : arg13.IsWhole) (arg14 : Memref sig .tc .vmem S1x1x256x128 .fp8e4m3) (harg14 : arg14.IsWhole) (arg15 : Memref sig .tc .vmem S1x1x256x128 .fp8e4m3) (harg15 : arg15.IsWhole) (arg16 : Memref sig .tc .vmem S1x1x96x128 .f32) (harg16 : arg16.IsWhole) (arg17 : Memref sig .tc .vmem S1x1x6x384x128 .f32) (harg17 : arg17.IsWhole) (arg18 : Memref sig .tc .vmem S1x1x6x1x1x384 .f32) (harg18 : arg18.IsWhole) (arg19 : Memref sig .tc .vmem S384x4864 .f32) (harg19 : arg19.IsWhole) (arg20 : Memref sig .tc .vmem S384x128 .f32) (harg20 : arg20.IsWhole) (arg21 : Memref sig .tc .vmem S384x128 .f32) (harg21 : arg21.IsWhole) (arg22 : Memref sig .tc .vmem S384x128 .f32) (harg22 : arg22.IsWhole) (arg23 : Memref sig .tc .vmem S6x384x128 .f32) (harg23 : arg23.IsWhole)
    (x0 : Vec F S11520 .i32) (x1 : Vec F S960 .f32) (x2 : Vec F S960 .f32) (x3 : Vec F S10 .f32) (x4 : Vec F S10 .f32) (x5 : Vec F S10 .f32) (x6 : Vec F S2 .i32) (x7 : Vec F S5 .f32) (x8 : Vec F S1x6x1x384x128 .fp8e4m3) (x9 : Vec F S1x96x1x384x128 .fp8e4m3) (x10 : Vec F S1x96x1x384x128 .fp8e4m3) (x11 : Vec F S1x1x256x128 .fp8e4m3) (x12 : Vec F S1x1x256x128 .fp8e4m3) (x13 : Vec F S1x1x96x128 .f32) (k0_hw1 : k0_chk1 i (arg3.view.readAt (Elt F) (Rect.unit (s := S11520) (k0_off3 i 0#32) S1.size (k0_off3_inb i 0)).toLoadRect (harg3.unread x0) (Shape.Idx.first (numel1_S1.symm ▸ Nat.one_pos)))) (k0_hw2 : k0_chk2 i (arg3.view.readAt (Elt F) (Rect.unit (s := S11520) (k0_off3 i 1#32) S1.size (k0_off3_inb i 1)).toLoadRect (harg3.unread x0) (Shape.Idx.first (numel1_S1.symm ▸ Nat.one_pos)))) (k0_hw3 : k0_chk3 i (arg3.view.readAt (Elt F) (Rect.unit (s := S11520) (k0_off3 i 2#32) S1.size (k0_off3_inb i 2)).toLoadRect (harg3.unread x0) (Shape.Idx.first (numel1_S1.symm ▸ Nat.one_pos)))) (k0_hw4 : k0_chk4 i (arg3.view.readAt (Elt F) (Rect.unit (s := S11520) (k0_off3 i 3#32) S1.size (k0_off3_inb i 3)).toLoadRect (harg3.unread x0) (Shape.Idx.first (numel1_S1.symm ▸ Nat.one_pos)))) (k0_hw5 : k0_chk5 i (arg3.view.readAt (Elt F) (Rect.unit (s := S11520) (k0_off3 i 4#32) S1.size (k0_off3_inb i 4)).toLoadRect (harg3.unread x0) (Shape.Idx.first (numel1_S1.symm ▸ Nat.one_pos)))) (k0_hw6 : k0_chk6 i (arg3.view.readAt (Elt F) (Rect.unit (s := S11520) (k0_off3 i 5#32) S1.size (k0_off3_inb i 5)).toLoadRect (harg3.unread x0) (Shape.Idx.first (numel1_S1.symm ▸ Nat.one_pos)))) (k0_hw7 : k0_chk7 i (arg3.view.readAt (Elt F) (Rect.unit (s := S11520) (k0_off3 i 6#32) S1.size (k0_off3_inb i 6)).toLoadRect (harg3.unread x0) (Shape.Idx.first (numel1_S1.symm ▸ Nat.one_pos)))) (k0_hw8 : k0_chk8 i (arg3.view.readAt (Elt F) (Rect.unit (s := S11520) (k0_off3 i 7#32) S1.size (k0_off3_inb i 7)).toLoadRect (harg3.unread x0) (Shape.Idx.first (numel1_S1.symm ▸ Nat.one_pos)))) (k0_hw9 : k0_chk9 i (arg3.view.readAt (Elt F) (Rect.unit (s := S11520) (k0_off3 i 8#32) S1.size (k0_off3_inb i 8)).toLoadRect (harg3.unread x0) (Shape.Idx.first (numel1_S1.symm ▸ Nat.one_pos)))) (k0_hw10 : k0_chk10 i (arg3.view.readAt (Elt F) (Rect.unit (s := S11520) (k0_off3 i 9#32) S1.size (k0_off3_inb i 9)).toLoadRect (harg3.unread x0) (Shape.Idx.first (numel1_S1.symm ▸ Nat.one_pos)))) (k0_hw11 : k0_chk11 i (arg3.view.readAt (Elt F) (Rect.unit (s := S11520) (k0_off3 i 10#32) S1.size (k0_off3_inb i 10)).toLoadRect (harg3.unread x0) (Shape.Idx.first (numel1_S1.symm ▸ Nat.one_pos)))) (k0_hw12 : k0_chk12 i (arg3.view.readAt (Elt F) (Rect.unit (s := S11520) (k0_off3 i 11#32) S1.size (k0_off3_inb i 11)).toLoadRect (harg3.unread x0) (Shape.Idx.first (numel1_S1.symm ▸ Nat.one_pos)))) (k0_hw13 : k0_chk13 i (arg3.view.readAt (Elt F) (Rect.unit (s := S11520) (k0_off43 i 0#32) S1.size (k0_off43_inb i 0)).toLoadRect (harg3.unread x0) (Shape.Idx.first (numel1_S1.symm ▸ Nat.one_pos)))) (k0_hw14 : k0_chk14 i (arg3.view.readAt (Elt F) (Rect.unit (s := S11520) (k0_off43 i 1#32) S1.size (k0_off43_inb i 1)).toLoadRect (harg3.unread x0) (Shape.Idx.first (numel1_S1.symm ▸ Nat.one_pos)))) (k0_hw15 : k0_chk15 i (arg3.view.readAt (Elt F) (Rect.unit (s := S11520) (k0_off43 i 2#32) S1.size (k0_off43_inb i 2)).toLoadRect (harg3.unread x0) (Shape.Idx.first (numel1_S1.symm ▸ Nat.one_pos)))) (k0_hw16 : k0_chk16 i (arg3.view.readAt (Elt F) (Rect.unit (s := S11520) (k0_off43 i 3#32) S1.size (k0_off43_inb i 3)).toLoadRect (harg3.unread x0) (Shape.Idx.first (numel1_S1.symm ▸ Nat.one_pos)))) (k0_hw17 : k0_chk17 i (arg3.view.readAt (Elt F) (Rect.unit (s := S11520) (k0_off43 i 4#32) S1.size (k0_off43_inb i 4)).toLoadRect (harg3.unread x0) (Shape.Idx.first (numel1_S1.symm ▸ Nat.one_pos)))) (k0_hw18 : k0_chk18 i (arg3.view.readAt (Elt F) (Rect.unit (s := S11520) (k0_off43 i 5#32) S1.size (k0_off43_inb i 5)).toLoadRect (harg3.unread x0) (Shape.Idx.first (numel1_S1.symm ▸ Nat.one_pos)))) (k0_hw19 : k0_chk19 i (arg3.view.readAt (Elt F) (Rect.unit (s := S11520) (k0_off43 i 6#32) S1.size (k0_off43_inb i 6)).toLoadRect (harg3.unread x0) (Shape.Idx.first (numel1_S1.symm ▸ Nat.one_pos)))) (k0_hw20 : k0_chk20 i (arg3.view.readAt (Elt F) (Rect.unit (s := S11520) (k0_off43 i 7#32) S1.size (k0_off43_inb i 7)).toLoadRect (harg3.unread x0) (Shape.Idx.first (numel1_S1.symm ▸ Nat.one_pos)))) (k0_hw21 : k0_chk21 i (arg3.view.readAt (Elt F) (Rect.unit (s := S11520) (k0_off43 i 8#32) S1.size (k0_off43_inb i 8)).toLoadRect (harg3.unread x0) (Shape.Idx.first (numel1_S1.symm ▸ Nat.one_pos)))) (k0_hw22 : k0_chk22 i (arg3.view.readAt (Elt F) (Rect.unit (s := S11520) (k0_off43 i 9#32) S1.size (k0_off43_inb i 9)).toLoadRect (harg3.unread x0) (Shape.Idx.first (numel1_S1.symm ▸ Nat.one_pos)))) (k0_hw23 : k0_chk23 i (arg3.view.readAt (Elt F) (Rect.unit (s := S11520) (k0_off43 i 10#32) S1.size (k0_off43_inb i 10)).toLoadRect (harg3.unread x0) (Shape.Idx.first (numel1_S1.symm ▸ Nat.one_pos)))) (k0_hw24 : k0_chk24 i (arg3.view.readAt (Elt F) (Rect.unit (s := S11520) (k0_off43 i 11#32) S1.size (k0_off43_inb i 11)).toLoadRect (harg3.unread x0) (Shape.Idx.first (numel1_S1.symm ▸ Nat.one_pos)))) (k0_hw25 : k0_chk25 i (arg3.view.readAt (Elt F) (Rect.unit (s := S11520) (k0_off83 i 0#32) S1.size (k0_off83_inb i 0)).toLoadRect (harg3.unread x0) (Shape.Idx.first (numel1_S1.symm ▸ Nat.one_pos)))) (k0_hw26 : k0_chk26 i (arg3.view.readAt (Elt F) (Rect.unit (s := S11520) (k0_off83 i 1#32) S1.size (k0_off83_inb i 1)).toLoadRect (harg3.unread x0) (Shape.Idx.first (numel1_S1.symm ▸ Nat.one_pos)))) (k0_hw27 : k0_chk27 i (arg3.view.readAt (Elt F) (Rect.unit (s := S11520) (k0_off83 i 2#32) S1.size (k0_off83_inb i 2)).toLoadRect (harg3.unread x0) (Shape.Idx.first (numel1_S1.symm ▸ Nat.one_pos)))) (k0_hw28 : k0_chk28 i (arg3.view.readAt (Elt F) (Rect.unit (s := S11520) (k0_off83 i 3#32) S1.size (k0_off83_inb i 3)).toLoadRect (harg3.unread x0) (Shape.Idx.first (numel1_S1.symm ▸ Nat.one_pos)))) (k0_hw29 : k0_chk29 i (arg3.view.readAt (Elt F) (Rect.unit (s := S11520) (k0_off83 i 4#32) S1.size (k0_off83_inb i 4)).toLoadRect (harg3.unread x0) (Shape.Idx.first (numel1_S1.symm ▸ Nat.one_pos)))) (k0_hw30 : k0_chk30 i (arg3.view.readAt (Elt F) (Rect.unit (s := S11520) (k0_off83 i 5#32) S1.size (k0_off83_inb i 5)).toLoadRect (harg3.unread x0) (Shape.Idx.first (numel1_S1.symm ▸ Nat.one_pos)))) (k0_hw31 : k0_chk31 i (arg3.view.readAt (Elt F) (Rect.unit (s := S11520) (k0_off83 i 6#32) S1.size (k0_off83_inb i 6)).toLoadRect (harg3.unread x0) (Shape.Idx.first (numel1_S1.symm ▸ Nat.one_pos)))) (k0_hw32 : k0_chk32 i (arg3.view.readAt (Elt F) (Rect.unit (s := S11520) (k0_off83 i 7#32) S1.size (k0_off83_inb i 7)).toLoadRect (harg3.unread x0) (Shape.Idx.first (numel1_S1.symm ▸ Nat.one_pos)))) (k0_hw33 : k0_chk33 i (arg3.view.readAt (Elt F) (Rect.unit (s := S11520) (k0_off83 i 8#32) S1.size (k0_off83_inb i 8)).toLoadRect (harg3.unread x0) (Shape.Idx.first (numel1_S1.symm ▸ Nat.one_pos)))) (k0_hw34 : k0_chk34 i (arg3.view.readAt (Elt F) (Rect.unit (s := S11520) (k0_off83 i 9#32) S1.size (k0_off83_inb i 9)).toLoadRect (harg3.unread x0) (Shape.Idx.first (numel1_S1.symm ▸ Nat.one_pos)))) (k0_hw35 : k0_chk35 i (arg3.view.readAt (Elt F) (Rect.unit (s := S11520) (k0_off83 i 10#32) S1.size (k0_off83_inb i 10)).toLoadRect (harg3.unread x0) (Shape.Idx.first (numel1_S1.symm ▸ Nat.one_pos)))) (k0_hw36 : k0_chk36 i (arg3.view.readAt (Elt F) (Rect.unit (s := S11520) (k0_off83 i 11#32) S1.size (k0_off83_inb i 11)).toLoadRect (harg3.unread x0) (Shape.Idx.first (numel1_S1.symm ▸ Nat.one_pos)))) (k0_hw37 : k0_chk37 i (arg3.view.readAt (Elt F) (Rect.unit (s := S11520) (k0_off123 i 0#32) S1.size (k0_off123_inb i 0)).toLoadRect (harg3.unread x0) (Shape.Idx.first (numel1_S1.symm ▸ Nat.one_pos)))) (k0_hw38 : k0_chk38 i (arg3.view.readAt (Elt F) (Rect.unit (s := S11520) (k0_off123 i 1#32) S1.size (k0_off123_inb i 1)).toLoadRect (harg3.unread x0) (Shape.Idx.first (numel1_S1.symm ▸ Nat.one_pos)))) (k0_hw39 : k0_chk39 i (arg3.view.readAt (Elt F) (Rect.unit (s := S11520) (k0_off123 i 2#32) S1.size (k0_off123_inb i 2)).toLoadRect (harg3.unread x0) (Shape.Idx.first (numel1_S1.symm ▸ Nat.one_pos)))) (k0_hw40 : k0_chk40 i (arg3.view.readAt (Elt F) (Rect.unit (s := S11520) (k0_off123 i 3#32) S1.size (k0_off123_inb i 3)).toLoadRect (harg3.unread x0) (Shape.Idx.first (numel1_S1.symm ▸ Nat.one_pos)))) (k0_hw41 : k0_chk41 i (arg3.view.readAt (Elt F) (Rect.unit (s := S11520) (k0_off123 i 4#32) S1.size (k0_off123_inb i 4)).toLoadRect (harg3.unread x0) (Shape.Idx.first (numel1_S1.symm ▸ Nat.one_pos)))) (k0_hw42 : k0_chk42 i (arg3.view.readAt (Elt F) (Rect.unit (s := S11520) (k0_off123 i 5#32) S1.size (k0_off123_inb i 5)).toLoadRect (harg3.unread x0) (Shape.Idx.first (numel1_S1.symm ▸ Nat.one_pos)))) (k0_hw43 : k0_chk43 i (arg3.view.readAt (Elt F) (Rect.unit (s := S11520) (k0_off123 i 6#32) S1.size (k0_off123_inb i 6)).toLoadRect (harg3.unread x0) (Shape.Idx.first (numel1_S1.symm ▸ Nat.one_pos)))) (k0_hw44 : k0_chk44 i (arg3.view.readAt (Elt F) (Rect.unit (s := S11520) (k0_off123 i 7#32) S1.size (k0_off123_inb i 7)).toLoadRect (harg3.unread x0) (Shape.Idx.first (numel1_S1.symm ▸ Nat.one_pos)))) (k0_hw45 : k0_chk45 i (arg3.view.readAt (Elt F) (Rect.unit (s := S11520) (k0_off123 i 8#32) S1.size (k0_off123_inb i 8)).toLoadRect (harg3.unread x0) (Shape.Idx.first (numel1_S1.symm ▸ Nat.one_pos)))) (k0_hw46 : k0_chk46 i (arg3.view.readAt (Elt F) (Rect.unit (s := S11520) (k0_off123 i 9#32) S1.size (k0_off123_inb i 9)).toLoadRect (harg3.unread x0) (Shape.Idx.first (numel1_S1.symm ▸ Nat.one_pos)))) (k0_hw47 : k0_chk47 i (arg3.view.readAt (Elt F) (Rect.unit (s := S11520) (k0_off123 i 10#32) S1.size (k0_off123_inb i 10)).toLoadRect (harg3.unread x0) (Shape.Idx.first (numel1_S1.symm ▸ Nat.one_pos)))) (k0_hw48 : k0_chk48 i (arg3.view.readAt (Elt F) (Rect.unit (s := S11520) (k0_off123 i 11#32) S1.size (k0_off123_inb i 11)).toLoadRect (harg3.unread x0) (Shape.Idx.first (numel1_S1.symm ▸ Nat.one_pos)))) (k0_hw49 : k0_chk49 i (arg3.view.readAt (Elt F) (Rect.unit (s := S11520) (k0_off163 i 0#32) S1.size (k0_off163_inb i 0)).toLoadRect (harg3.unread x0) (Shape.Idx.first (numel1_S1.symm ▸ Nat.one_pos)))) (k0_hw50 : k0_chk50 i (arg3.view.readAt (Elt F) (Rect.unit (s := S11520) (k0_off163 i 1#32) S1.size (k0_off163_inb i 1)).toLoadRect (harg3.unread x0) (Shape.Idx.first (numel1_S1.symm ▸ Nat.one_pos)))) (k0_hw51 : k0_chk51 i (arg3.view.readAt (Elt F) (Rect.unit (s := S11520) (k0_off163 i 2#32) S1.size (k0_off163_inb i 2)).toLoadRect (harg3.unread x0) (Shape.Idx.first (numel1_S1.symm ▸ Nat.one_pos)))) (k0_hw52 : k0_chk52 i (arg3.view.readAt (Elt F) (Rect.unit (s := S11520) (k0_off163 i 3#32) S1.size (k0_off163_inb i 3)).toLoadRect (harg3.unread x0) (Shape.Idx.first (numel1_S1.symm ▸ Nat.one_pos)))) (k0_hw53 : k0_chk53 i (arg3.view.readAt (Elt F) (Rect.unit (s := S11520) (k0_off163 i 4#32) S1.size (k0_off163_inb i 4)).toLoadRect (harg3.unread x0) (Shape.Idx.first (numel1_S1.symm ▸ Nat.one_pos)))) (k0_hw54 : k0_chk54 i (arg3.view.readAt (Elt F) (Rect.unit (s := S11520) (k0_off163 i 5#32) S1.size (k0_off163_inb i 5)).toLoadRect (harg3.unread x0) (Shape.Idx.first (numel1_S1.symm ▸ Nat.one_pos)))) (k0_hw55 : k0_chk55 i (arg3.view.readAt (Elt F) (Rect.unit (s := S11520) (k0_off163 i 6#32) S1.size (k0_off163_inb i 6)).toLoadRect (harg3.unread x0) (Shape.Idx.first (numel1_S1.symm ▸ Nat.one_pos)))) (k0_hw56 : k0_chk56 i (arg3.view.readAt (Elt F) (Rect.unit (s := S11520) (k0_off163 i 7#32) S1.size (k0_off163_inb i 7)).toLoadRect (harg3.unread x0) (Shape.Idx.first (numel1_S1.symm ▸ Nat.one_pos)))) (k0_hw57 : k0_chk57 i (arg3.view.readAt (Elt F) (Rect.unit (s := S11520) (k0_off163 i 8#32) S1.size (k0_off163_inb i 8)).toLoadRect (harg3.unread x0) (Shape.Idx.first (numel1_S1.symm ▸ Nat.one_pos)))) (k0_hw58 : k0_chk58 i (arg3.view.readAt (Elt F) (Rect.unit (s := S11520) (k0_off163 i 9#32) S1.size (k0_off163_inb i 9)).toLoadRect (harg3.unread x0) (Shape.Idx.first (numel1_S1.symm ▸ Nat.one_pos)))) (k0_hw59 : k0_chk59 i (arg3.view.readAt (Elt F) (Rect.unit (s := S11520) (k0_off163 i 10#32) S1.size (k0_off163_inb i 10)).toLoadRect (harg3.unread x0) (Shape.Idx.first (numel1_S1.symm ▸ Nat.one_pos)))) (k0_hw60 : k0_chk60 i (arg3.view.readAt (Elt F) (Rect.unit (s := S11520) (k0_off163 i 11#32) S1.size (k0_off163_inb i 11)).toLoadRect (harg3.unread x0) (Shape.Idx.first (numel1_S1.symm ▸ Nat.one_pos)))) (k0_hw61 : k0_chk61 i (arg3.view.readAt (Elt F) (Rect.unit (s := S11520) (k0_off203 i 0#32) S1.size (k0_off203_inb i 0)).toLoadRect (harg3.unread x0) (Shape.Idx.first (numel1_S1.symm ▸ Nat.one_pos)))) (k0_hw62 : k0_chk62 i (arg3.view.readAt (Elt F) (Rect.unit (s := S11520) (k0_off203 i 1#32) S1.size (k0_off203_inb i 1)).toLoadRect (harg3.unread x0) (Shape.Idx.first (numel1_S1.symm ▸ Nat.one_pos)))) (k0_hw63 : k0_chk63 i (arg3.view.readAt (Elt F) (Rect.unit (s := S11520) (k0_off203 i 2#32) S1.size (k0_off203_inb i 2)).toLoadRect (harg3.unread x0) (Shape.Idx.first (numel1_S1.symm ▸ Nat.one_pos)))) (k0_hw64 : k0_chk64 i (arg3.view.readAt (Elt F) (Rect.unit (s := S11520) (k0_off203 i 3#32) S1.size (k0_off203_inb i 3)).toLoadRect (harg3.unread x0) (Shape.Idx.first (numel1_S1.symm ▸ Nat.one_pos)))) (k0_hw65 : k0_chk65 i (arg3.view.readAt (Elt F) (Rect.unit (s := S11520) (k0_off203 i 4#32) S1.size (k0_off203_inb i 4)).toLoadRect (harg3.unread x0) (Shape.Idx.first (numel1_S1.symm ▸ Nat.one_pos)))) (k0_hw66 : k0_chk66 i (arg3.view.readAt (Elt F) (Rect.unit (s := S11520) (k0_off203 i 5#32) S1.size (k0_off203_inb i 5)).toLoadRect (harg3.unread x0) (Shape.Idx.first (numel1_S1.symm ▸ Nat.one_pos)))) (k0_hw67 : k0_chk67 i (arg3.view.readAt (Elt F) (Rect.unit (s := S11520) (k0_off203 i 6#32) S1.size (k0_off203_inb i 6)).toLoadRect (harg3.unread x0) (Shape.Idx.first (numel1_S1.symm ▸ Nat.one_pos)))) (k0_hw68 : k0_chk68 i (arg3.view.readAt (Elt F) (Rect.unit (s := S11520) (k0_off203 i 7#32) S1.size (k0_off203_inb i 7)).toLoadRect (harg3.unread x0) (Shape.Idx.first (numel1_S1.symm ▸ Nat.one_pos)))) (k0_hw69 : k0_chk69 i (arg3.view.readAt (Elt F) (Rect.unit (s := S11520) (k0_off203 i 8#32) S1.size (k0_off203_inb i 8)).toLoadRect (harg3.unread x0) (Shape.Idx.first (numel1_S1.symm ▸ Nat.one_pos)))) (k0_hw70 : k0_chk70 i (arg3.view.readAt (Elt F) (Rect.unit (s := S11520) (k0_off203 i 9#32) S1.size (k0_off203_inb i 9)).toLoadRect (harg3.unread x0) (Shape.Idx.first (numel1_S1.symm ▸ Nat.one_pos)))) (k0_hw71 : k0_chk71 i (arg3.view.readAt (Elt F) (Rect.unit (s := S11520) (k0_off203 i 10#32) S1.size (k0_off203_inb i 10)).toLoadRect (harg3.unread x0) (Shape.Idx.first (numel1_S1.symm ▸ Nat.one_pos)))) (k0_hw72 : k0_chk72 i (arg3.view.readAt (Elt F) (Rect.unit (s := S11520) (k0_off203 i 11#32) S1.size (k0_off203_inb i 11)).toLoadRect (harg3.unread x0) (Shape.Idx.first (numel1_S1.symm ▸ Nat.one_pos)))) : Vec F S1x1x6x384x128 .f32 :=
  VO0_14.read (Elt F) (VO0_14.writes (Elt F) VO0_14.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40 k0_hw41 k0_hw42 k0_hw43 k0_hw44 k0_hw45 k0_hw46 k0_hw47 k0_hw48 k0_hw49 k0_hw50 k0_hw51 k0_hw52 k0_hw53 k0_hw54 k0_hw55 k0_hw56 k0_hw57 k0_hw58 k0_hw59 k0_hw60 k0_hw61 k0_hw62 k0_hw63 k0_hw64 k0_hw65 k0_hw66 k0_hw67 k0_hw68 k0_hw69 k0_hw70 k0_hw71 k0_hw72).1)

/-- The run's pieces for output 15 tile its block (6 stores of `S1x1x1x1x1x384`, checked by the kernel's evaluation: Lib/Ring.lean `Piece.tiledL`, linear in the pieces, through a loop's `@[irreducible]` trip theorem too), so they cover it. -/
theorem cover0_A_15 (c : Dev nD) (i : grid0.Coords) (arg3 : Memref sig .tc .smem S11520 .i32) (harg3 : arg3.IsWhole) (arg4 : Memref sig .tc .smem S960 .f32) (harg4 : arg4.IsWhole) (arg5 : Memref sig .tc .smem S960 .f32) (harg5 : arg5.IsWhole) (arg6 : Memref sig .tc .smem S10 .f32) (harg6 : arg6.IsWhole) (arg7 : Memref sig .tc .smem S10 .f32) (harg7 : arg7.IsWhole) (arg8 : Memref sig .tc .smem S10 .f32) (harg8 : arg8.IsWhole) (arg9 : Memref sig .tc .smem S2 .i32) (harg9 : arg9.IsWhole) (arg10 : Memref sig .tc .smem S5 .f32) (harg10 : arg10.IsWhole) (arg11 : Memref sig .tc .vmem S1x6x1x384x128 .fp8e4m3) (harg11 : arg11.IsWhole) (arg12 : Memref sig .tc .vmem S1x96x1x384x128 .fp8e4m3) (harg12 : arg12.IsWhole) (arg13 : Memref sig .tc .vmem S1x96x1x384x128 .fp8e4m3) (harg13 : arg13.IsWhole) (arg14 : Memref sig .tc .vmem S1x1x256x128 .fp8e4m3) (harg14 : arg14.IsWhole) (arg15 : Memref sig .tc .vmem S1x1x256x128 .fp8e4m3) (harg15 : arg15.IsWhole) (arg16 : Memref sig .tc .vmem S1x1x96x128 .f32) (harg16 : arg16.IsWhole) (arg17 : Memref sig .tc .vmem S1x1x6x384x128 .f32) (harg17 : arg17.IsWhole) (arg18 : Memref sig .tc .vmem S1x1x6x1x1x384 .f32) (harg18 : arg18.IsWhole) (arg19 : Memref sig .tc .vmem S384x4864 .f32) (harg19 : arg19.IsWhole) (arg20 : Memref sig .tc .vmem S384x128 .f32) (harg20 : arg20.IsWhole) (arg21 : Memref sig .tc .vmem S384x128 .f32) (harg21 : arg21.IsWhole) (arg22 : Memref sig .tc .vmem S384x128 .f32) (harg22 : arg22.IsWhole) (arg23 : Memref sig .tc .vmem S6x384x128 .f32) (harg23 : arg23.IsWhole)
    (x0 : Vec F S11520 .i32) (x1 : Vec F S960 .f32) (x2 : Vec F S960 .f32) (x3 : Vec F S10 .f32) (x4 : Vec F S10 .f32) (x5 : Vec F S10 .f32) (x6 : Vec F S2 .i32) (x7 : Vec F S5 .f32) (x8 : Vec F S1x6x1x384x128 .fp8e4m3) (x9 : Vec F S1x96x1x384x128 .fp8e4m3) (x10 : Vec F S1x96x1x384x128 .fp8e4m3) (x11 : Vec F S1x1x256x128 .fp8e4m3) (x12 : Vec F S1x1x256x128 .fp8e4m3) (x13 : Vec F S1x1x96x128 .f32) (k0_hw1 : k0_chk1 i (arg3.view.readAt (Elt F) (Rect.unit (s := S11520) (k0_off3 i 0#32) S1.size (k0_off3_inb i 0)).toLoadRect (harg3.unread x0) (Shape.Idx.first (numel1_S1.symm ▸ Nat.one_pos)))) (k0_hw2 : k0_chk2 i (arg3.view.readAt (Elt F) (Rect.unit (s := S11520) (k0_off3 i 1#32) S1.size (k0_off3_inb i 1)).toLoadRect (harg3.unread x0) (Shape.Idx.first (numel1_S1.symm ▸ Nat.one_pos)))) (k0_hw3 : k0_chk3 i (arg3.view.readAt (Elt F) (Rect.unit (s := S11520) (k0_off3 i 2#32) S1.size (k0_off3_inb i 2)).toLoadRect (harg3.unread x0) (Shape.Idx.first (numel1_S1.symm ▸ Nat.one_pos)))) (k0_hw4 : k0_chk4 i (arg3.view.readAt (Elt F) (Rect.unit (s := S11520) (k0_off3 i 3#32) S1.size (k0_off3_inb i 3)).toLoadRect (harg3.unread x0) (Shape.Idx.first (numel1_S1.symm ▸ Nat.one_pos)))) (k0_hw5 : k0_chk5 i (arg3.view.readAt (Elt F) (Rect.unit (s := S11520) (k0_off3 i 4#32) S1.size (k0_off3_inb i 4)).toLoadRect (harg3.unread x0) (Shape.Idx.first (numel1_S1.symm ▸ Nat.one_pos)))) (k0_hw6 : k0_chk6 i (arg3.view.readAt (Elt F) (Rect.unit (s := S11520) (k0_off3 i 5#32) S1.size (k0_off3_inb i 5)).toLoadRect (harg3.unread x0) (Shape.Idx.first (numel1_S1.symm ▸ Nat.one_pos)))) (k0_hw7 : k0_chk7 i (arg3.view.readAt (Elt F) (Rect.unit (s := S11520) (k0_off3 i 6#32) S1.size (k0_off3_inb i 6)).toLoadRect (harg3.unread x0) (Shape.Idx.first (numel1_S1.symm ▸ Nat.one_pos)))) (k0_hw8 : k0_chk8 i (arg3.view.readAt (Elt F) (Rect.unit (s := S11520) (k0_off3 i 7#32) S1.size (k0_off3_inb i 7)).toLoadRect (harg3.unread x0) (Shape.Idx.first (numel1_S1.symm ▸ Nat.one_pos)))) (k0_hw9 : k0_chk9 i (arg3.view.readAt (Elt F) (Rect.unit (s := S11520) (k0_off3 i 8#32) S1.size (k0_off3_inb i 8)).toLoadRect (harg3.unread x0) (Shape.Idx.first (numel1_S1.symm ▸ Nat.one_pos)))) (k0_hw10 : k0_chk10 i (arg3.view.readAt (Elt F) (Rect.unit (s := S11520) (k0_off3 i 9#32) S1.size (k0_off3_inb i 9)).toLoadRect (harg3.unread x0) (Shape.Idx.first (numel1_S1.symm ▸ Nat.one_pos)))) (k0_hw11 : k0_chk11 i (arg3.view.readAt (Elt F) (Rect.unit (s := S11520) (k0_off3 i 10#32) S1.size (k0_off3_inb i 10)).toLoadRect (harg3.unread x0) (Shape.Idx.first (numel1_S1.symm ▸ Nat.one_pos)))) (k0_hw12 : k0_chk12 i (arg3.view.readAt (Elt F) (Rect.unit (s := S11520) (k0_off3 i 11#32) S1.size (k0_off3_inb i 11)).toLoadRect (harg3.unread x0) (Shape.Idx.first (numel1_S1.symm ▸ Nat.one_pos)))) (k0_hw13 : k0_chk13 i (arg3.view.readAt (Elt F) (Rect.unit (s := S11520) (k0_off43 i 0#32) S1.size (k0_off43_inb i 0)).toLoadRect (harg3.unread x0) (Shape.Idx.first (numel1_S1.symm ▸ Nat.one_pos)))) (k0_hw14 : k0_chk14 i (arg3.view.readAt (Elt F) (Rect.unit (s := S11520) (k0_off43 i 1#32) S1.size (k0_off43_inb i 1)).toLoadRect (harg3.unread x0) (Shape.Idx.first (numel1_S1.symm ▸ Nat.one_pos)))) (k0_hw15 : k0_chk15 i (arg3.view.readAt (Elt F) (Rect.unit (s := S11520) (k0_off43 i 2#32) S1.size (k0_off43_inb i 2)).toLoadRect (harg3.unread x0) (Shape.Idx.first (numel1_S1.symm ▸ Nat.one_pos)))) (k0_hw16 : k0_chk16 i (arg3.view.readAt (Elt F) (Rect.unit (s := S11520) (k0_off43 i 3#32) S1.size (k0_off43_inb i 3)).toLoadRect (harg3.unread x0) (Shape.Idx.first (numel1_S1.symm ▸ Nat.one_pos)))) (k0_hw17 : k0_chk17 i (arg3.view.readAt (Elt F) (Rect.unit (s := S11520) (k0_off43 i 4#32) S1.size (k0_off43_inb i 4)).toLoadRect (harg3.unread x0) (Shape.Idx.first (numel1_S1.symm ▸ Nat.one_pos)))) (k0_hw18 : k0_chk18 i (arg3.view.readAt (Elt F) (Rect.unit (s := S11520) (k0_off43 i 5#32) S1.size (k0_off43_inb i 5)).toLoadRect (harg3.unread x0) (Shape.Idx.first (numel1_S1.symm ▸ Nat.one_pos)))) (k0_hw19 : k0_chk19 i (arg3.view.readAt (Elt F) (Rect.unit (s := S11520) (k0_off43 i 6#32) S1.size (k0_off43_inb i 6)).toLoadRect (harg3.unread x0) (Shape.Idx.first (numel1_S1.symm ▸ Nat.one_pos)))) (k0_hw20 : k0_chk20 i (arg3.view.readAt (Elt F) (Rect.unit (s := S11520) (k0_off43 i 7#32) S1.size (k0_off43_inb i 7)).toLoadRect (harg3.unread x0) (Shape.Idx.first (numel1_S1.symm ▸ Nat.one_pos)))) (k0_hw21 : k0_chk21 i (arg3.view.readAt (Elt F) (Rect.unit (s := S11520) (k0_off43 i 8#32) S1.size (k0_off43_inb i 8)).toLoadRect (harg3.unread x0) (Shape.Idx.first (numel1_S1.symm ▸ Nat.one_pos)))) (k0_hw22 : k0_chk22 i (arg3.view.readAt (Elt F) (Rect.unit (s := S11520) (k0_off43 i 9#32) S1.size (k0_off43_inb i 9)).toLoadRect (harg3.unread x0) (Shape.Idx.first (numel1_S1.symm ▸ Nat.one_pos)))) (k0_hw23 : k0_chk23 i (arg3.view.readAt (Elt F) (Rect.unit (s := S11520) (k0_off43 i 10#32) S1.size (k0_off43_inb i 10)).toLoadRect (harg3.unread x0) (Shape.Idx.first (numel1_S1.symm ▸ Nat.one_pos)))) (k0_hw24 : k0_chk24 i (arg3.view.readAt (Elt F) (Rect.unit (s := S11520) (k0_off43 i 11#32) S1.size (k0_off43_inb i 11)).toLoadRect (harg3.unread x0) (Shape.Idx.first (numel1_S1.symm ▸ Nat.one_pos)))) (k0_hw25 : k0_chk25 i (arg3.view.readAt (Elt F) (Rect.unit (s := S11520) (k0_off83 i 0#32) S1.size (k0_off83_inb i 0)).toLoadRect (harg3.unread x0) (Shape.Idx.first (numel1_S1.symm ▸ Nat.one_pos)))) (k0_hw26 : k0_chk26 i (arg3.view.readAt (Elt F) (Rect.unit (s := S11520) (k0_off83 i 1#32) S1.size (k0_off83_inb i 1)).toLoadRect (harg3.unread x0) (Shape.Idx.first (numel1_S1.symm ▸ Nat.one_pos)))) (k0_hw27 : k0_chk27 i (arg3.view.readAt (Elt F) (Rect.unit (s := S11520) (k0_off83 i 2#32) S1.size (k0_off83_inb i 2)).toLoadRect (harg3.unread x0) (Shape.Idx.first (numel1_S1.symm ▸ Nat.one_pos)))) (k0_hw28 : k0_chk28 i (arg3.view.readAt (Elt F) (Rect.unit (s := S11520) (k0_off83 i 3#32) S1.size (k0_off83_inb i 3)).toLoadRect (harg3.unread x0) (Shape.Idx.first (numel1_S1.symm ▸ Nat.one_pos)))) (k0_hw29 : k0_chk29 i (arg3.view.readAt (Elt F) (Rect.unit (s := S11520) (k0_off83 i 4#32) S1.size (k0_off83_inb i 4)).toLoadRect (harg3.unread x0) (Shape.Idx.first (numel1_S1.symm ▸ Nat.one_pos)))) (k0_hw30 : k0_chk30 i (arg3.view.readAt (Elt F) (Rect.unit (s := S11520) (k0_off83 i 5#32) S1.size (k0_off83_inb i 5)).toLoadRect (harg3.unread x0) (Shape.Idx.first (numel1_S1.symm ▸ Nat.one_pos)))) (k0_hw31 : k0_chk31 i (arg3.view.readAt (Elt F) (Rect.unit (s := S11520) (k0_off83 i 6#32) S1.size (k0_off83_inb i 6)).toLoadRect (harg3.unread x0) (Shape.Idx.first (numel1_S1.symm ▸ Nat.one_pos)))) (k0_hw32 : k0_chk32 i (arg3.view.readAt (Elt F) (Rect.unit (s := S11520) (k0_off83 i 7#32) S1.size (k0_off83_inb i 7)).toLoadRect (harg3.unread x0) (Shape.Idx.first (numel1_S1.symm ▸ Nat.one_pos)))) (k0_hw33 : k0_chk33 i (arg3.view.readAt (Elt F) (Rect.unit (s := S11520) (k0_off83 i 8#32) S1.size (k0_off83_inb i 8)).toLoadRect (harg3.unread x0) (Shape.Idx.first (numel1_S1.symm ▸ Nat.one_pos)))) (k0_hw34 : k0_chk34 i (arg3.view.readAt (Elt F) (Rect.unit (s := S11520) (k0_off83 i 9#32) S1.size (k0_off83_inb i 9)).toLoadRect (harg3.unread x0) (Shape.Idx.first (numel1_S1.symm ▸ Nat.one_pos)))) (k0_hw35 : k0_chk35 i (arg3.view.readAt (Elt F) (Rect.unit (s := S11520) (k0_off83 i 10#32) S1.size (k0_off83_inb i 10)).toLoadRect (harg3.unread x0) (Shape.Idx.first (numel1_S1.symm ▸ Nat.one_pos)))) (k0_hw36 : k0_chk36 i (arg3.view.readAt (Elt F) (Rect.unit (s := S11520) (k0_off83 i 11#32) S1.size (k0_off83_inb i 11)).toLoadRect (harg3.unread x0) (Shape.Idx.first (numel1_S1.symm ▸ Nat.one_pos)))) (k0_hw37 : k0_chk37 i (arg3.view.readAt (Elt F) (Rect.unit (s := S11520) (k0_off123 i 0#32) S1.size (k0_off123_inb i 0)).toLoadRect (harg3.unread x0) (Shape.Idx.first (numel1_S1.symm ▸ Nat.one_pos)))) (k0_hw38 : k0_chk38 i (arg3.view.readAt (Elt F) (Rect.unit (s := S11520) (k0_off123 i 1#32) S1.size (k0_off123_inb i 1)).toLoadRect (harg3.unread x0) (Shape.Idx.first (numel1_S1.symm ▸ Nat.one_pos)))) (k0_hw39 : k0_chk39 i (arg3.view.readAt (Elt F) (Rect.unit (s := S11520) (k0_off123 i 2#32) S1.size (k0_off123_inb i 2)).toLoadRect (harg3.unread x0) (Shape.Idx.first (numel1_S1.symm ▸ Nat.one_pos)))) (k0_hw40 : k0_chk40 i (arg3.view.readAt (Elt F) (Rect.unit (s := S11520) (k0_off123 i 3#32) S1.size (k0_off123_inb i 3)).toLoadRect (harg3.unread x0) (Shape.Idx.first (numel1_S1.symm ▸ Nat.one_pos)))) (k0_hw41 : k0_chk41 i (arg3.view.readAt (Elt F) (Rect.unit (s := S11520) (k0_off123 i 4#32) S1.size (k0_off123_inb i 4)).toLoadRect (harg3.unread x0) (Shape.Idx.first (numel1_S1.symm ▸ Nat.one_pos)))) (k0_hw42 : k0_chk42 i (arg3.view.readAt (Elt F) (Rect.unit (s := S11520) (k0_off123 i 5#32) S1.size (k0_off123_inb i 5)).toLoadRect (harg3.unread x0) (Shape.Idx.first (numel1_S1.symm ▸ Nat.one_pos)))) (k0_hw43 : k0_chk43 i (arg3.view.readAt (Elt F) (Rect.unit (s := S11520) (k0_off123 i 6#32) S1.size (k0_off123_inb i 6)).toLoadRect (harg3.unread x0) (Shape.Idx.first (numel1_S1.symm ▸ Nat.one_pos)))) (k0_hw44 : k0_chk44 i (arg3.view.readAt (Elt F) (Rect.unit (s := S11520) (k0_off123 i 7#32) S1.size (k0_off123_inb i 7)).toLoadRect (harg3.unread x0) (Shape.Idx.first (numel1_S1.symm ▸ Nat.one_pos)))) (k0_hw45 : k0_chk45 i (arg3.view.readAt (Elt F) (Rect.unit (s := S11520) (k0_off123 i 8#32) S1.size (k0_off123_inb i 8)).toLoadRect (harg3.unread x0) (Shape.Idx.first (numel1_S1.symm ▸ Nat.one_pos)))) (k0_hw46 : k0_chk46 i (arg3.view.readAt (Elt F) (Rect.unit (s := S11520) (k0_off123 i 9#32) S1.size (k0_off123_inb i 9)).toLoadRect (harg3.unread x0) (Shape.Idx.first (numel1_S1.symm ▸ Nat.one_pos)))) (k0_hw47 : k0_chk47 i (arg3.view.readAt (Elt F) (Rect.unit (s := S11520) (k0_off123 i 10#32) S1.size (k0_off123_inb i 10)).toLoadRect (harg3.unread x0) (Shape.Idx.first (numel1_S1.symm ▸ Nat.one_pos)))) (k0_hw48 : k0_chk48 i (arg3.view.readAt (Elt F) (Rect.unit (s := S11520) (k0_off123 i 11#32) S1.size (k0_off123_inb i 11)).toLoadRect (harg3.unread x0) (Shape.Idx.first (numel1_S1.symm ▸ Nat.one_pos)))) (k0_hw49 : k0_chk49 i (arg3.view.readAt (Elt F) (Rect.unit (s := S11520) (k0_off163 i 0#32) S1.size (k0_off163_inb i 0)).toLoadRect (harg3.unread x0) (Shape.Idx.first (numel1_S1.symm ▸ Nat.one_pos)))) (k0_hw50 : k0_chk50 i (arg3.view.readAt (Elt F) (Rect.unit (s := S11520) (k0_off163 i 1#32) S1.size (k0_off163_inb i 1)).toLoadRect (harg3.unread x0) (Shape.Idx.first (numel1_S1.symm ▸ Nat.one_pos)))) (k0_hw51 : k0_chk51 i (arg3.view.readAt (Elt F) (Rect.unit (s := S11520) (k0_off163 i 2#32) S1.size (k0_off163_inb i 2)).toLoadRect (harg3.unread x0) (Shape.Idx.first (numel1_S1.symm ▸ Nat.one_pos)))) (k0_hw52 : k0_chk52 i (arg3.view.readAt (Elt F) (Rect.unit (s := S11520) (k0_off163 i 3#32) S1.size (k0_off163_inb i 3)).toLoadRect (harg3.unread x0) (Shape.Idx.first (numel1_S1.symm ▸ Nat.one_pos)))) (k0_hw53 : k0_chk53 i (arg3.view.readAt (Elt F) (Rect.unit (s := S11520) (k0_off163 i 4#32) S1.size (k0_off163_inb i 4)).toLoadRect (harg3.unread x0) (Shape.Idx.first (numel1_S1.symm ▸ Nat.one_pos)))) (k0_hw54 : k0_chk54 i (arg3.view.readAt (Elt F) (Rect.unit (s := S11520) (k0_off163 i 5#32) S1.size (k0_off163_inb i 5)).toLoadRect (harg3.unread x0) (Shape.Idx.first (numel1_S1.symm ▸ Nat.one_pos)))) (k0_hw55 : k0_chk55 i (arg3.view.readAt (Elt F) (Rect.unit (s := S11520) (k0_off163 i 6#32) S1.size (k0_off163_inb i 6)).toLoadRect (harg3.unread x0) (Shape.Idx.first (numel1_S1.symm ▸ Nat.one_pos)))) (k0_hw56 : k0_chk56 i (arg3.view.readAt (Elt F) (Rect.unit (s := S11520) (k0_off163 i 7#32) S1.size (k0_off163_inb i 7)).toLoadRect (harg3.unread x0) (Shape.Idx.first (numel1_S1.symm ▸ Nat.one_pos)))) (k0_hw57 : k0_chk57 i (arg3.view.readAt (Elt F) (Rect.unit (s := S11520) (k0_off163 i 8#32) S1.size (k0_off163_inb i 8)).toLoadRect (harg3.unread x0) (Shape.Idx.first (numel1_S1.symm ▸ Nat.one_pos)))) (k0_hw58 : k0_chk58 i (arg3.view.readAt (Elt F) (Rect.unit (s := S11520) (k0_off163 i 9#32) S1.size (k0_off163_inb i 9)).toLoadRect (harg3.unread x0) (Shape.Idx.first (numel1_S1.symm ▸ Nat.one_pos)))) (k0_hw59 : k0_chk59 i (arg3.view.readAt (Elt F) (Rect.unit (s := S11520) (k0_off163 i 10#32) S1.size (k0_off163_inb i 10)).toLoadRect (harg3.unread x0) (Shape.Idx.first (numel1_S1.symm ▸ Nat.one_pos)))) (k0_hw60 : k0_chk60 i (arg3.view.readAt (Elt F) (Rect.unit (s := S11520) (k0_off163 i 11#32) S1.size (k0_off163_inb i 11)).toLoadRect (harg3.unread x0) (Shape.Idx.first (numel1_S1.symm ▸ Nat.one_pos)))) (k0_hw61 : k0_chk61 i (arg3.view.readAt (Elt F) (Rect.unit (s := S11520) (k0_off203 i 0#32) S1.size (k0_off203_inb i 0)).toLoadRect (harg3.unread x0) (Shape.Idx.first (numel1_S1.symm ▸ Nat.one_pos)))) (k0_hw62 : k0_chk62 i (arg3.view.readAt (Elt F) (Rect.unit (s := S11520) (k0_off203 i 1#32) S1.size (k0_off203_inb i 1)).toLoadRect (harg3.unread x0) (Shape.Idx.first (numel1_S1.symm ▸ Nat.one_pos)))) (k0_hw63 : k0_chk63 i (arg3.view.readAt (Elt F) (Rect.unit (s := S11520) (k0_off203 i 2#32) S1.size (k0_off203_inb i 2)).toLoadRect (harg3.unread x0) (Shape.Idx.first (numel1_S1.symm ▸ Nat.one_pos)))) (k0_hw64 : k0_chk64 i (arg3.view.readAt (Elt F) (Rect.unit (s := S11520) (k0_off203 i 3#32) S1.size (k0_off203_inb i 3)).toLoadRect (harg3.unread x0) (Shape.Idx.first (numel1_S1.symm ▸ Nat.one_pos)))) (k0_hw65 : k0_chk65 i (arg3.view.readAt (Elt F) (Rect.unit (s := S11520) (k0_off203 i 4#32) S1.size (k0_off203_inb i 4)).toLoadRect (harg3.unread x0) (Shape.Idx.first (numel1_S1.symm ▸ Nat.one_pos)))) (k0_hw66 : k0_chk66 i (arg3.view.readAt (Elt F) (Rect.unit (s := S11520) (k0_off203 i 5#32) S1.size (k0_off203_inb i 5)).toLoadRect (harg3.unread x0) (Shape.Idx.first (numel1_S1.symm ▸ Nat.one_pos)))) (k0_hw67 : k0_chk67 i (arg3.view.readAt (Elt F) (Rect.unit (s := S11520) (k0_off203 i 6#32) S1.size (k0_off203_inb i 6)).toLoadRect (harg3.unread x0) (Shape.Idx.first (numel1_S1.symm ▸ Nat.one_pos)))) (k0_hw68 : k0_chk68 i (arg3.view.readAt (Elt F) (Rect.unit (s := S11520) (k0_off203 i 7#32) S1.size (k0_off203_inb i 7)).toLoadRect (harg3.unread x0) (Shape.Idx.first (numel1_S1.symm ▸ Nat.one_pos)))) (k0_hw69 : k0_chk69 i (arg3.view.readAt (Elt F) (Rect.unit (s := S11520) (k0_off203 i 8#32) S1.size (k0_off203_inb i 8)).toLoadRect (harg3.unread x0) (Shape.Idx.first (numel1_S1.symm ▸ Nat.one_pos)))) (k0_hw70 : k0_chk70 i (arg3.view.readAt (Elt F) (Rect.unit (s := S11520) (k0_off203 i 9#32) S1.size (k0_off203_inb i 9)).toLoadRect (harg3.unread x0) (Shape.Idx.first (numel1_S1.symm ▸ Nat.one_pos)))) (k0_hw71 : k0_chk71 i (arg3.view.readAt (Elt F) (Rect.unit (s := S11520) (k0_off203 i 10#32) S1.size (k0_off203_inb i 10)).toLoadRect (harg3.unread x0) (Shape.Idx.first (numel1_S1.symm ▸ Nat.one_pos)))) (k0_hw72 : k0_chk72 i (arg3.view.readAt (Elt F) (Rect.unit (s := S11520) (k0_off203 i 11#32) S1.size (k0_off203_inb i 11)).toLoadRect (harg3.unread x0) (Shape.Idx.first (numel1_S1.symm ▸ Nat.one_pos)))) (y : S1x1x6x1x1x384.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40 k0_hw41 k0_hw42 k0_hw43 k0_hw44 k0_hw45 k0_hw46 k0_hw47 k0_hw48 k0_hw49 k0_hw50 k0_hw51 k0_hw52 k0_hw53 k0_hw54 k0_hw55 k0_hw56 k0_hw57 k0_hw58 k0_hw59 k0_hw60 k0_hw61 k0_hw62 k0_hw63 k0_hw64 k0_hw65 k0_hw66 k0_hw67 k0_hw68 k0_hw69 k0_hw70 k0_hw71 k0_hw72).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40 k0_hw41 k0_hw42 k0_hw43 k0_hw44 k0_hw45 k0_hw46 k0_hw47 k0_hw48 k0_hw49 k0_hw50 k0_hw51 k0_hw52 k0_hw53 k0_hw54 k0_hw55 k0_hw56 k0_hw57 k0_hw58 k0_hw59 k0_hw60 k0_hw61 k0_hw62 k0_hw63 k0_hw64 k0_hw65 k0_hw66 k0_hw67 k0_hw68 k0_hw69 k0_hw70 k0_hw71 k0_hw72).2.1 S1x1x1x1x1x384.size (by sl_kernel_rfl) y

/-- What the run leaves in output 15's staging buffer: its pieces read back over junk. -/
def out0_A_15 (c : Dev nD) (i : grid0.Coords) (arg3 : Memref sig .tc .smem S11520 .i32) (harg3 : arg3.IsWhole) (arg4 : Memref sig .tc .smem S960 .f32) (harg4 : arg4.IsWhole) (arg5 : Memref sig .tc .smem S960 .f32) (harg5 : arg5.IsWhole) (arg6 : Memref sig .tc .smem S10 .f32) (harg6 : arg6.IsWhole) (arg7 : Memref sig .tc .smem S10 .f32) (harg7 : arg7.IsWhole) (arg8 : Memref sig .tc .smem S10 .f32) (harg8 : arg8.IsWhole) (arg9 : Memref sig .tc .smem S2 .i32) (harg9 : arg9.IsWhole) (arg10 : Memref sig .tc .smem S5 .f32) (harg10 : arg10.IsWhole) (arg11 : Memref sig .tc .vmem S1x6x1x384x128 .fp8e4m3) (harg11 : arg11.IsWhole) (arg12 : Memref sig .tc .vmem S1x96x1x384x128 .fp8e4m3) (harg12 : arg12.IsWhole) (arg13 : Memref sig .tc .vmem S1x96x1x384x128 .fp8e4m3) (harg13 : arg13.IsWhole) (arg14 : Memref sig .tc .vmem S1x1x256x128 .fp8e4m3) (harg14 : arg14.IsWhole) (arg15 : Memref sig .tc .vmem S1x1x256x128 .fp8e4m3) (harg15 : arg15.IsWhole) (arg16 : Memref sig .tc .vmem S1x1x96x128 .f32) (harg16 : arg16.IsWhole) (arg17 : Memref sig .tc .vmem S1x1x6x384x128 .f32) (harg17 : arg17.IsWhole) (arg18 : Memref sig .tc .vmem S1x1x6x1x1x384 .f32) (harg18 : arg18.IsWhole) (arg19 : Memref sig .tc .vmem S384x4864 .f32) (harg19 : arg19.IsWhole) (arg20 : Memref sig .tc .vmem S384x128 .f32) (harg20 : arg20.IsWhole) (arg21 : Memref sig .tc .vmem S384x128 .f32) (harg21 : arg21.IsWhole) (arg22 : Memref sig .tc .vmem S384x128 .f32) (harg22 : arg22.IsWhole) (arg23 : Memref sig .tc .vmem S6x384x128 .f32) (harg23 : arg23.IsWhole)
    (x0 : Vec F S11520 .i32) (x1 : Vec F S960 .f32) (x2 : Vec F S960 .f32) (x3 : Vec F S10 .f32) (x4 : Vec F S10 .f32) (x5 : Vec F S10 .f32) (x6 : Vec F S2 .i32) (x7 : Vec F S5 .f32) (x8 : Vec F S1x6x1x384x128 .fp8e4m3) (x9 : Vec F S1x96x1x384x128 .fp8e4m3) (x10 : Vec F S1x96x1x384x128 .fp8e4m3) (x11 : Vec F S1x1x256x128 .fp8e4m3) (x12 : Vec F S1x1x256x128 .fp8e4m3) (x13 : Vec F S1x1x96x128 .f32) (k0_hw1 : k0_chk1 i (arg3.view.readAt (Elt F) (Rect.unit (s := S11520) (k0_off3 i 0#32) S1.size (k0_off3_inb i 0)).toLoadRect (harg3.unread x0) (Shape.Idx.first (numel1_S1.symm ▸ Nat.one_pos)))) (k0_hw2 : k0_chk2 i (arg3.view.readAt (Elt F) (Rect.unit (s := S11520) (k0_off3 i 1#32) S1.size (k0_off3_inb i 1)).toLoadRect (harg3.unread x0) (Shape.Idx.first (numel1_S1.symm ▸ Nat.one_pos)))) (k0_hw3 : k0_chk3 i (arg3.view.readAt (Elt F) (Rect.unit (s := S11520) (k0_off3 i 2#32) S1.size (k0_off3_inb i 2)).toLoadRect (harg3.unread x0) (Shape.Idx.first (numel1_S1.symm ▸ Nat.one_pos)))) (k0_hw4 : k0_chk4 i (arg3.view.readAt (Elt F) (Rect.unit (s := S11520) (k0_off3 i 3#32) S1.size (k0_off3_inb i 3)).toLoadRect (harg3.unread x0) (Shape.Idx.first (numel1_S1.symm ▸ Nat.one_pos)))) (k0_hw5 : k0_chk5 i (arg3.view.readAt (Elt F) (Rect.unit (s := S11520) (k0_off3 i 4#32) S1.size (k0_off3_inb i 4)).toLoadRect (harg3.unread x0) (Shape.Idx.first (numel1_S1.symm ▸ Nat.one_pos)))) (k0_hw6 : k0_chk6 i (arg3.view.readAt (Elt F) (Rect.unit (s := S11520) (k0_off3 i 5#32) S1.size (k0_off3_inb i 5)).toLoadRect (harg3.unread x0) (Shape.Idx.first (numel1_S1.symm ▸ Nat.one_pos)))) (k0_hw7 : k0_chk7 i (arg3.view.readAt (Elt F) (Rect.unit (s := S11520) (k0_off3 i 6#32) S1.size (k0_off3_inb i 6)).toLoadRect (harg3.unread x0) (Shape.Idx.first (numel1_S1.symm ▸ Nat.one_pos)))) (k0_hw8 : k0_chk8 i (arg3.view.readAt (Elt F) (Rect.unit (s := S11520) (k0_off3 i 7#32) S1.size (k0_off3_inb i 7)).toLoadRect (harg3.unread x0) (Shape.Idx.first (numel1_S1.symm ▸ Nat.one_pos)))) (k0_hw9 : k0_chk9 i (arg3.view.readAt (Elt F) (Rect.unit (s := S11520) (k0_off3 i 8#32) S1.size (k0_off3_inb i 8)).toLoadRect (harg3.unread x0) (Shape.Idx.first (numel1_S1.symm ▸ Nat.one_pos)))) (k0_hw10 : k0_chk10 i (arg3.view.readAt (Elt F) (Rect.unit (s := S11520) (k0_off3 i 9#32) S1.size (k0_off3_inb i 9)).toLoadRect (harg3.unread x0) (Shape.Idx.first (numel1_S1.symm ▸ Nat.one_pos)))) (k0_hw11 : k0_chk11 i (arg3.view.readAt (Elt F) (Rect.unit (s := S11520) (k0_off3 i 10#32) S1.size (k0_off3_inb i 10)).toLoadRect (harg3.unread x0) (Shape.Idx.first (numel1_S1.symm ▸ Nat.one_pos)))) (k0_hw12 : k0_chk12 i (arg3.view.readAt (Elt F) (Rect.unit (s := S11520) (k0_off3 i 11#32) S1.size (k0_off3_inb i 11)).toLoadRect (harg3.unread x0) (Shape.Idx.first (numel1_S1.symm ▸ Nat.one_pos)))) (k0_hw13 : k0_chk13 i (arg3.view.readAt (Elt F) (Rect.unit (s := S11520) (k0_off43 i 0#32) S1.size (k0_off43_inb i 0)).toLoadRect (harg3.unread x0) (Shape.Idx.first (numel1_S1.symm ▸ Nat.one_pos)))) (k0_hw14 : k0_chk14 i (arg3.view.readAt (Elt F) (Rect.unit (s := S11520) (k0_off43 i 1#32) S1.size (k0_off43_inb i 1)).toLoadRect (harg3.unread x0) (Shape.Idx.first (numel1_S1.symm ▸ Nat.one_pos)))) (k0_hw15 : k0_chk15 i (arg3.view.readAt (Elt F) (Rect.unit (s := S11520) (k0_off43 i 2#32) S1.size (k0_off43_inb i 2)).toLoadRect (harg3.unread x0) (Shape.Idx.first (numel1_S1.symm ▸ Nat.one_pos)))) (k0_hw16 : k0_chk16 i (arg3.view.readAt (Elt F) (Rect.unit (s := S11520) (k0_off43 i 3#32) S1.size (k0_off43_inb i 3)).toLoadRect (harg3.unread x0) (Shape.Idx.first (numel1_S1.symm ▸ Nat.one_pos)))) (k0_hw17 : k0_chk17 i (arg3.view.readAt (Elt F) (Rect.unit (s := S11520) (k0_off43 i 4#32) S1.size (k0_off43_inb i 4)).toLoadRect (harg3.unread x0) (Shape.Idx.first (numel1_S1.symm ▸ Nat.one_pos)))) (k0_hw18 : k0_chk18 i (arg3.view.readAt (Elt F) (Rect.unit (s := S11520) (k0_off43 i 5#32) S1.size (k0_off43_inb i 5)).toLoadRect (harg3.unread x0) (Shape.Idx.first (numel1_S1.symm ▸ Nat.one_pos)))) (k0_hw19 : k0_chk19 i (arg3.view.readAt (Elt F) (Rect.unit (s := S11520) (k0_off43 i 6#32) S1.size (k0_off43_inb i 6)).toLoadRect (harg3.unread x0) (Shape.Idx.first (numel1_S1.symm ▸ Nat.one_pos)))) (k0_hw20 : k0_chk20 i (arg3.view.readAt (Elt F) (Rect.unit (s := S11520) (k0_off43 i 7#32) S1.size (k0_off43_inb i 7)).toLoadRect (harg3.unread x0) (Shape.Idx.first (numel1_S1.symm ▸ Nat.one_pos)))) (k0_hw21 : k0_chk21 i (arg3.view.readAt (Elt F) (Rect.unit (s := S11520) (k0_off43 i 8#32) S1.size (k0_off43_inb i 8)).toLoadRect (harg3.unread x0) (Shape.Idx.first (numel1_S1.symm ▸ Nat.one_pos)))) (k0_hw22 : k0_chk22 i (arg3.view.readAt (Elt F) (Rect.unit (s := S11520) (k0_off43 i 9#32) S1.size (k0_off43_inb i 9)).toLoadRect (harg3.unread x0) (Shape.Idx.first (numel1_S1.symm ▸ Nat.one_pos)))) (k0_hw23 : k0_chk23 i (arg3.view.readAt (Elt F) (Rect.unit (s := S11520) (k0_off43 i 10#32) S1.size (k0_off43_inb i 10)).toLoadRect (harg3.unread x0) (Shape.Idx.first (numel1_S1.symm ▸ Nat.one_pos)))) (k0_hw24 : k0_chk24 i (arg3.view.readAt (Elt F) (Rect.unit (s := S11520) (k0_off43 i 11#32) S1.size (k0_off43_inb i 11)).toLoadRect (harg3.unread x0) (Shape.Idx.first (numel1_S1.symm ▸ Nat.one_pos)))) (k0_hw25 : k0_chk25 i (arg3.view.readAt (Elt F) (Rect.unit (s := S11520) (k0_off83 i 0#32) S1.size (k0_off83_inb i 0)).toLoadRect (harg3.unread x0) (Shape.Idx.first (numel1_S1.symm ▸ Nat.one_pos)))) (k0_hw26 : k0_chk26 i (arg3.view.readAt (Elt F) (Rect.unit (s := S11520) (k0_off83 i 1#32) S1.size (k0_off83_inb i 1)).toLoadRect (harg3.unread x0) (Shape.Idx.first (numel1_S1.symm ▸ Nat.one_pos)))) (k0_hw27 : k0_chk27 i (arg3.view.readAt (Elt F) (Rect.unit (s := S11520) (k0_off83 i 2#32) S1.size (k0_off83_inb i 2)).toLoadRect (harg3.unread x0) (Shape.Idx.first (numel1_S1.symm ▸ Nat.one_pos)))) (k0_hw28 : k0_chk28 i (arg3.view.readAt (Elt F) (Rect.unit (s := S11520) (k0_off83 i 3#32) S1.size (k0_off83_inb i 3)).toLoadRect (harg3.unread x0) (Shape.Idx.first (numel1_S1.symm ▸ Nat.one_pos)))) (k0_hw29 : k0_chk29 i (arg3.view.readAt (Elt F) (Rect.unit (s := S11520) (k0_off83 i 4#32) S1.size (k0_off83_inb i 4)).toLoadRect (harg3.unread x0) (Shape.Idx.first (numel1_S1.symm ▸ Nat.one_pos)))) (k0_hw30 : k0_chk30 i (arg3.view.readAt (Elt F) (Rect.unit (s := S11520) (k0_off83 i 5#32) S1.size (k0_off83_inb i 5)).toLoadRect (harg3.unread x0) (Shape.Idx.first (numel1_S1.symm ▸ Nat.one_pos)))) (k0_hw31 : k0_chk31 i (arg3.view.readAt (Elt F) (Rect.unit (s := S11520) (k0_off83 i 6#32) S1.size (k0_off83_inb i 6)).toLoadRect (harg3.unread x0) (Shape.Idx.first (numel1_S1.symm ▸ Nat.one_pos)))) (k0_hw32 : k0_chk32 i (arg3.view.readAt (Elt F) (Rect.unit (s := S11520) (k0_off83 i 7#32) S1.size (k0_off83_inb i 7)).toLoadRect (harg3.unread x0) (Shape.Idx.first (numel1_S1.symm ▸ Nat.one_pos)))) (k0_hw33 : k0_chk33 i (arg3.view.readAt (Elt F) (Rect.unit (s := S11520) (k0_off83 i 8#32) S1.size (k0_off83_inb i 8)).toLoadRect (harg3.unread x0) (Shape.Idx.first (numel1_S1.symm ▸ Nat.one_pos)))) (k0_hw34 : k0_chk34 i (arg3.view.readAt (Elt F) (Rect.unit (s := S11520) (k0_off83 i 9#32) S1.size (k0_off83_inb i 9)).toLoadRect (harg3.unread x0) (Shape.Idx.first (numel1_S1.symm ▸ Nat.one_pos)))) (k0_hw35 : k0_chk35 i (arg3.view.readAt (Elt F) (Rect.unit (s := S11520) (k0_off83 i 10#32) S1.size (k0_off83_inb i 10)).toLoadRect (harg3.unread x0) (Shape.Idx.first (numel1_S1.symm ▸ Nat.one_pos)))) (k0_hw36 : k0_chk36 i (arg3.view.readAt (Elt F) (Rect.unit (s := S11520) (k0_off83 i 11#32) S1.size (k0_off83_inb i 11)).toLoadRect (harg3.unread x0) (Shape.Idx.first (numel1_S1.symm ▸ Nat.one_pos)))) (k0_hw37 : k0_chk37 i (arg3.view.readAt (Elt F) (Rect.unit (s := S11520) (k0_off123 i 0#32) S1.size (k0_off123_inb i 0)).toLoadRect (harg3.unread x0) (Shape.Idx.first (numel1_S1.symm ▸ Nat.one_pos)))) (k0_hw38 : k0_chk38 i (arg3.view.readAt (Elt F) (Rect.unit (s := S11520) (k0_off123 i 1#32) S1.size (k0_off123_inb i 1)).toLoadRect (harg3.unread x0) (Shape.Idx.first (numel1_S1.symm ▸ Nat.one_pos)))) (k0_hw39 : k0_chk39 i (arg3.view.readAt (Elt F) (Rect.unit (s := S11520) (k0_off123 i 2#32) S1.size (k0_off123_inb i 2)).toLoadRect (harg3.unread x0) (Shape.Idx.first (numel1_S1.symm ▸ Nat.one_pos)))) (k0_hw40 : k0_chk40 i (arg3.view.readAt (Elt F) (Rect.unit (s := S11520) (k0_off123 i 3#32) S1.size (k0_off123_inb i 3)).toLoadRect (harg3.unread x0) (Shape.Idx.first (numel1_S1.symm ▸ Nat.one_pos)))) (k0_hw41 : k0_chk41 i (arg3.view.readAt (Elt F) (Rect.unit (s := S11520) (k0_off123 i 4#32) S1.size (k0_off123_inb i 4)).toLoadRect (harg3.unread x0) (Shape.Idx.first (numel1_S1.symm ▸ Nat.one_pos)))) (k0_hw42 : k0_chk42 i (arg3.view.readAt (Elt F) (Rect.unit (s := S11520) (k0_off123 i 5#32) S1.size (k0_off123_inb i 5)).toLoadRect (harg3.unread x0) (Shape.Idx.first (numel1_S1.symm ▸ Nat.one_pos)))) (k0_hw43 : k0_chk43 i (arg3.view.readAt (Elt F) (Rect.unit (s := S11520) (k0_off123 i 6#32) S1.size (k0_off123_inb i 6)).toLoadRect (harg3.unread x0) (Shape.Idx.first (numel1_S1.symm ▸ Nat.one_pos)))) (k0_hw44 : k0_chk44 i (arg3.view.readAt (Elt F) (Rect.unit (s := S11520) (k0_off123 i 7#32) S1.size (k0_off123_inb i 7)).toLoadRect (harg3.unread x0) (Shape.Idx.first (numel1_S1.symm ▸ Nat.one_pos)))) (k0_hw45 : k0_chk45 i (arg3.view.readAt (Elt F) (Rect.unit (s := S11520) (k0_off123 i 8#32) S1.size (k0_off123_inb i 8)).toLoadRect (harg3.unread x0) (Shape.Idx.first (numel1_S1.symm ▸ Nat.one_pos)))) (k0_hw46 : k0_chk46 i (arg3.view.readAt (Elt F) (Rect.unit (s := S11520) (k0_off123 i 9#32) S1.size (k0_off123_inb i 9)).toLoadRect (harg3.unread x0) (Shape.Idx.first (numel1_S1.symm ▸ Nat.one_pos)))) (k0_hw47 : k0_chk47 i (arg3.view.readAt (Elt F) (Rect.unit (s := S11520) (k0_off123 i 10#32) S1.size (k0_off123_inb i 10)).toLoadRect (harg3.unread x0) (Shape.Idx.first (numel1_S1.symm ▸ Nat.one_pos)))) (k0_hw48 : k0_chk48 i (arg3.view.readAt (Elt F) (Rect.unit (s := S11520) (k0_off123 i 11#32) S1.size (k0_off123_inb i 11)).toLoadRect (harg3.unread x0) (Shape.Idx.first (numel1_S1.symm ▸ Nat.one_pos)))) (k0_hw49 : k0_chk49 i (arg3.view.readAt (Elt F) (Rect.unit (s := S11520) (k0_off163 i 0#32) S1.size (k0_off163_inb i 0)).toLoadRect (harg3.unread x0) (Shape.Idx.first (numel1_S1.symm ▸ Nat.one_pos)))) (k0_hw50 : k0_chk50 i (arg3.view.readAt (Elt F) (Rect.unit (s := S11520) (k0_off163 i 1#32) S1.size (k0_off163_inb i 1)).toLoadRect (harg3.unread x0) (Shape.Idx.first (numel1_S1.symm ▸ Nat.one_pos)))) (k0_hw51 : k0_chk51 i (arg3.view.readAt (Elt F) (Rect.unit (s := S11520) (k0_off163 i 2#32) S1.size (k0_off163_inb i 2)).toLoadRect (harg3.unread x0) (Shape.Idx.first (numel1_S1.symm ▸ Nat.one_pos)))) (k0_hw52 : k0_chk52 i (arg3.view.readAt (Elt F) (Rect.unit (s := S11520) (k0_off163 i 3#32) S1.size (k0_off163_inb i 3)).toLoadRect (harg3.unread x0) (Shape.Idx.first (numel1_S1.symm ▸ Nat.one_pos)))) (k0_hw53 : k0_chk53 i (arg3.view.readAt (Elt F) (Rect.unit (s := S11520) (k0_off163 i 4#32) S1.size (k0_off163_inb i 4)).toLoadRect (harg3.unread x0) (Shape.Idx.first (numel1_S1.symm ▸ Nat.one_pos)))) (k0_hw54 : k0_chk54 i (arg3.view.readAt (Elt F) (Rect.unit (s := S11520) (k0_off163 i 5#32) S1.size (k0_off163_inb i 5)).toLoadRect (harg3.unread x0) (Shape.Idx.first (numel1_S1.symm ▸ Nat.one_pos)))) (k0_hw55 : k0_chk55 i (arg3.view.readAt (Elt F) (Rect.unit (s := S11520) (k0_off163 i 6#32) S1.size (k0_off163_inb i 6)).toLoadRect (harg3.unread x0) (Shape.Idx.first (numel1_S1.symm ▸ Nat.one_pos)))) (k0_hw56 : k0_chk56 i (arg3.view.readAt (Elt F) (Rect.unit (s := S11520) (k0_off163 i 7#32) S1.size (k0_off163_inb i 7)).toLoadRect (harg3.unread x0) (Shape.Idx.first (numel1_S1.symm ▸ Nat.one_pos)))) (k0_hw57 : k0_chk57 i (arg3.view.readAt (Elt F) (Rect.unit (s := S11520) (k0_off163 i 8#32) S1.size (k0_off163_inb i 8)).toLoadRect (harg3.unread x0) (Shape.Idx.first (numel1_S1.symm ▸ Nat.one_pos)))) (k0_hw58 : k0_chk58 i (arg3.view.readAt (Elt F) (Rect.unit (s := S11520) (k0_off163 i 9#32) S1.size (k0_off163_inb i 9)).toLoadRect (harg3.unread x0) (Shape.Idx.first (numel1_S1.symm ▸ Nat.one_pos)))) (k0_hw59 : k0_chk59 i (arg3.view.readAt (Elt F) (Rect.unit (s := S11520) (k0_off163 i 10#32) S1.size (k0_off163_inb i 10)).toLoadRect (harg3.unread x0) (Shape.Idx.first (numel1_S1.symm ▸ Nat.one_pos)))) (k0_hw60 : k0_chk60 i (arg3.view.readAt (Elt F) (Rect.unit (s := S11520) (k0_off163 i 11#32) S1.size (k0_off163_inb i 11)).toLoadRect (harg3.unread x0) (Shape.Idx.first (numel1_S1.symm ▸ Nat.one_pos)))) (k0_hw61 : k0_chk61 i (arg3.view.readAt (Elt F) (Rect.unit (s := S11520) (k0_off203 i 0#32) S1.size (k0_off203_inb i 0)).toLoadRect (harg3.unread x0) (Shape.Idx.first (numel1_S1.symm ▸ Nat.one_pos)))) (k0_hw62 : k0_chk62 i (arg3.view.readAt (Elt F) (Rect.unit (s := S11520) (k0_off203 i 1#32) S1.size (k0_off203_inb i 1)).toLoadRect (harg3.unread x0) (Shape.Idx.first (numel1_S1.symm ▸ Nat.one_pos)))) (k0_hw63 : k0_chk63 i (arg3.view.readAt (Elt F) (Rect.unit (s := S11520) (k0_off203 i 2#32) S1.size (k0_off203_inb i 2)).toLoadRect (harg3.unread x0) (Shape.Idx.first (numel1_S1.symm ▸ Nat.one_pos)))) (k0_hw64 : k0_chk64 i (arg3.view.readAt (Elt F) (Rect.unit (s := S11520) (k0_off203 i 3#32) S1.size (k0_off203_inb i 3)).toLoadRect (harg3.unread x0) (Shape.Idx.first (numel1_S1.symm ▸ Nat.one_pos)))) (k0_hw65 : k0_chk65 i (arg3.view.readAt (Elt F) (Rect.unit (s := S11520) (k0_off203 i 4#32) S1.size (k0_off203_inb i 4)).toLoadRect (harg3.unread x0) (Shape.Idx.first (numel1_S1.symm ▸ Nat.one_pos)))) (k0_hw66 : k0_chk66 i (arg3.view.readAt (Elt F) (Rect.unit (s := S11520) (k0_off203 i 5#32) S1.size (k0_off203_inb i 5)).toLoadRect (harg3.unread x0) (Shape.Idx.first (numel1_S1.symm ▸ Nat.one_pos)))) (k0_hw67 : k0_chk67 i (arg3.view.readAt (Elt F) (Rect.unit (s := S11520) (k0_off203 i 6#32) S1.size (k0_off203_inb i 6)).toLoadRect (harg3.unread x0) (Shape.Idx.first (numel1_S1.symm ▸ Nat.one_pos)))) (k0_hw68 : k0_chk68 i (arg3.view.readAt (Elt F) (Rect.unit (s := S11520) (k0_off203 i 7#32) S1.size (k0_off203_inb i 7)).toLoadRect (harg3.unread x0) (Shape.Idx.first (numel1_S1.symm ▸ Nat.one_pos)))) (k0_hw69 : k0_chk69 i (arg3.view.readAt (Elt F) (Rect.unit (s := S11520) (k0_off203 i 8#32) S1.size (k0_off203_inb i 8)).toLoadRect (harg3.unread x0) (Shape.Idx.first (numel1_S1.symm ▸ Nat.one_pos)))) (k0_hw70 : k0_chk70 i (arg3.view.readAt (Elt F) (Rect.unit (s := S11520) (k0_off203 i 9#32) S1.size (k0_off203_inb i 9)).toLoadRect (harg3.unread x0) (Shape.Idx.first (numel1_S1.symm ▸ Nat.one_pos)))) (k0_hw71 : k0_chk71 i (arg3.view.readAt (Elt F) (Rect.unit (s := S11520) (k0_off203 i 10#32) S1.size (k0_off203_inb i 10)).toLoadRect (harg3.unread x0) (Shape.Idx.first (numel1_S1.symm ▸ Nat.one_pos)))) (k0_hw72 : k0_chk72 i (arg3.view.readAt (Elt F) (Rect.unit (s := S11520) (k0_off203 i 11#32) S1.size (k0_off203_inb i 11)).toLoadRect (harg3.unread x0) (Shape.Idx.first (numel1_S1.symm ▸ Nat.one_pos)))) : Vec F S1x1x6x1x1x384 .f32 :=
  VO0_15.read (Elt F) (VO0_15.writes (Elt F) VO0_15.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 k0_hw33 k0_hw34 k0_hw35 k0_hw36 k0_hw37 k0_hw38 k0_hw39 k0_hw40 k0_hw41 k0_hw42 k0_hw43 k0_hw44 k0_hw45 k0_hw46 k0_hw47 k0_hw48 k0_hw49 k0_hw50 k0_hw51 k0_hw52 k0_hw53 k0_hw54 k0_hw55 k0_hw56 k0_hw57 k0_hw58 k0_hw59 k0_hw60 k0_hw61 k0_hw62 k0_hw63 k0_hw64 k0_hw65 k0_hw66 k0_hw67 k0_hw68 k0_hw69 k0_hw70 k0_hw71 k0_hw72).2.1)

/-! ## What the outputs hold after each point -/

set_option maxHeartbeats 1800000 in
set_option maxRecDepth 131072 in
/-- What the outputs' staging buffers hold after the body at point `t` (as a tuple, in window order): the run's contents at
    the point's memrefs and input blocks. -/
def outsAt0 (hH : Hyps m) (c : Dev nD) (t : Fin cfg0.N) : Vec F S1x1x6x384x128 .f32 × Vec F S1x1x6x1x1x384 .f32 :=
  (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t) (Hyps.c16 hH c t) (Hyps.c17 hH c t) (Hyps.c18 hH c t) (Hyps.c19 hH c t) (Hyps.c20 hH c t) (Hyps.c21 hH c t) (Hyps.c22 hH c t) (Hyps.c23 hH c t) (Hyps.c24 hH c t) (Hyps.c25 hH c t) (Hyps.c26 hH c t) (Hyps.c27 hH c t) (Hyps.c28 hH c t) (Hyps.c29 hH c t) (Hyps.c30 hH c t) (Hyps.c31 hH c t) (Hyps.c32 hH c t) (Hyps.c33 hH c t) (Hyps.c34 hH c t) (Hyps.c35 hH c t) (Hyps.c36 hH c t) (Hyps.c37 hH c t) (Hyps.c38 hH c t) (Hyps.c39 hH c t) (Hyps.c40 hH c t) (Hyps.c41 hH c t) (Hyps.c42 hH c t) (Hyps.c43 hH c t) (Hyps.c44 hH c t) (Hyps.c45 hH c t) (Hyps.c46 hH c t) (Hyps.c47 hH c t) (Hyps.c48 hH c t) (Hyps.c49 hH c t) (Hyps.c50 hH c t) (Hyps.c51 hH c t) (Hyps.c52 hH c t) (Hyps.c53 hH c t) (Hyps.c54 hH c t) (Hyps.c55 hH c t) (Hyps.c56 hH c t) (Hyps.c57 hH c t) (Hyps.c58 hH c t) (Hyps.c59 hH c t) (Hyps.c60 hH c t) (Hyps.c61 hH c t) (Hyps.c62 hH c t) (Hyps.c63 hH c t) (Hyps.c64 hH c t) (Hyps.c65 hH c t) (Hyps.c66 hH c t) (Hyps.c67 hH c t) (Hyps.c68 hH c t) (Hyps.c69 hH c t) (Hyps.c70 hH c t) (Hyps.c71 hH c t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t) (Hyps.c16 hH c t) (Hyps.c17 hH c t) (Hyps.c18 hH c t) (Hyps.c19 hH c t) (Hyps.c20 hH c t) (Hyps.c21 hH c t) (Hyps.c22 hH c t) (Hyps.c23 hH c t) (Hyps.c24 hH c t) (Hyps.c25 hH c t) (Hyps.c26 hH c t) (Hyps.c27 hH c t) (Hyps.c28 hH c t) (Hyps.c29 hH c t) (Hyps.c30 hH c t) (Hyps.c31 hH c t) (Hyps.c32 hH c t) (Hyps.c33 hH c t) (Hyps.c34 hH c t) (Hyps.c35 hH c t) (Hyps.c36 hH c t) (Hyps.c37 hH c t) (Hyps.c38 hH c t) (Hyps.c39 hH c t) (Hyps.c40 hH c t) (Hyps.c41 hH c t) (Hyps.c42 hH c t) (Hyps.c43 hH c t) (Hyps.c44 hH c t) (Hyps.c45 hH c t) (Hyps.c46 hH c t) (Hyps.c47 hH c t) (Hyps.c48 hH c t) (Hyps.c49 hH c t) (Hyps.c50 hH c t) (Hyps.c51 hH c t) (Hyps.c52 hH c t) (Hyps.c53 hH c t) (Hyps.c54 hH c t) (Hyps.c55 hH c t) (Hyps.c56 hH c t) (Hyps.c57 hH c t) (Hyps.c58 hH c t) (Hyps.c59 hH c t) (Hyps.c60 hH c t) (Hyps.c61 hH c t) (Hyps.c62 hH c t) (Hyps.c63 hH c t) (Hyps.c64 hH c t) (Hyps.c65 hH c t) (Hyps.c66 hH c t) (Hyps.c67 hH c t) (Hyps.c68 hH c t) (Hyps.c69 hH c t) (Hyps.c70 hH c t) (Hyps.c71 hH c t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (hH : Hyps m) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt0 m hH c t).1
    | ⟨15, _⟩ => (outsAt0 m hH c t).2
    | ⟨_ + 16, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (hH : Hyps m) (c : Dev nD) (w : Fin cfg0.W) : (dats m hH 0 c).A w = V m c (Pipeline.arrRef spec0 w) := by
  dsimp only [dats]

/-- What the body leaves, window by window (the proof data's `match` reduced by `dsimp`). -/
theorem after0_0 (hH : Hyps m) (c : Dev nD) (t : Fin cfg0.N) : (dats m hH 0 c).after 0 t = iblk m c 0 t := by dsimp only [dats]
theorem after0_1 (hH : Hyps m) (c : Dev nD) (t : Fin cfg0.N) : (dats m hH 0 c).after 1 t = iblk m c 1 t := by dsimp only [dats]
theorem after0_2 (hH : Hyps m) (c : Dev nD) (t : Fin cfg0.N) : (dats m hH 0 c).after 2 t = iblk m c 2 t := by dsimp only [dats]
theorem after0_3 (hH : Hyps m) (c : Dev nD) (t : Fin cfg0.N) : (dats m hH 0 c).after 3 t = iblk m c 3 t := by dsimp only [dats]
theorem after0_4 (hH : Hyps m) (c : Dev nD) (t : Fin cfg0.N) : (dats m hH 0 c).after 4 t = iblk m c 4 t := by dsimp only [dats]
theorem after0_5 (hH : Hyps m) (c : Dev nD) (t : Fin cfg0.N) : (dats m hH 0 c).after 5 t = iblk m c 5 t := by dsimp only [dats]
theorem after0_6 (hH : Hyps m) (c : Dev nD) (t : Fin cfg0.N) : (dats m hH 0 c).after 6 t = iblk m c 6 t := by dsimp only [dats]
theorem after0_7 (hH : Hyps m) (c : Dev nD) (t : Fin cfg0.N) : (dats m hH 0 c).after 7 t = iblk m c 7 t := by dsimp only [dats]
theorem after0_8 (hH : Hyps m) (c : Dev nD) (t : Fin cfg0.N) : (dats m hH 0 c).after 8 t = iblk m c 8 t := by dsimp only [dats]
theorem after0_9 (hH : Hyps m) (c : Dev nD) (t : Fin cfg0.N) : (dats m hH 0 c).after 9 t = iblk m c 9 t := by dsimp only [dats]
theorem after0_10 (hH : Hyps m) (c : Dev nD) (t : Fin cfg0.N) : (dats m hH 0 c).after 10 t = iblk m c 10 t := by dsimp only [dats]
theorem after0_11 (hH : Hyps m) (c : Dev nD) (t : Fin cfg0.N) : (dats m hH 0 c).after 11 t = iblk m c 11 t := by dsimp only [dats]
theorem after0_12 (hH : Hyps m) (c : Dev nD) (t : Fin cfg0.N) : (dats m hH 0 c).after 12 t = iblk m c 12 t := by dsimp only [dats]
theorem after0_13 (hH : Hyps m) (c : Dev nD) (t : Fin cfg0.N) : (dats m hH 0 c).after 13 t = iblk m c 13 t := by dsimp only [dats]
theorem after0_14 (hH : Hyps m) (c : Dev nD) (t : Fin cfg0.N) : (dats m hH 0 c).after 14 t = (outsAt0 m hH c t).1 := by dsimp only [dats]
theorem after0_15 (hH : Hyps m) (c : Dev nD) (t : Fin cfg0.N) : (dats m hH 0 c).after 15 t = (outsAt0 m hH c t).2 := by dsimp only [dats]

/-- Each input's current staging buffer holds its block at every point, fetched there or not (`beforeK_W_of`). -/
theorem before0_0 (hH : Hyps m) (c : Dev nD) (t : Fin cfg0.N) (d) : (dats m hH 0 c).before 0 t d = iblk m c 0 t :=
  before0_0_of m (dats m hH 0 c) (A_eq m hH c 0) (after0_0 m hH c) t d
theorem before0_1 (hH : Hyps m) (c : Dev nD) (t : Fin cfg0.N) (d) : (dats m hH 0 c).before 1 t d = iblk m c 1 t :=
  before0_1_of m (dats m hH 0 c) (A_eq m hH c 1) (after0_1 m hH c) t d
theorem before0_2 (hH : Hyps m) (c : Dev nD) (t : Fin cfg0.N) (d) : (dats m hH 0 c).before 2 t d = iblk m c 2 t :=
  before0_2_of m (dats m hH 0 c) (A_eq m hH c 2) (after0_2 m hH c) t d
theorem before0_3 (hH : Hyps m) (c : Dev nD) (t : Fin cfg0.N) (d) : (dats m hH 0 c).before 3 t d = iblk m c 3 t :=
  before0_3_of m (dats m hH 0 c) (A_eq m hH c 3) (after0_3 m hH c) t d
theorem before0_4 (hH : Hyps m) (c : Dev nD) (t : Fin cfg0.N) (d) : (dats m hH 0 c).before 4 t d = iblk m c 4 t :=
  before0_4_of m (dats m hH 0 c) (A_eq m hH c 4) (after0_4 m hH c) t d
theorem before0_5 (hH : Hyps m) (c : Dev nD) (t : Fin cfg0.N) (d) : (dats m hH 0 c).before 5 t d = iblk m c 5 t :=
  before0_5_of m (dats m hH 0 c) (A_eq m hH c 5) (after0_5 m hH c) t d
theorem before0_6 (hH : Hyps m) (c : Dev nD) (t : Fin cfg0.N) (d) : (dats m hH 0 c).before 6 t d = iblk m c 6 t :=
  before0_6_of m (dats m hH 0 c) (A_eq m hH c 6) (after0_6 m hH c) t d
theorem before0_7 (hH : Hyps m) (c : Dev nD) (t : Fin cfg0.N) (d) : (dats m hH 0 c).before 7 t d = iblk m c 7 t :=
  before0_7_of m (dats m hH 0 c) (A_eq m hH c 7) (after0_7 m hH c) t d
theorem before0_8 (hH : Hyps m) (c : Dev nD) (t : Fin cfg0.N) (d) : (dats m hH 0 c).before 8 t d = iblk m c 8 t :=
  before0_8_of m (dats m hH 0 c) (A_eq m hH c 8) (after0_8 m hH c) t d
theorem before0_9 (hH : Hyps m) (c : Dev nD) (t : Fin cfg0.N) (d) : (dats m hH 0 c).before 9 t d = iblk m c 9 t :=
  before0_9_of m (dats m hH 0 c) (A_eq m hH c 9) (after0_9 m hH c) t d
theorem before0_10 (hH : Hyps m) (c : Dev nD) (t : Fin cfg0.N) (d) : (dats m hH 0 c).before 10 t d = iblk m c 10 t :=
  before0_10_of m (dats m hH 0 c) (A_eq m hH c 10) (after0_10 m hH c) t d
theorem before0_11 (hH : Hyps m) (c : Dev nD) (t : Fin cfg0.N) (d) : (dats m hH 0 c).before 11 t d = iblk m c 11 t :=
  before0_11_of m (dats m hH 0 c) (A_eq m hH c 11) (after0_11 m hH c) t d
theorem before0_12 (hH : Hyps m) (c : Dev nD) (t : Fin cfg0.N) (d) : (dats m hH 0 c).before 12 t d = iblk m c 12 t :=
  before0_12_of m (dats m hH 0 c) (A_eq m hH c 12) (after0_12 m hH c) t d
theorem before0_13 (hH : Hyps m) (c : Dev nD) (t : Fin cfg0.N) (d) : (dats m hH 0 c).before 13 t d = iblk m c 13 t :=
  before0_13_of m (dats m hH 0 c) (A_eq m hH c 13) (after0_13 m hH c) t d

/-! ## The body obligation, at a generic point -/

/-- What the body is called with at point `t` (Lib/Pipeline.lean `BodyObligation`'s precondition, the windows one by one), -/
def bodyPre (hH : Hyps m) (c : Dev nD) (t : Fin cfg0.N) : sProp 𝕄 :=
  iprop((dats m hH 0 c).Φ t.castSucc ∗ (dats m hH 0 c).owesAt () t.castSucc
    ∗ (∃ d, owns (c : Thread nD τ) (ms0_0 t) fullShare ((dats m hH 0 c).before 0 t d))
    ∗ (∃ d, owns (c : Thread nD τ) (ms0_1 t) fullShare ((dats m hH 0 c).before 1 t d))
    ∗ (∃ d, owns (c : Thread nD τ) (ms0_2 t) fullShare ((dats m hH 0 c).before 2 t d))
    ∗ (∃ d, owns (c : Thread nD τ) (ms0_3 t) fullShare ((dats m hH 0 c).before 3 t d))
    ∗ (∃ d, owns (c : Thread nD τ) (ms0_4 t) fullShare ((dats m hH 0 c).before 4 t d))
    ∗ (∃ d, owns (c : Thread nD τ) (ms0_5 t) fullShare ((dats m hH 0 c).before 5 t d))
    ∗ (∃ d, owns (c : Thread nD τ) (ms0_6 t) fullShare ((dats m hH 0 c).before 6 t d))
    ∗ (∃ d, owns (c : Thread nD τ) (ms0_7 t) fullShare ((dats m hH 0 c).before 7 t d))
    ∗ (∃ d, owns (c : Thread nD τ) (ms0_8 t) fullShare ((dats m hH 0 c).before 8 t d))
    ∗ (∃ d, owns (c : Thread nD τ) (ms0_9 t) fullShare ((dats m hH 0 c).before 9 t d))
    ∗ (∃ d, owns (c : Thread nD τ) (ms0_10 t) fullShare ((dats m hH 0 c).before 10 t d))
    ∗ (∃ d, owns (c : Thread nD τ) (ms0_11 t) fullShare ((dats m hH 0 c).before 11 t d))
    ∗ (∃ d, owns (c : Thread nD τ) (ms0_12 t) fullShare ((dats m hH 0 c).before 12 t d))
    ∗ (∃ d, owns (c : Thread nD τ) (ms0_13 t) fullShare ((dats m hH 0 c).before 13 t d))
    ∗ (∃ d, owns (c : Thread nD τ) (ms0_14 t) fullShare ((dats m hH 0 c).before 14 t d))
    ∗ (∃ d, owns (c : Thread nD τ) (ms0_15 t) fullShare ((dats m hH 0 c).before 15 t d)))

/-- and what it returns. -/
def bodyPost (hH : Hyps m) (c : Dev nD) (t : Fin cfg0.N) : sProp 𝕄 :=
  iprop((dats m hH 0 c).Φ t.succ ∗ (dats m hH 0 c).owesAt () t.succ
    ∗ owns (c : Thread nD τ) (ms0_0 t) fullShare ((dats m hH 0 c).after 0 t)
    ∗ owns (c : Thread nD τ) (ms0_1 t) fullShare ((dats m hH 0 c).after 1 t)
    ∗ owns (c : Thread nD τ) (ms0_2 t) fullShare ((dats m hH 0 c).after 2 t)
    ∗ owns (c : Thread nD τ) (ms0_3 t) fullShare ((dats m hH 0 c).after 3 t)
    ∗ owns (c : Thread nD τ) (ms0_4 t) fullShare ((dats m hH 0 c).after 4 t)
    ∗ owns (c : Thread nD τ) (ms0_5 t) fullShare ((dats m hH 0 c).after 5 t)
    ∗ owns (c : Thread nD τ) (ms0_6 t) fullShare ((dats m hH 0 c).after 6 t)
    ∗ owns (c : Thread nD τ) (ms0_7 t) fullShare ((dats m hH 0 c).after 7 t)
    ∗ owns (c : Thread nD τ) (ms0_8 t) fullShare ((dats m hH 0 c).after 8 t)
    ∗ owns (c : Thread nD τ) (ms0_9 t) fullShare ((dats m hH 0 c).after 9 t)
    ∗ owns (c : Thread nD τ) (ms0_10 t) fullShare ((dats m hH 0 c).after 10 t)
    ∗ owns (c : Thread nD τ) (ms0_11 t) fullShare ((dats m hH 0 c).after 11 t)
    ∗ owns (c : Thread nD τ) (ms0_12 t) fullShare ((dats m hH 0 c).after 12 t)
    ∗ owns (c : Thread nD τ) (ms0_13 t) fullShare ((dats m hH 0 c).after 13 t)
    ∗ owns (c : Thread nD τ) (ms0_14 t) fullShare ((dats m hH 0 c).after 14 t)
    ∗ owns (c : Thread nD τ) (ms0_15 t) fullShare ((dats m hH 0 c).after 15 t))

set_option maxHeartbeats 18000000 in
set_option maxRecDepth 131072 in
/-- The body at any point: the inputs' memrefs hold their blocks (`before0_W`); so the
    run applies; the invariant hands the body its scratch buffers at some contents (and the generator register) and takes them back at some contents (`PhiA_eq`); the core owes nothing throughout. -/
theorem sound_body (hH : Hyps m) (c : Dev nD) (t : Fin cfg0.N) :
    bodyPre m hH c t ⊢ wp frame (wpE (defs₀ (F := F)) Variants.none c none) Set.univ (bodyAt0 t) (fun _ => bodyPost m hH c t) := by
  unfold bodyPre bodyPost bodyAt0
  simp only [before0_0, before0_1, before0_2, before0_3, before0_4, before0_5, before0_6, before0_7, before0_8, before0_9, before0_10, before0_11, before0_12, before0_13]
  rw [show (dats m hH 0 c).Φ t.succ = (dats m hH 0 c).Φ t.castSucc from rfl,
    show (dats m hH 0 c).owesAt () t.succ = (dats m hH 0 c).owesAt () t.castSucc from rfl,
    after0_0, after0_1, after0_2, after0_3, after0_4, after0_5, after0_6, after0_7, after0_8, after0_9, after0_10, after0_11, after0_12, after0_13, after0_14, after0_15]
  rw [show (dats m hH 0 c).Φ t.castSucc = Pipeline.ΦA spec0 c from rfl, PhiA0_eq]
  unfold outsAt0
  unfold out0_A_14 out0_A_15; (try dsimp only)
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((kernelRun0_A c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t) (Hyps.c16 hH c t) (Hyps.c17 hH c t) (Hyps.c18 hH c t) (Hyps.c19 hH c t) (Hyps.c20 hH c t) (Hyps.c21 hH c t) (Hyps.c22 hH c t) (Hyps.c23 hH c t) (Hyps.c24 hH c t) (Hyps.c25 hH c t) (Hyps.c26 hH c t) (Hyps.c27 hH c t) (Hyps.c28 hH c t) (Hyps.c29 hH c t) (Hyps.c30 hH c t) (Hyps.c31 hH c t) (Hyps.c32 hH c t) (Hyps.c33 hH c t) (Hyps.c34 hH c t) (Hyps.c35 hH c t) (Hyps.c36 hH c t) (Hyps.c37 hH c t) (Hyps.c38 hH c t) (Hyps.c39 hH c t) (Hyps.c40 hH c t) (Hyps.c41 hH c t) (Hyps.c42 hH c t) (Hyps.c43 hH c t) (Hyps.c44 hH c t) (Hyps.c45 hH c t) (Hyps.c46 hH c t) (Hyps.c47 hH c t) (Hyps.c48 hH c t) (Hyps.c49 hH c t) (Hyps.c50 hH c t) (Hyps.c51 hH c t) (Hyps.c52 hH c t) (Hyps.c53 hH c t) (Hyps.c54 hH c t) (Hyps.c55 hH c t) (Hyps.c56 hH c t) (Hyps.c57 hH c t) (Hyps.c58 hH c t) (Hyps.c59 hH c t) (Hyps.c60 hH c t) (Hyps.c61 hH c t) (Hyps.c62 hH c t) (Hyps.c63 hH c t) (Hyps.c64 hH c t) (Hyps.c65 hH c t) (Hyps.c66 hH c t) (Hyps.c67 hH c t) (Hyps.c68 hH c t) (Hyps.c69 hH c t) (Hyps.c70 hH c t) (Hyps.c71 hH c t)).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, ⟨%e14, H14⟩, ⟨%e15, H15⟩, ⟨%fT0, HS0⟩, ⟨%fT1, HS1⟩, ⟨%fT2, HS2⟩, ⟨%fT3, HS3⟩, ⟨%fT4, HS4⟩⟩
  isplitl [HS0 HS1 HS2 HS3 HS4 Hg]
  · isplitl [HS0 HS1 HS2 HS3 HS4]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      iexists _; unfold owns; iexists _; isplitr
      swap; · iexact HS4
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H15
  ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (hH : Hyps m) (c : Dev nD) : BodyObligation (dats (F := F) m hH 0 c) (defs₀ (F := F)) Variants.none () Set.univ := fun t => by
  rw [bigSep_W0, bigSep_W0, defs₀_row]
  exact triple_restated (sound_body m hH c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter at zero at every final state. -/
theorem run_main_quiescent (hH : Hyps m) : θ_run defs (onTc (τ := τ) (main (F := F))) (s₀ m ρ) (fun r => (Pipeline.FramePost cfgs (dats m hH) 0 (V m)) r ∧ r.2.sem = fun _ => 0) :=
  Pipeline.θ_run_frame (Q' := _) cfgs (dats m hH) (0 : Fin 1) launch0 defs₀ Variants.none m ρ main
    (hbody := fun c => (body_obligation m hH c).loose) (hshare := fun c => (dats m hH 0 c).share_full fun _ => rfl)
    (howed := fun _ _ => rfl) (V := V m) (hmain := hmain m Variants.none) (hA := A_eq m hH) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hH : Hyps m) : θ_run defs (onTc (τ := τ) (main (F := F))) (s₀ m ρ) (Pipeline.FramePost cfgs (dats m hH) 0 (V m)) :=
  (θ_run defs _ _).mono (fun _ h => h.1) (run_main_quiescent m ρ hH)

/-- `frame` without the counters: the argument arrays end unchanged. -/
theorem unchanged (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m hH) (A_eq m hH) (run_main m ρ hH)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here UNDER `Gen.Hyps` (the side conditions the body assumes,
    at every point), which Proof.lean proves from the precondition: `⟨…, fun m ρ h => Cert.KernelIdeal.Gen.frame m ρ (hyps_of_pre m h)⟩`. -/
theorem frame (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ hH) ((θ_run defs _ _).mono (fun _ h => h.2) (run_main_quiescent m ρ hH))

end Cert.KernelIdeal.Gen

end
-- ==== Proof.KernelTiles.lean ====
/- The tile numbers the kernel reads are words of its first argument: a bound on the argument is a bound on what the body reads. -/
module

public import proofs.«01_k».proof.Proof.KernelRuns
public import Idealize.ShloMosaic.Lib.StableHlo
public import Idealize.ShloMosaic.Lib.Claim

@[expose] public section

noncomputable section

namespace Cert.Kernel.Gen

open Idealize.ShloMosaic Idealize.ShloMosaic.TcCoe Idealize.ShloMosaic.StableHlo

variable {F : FTy → Type} [FloatOps F]
variable (m : (ℓ : Loc nD τ sig) → Buf (Elt F) ℓ)

set_option maxHeartbeats 40000 in
/-- The kernel's first operand is the selection array, flattened. -/
theorem V_main_v0 (c : Dev nD) :
    V m c main_v0 = shapeCast S11520 (m ((c.tc : Thread nD τ).loc main_arg0)) shapeCasts_S2x5x96x12_S11520 := by
  unfold_abbrev_sides
  after_results
  rfl

/-- A block of the first window holds words of that operand. -/
theorem iblk_word (c : Dev nD) (t : Fin cfg0.N) (j : S11520.Idx) : ∃ k : S11520.Idx, iblk m c 0 t j = V m c main_v0 k := by
  unfold iblk
  rw [View.read_apply, cast_eq]
  exact ⟨_, rfl⟩

/-- When every tile number of the argument is below 96, so is every one the body reads. -/
theorem hyps_of_words (h : ∀ (c : Dev nD) y, (m ((c.tc : Thread nD τ).loc main_arg0) y : BitVec 32).toNat < 96) : Hyps m := by
  intro c t j
  obtain ⟨k, hk⟩ := iblk_word m c t j
  rw [hk, congrFun (V_main_v0 m c) k]
  exact h c _

end Cert.Kernel.Gen

end
-- ==== Proof.IdealTiles.lean ====
/- The tile numbers the kernel reads are words of its first argument: a bound on the argument is a bound on what the body reads. -/
module

public import proofs.«01_k».proof.Proof.IdealRuns
public import Idealize.ShloMosaic.Lib.StableHlo
public import Idealize.ShloMosaic.Lib.Claim

@[expose] public section

noncomputable section

namespace Cert.KernelIdeal.Gen

open Idealize.ShloMosaic Idealize.ShloMosaic.TcCoe Idealize.ShloMosaic.StableHlo

variable {F : FTy → Type} [FloatOps F]
variable (m : (ℓ : Loc nD τ sig) → Buf (Elt F) ℓ)

set_option maxHeartbeats 40000 in
/-- The kernel's first operand is the selection array, flattened. -/
theorem V_main_v0 (c : Dev nD) :
    V m c main_v0 = shapeCast S11520 (m ((c.tc : Thread nD τ).loc main_arg0)) shapeCasts_S2x5x96x12_S11520 := by
  unfold_abbrev_sides
  after_results
  rfl

/-- A block of the first window holds words of that operand. -/
theorem iblk_word (c : Dev nD) (t : Fin cfg0.N) (j : S11520.Idx) : ∃ k : S11520.Idx, iblk m c 0 t j = V m c main_v0 k := by
  unfold iblk
  rw [View.read_apply, cast_eq]
  exact ⟨_, rfl⟩

/-- When every tile number of the argument is below 96, so is every one the body reads. -/
theorem hyps_of_words (h : ∀ (c : Dev nD) y, (m ((c.tc : Thread nD τ).loc main_arg0) y : BitVec 32).toNat < 96) : Hyps m := by
  intro c t j
  obtain ⟨k, hk⟩ := iblk_word m c t j
  rw [hk, congrFun (V_main_v0 m c) k]
  exact h c _

end Cert.KernelIdeal.Gen

end
-- ==== Proof.Tiles.lean ====
/- What the precondition says: every tile number is below the number of tiles. -/
module

public import proofs.«01_k».proof.Proof.Gen.Pre_tiles_exist
public import proofs.«01_k».proof.Proof.KernelTiles
public import proofs.«01_k».proof.Proof.IdealTiles
public import proofs.«01_k».proof.Defs
public import Idealize.ShloMosaic.Lib.WordCmp

@[expose] public section

noncomputable section

namespace Cert.Tiles

open Idealize.ShloMosaic Idealize.ShloMosaic.TcCoe

/-- A word that is at least 0 and less than 96, as a signed number, is below 96. -/
theorem lt_of_word (x : BitVec 32)
    (h : IntOp.andi (IntOp.cmpi .sge x 0#32) (IntOp.cmpi .slt x 96#32) = 1#1) : x.toNat < 96 := by
  have e := WordCmp.andi_sge_zero_slt_ofNat (w := 32) (k := 96) (by decide) x
  have h' := e.symm.trans h
  exact (WordCmp.ofBool_decide_eq_one_iff _).mp h'

/-- What the precondition gives of the program in floating-point arithmetic. -/
theorem kernel_words {m : (ℓ : Loc Cert.Kernel.nD Cert.Kernel.τ Cert.Kernel.sig) → Buf (Elt Bits) ℓ} (h : Cert.Pre_Kernel m) :
    Cert.Kernel.Gen.Hyps m :=
  Cert.Kernel.Gen.hyps_of_words m fun c y => lt_of_word _ (congrFun (h c) y)

/-- What it gives of the program over the extended reals. -/
theorem ideal_words {m : (ℓ : Loc Cert.KernelIdeal.nD Cert.KernelIdeal.τ Cert.KernelIdeal.sig) → Buf (Elt Ideal) ℓ}
    (h : Cert.Pre_KernelIdeal m) (c : Dev Cert.KernelIdeal.nD) (y) :
    (m ((c.tc : Thread Cert.KernelIdeal.nD Cert.KernelIdeal.τ).loc Cert.KernelIdeal.main_arg0) y : BitVec 32).toNat < 96 :=
  lt_of_word _ (congrFun (h c) y)

theorem ideal_hyps {m : (ℓ : Loc Cert.KernelIdeal.nD Cert.KernelIdeal.τ Cert.KernelIdeal.sig) → Buf (Elt Ideal) ℓ}
    (h : Cert.Pre_KernelIdeal m) : Cert.KernelIdeal.Gen.Hyps m :=
  Cert.KernelIdeal.Gen.hyps_of_words m fun c y => ideal_words h c y

end Cert.Tiles

end
-- ==== Proof.IdealTile.lean ====
/- What the kernel body computes for one tile of queries, as functions of the vectors it has loaded: the scores of two
   tiles of keys, the running row maximum, the probabilities, the running denominator, the quantised product with the
   values, and the two results of the tile. The body repeats these for six tiles at a grid point. -/
module

public import proofs.«01_k».proof.Proof.Gen.KernelIdeal.Skeleton

@[expose] public section

noncomputable section

namespace Cert.KernelIdeal.Tile

open Idealize.ShloMosaic Idealize.SL.Sem Cert.KernelIdeal Cert.KernelIdeal.Gen

variable {F : FTy → Type} [FloatOps F]

/-- One tile of codes, as a matrix. -/
def mat (x : Vec F S1x1x1x384x128 .fp8e4m3) : FVec F S384x128 .fp8e4m3 :=
  shapeCast S384x128 x shapeCasts_S1x1x1x384x128_S384x128

/-- Two tiles of codes, one under the other. -/
def pair (x y : Vec F S1x1x1x384x128 .fp8e4m3) : FVec F S768x128 .fp8e4m3 :=
  concatenate S768x128 0 [⟨S384x128, mat x⟩, ⟨S384x128, mat y⟩] concatenates_S384x128_S384x128_S768x128_d0

/-- The scaled scores of a tile of queries against two tiles of keys. -/
def scores (q : FVec F S384x128 .fp8e4m3) (cq : F .f32) (x y : Vec F S1x1x1x384x128 .fp8e4m3) (sx sy : F .f32) :
    FVec F S384x768 .f32 :=
  have s : FVec F S384x768 .f32 := matmul dot_S384x128_S768x128_S384x768_1_1_0_0_n_n none q (pair x y) (constant S384x768 .f32 0x00000000#32)
  concatenate S384x768 1
    [⟨S384x384, mulf (extractStridedSlice S384x384 ![0, 0] s slices_S384x768_o0_0_S384x384) (broadcast S384x384 (Scalar.mulf cq sx))⟩,
     ⟨S384x384, mulf (extractStridedSlice S384x384 ![0, 384] s slices_S384x768_o0_384_S384x384) (broadcast S384x384 (Scalar.mulf cq sy))⟩]
    concatenates_S384x384_S384x384_S384x768_d1

/-- The scores as they are kept. -/
def kept (t : FVec F S384x768 .f32) : FVec F S384x768 .f32 := shapeCast S384x768 t shapeCasts_S384x768_S384x768

/-- The running maximum at the start: minus infinity. -/
def max0 : FVec F S384x128 .f32 :=
  shapeCast S384x128 (broadcast S384x128 (Scalar.ofBits .f32 0xFF800000#32)) shapeCasts_S384x128_S384x128

/-- The running maximum after the scores of two tiles of keys, lane by lane. -/
def maxStep (mx : FVec F S384x128 .f32) (t : FVec F S384x768 .f32) : FVec F S384x128 .f32 :=
  shapeCast S384x128 (maximumf mx
    (maximumf (maximumf (maximumf (maximumf (maximumf
      (extractStridedSlice S384x128 ![0, 0] t slices_S384x768_o0_0_S384x128)
      (extractStridedSlice S384x128 ![0, 128] t slices_S384x768_o0_128_S384x128))
      (extractStridedSlice S384x128 ![0, 256] t slices_S384x768_o0_256_S384x128))
      (extractStridedSlice S384x128 ![0, 384] t slices_S384x768_o0_384_S384x128))
      (extractStridedSlice S384x128 ![0, 512] t slices_S384x768_o0_512_S384x128))
      (extractStridedSlice S384x128 ![0, 640] t slices_S384x768_o0_640_S384x128)))
    shapeCasts_S384x128_S384x128

/-- The scaled scores against the text keys, those past the text's length at minus infinity. -/
def scoresTxt (len : Elt F .i32) (q : FVec F S384x128 .fp8e4m3) (cq : F .f32) (kt : Vec F S1x1x256x128 .fp8e4m3) (st : F .f32) :
    FVec F S384x256 .f32 :=
  select
    (broadcastTo S384x256
      (shapeCast S1x256 (cmpi .slt (iota .tc S1x256 32 [1] iota_S1x256_d1_w32) (broadcast S1x256 len)) shapeCasts_S1x256_S1x256)
      broadcasts_S1x256_S384x256)
    (mulf (matmul dot_S384x128_S256x128_S384x256_1_1_0_0_n_n none q
        (shapeCast S256x128 kt shapeCasts_S1x1x256x128_S256x128) (constant S384x256 .f32 0x00000000#32))
      (broadcast S384x256 (Scalar.mulf cq st)))
    (broadcast S384x256 (Scalar.ofBits .f32 0xFF800000#32))

/-- The text scores as they are kept. -/
def keptTxt (t : FVec F S384x256 .f32) : FVec F S384x256 .f32 := shapeCast S384x256 t shapeCasts_S384x256_S384x256

/-- The row maximum over all lanes, rounded up, in every lane. -/
def rowMax (mx : FVec F S384x128 .f32) (t : FVec F S384x256 .f32) : FVec F S384x128 .f32 :=
  shapeCast S384x128
    (broadcastTo S384x128
      (shapeCast S384x1
        (ceil (shapeCast S384x1
          (multiReduction .maximumf [1] S384
            (maximumf mx (maximumf (extractStridedSlice S384x128 ![0, 0] t slices_S384x256_o0_0_S384x128)
              (extractStridedSlice S384x128 ![0, 128] t slices_S384x256_o0_128_S384x128)))
            0xFF800000#32 reduces_S384x128_S384 (.inl rfl) rfl)
          shapeCasts_S384_S384x1))
        shapeCasts_S384x1_S384x1)
      broadcasts_S384x1_S384x128)
    shapeCasts_S384x128_S384x128

/-- The unnormalised probabilities of two tiles of keys. -/
def probs (s : FVec F S384x768 .f32) (mx : FVec F S384x128 .f32) : FVec F S384x768 .f32 :=
  exp2 (subf s (concatenate S384x768 1
    [⟨S384x128, mx⟩, ⟨S384x128, mx⟩, ⟨S384x128, mx⟩, ⟨S384x128, mx⟩, ⟨S384x128, mx⟩, ⟨S384x128, mx⟩]
    concatenates_S384x128_S384x128_S384x128_S384x128_S384x128_S384x128_S384x768_d1))

/-- The unnormalised probabilities of the text keys. -/
def probsTxt (s : FVec F S384x256 .f32) (mx : FVec F S384x128 .f32) : FVec F S384x256 .f32 :=
  exp2 (subf s (concatenate S384x256 1 [⟨S384x128, mx⟩, ⟨S384x128, mx⟩] concatenates_S384x128_S384x128_S384x256_d1))

/-- The running denominator at the start: zero. -/
def den0 : FVec F S384x128 .f32 :=
  shapeCast S384x128 (broadcast S384x128 (Scalar.ofBits .f32 0x00000000#32)) shapeCasts_S384x128_S384x128

/-- The running denominator after two tiles of keys, lane by lane. -/
def denStep (d : FVec F S384x128 .f32) (p : FVec F S384x768 .f32) : FVec F S384x128 .f32 :=
  shapeCast S384x128 (addf d
    (addf (addf (addf (addf (addf
      (extractStridedSlice S384x128 ![0, 0] p slices_S384x768_o0_0_S384x128)
      (extractStridedSlice S384x128 ![0, 128] p slices_S384x768_o0_128_S384x128))
      (extractStridedSlice S384x128 ![0, 256] p slices_S384x768_o0_256_S384x128))
      (extractStridedSlice S384x128 ![0, 384] p slices_S384x768_o0_384_S384x128))
      (extractStridedSlice S384x128 ![0, 512] p slices_S384x768_o0_512_S384x128))
      (extractStridedSlice S384x128 ![0, 640] p slices_S384x768_o0_640_S384x128)))
    shapeCasts_S384x128_S384x128

/-- The running denominator after the text keys. -/
def denStepTxt (d : FVec F S384x128 .f32) (p : FVec F S384x256 .f32) : FVec F S384x128 .f32 :=
  shapeCast S384x128 (addf d
    (addf (extractStridedSlice S384x128 ![0, 0] p slices_S384x256_o0_0_S384x128)
      (extractStridedSlice S384x128 ![0, 128] p slices_S384x256_o0_128_S384x128)))
    shapeCasts_S384x128_S384x128

/-- The product of the probabilities' codes with two tiles of values. -/
def pv (p : FVec F S384x768 .f32) (x y : Vec F S1x1x1x384x128 .fp8e4m3) : FVec F S384x128 .f32 :=
  matmul dot_S384x768_S768x128_S384x128_1_0_0_1_n_n none
    (truncf .fp8e4m3 (minimumf (broadcast S384x768 (Scalar.ofBits .f32 0x43E00000#32))
      (maximumf (broadcast S384x768 (Scalar.ofBits .f32 0x00000000#32))
        (mulf p (broadcast S384x768 (Scalar.ofBits .f32 0x43E00000#32))))) bitsLt_fp8e4m3_f32)
    (pair x y) (constant S384x128 .f32 0x00000000#32)

/-- The accumulated product after the first two tiles. -/
def acc0 (p : FVec F S384x768 .f32) (x y : Vec F S1x1x1x384x128 .fp8e4m3) : FVec F S384x128 .f32 :=
  shapeCast S384x128 (pv p x y) shapeCasts_S384x128_S384x128

/-- The accumulated product after two more tiles. -/
def accStep (a : FVec F S384x128 .f32) (p : FVec F S384x768 .f32) (x y : Vec F S1x1x1x384x128 .fp8e4m3) : FVec F S384x128 .f32 :=
  shapeCast S384x128 (addf a (pv p x y)) shapeCasts_S384x128_S384x128

/-- The product of the text probabilities' codes with the text values. -/
def pvTxt (p : FVec F S384x256 .f32) (v : Vec F S1x1x256x128 .fp8e4m3) : FVec F S384x128 .f32 :=
  matmul dot_S384x256_S256x128_S384x128_1_0_0_1_n_n none
    (truncf .fp8e4m3 (minimumf (broadcast S384x256 (Scalar.ofBits .f32 0x43E00000#32))
      (maximumf (broadcast S384x256 (Scalar.ofBits .f32 0x00000000#32))
        (mulf p (broadcast S384x256 (Scalar.ofBits .f32 0x43E00000#32))))) bitsLt_fp8e4m3_f32)
    (shapeCast S256x128 v shapeCasts_S1x1x256x128_S256x128) (constant S384x128 .f32 0x00000000#32)

/-- The denominator: the sum over all lanes, in every lane. -/
def den (d : FVec F S384x128 .f32) : FVec F S384x128 .f32 :=
  broadcastTo S384x128
    (shapeCast S384x1
      (shapeCast S384x1 (multiReduction .add [1] S384 d 0x00000000#32 reduces_S384x128_S384 (.inl rfl) rfl) shapeCasts_S384_S384x1)
      shapeCasts_S384x1_S384x1)
    broadcasts_S384x1_S384x128

/-- The attention result of the tile, by its rows of 6, 8 and 8. -/
def out (a at_ dn : FVec F S384x128 .f32) (vs vts gate : F .f32) (co : Vec F S1x1x1x128 .f32) : FVec F S6x8x8x128 .f32 :=
  shapeCast S6x8x8x128
    (addf
      (divf (mulf (addf (mulf a (broadcast S384x128 vs)) (mulf at_ (broadcast S384x128 vts)))
        (broadcast S384x128 (Scalar.ofBits .f32 0x3B124925#32))) dn)
      (broadcastTo S384x128 (mulf (broadcast S1x128 gate) (shapeCast S1x128 co shapeCasts_S1x1x1x128_S1x128)) broadcasts_S1x128_S384x128))
    shapeCasts_S384x128_S6x8x8x128

/-- The log-sum-exp of the tile, without the logarithm of the number of keys, in every lane, by its rows of 6, 8 and 8. -/
def lse (dn mx : FVec F S384x128 .f32) : FVec F S6x8x8x128 .f32 :=
  shapeCast S6x8x8x128
    (mulf (addf mx (divf (log dn) (log (broadcast S384x128 (Scalar.ofBits .f32 0x40000000#32)))))
      (broadcast S384x128 (Scalar.ofBits .f32 0x3F317218#32)))
    shapeCasts_S384x128_S6x8x8x128

/-- What one tile of queries is computed from: the codes and scales the body has loaded. -/
structure In (F : FTy → Type) where
  /-- the query codes -/ q : Vec F S1x1x1x384x128 .fp8e4m3
  /-- the query scale -/ qs : F .f32
  /-- the twelve tiles of key codes -/ k : Fin 12 → Vec F S1x1x1x384x128 .fp8e4m3
  /-- their scales -/ ks : Fin 12 → F .f32
  /-- the twelve tiles of value codes -/ v : Fin 12 → Vec F S1x1x1x384x128 .fp8e4m3
  /-- the text's length -/ len : BitVec 32
  /-- the text key codes -/ kt : Vec F S1x1x256x128 .fp8e4m3
  /-- their scale -/ kts : F .f32
  /-- the text value codes -/ vt : Vec F S1x1x256x128 .fp8e4m3
  /-- the value scale -/ vs : F .f32
  /-- the text value scale -/ vts : F .f32
  /-- the gate -/ gate : F .f32
  /-- the row of the coarse attention -/ co : Vec F S1x1x1x128 .f32

namespace In
variable (I : In F)

/-- The query scale with the softmax constants. -/
def cq : F .f32 := Scalar.mulf I.qs (Scalar.ofBits .f32 0x3E0293EE#32)
/-- The scores against the keys of tiles `2a` and `2a + 1`, in the order of the body's list. -/
def s (a b : Fin 12) : FVec F S384x768 .f32 := scores (mat I.q) I.cq (I.k a) (I.k b) (I.ks a) (I.ks b)
/-- The text scores. -/
def st : FVec F S384x256 .f32 := scoresTxt I.len (mat I.q) I.cq I.kt I.kts
/-- The running maximum after all image tiles. -/
def mx : FVec F S384x128 .f32 :=
  maxStep (maxStep (maxStep (maxStep (maxStep (maxStep max0 (I.s 0 1)) (I.s 2 3)) (I.s 4 5)) (I.s 6 7)) (I.s 8 9)) (I.s 10 11)
/-- The row maximum. -/
def m : FVec F S384x128 .f32 := rowMax I.mx I.st
/-- The probabilities of two tiles of keys. -/
def p (a b : Fin 12) : FVec F S384x768 .f32 := probs (kept (I.s a b)) I.m
/-- The probabilities of the text keys. -/
def pt : FVec F S384x256 .f32 := probsTxt (keptTxt I.st) I.m
/-- The running denominator after all keys. -/
def d : FVec F S384x128 .f32 :=
  denStepTxt (denStep (denStep (denStep (denStep (denStep (denStep den0 (I.p 0 1)) (I.p 2 3)) (I.p 4 5)) (I.p 6 7)) (I.p 8 9)) (I.p 10 11)) I.pt
/-- The accumulated product over all image tiles. -/
def a : FVec F S384x128 .f32 :=
  accStep (accStep (accStep (accStep (accStep (acc0 (I.p 0 1) (I.v 0) (I.v 1)) (I.p 2 3) (I.v 2) (I.v 3)) (I.p 4 5) (I.v 4) (I.v 5))
    (I.p 6 7) (I.v 6) (I.v 7)) (I.p 8 9) (I.v 8) (I.v 9)) (I.p 10 11) (I.v 10) (I.v 11)
/-- The denominator. -/
def dn : FVec F S384x128 .f32 := den I.d
/-- The attention result of the tile. -/
def outv : FVec F S6x8x8x128 .f32 := out I.a (pvTxt I.pt I.vt) I.dn I.vs I.vts I.gate I.co
/-- The log-sum-exp of the tile. -/
def lsev : FVec F S6x8x8x128 .f32 := lse I.dn I.m
end In

end Cert.KernelIdeal.Tile

end
-- ==== Proof.IdealReads.lean ====
/- Where the kernel body loads from at a grid point, as offsets that depend on the query tile (one of six) and the place in
   the list of selected tiles (one of twelve), and the values of the loads: what each tile of queries is computed from. -/
module

public import proofs.«01_k».proof.Proof.IdealFrame
public import proofs.«01_k».proof.Proof.IdealTile

@[expose] public section

noncomputable section

namespace Cert.KernelIdeal.Reads

open Idealize.ShloMosaic Idealize.ShloMosaic.TcCoe Cert.KernelIdeal Cert.KernelIdeal.Gen

variable {F : FTy → Type} [FloatOps F]

/-! ## Offsets -/

/-- The place of a tile number in the flattened selection. -/
def selOff (i : grid0.Coords) (b J : BitVec 32) : Fin 1 → Nat :=
  ![(Scalar.indexCast (Scalar.addi (Scalar.muli (Scalar.addi (Scalar.muli (Scalar.addi
      (Scalar.muli (BitVec.ofNat 32 (i 0).val) 5#32) (BitVec.ofNat 32 (i 1).val)) 96#32)
      (Scalar.addi (Scalar.muli (BitVec.ofNat 32 (i 2).val) 6#32) b)) 12#32) J)).toNat]

/-- The place of a query tile's scale. -/
def qsOff (i : grid0.Coords) (b : BitVec 32) : Fin 1 → Nat :=
  ![(Scalar.indexCast (Scalar.addi (Scalar.muli (Scalar.addi (Scalar.muli (BitVec.ofNat 32 (i 0).val) 96#32)
      (Scalar.addi (Scalar.muli (BitVec.ofNat 32 (i 2).val) 6#32) b)) 5#32) (BitVec.ofNat 32 (i 1).val))).toNat]

/-- The place of a query tile's coarse row. -/
def coOff (i : grid0.Coords) (b : BitVec 32) : Fin 4 → Nat :=
  ![0, 0, (Scalar.indexCast (Scalar.addi (Scalar.muli (BitVec.ofNat 32 (i 2).val) 6#32) b)).toNat, 0]

theorem selOff_inb (i : grid0.Coords) (b : Fin 6) (J : Fin 12) :
    ∀ a, (selOff i (BitVec.ofNat 32 b.val) (BitVec.ofNat 32 J.val)) a + S1.size a ≤ S11520.size a := by
  have h0 : (i 0).val < 2 := (i 0).isLt
  have h1 : (i 1).val < 5 := (i 1).isLt
  have h2 : (i 2).val < 16 := (i 2).isLt
  have hb := b.isLt
  have hJ := J.isLt
  intro a; fin_cases a
  simp [selOff, S1, S11520, Scalar.indexCast, Scalar.muli, Scalar.addi, IntOp.muli, IntOp.addi]
  generalize (i 0).val = x at h0 ⊢
  generalize (i 1).val = y at h1 ⊢
  generalize (i 2).val = z at h2 ⊢
  have e : (((x * 5 + y) * 96 + (z * 6 + b.val)) * 12 + J.val) % 4294967296 = ((x * 5 + y) * 96 + (z * 6 + b.val)) * 12 + J.val :=
    Nat.mod_eq_of_lt (by omega)
  omega

theorem qsOff_inb (i : grid0.Coords) (b : Fin 6) : ∀ a, (qsOff i (BitVec.ofNat 32 b.val)) a + S1.size a ≤ S960.size a := by
  have h0 : (i 0).val < 2 := (i 0).isLt
  have h1 : (i 1).val < 5 := (i 1).isLt
  have h2 : (i 2).val < 16 := (i 2).isLt
  have hb := b.isLt
  intro a; fin_cases a
  simp [qsOff, S1, S960, Scalar.indexCast, Scalar.muli, Scalar.addi, IntOp.muli, IntOp.addi]
  generalize (i 0).val = x at h0 ⊢
  generalize (i 1).val = y at h1 ⊢
  generalize (i 2).val = z at h2 ⊢
  have e : ((x * 96 + (z * 6 + b.val)) * 5 + y) % 4294967296 = (x * 96 + (z * 6 + b.val)) * 5 + y := Nat.mod_eq_of_lt (by omega)
  omega

theorem coOff_inb (i : grid0.Coords) (b : Fin 6) : ∀ a, (coOff i (BitVec.ofNat 32 b.val)) a + S1x1x1x128.size a ≤ S1x1x96x128.size a := by
  have h2 : (i 2).val < 16 := (i 2).isLt
  have hb := b.isLt
  intro a; fin_cases a <;>
  simp [coOff, S1x1x1x128, S1x1x96x128, Scalar.indexCast, Scalar.muli, Scalar.addi, IntOp.muli, IntOp.addi]
  generalize (i 2).val = z at h2 ⊢
  have e : (z * 6 + b.val) % 4294967296 = z * 6 + b.val := Nat.mod_eq_of_lt (by omega)
  omega

/-- The place of a query tile's codes in the window's block. -/
theorem qOff_inb (b : Fin 6) : ∀ a, (![0, b.val, 0, 0, 0] : Fin 5 → Nat) a + S1x1x1x384x128.size a ≤ S1x6x1x384x128.size a := by
  have hb := b.isLt
  intro a; fin_cases a <;> simp [S1x1x1x384x128, S1x6x1x384x128] <;> omega

/-! ## Loads -/

variable (m : (ℓ : Loc nD τ sig) → Buf (Elt F) ℓ)
variable {m} (hH : Hyps m) (c : Dev nD) (t : Fin cfg0.N)

/-- The number of the `J`-th tile that the `b`-th query tile of the grid point attends to. -/
def word (b : Fin 6) (J : Fin 12) : BitVec 32 :=
  (ms0_0 t).view.readAt (Elt F)
    (Rect.unit (s := S11520) (selOff (grid0.coords t) (BitVec.ofNat 32 b.val) (BitVec.ofNat 32 J.val)) S1.size (selOff_inb _ b J)).toLoadRect
    ((hs0_0 t).unread (iblk m c 0 t)) (Shape.Idx.first (numel1_S1.symm ▸ Nat.one_pos))

include hH in
theorem word_lt (b : Fin 6) (J : Fin 12) : (word (m := m) c t b J).toNat < 96 := Hyps.word hH c t _ _

/-- What the `b`-th query tile of the grid point is computed from. -/
def ins (b : Fin 6) : Tile.In F where
  q := (ms0_8 t).view.readAt (Elt F) (Rect.unit (s := S1x6x1x384x128) ![0, b.val, 0, 0, 0] S1x1x1x384x128.size (qOff_inb b)).toLoadRect
    ((hs0_8 t).unread (iblk m c 8 t))
  qs := (ms0_1 t).view.readAt (Elt F)
    (Rect.unit (s := S960) (qsOff (grid0.coords t) (BitVec.ofNat 32 b.val)) S1.size (qsOff_inb _ b)).toLoadRect
    ((hs0_1 t).unread (iblk m c 1 t)) (Shape.Idx.first (numel1_S1.symm ▸ Nat.one_pos))
  k J := (ms0_9 t).view.readAt (Elt F)
    (Rect.unit (s := S1x96x1x384x128) ![0, (Scalar.indexCast (word (m := m) c t b J)).toNat, 0, 0, 0] S1x1x1x384x128.size
      (tile_inb _ (word_lt hH c t b J))).toLoadRect ((hs0_9 t).unread (iblk m c 9 t))
  ks J := (ms0_2 t).view.readAt (Elt F)
    (Rect.unit (s := S960) (k0_off6 (grid0.coords t) (word (m := m) c t b J)) S1.size (scale_inb _ _ (word_lt hH c t b J))).toLoadRect
    ((hs0_2 t).unread (iblk m c 2 t)) (Shape.Idx.first (numel1_S1.symm ▸ Nat.one_pos))
  v J := (ms0_10 t).view.readAt (Elt F)
    (Rect.unit (s := S1x96x1x384x128) ![0, (Scalar.indexCast (word (m := m) c t b J)).toNat, 0, 0, 0] S1x1x1x384x128.size
      (tile_inb _ (word_lt hH c t b J))).toLoadRect ((hs0_10 t).unread (iblk m c 10 t))
  len := (ms0_6 t).view.readAt (Elt F)
    (Rect.unit (s := S2) (k0_off1 (grid0.coords t)) S1.size (k0_off1_inb _)).toLoadRect
    ((hs0_6 t).unread (iblk m c 6 t)) (Shape.Idx.first (numel1_S1.symm ▸ Nat.one_pos))
  kt := (ms0_11 t).view.readAt (Elt F) (Rect.unit (s := S1x1x256x128) ![0, 0, 0, 0] S1x1x256x128.size inb_S1x1x256x128_S1x1x256x128_0_0_0_0).toLoadRect
    ((hs0_11 t).unread (iblk m c 11 t))
  kts := (ms0_4 t).view.readAt (Elt F)
    (Rect.unit (s := S10) (k0_off28 (grid0.coords t)) S1.size (k0_off28_inb _)).toLoadRect
    ((hs0_4 t).unread (iblk m c 4 t)) (Shape.Idx.first (numel1_S1.symm ▸ Nat.one_pos))
  vt := (ms0_12 t).view.readAt (Elt F) (Rect.unit (s := S1x1x256x128) ![0, 0, 0, 0] S1x1x256x128.size inb_S1x1x256x128_S1x1x256x128_0_0_0_0).toLoadRect
    ((hs0_12 t).unread (iblk m c 12 t))
  vs := (ms0_3 t).view.readAt (Elt F)
    (Rect.unit (s := S10) (k0_off28 (grid0.coords t)) S1.size (k0_off28_inb _)).toLoadRect
    ((hs0_3 t).unread (iblk m c 3 t)) (Shape.Idx.first (numel1_S1.symm ▸ Nat.one_pos))
  vts := (ms0_5 t).view.readAt (Elt F)
    (Rect.unit (s := S10) (k0_off28 (grid0.coords t)) S1.size (k0_off28_inb _)).toLoadRect
    ((hs0_5 t).unread (iblk m c 5 t)) (Shape.Idx.first (numel1_S1.symm ▸ Nat.one_pos))
  gate := (ms0_7 t).view.readAt (Elt F)
    (Rect.unit (s := S5) (k0_off40 (grid0.coords t)) S1.size (k0_off40_inb _)).toLoadRect
    ((hs0_7 t).unread (iblk m c 7 t)) (Shape.Idx.first (numel1_S1.symm ▸ Nat.one_pos))
  co := (ms0_13 t).view.readAt (Elt F)
    (Rect.unit (s := S1x1x96x128) (coOff (grid0.coords t) (BitVec.ofNat 32 b.val)) S1x1x1x128.size (coOff_inb _ b)).toLoadRect
    ((hs0_13 t).unread (iblk m c 13 t))

end Cert.KernelIdeal.Reads

end
-- ==== Proof.IdealPieces.lean ====
/- What the kernel body stores at a grid point, piece by piece, as the tile functions at what the body has loaded. -/
module

public import proofs.«01_k».proof.Proof.IdealReads
public import Idealize.ShloMosaic.Lib.Pipeline.ValueKit.Acc
public import Idealize.ShloMosaic.Lib.Pipeline.ReadBack
public import Idealize.ShloMosaic.Lib.Pipeline.Regions

@[expose] public section

noncomputable section

namespace Cert.KernelIdeal.Reads

open Idealize.ShloMosaic Idealize.ShloMosaic.TcCoe Cert.KernelIdeal Cert.KernelIdeal.Gen

variable {F : FTy → Type} [FloatOps F]
variable {m : (ℓ : Loc nD τ sig) → Buf (Elt F) ℓ} (hH : Hyps m) (c : Dev nD) (t : Fin cfg0.N)

theorem slab_inb (h : Fin 8) : ∀ a, (![0, h.val, 0, 0] : Fin 4 → Nat) a + S6x1x8x128.size a ≤ S6x8x8x128.size a := by
  have := h.isLt
  intro a; fin_cases a <;> simp [S6x1x8x128, S6x8x8x128] <;> omega

theorem slab_slices (h : Fin 8) : S6x8x8x128.Slices ![0, h.val, 0, 0] S6x1x8x128 := by
  decide +revert

/-- The rows of a tile's result that go to one group of eight rows of each slab. -/
def group (x : FVec F S6x8x8x128 .f32) (h : Fin 8) : FVec F S6x8x128 .f32 :=
  shapeCast S6x8x128 (extractStridedSlice S6x1x8x128 ![0, h.val, 0, 0] x (slab_slices h)) shapeCasts_S6x1x8x128_S6x8x128

theorem out_inb (b : Fin 6) (h : Fin 8) :
    ∀ a, (![0, 0, 0, h.val * 48 + b.val * 8, 0] : Fin 5 → Nat) a + S1x1x6x8x128.size a ≤ S1x1x6x384x128.size a := by
  have := h.isLt
  have := b.isLt
  intro a; fin_cases a <;> simp [S1x1x6x8x128, S1x1x6x384x128] <;> omega

/-- The store of one group of rows of the attention result. -/
def outPiece (b : Fin 6) (h : Fin 8) : View.Piece (Elt F) S1x1x6x384x128 .f32 :=
  ⟨Rect.unit ![0, 0, 0, h.val * 48 + b.val * 8, 0] S1x1x6x8x128.size (out_inb b h),
    shapeCast S1x1x6x8x128 (group (ins hH c t b).outv h) shapeCasts_S6x8x128_S1x1x6x8x128⟩

/-- The stores of the attention result, the last first. -/
def outPieces : List (View.Piece (Elt F) S1x1x6x384x128 .f32) :=
  [5, 4, 3, 2, 1, 0].flatMap fun b => [7, 6, 5, 4, 3, 2, 1, 0].map fun h => outPiece hH c t b h

set_option maxHeartbeats 4000000 in
set_option maxRecDepth 131072 in
/-- The attention results after the body: those stores. -/
theorem out_eq : (outsAt0 m hH c t).1 = View.canon (outPieces hH c t) := by
  unfold outsAt0 out0_A_14
  frame_open
  simp (disch := decide) only [View.read_writes_junk_eq_canon, ↓View.readCov_skip, View.readCov_cons_toLoadRect]
  chain_rfl

theorem lse_inb (b : Fin 6) (h : Fin 8) :
    ∀ a, (![0, h.val * 48 + b.val * 8, 0] : Fin 3 → Nat) a + S6x8x128.size a ≤ S6x384x128.size a := by
  have := h.isLt
  have := b.isLt
  intro a; fin_cases a <;> simp [S6x8x128, S6x384x128] <;> omega

/-- The store of one group of rows of the log-sum-exp into the scratch. -/
def lsePiece (b : Fin 6) (h : Fin 8) : View.Piece (Elt F) S6x384x128 .f32 :=
  ⟨Rect.unit ![0, h.val * 48 + b.val * 8, 0] S6x8x128.size (lse_inb b h),
    shapeCast S6x8x128 (group (ins hH c t b).lsev h) shapeCasts_S6x8x128_S6x8x128⟩

/-- The stores of the log-sum-exp into the scratch, the last first. -/
def lsePieces : List (View.Piece (Elt F) S6x384x128 .f32) :=
  [5, 4, 3, 2, 1, 0].flatMap fun b => [7, 6, 5, 4, 3, 2, 1, 0].map fun h => lsePiece hH c t b h

theorem row_inb (f : Fin 6) : ∀ a, (![0, 0, f.val, 0, 0, 0] : Fin 6 → Nat) a + S1x1x1x1x1x384.size a ≤ S1x1x6x1x1x384.size a := by
  have := f.isLt
  intro a; fin_cases a <;> simp [S1x1x1x1x1x384, S1x1x6x1x1x384] <;> omega

theorem scr_inb (f : Fin 6) : ∀ a, (![f.val, 0, 0] : Fin 3 → Nat) a + S1x384x128.size a ≤ S6x384x128.size a := by
  have := f.isLt
  intro a; fin_cases a <;> simp [S1x384x128, S6x384x128] <;> omega

/-- The logarithm of the number of keys. -/
def logKeys (len : BitVec 32) : FVec F S1x384 .f32 :=
  log (broadcast S1x384 (Scalar.sitofp .f32 (Scalar.addi 4608#32 len)))

/-- One lane of the log-sum-exp of a slab, as a row, less the logarithm of the number of keys. -/
def lseRow (x : Vec F S1x384x128 .f32) (n : FVec F S1x384 .f32) : FVec F S1x1x1x1x1x384 .f32 :=
  shapeCast S1x1x1x1x1x384
    (subf (extractStridedSlice S1x384 ![0, 0]
        (transpose S128x384 [1, 0] (shapeCast S384x128 x shapeCasts_S1x384x128_S384x128) transposes_S384x128_p1_0_S128x384)
        slices_S128x384_o0_0_S1x384) n)
    shapeCasts_S1x384_S1x1x1x1x1x384

/-- The store of one slab's row of the log-sum-exp. -/
def rowPiece (f : Fin 6) : View.Piece (Elt F) S1x1x6x1x1x384 .f32 :=
  ⟨Rect.unit ![0, 0, f.val, 0, 0, 0] S1x1x1x1x1x384.size (row_inb f),
    lseRow (scM0_4.view.readCov (lsePieces hH c t) (Rect.unit (s := S6x384x128) ![f.val, 0, 0] S1x384x128.size (scr_inb f)).toLoadRect)
      (logKeys (ins hH c t 0).len)⟩

/-- The stores of the log-sum-exp, the last first. -/
def rowPieces : List (View.Piece (Elt F) S1x1x6x1x1x384 .f32) := [5, 4, 3, 2, 1, 0].map fun f => rowPiece hH c t f

set_option maxHeartbeats 4000000 in
set_option maxRecDepth 131072 in
/-- The log-sum-exps after the body: those stores. -/
theorem lse_eq : (outsAt0 m hH c t).2 = View.canon (rowPieces hH c t) := by
  unfold outsAt0 out0_A_15
  frame_open
  simp (disch := decide) only [View.read_writes_junk_eq_canon, ↓View.readCov_skip, View.readCov_cons_toLoadRect]
  chain_rfl

end Cert.KernelIdeal.Reads

end
-- ==== Proof.Row.lean ====
/- One row of the attention, as plain mathematics over the extended reals: the scores of a query against twelve tiles of
   keys and against the text keys, the row maximum rounded up, the quantised probabilities, and the two results. -/
module

public import Idealize.ShloMosaic.Lib.Pointwise

@[expose] public section

noncomputable section

namespace Cert.Fine

open Idealize.ShloMosaic

/-- Minus infinity, as the programs spell it. -/
def ninf : EReal := Ideal.ofBits .f32 0xFF800000#32
/-- The softmax scale times the base-two logarithm of e, as the programs spell it. -/
def scale : EReal := Ideal.ofBits .f32 0x3E0293EE#32
/-- The largest code, 448. -/
def top : EReal := Ideal.ofBits .f32 0x43E00000#32

/-- The scaled product of a query with a key. -/
def score (q k : Fin 128 → EReal) (qs ks : EReal) : EReal := (∑ d, q d * k d) * qs * ks * scale

/-- The score of text key `t`: minus infinity from the text's length on. -/
def masked (len : BitVec 32) (t : Fin 256) (x : EReal) : EReal :=
  Scalar.select (IntOp.cmpi .slt (BitVec.ofNat 32 t.val) len) x ninf

/-- The code of a probability: times 448, clipped to [0, 448]. -/
def code (p : EReal) : EReal := min top (max 0 (p * top))

/-- What one row of the result is computed from. -/
@[ext] structure Row where
  /-- the query -/ q : Fin 128 → EReal
  /-- its scale -/ qs : EReal
  /-- the keys, by tile -/ k : Fin 12 → Fin 384 → Fin 128 → EReal
  /-- their scales -/ ks : Fin 12 → EReal
  /-- the values, by tile -/ v : Fin 12 → Fin 384 → Fin 128 → EReal
  /-- the text's length -/ len : BitVec 32
  /-- the text keys -/ kt : Fin 256 → Fin 128 → EReal
  /-- their scale -/ kts : EReal
  /-- the text values -/ vt : Fin 256 → Fin 128 → EReal
  /-- the scale of the values -/ vs : EReal
  /-- the scale of the text values -/ vts : EReal
  /-- the gate -/ gate : EReal
  /-- the row of the coarse attention -/ co : Fin 128 → EReal

namespace Row
variable (R : Row)

/-- The score of key `t` of tile `j`. -/
def s (j : Fin 12) (t : Fin 384) : EReal := score R.q (R.k j t) R.qs (R.ks j)
/-- The score of text key `t`. -/
def st (t : Fin 256) : EReal := masked R.len t (score R.q (R.kt t) R.qs R.kts)
/-- The largest score. -/
def mx : EReal :=
  max (Finset.univ.fold max ninf fun j => Finset.univ.fold max ninf fun t => R.s j t) (Finset.univ.fold max ninf fun t => R.st t)
/-- The largest score, rounded up. -/
def m : EReal := FloatOps.ceil (F := Ideal) (φ := .f32) R.mx
/-- The unnormalised probability of key `t` of tile `j`. -/
def p (j : Fin 12) (t : Fin 384) : EReal := FloatOps.exp2 (F := Ideal) (φ := .f32) (R.s j t - R.m)
/-- The unnormalised probability of text key `t`. -/
def pt (t : Fin 256) : EReal := FloatOps.exp2 (F := Ideal) (φ := .f32) (R.st t - R.m)
/-- The denominator. -/
def den : EReal := (∑ j, ∑ t, R.p j t) + ∑ t, R.pt t
/-- The product of the codes with the values. -/
def acc (l : Fin 128) : EReal := ∑ j, ∑ t, code (R.p j t) * R.v j t l
/-- The product of the text codes with the text values. -/
def accTxt (l : Fin 128) : EReal := ∑ t, code (R.pt t) * R.vt t l
/-- The attention result, with the gated coarse row. -/
def out (l : Fin 128) : EReal :=
  Ideal.div ((R.acc l * R.vs + R.accTxt l * R.vts) * Ideal.ofBits .f32 0x3B124925#32) R.den + R.gate * R.co l
/-- The log-sum-exp, before the logarithm of the number of keys is taken off. -/
def lse0 : EReal :=
  (R.m + Ideal.div (Ideal.log R.den) (Ideal.log (Ideal.ofBits .f32 0x40000000#32))) * Ideal.ofBits .f32 0x3F317218#32
/-- The logarithm of the number of keys. -/
def logN : EReal := Ideal.log (FloatOps.sitofp (F := Ideal) .f32 (IntOp.addi 4608#32 R.len))
/-- The log-sum-exp less the logarithm of the number of keys. -/
def lse : EReal := R.lse0 - R.logN

end Row

end Cert.Fine

end
-- ==== Proof.IdealRow.lean ====
/- The kernel's tile functions over the extended reals, read at one row: they are the plain mathematics of the row. -/
module

public import proofs.«01_k».proof.Proof.IdealTile
public import proofs.«01_k».proof.Proof.Row

@[expose] public section

set_option maxRecDepth 16384

noncomputable section

namespace Cert.KernelIdeal.Tile

open Idealize.ShloMosaic Idealize.SL.Sem Cert.KernelIdeal Cert.KernelIdeal.Gen

/-- A position in two tiles of keys: in the first. -/
def lo (t : Fin 384) : Fin 768 := ⟨t.val, by omega⟩
/-- A position in two tiles of keys: in the second. -/
def hi (t : Fin 384) : Fin 768 := ⟨384 + t.val, by omega⟩
/-- Lane `l` of the `i`-th of six groups. -/
def lane6 (i : Fin 6) (l : Fin 128) : Fin 768 := ⟨i.val * 128 + l.val, by omega⟩
/-- Lane `l` of the `i`-th of two groups. -/
def lane2 (i : Fin 2) (l : Fin 128) : Fin 256 := ⟨i.val * 128 + l.val, by omega⟩

theorem forall_lanes6 (P : Fin 768 → Prop) : (∀ l i, P (lane6 i l)) ↔ (∀ t, P (lo t)) ∧ ∀ t, P (hi t) := by
  constructor
  · refine fun h => ⟨fun t => ?_, fun t => ?_⟩
    · have := h ⟨t.val % 128, by omega⟩ ⟨t.val / 128, by omega⟩
      rwa [show lane6 ⟨t.val / 128, by omega⟩ ⟨t.val % 128, by omega⟩ = lo t from Fin.ext (by simp only [lane6, lo]; omega)] at this
    · have := h ⟨(384 + t.val) % 128, by omega⟩ ⟨(384 + t.val) / 128, by omega⟩
      rwa [show lane6 ⟨(384 + t.val) / 128, by omega⟩ ⟨(384 + t.val) % 128, by omega⟩ = hi t from Fin.ext (by simp only [lane6, hi]; omega)] at this
  · rintro ⟨h₁, h₂⟩ l i
    by_cases c : i.val * 128 + l.val < 384
    · exact h₁ ⟨i.val * 128 + l.val, c⟩
    · have := h₂ ⟨i.val * 128 + l.val - 384, by omega⟩
      rwa [show hi ⟨i.val * 128 + l.val - 384, by omega⟩ = lane6 i l from Fin.ext (by simp only [lane6, hi]; omega)] at this

theorem forall_lanes2 (P : Fin 256 → Prop) : (∀ l i, P (lane2 i l)) ↔ ∀ t, P t := by
  constructor
  · intro h t
    have := h ⟨t.val % 128, by omega⟩ ⟨t.val / 128, by omega⟩
    rwa [show lane2 ⟨t.val / 128, by omega⟩ ⟨t.val % 128, by omega⟩ = t from Fin.ext (by simp only [lane2]; omega)] at this
  · exact fun h l i => h _

theorem sum_lanes6 (f : Fin 768 → EReal) : ∑ l, ∑ i, f (lane6 i l) = (∑ t, f (lo t)) + ∑ t, f (hi t) := by
  rw [Finset.sum_comm]
  exact (Fin.sum_univ_tiles 6 128 (by norm_num) f).symm.trans (Fin.sum_univ_two_halves 384 384 (by norm_num) f)

theorem sum_lanes2 (f : Fin 256 → EReal) : ∑ l, ∑ i, f (lane2 i l) = ∑ t, f t := by
  rw [Finset.sum_comm, Fin.sum_univ_tiles 2 128 (by norm_num) f]
  rfl

theorem score_lo (q : FVec Ideal S384x128 .fp8e4m3) (cq : EReal) (x y : Vec Ideal S1x1x1x384x128 .fp8e4m3) (sx sy : EReal)
    (r t : Fin 384) :
    scores q cq x y sx sy (ix2 r (lo t)) = (∑ d, q (ix2 r d) * x (ix5 0 0 0 t d)) * (cq * sx) := by
  unfold lo
  pointwise [scores, pair, mat]

theorem score_hi (q : FVec Ideal S384x128 .fp8e4m3) (cq : EReal) (x y : Vec Ideal S1x1x1x384x128 .fp8e4m3) (sx sy : EReal)
    (r t : Fin 384) :
    scores q cq x y sx sy (ix2 r (hi t)) = (∑ d, q (ix2 r d) * y (ix5 0 0 0 t d)) * (cq * sy) := by
  unfold hi
  pointwise [scores, pair, mat]

theorem kept_apply (t : FVec Ideal S384x768 .f32) : kept t = t := by
  funext j
  pointwise [kept]

theorem keptTxt_apply (t : FVec Ideal S384x256 .f32) : keptTxt t = t := by
  funext j
  pointwise [keptTxt]

theorem max0_apply (r : Fin 384) (l : Fin 128) : max0 (F := Ideal) (ix2 r l) = Fine.ninf := by
  unfold Fine.ninf
  pointwise [max0]

theorem maxStep_le (mx : FVec Ideal S384x128 .f32) (t : FVec Ideal S384x768 .f32) (r : Fin 384) (l : Fin 128) (x : EReal) :
    maxStep mx t (ix2 r l) ≤ x ↔ mx (ix2 r l) ≤ x ∧ ∀ i, t (ix2 r (lane6 i l)) ≤ x := by
  unfold lane6
  pointwise [maxStep]
  simp only [max_le_iff, Fin.forall_fin_succ]
  tauto

theorem scoresTxt_apply (len : BitVec 32) (q : FVec Ideal S384x128 .fp8e4m3) (cq : EReal) (kt : Vec Ideal S1x1x256x128 .fp8e4m3)
    (st : EReal) (r : Fin 384) (t : Fin 256) :
    scoresTxt len q cq kt st (ix2 r t) = Fine.masked len t ((∑ d, q (ix2 r d) * kt (ix4 0 0 t d)) * (cq * st)) := by
  unfold Fine.masked Fine.ninf
  pointwise [scoresTxt]

theorem rowMax_apply (mx : FVec Ideal S384x128 .f32) (t : FVec Ideal S384x256 .f32) (r : Fin 384) (l : Fin 128) :
    rowMax mx t (ix2 r l) = FloatOps.ceil (F := Ideal) (φ := .f32)
      (Finset.univ.fold max Fine.ninf fun l => max (mx (ix2 r l)) (max (t (ix2 r (lane2 0 l))) (t (ix2 r (lane2 1 l))))) := by
  unfold Fine.ninf lane2
  pointwise [rowMax]

theorem probs_apply (s : FVec Ideal S384x768 .f32) (mx : FVec Ideal S384x128 .f32) (m : EReal) (r : Fin 384) (u : Fin 768)
    (h : ∀ l, mx (ix2 r l) = m) :
    probs s mx (ix2 r u) = FloatOps.exp2 (F := Ideal) (φ := .f32) (s (ix2 r u) - m) := by
  pointwise [probs]
  simp only [h, dite_eq_ite, ite_self]

theorem probsTxt_apply (s : FVec Ideal S384x256 .f32) (mx : FVec Ideal S384x128 .f32) (m : EReal) (r : Fin 384) (u : Fin 256)
    (h : ∀ l, mx (ix2 r l) = m) :
    probsTxt s mx (ix2 r u) = FloatOps.exp2 (F := Ideal) (φ := .f32) (s (ix2 r u) - m) := by
  pointwise [probsTxt]
  simp only [h, dite_eq_ite, ite_self]

theorem den0_apply (r : Fin 384) (l : Fin 128) : den0 (F := Ideal) (ix2 r l) = 0 := by
  pointwise [den0]

theorem denStep_apply (d : FVec Ideal S384x128 .f32) (p : FVec Ideal S384x768 .f32) (r : Fin 384) (l : Fin 128) :
    denStep d p (ix2 r l) = d (ix2 r l) + ∑ i, p (ix2 r (lane6 i l)) := by
  unfold lane6
  pointwise [denStep]
  simp only [Fin.sum_univ_six]
  simp

theorem denStepTxt_apply (d : FVec Ideal S384x128 .f32) (p : FVec Ideal S384x256 .f32) (r : Fin 384) (l : Fin 128) :
    denStepTxt d p (ix2 r l) = d (ix2 r l) + ∑ i, p (ix2 r (lane2 i l)) := by
  unfold lane2
  pointwise [denStepTxt]
  simp only [Fin.sum_univ_two]
  simp

theorem den_apply (d : FVec Ideal S384x128 .f32) (r : Fin 384) (l : Fin 128) : den d (ix2 r l) = ∑ l, d (ix2 r l) := by
  pointwise [den]

theorem pv_apply (p : FVec Ideal S384x768 .f32) (x y : Vec Ideal S1x1x1x384x128 .fp8e4m3) (r : Fin 384) (l : Fin 128) :
    pv p x y (ix2 r l) = (∑ t, Fine.code (p (ix2 r (lo t))) * x (ix5 0 0 0 t l)) + ∑ t, Fine.code (p (ix2 r (hi t))) * y (ix5 0 0 0 t l) := by
  unfold Fine.code Fine.top lo hi
  pointwise [pv, pair, mat]

theorem pvTxt_apply (p : FVec Ideal S384x256 .f32) (v : Vec Ideal S1x1x256x128 .fp8e4m3) (r : Fin 384) (l : Fin 128) :
    pvTxt p v (ix2 r l) = ∑ t, Fine.code (p (ix2 r t)) * v (ix4 0 0 t l) := by
  unfold Fine.code Fine.top
  pointwise [pvTxt]

theorem acc0_apply (p : FVec Ideal S384x768 .f32) (x y : Vec Ideal S1x1x1x384x128 .fp8e4m3) : acc0 p x y = pv p x y := by
  unfold acc0
  generalize pv p x y = z
  funext j
  pointwise

theorem accStep_apply (a : FVec Ideal S384x128 .f32) (p : FVec Ideal S384x768 .f32) (x y : Vec Ideal S1x1x1x384x128 .fp8e4m3)
    (r : Fin 384) (l : Fin 128) : accStep a p x y (ix2 r l) = a (ix2 r l) + pv p x y (ix2 r l) := by
  unfold accStep
  generalize pv p x y = z
  pointwise

theorem out_apply (a at_ dn : FVec Ideal S384x128 .f32) (vs vts gate : EReal) (co : Vec Ideal S1x1x1x128 .f32)
    (x : Fin 6) (y z : Fin 8) (l : Fin 128) (r : Fin 384) (hr : r = ⟨x.val * 64 + y.val * 8 + z.val, by omega⟩) :
    out a at_ dn vs vts gate co (ix4 x y z l)
      = Ideal.div ((a (ix2 r l) * vs + at_ (ix2 r l) * vts) * Ideal.ofBits .f32 0x3B124925#32) (dn (ix2 r l)) + gate * co (ix4 0 0 0 l) := by
  subst hr
  pointwise [out]

theorem lse_apply (dn mx : FVec Ideal S384x128 .f32)
    (x : Fin 6) (y z : Fin 8) (l : Fin 128) (r : Fin 384) (hr : r = ⟨x.val * 64 + y.val * 8 + z.val, by omega⟩) :
    lse dn mx (ix4 x y z l)
      = (mx (ix2 r l) + Ideal.div (Ideal.log (dn (ix2 r l))) (Ideal.log (Ideal.ofBits .f32 0x40000000#32))) * Ideal.ofBits .f32 0x3F317218#32 := by
  subst hr
  pointwise [lse]

namespace In
variable (I : In Ideal)

/-- The data of row `r` of the tile. -/
def row (r : Fin 384) : Fine.Row where
  q := fun d => I.q (ix5 0 0 0 r d)
  qs := I.qs
  k := fun j t d => I.k j (ix5 0 0 0 t d)
  ks := I.ks
  v := fun j t d => I.v j (ix5 0 0 0 t d)
  len := I.len
  kt := fun t d => I.kt (ix4 0 0 t d)
  kts := I.kts
  vt := fun t d => I.vt (ix4 0 0 t d)
  vs := I.vs
  vts := I.vts
  gate := I.gate
  co := fun d => I.co (ix4 0 0 0 d)

variable (r : Fin 384)

theorem mat_apply (x : Vec Ideal S1x1x1x384x128 .fp8e4m3) (d : Fin 128) : mat x (ix2 r d) = x (ix5 0 0 0 r d) := by
  pointwise [mat]

theorem scale_comm (a qs ks : EReal) : a * (Scalar.mulf (F := Ideal) (φ := .f32) qs (Scalar.ofBits .f32 0x3E0293EE#32) * ks) = a * qs * ks * Fine.scale := by
  show a * (qs * Fine.scale * ks) = _
  rw [mul_right_comm qs, ← mul_assoc, ← mul_assoc]

theorem s_lo (a b : Fin 12) (t : Fin 384) : I.s a b (ix2 r (lo t)) = (I.row r).s a t := by
  unfold s Fine.Row.s Fine.score row
  rw [score_lo, cq, scale_comm]
  simp only [mat_apply]

theorem s_hi (a b : Fin 12) (t : Fin 384) : I.s a b (ix2 r (hi t)) = (I.row r).s b t := by
  unfold s Fine.Row.s Fine.score row
  rw [score_hi, cq, scale_comm]
  simp only [mat_apply]

theorem st_apply (t : Fin 256) : I.st (ix2 r t) = (I.row r).st t := by
  unfold st Fine.Row.st Fine.score row
  rw [scoresTxt_apply, cq, scale_comm]
  simp only [mat_apply]

/-- A claim about twelve tiles, tile by tile. -/
theorem forall_twelve (P : Fin 12 → Prop) :
    (∀ j, P j) ↔ P 0 ∧ P 1 ∧ P 2 ∧ P 3 ∧ P 4 ∧ P 5 ∧ P 6 ∧ P 7 ∧ P 8 ∧ P 9 ∧ P 10 ∧ P 11 := by
  simp only [Fin.forall_fin_succ, IsEmpty.forall_iff, and_true]
  rfl

theorem mx_le (x : EReal) : (∀ l, I.mx (ix2 r l) ≤ x) ↔ Fine.ninf ≤ x ∧ ∀ j t, (I.row r).s j t ≤ x := by
  unfold mx
  have e := fun a b => forall_lanes6 fun u => I.s a b (ix2 r u) ≤ x
  simp only [maxStep_le, max0_apply, forall_and, e]
  simp only [s_lo, s_hi, forall_twelve, forall_const]
  tauto

theorem m_apply (l : Fin 128) : I.m (ix2 r l) = (I.row r).m := by
  unfold m Fine.Row.m
  rw [rowMax_apply]
  refine congrArg _ (eq_of_forall_ge_iff fun x => ?_)
  unfold Fine.Row.mx
  have h2 := forall_lanes2 fun u => I.st (ix2 r u) ≤ x
  simp only [Fin.forall_fin_two, st_apply, forall_and] at h2
  simp only [Finset.fold_max_le, max_le_iff, Finset.mem_univ, true_imp_iff, forall_and, mx_le, st_apply, h2]
  tauto

theorem p_lo (a b : Fin 12) (t : Fin 384) : I.p a b (ix2 r (lo t)) = (I.row r).p a t := by
  unfold p Fine.Row.p
  rw [kept_apply, probs_apply _ _ _ _ _ (I.m_apply r), s_lo]

theorem p_hi (a b : Fin 12) (t : Fin 384) : I.p a b (ix2 r (hi t)) = (I.row r).p b t := by
  unfold p Fine.Row.p
  rw [kept_apply, probs_apply _ _ _ _ _ (I.m_apply r), s_hi]

theorem pt_apply (t : Fin 256) : I.pt (ix2 r t) = (I.row r).pt t := by
  unfold pt Fine.Row.pt
  rw [keptTxt_apply, probsTxt_apply _ _ _ _ _ (I.m_apply r), st_apply]

/-- A sum over twelve tiles, in the order the body takes them. -/
theorem sum_twelve (f : Fin 12 → EReal) :
    ∑ j, f j = (((((f 0 + f 1) + (f 2 + f 3)) + (f 4 + f 5)) + (f 6 + f 7)) + (f 8 + f 9)) + (f 10 + f 11) := by
  simp only [Fin.sum_univ_succ, Finset.univ_eq_empty, Finset.sum_empty, add_zero, add_assoc]
  rfl

theorem dn_apply (l : Fin 128) : I.dn (ix2 r l) = (I.row r).den := by
  unfold dn d Fine.Row.den
  rw [den_apply, sum_twelve]
  have e := fun a b => sum_lanes6 fun u => I.p a b (ix2 r u)
  have e2 := sum_lanes2 fun u => I.pt (ix2 r u)
  simp only [denStepTxt_apply, denStep_apply, den0_apply, zero_add, Finset.sum_add_distrib, e, e2]
  simp only [p_lo, p_hi, pt_apply]

theorem a_apply (l : Fin 128) : I.a (ix2 r l) = (I.row r).acc l := by
  unfold a Fine.Row.acc
  rw [sum_twelve]
  simp only [accStep_apply, acc0_apply, pv_apply, p_lo, p_hi]
  rfl

theorem pvTxt_row (l : Fin 128) : pvTxt I.pt I.vt (ix2 r l) = (I.row r).accTxt l := by
  unfold Fine.Row.accTxt
  rw [pvTxt_apply]
  simp only [pt_apply]
  rfl

variable (x : Fin 6) (y z : Fin 8) (hr : r = ⟨x.val * 64 + y.val * 8 + z.val, by omega⟩)
include hr

theorem outv_apply (l : Fin 128) : I.outv (ix4 x y z l) = (I.row r).out l := by
  unfold outv Fine.Row.out
  rw [out_apply _ _ _ _ _ _ _ x y z l r hr, a_apply, pvTxt_row, dn_apply]
  rfl

theorem lsev_apply (l : Fin 128) : I.lsev (ix4 x y z l) = (I.row r).lse0 := by
  unfold lsev Fine.Row.lse0
  rw [lse_apply _ _ x y z l r hr, m_apply, dn_apply]

end In

end Cert.KernelIdeal.Tile

end
-- ==== Proof.IdealBlocks.lean ====
/- What the kernel body leaves in its two result blocks at a grid point, entry by entry. -/
module

public import proofs.«01_k».proof.Proof.IdealPieces
public import proofs.«01_k».proof.Proof.IdealRow
public import Idealize.ShloMosaic.Lib.Pipeline.Value

@[expose] public section

set_option maxRecDepth 16384

noncomputable section

namespace Cert.KernelIdeal.Reads

open Idealize.ShloMosaic Idealize.ShloMosaic.TcCoe Cert.KernelIdeal Cert.KernelIdeal.Gen

variable {m : (ℓ : Loc nD τ sig) → Buf (Elt Ideal) ℓ} (hH : Hyps m) (c : Dev nD) (t : Fin cfg0.N)

/-- The tile of the grid point's six that row `R` of a group of eight rows of tiles belongs to. -/
def sub (R : Fin 384) : Fin 6 := ⟨R.val % 48 / 8, by omega⟩
/-- The row of that tile, on slab `f`. -/
def subRow (f : Fin 6) (R : Fin 384) : Fin 384 := ⟨f.val * 64 + R.val / 48 * 8 + R.val % 8, by omega⟩

/-- The row of the attention that entry `(f, R)` of a block holds. -/
def rowAt (f : Fin 6) (R : Fin 384) : Fine.Row := (ins hH c t (sub R)).row (subRow f R)

theorem row_at (b : Fin 6) (h : Fin 8) (f : Fin 6) (z : Fin 8) (R : Fin 384) (hR : R.val = h.val * 48 + b.val * 8 + z.val) :
    rowAt hH c t f R = (ins hH c t b).row ⟨f.val * 64 + h.val * 8 + z.val, by omega⟩ := by
  unfold rowAt
  rw [show sub R = b from Fin.ext (by simp only [sub]; omega),
    show subRow f R = ⟨f.val * 64 + h.val * 8 + z.val, by omega⟩ from Fin.ext (by simp only [subRow]; omega)]

/-- The attention result of a block, entry by entry. -/
def outBlock (y : S1x1x6x384x128.Idx) : EReal := (rowAt hH c t (y 2) (y 3)).out (y 4)
/-- The log-sum-exp in the scratch, entry by entry. -/
def lseBlock (y : S6x384x128.Idx) : EReal := (rowAt hH c t (y 0) (y 1)).lse0

theorem outPiece_apply (b : Fin 6) (h : Fin 8) (x : S1x1x6x8x128.Idx) :
    (outPiece hH c t b h).2 x = outBlock hH c t ((outPiece hH c t b h).1.emb x) := by
  obtain ⟨f, z, l, rfl⟩ : ∃ f z l, x = ix5 0 0 f z l := ⟨x 2, x 3, x 4, by
    funext a; fin_cases a
    all_goals first | rfl | exact Subsingleton.elim (α := Fin 1) _ _⟩
  have e : (outPiece hH c t b h).2 (ix5 0 0 f z l) = (ins hH c t b).outv (ix4 f h z l) := by
    pointwise [outPiece, group]
  refine e.trans ((Tile.In.outv_apply _ _ f h z rfl l).trans ?_)
  have h2 : ((outPiece hH c t b h).1.emb (ix5 0 0 f z l)) 2 = f := Fin.ext (show 0 + 1 * f.val = f.val by omega)
  have h4 : ((outPiece hH c t b h).1.emb (ix5 0 0 f z l)) 4 = l := Fin.ext (show 0 + 1 * l.val = l.val by omega)
  have h3 : (((outPiece hH c t b h).1.emb (ix5 0 0 f z l)) 3).val = h.val * 48 + b.val * 8 + z.val :=
    show h.val * 48 + b.val * 8 + 1 * z.val = _ by omega
  unfold outBlock
  rw [h2, h4]
  exact (congrArg (fun r => Fine.Row.out r l) (row_at hH c t b h f z _ h3)).symm

theorem lsePiece_apply (b : Fin 6) (h : Fin 8) (x : S6x8x128.Idx) :
    (lsePiece hH c t b h).2 x = lseBlock hH c t ((lsePiece hH c t b h).1.emb x) := by
  obtain ⟨f, z, l, rfl⟩ : ∃ f z l, x = ix3 f z l := ⟨x 0, x 1, x 2, by funext a; fin_cases a <;> rfl⟩
  have e : (lsePiece hH c t b h).2 (ix3 f z l) = (ins hH c t b).lsev (ix4 f h z l) := by
    pointwise [lsePiece, group]
  refine e.trans ((Tile.In.lsev_apply _ _ f h z rfl l).trans ?_)
  have h0 : ((lsePiece hH c t b h).1.emb (ix3 f z l)) 0 = f := Fin.ext (show 0 + 1 * f.val = f.val by omega)
  have h1 : (((lsePiece hH c t b h).1.emb (ix3 f z l)) 1).val = h.val * 48 + b.val * 8 + z.val :=
    show h.val * 48 + b.val * 8 + 1 * z.val = _ by omega
  unfold lseBlock
  rw [h0]
  exact (congrArg Fine.Row.lse0 (row_at hH c t b h f z _ h1)).symm

theorem mem_tiles {P : Type} (g : Fin 6 → Fin 8 → P) (p : P) :
    p ∈ ([5, 4, 3, 2, 1, 0] : List (Fin 6)).flatMap (fun b => ([7, 6, 5, 4, 3, 2, 1, 0] : List (Fin 8)).map fun h => g b h)
      ↔ ∃ b h, g b h = p := by
  simp only [List.mem_flatMap, List.mem_map]
  constructor
  · rintro ⟨b, _, h, _, e⟩
    exact ⟨b, h, e⟩
  · rintro ⟨b, h, e⟩
    exact ⟨b, by fin_cases b <;> simp, h, by fin_cases h <;> simp, e⟩

/-- The attention results after the body. -/
theorem out_block : (outsAt0 m hH c t).1 = outBlock hH c t := by
  rw [out_eq]
  funext y
  refine View.canon_apply_of_pieces (Val := Elt Ideal) (e := .f32) (outBlock hH c t) _ (fun p hp x => ?_) y ?_
  · obtain ⟨b, h, rfl⟩ := (mem_tiles _ _).mp hp
    exact outPiece_apply hH c t b h x
  · have hR : (y 3).val < 384 := (y 3).isLt
    refine ⟨outPiece hH c t ⟨(y 3).val % 48 / 8, by omega⟩ ⟨(y 3).val / 48, by omega⟩, (mem_tiles _ _).mpr ⟨_, _, rfl⟩, ?_⟩
    refine (Rect.mem_set_unit (inb := out_inb _ _)).mpr fun a => ?_
    have := (y a).isLt
    revert this
    fin_cases a <;> simp [S1x1x6x8x128, S1x1x6x384x128] <;> omega

theorem lse_scratch (y : S6x384x128.Idx) : View.canon (lsePieces hH c t) y = lseBlock hH c t y := by
  refine View.canon_apply_of_pieces (Val := Elt Ideal) (e := .f32) (lseBlock hH c t) _ (fun p hp x => ?_) y ?_
  · obtain ⟨b, h, rfl⟩ := (mem_tiles _ _).mp hp
    exact lsePiece_apply hH c t b h x
  · have hR : (y 1).val < 384 := (y 1).isLt
    refine ⟨lsePiece hH c t ⟨(y 1).val % 48 / 8, by omega⟩ ⟨(y 1).val / 48, by omega⟩, (mem_tiles _ _).mpr ⟨_, _, rfl⟩, ?_⟩
    refine (Rect.mem_set_unit (inb := lse_inb _ _)).mpr fun a => ?_
    have := (y a).isLt
    revert this
    fin_cases a <;> simp [S6x8x128, S6x384x128] <;> omega

/-- The log-sum-exp of a block, entry by entry. -/
def lseRows (y : S1x1x6x1x1x384.Idx) : EReal := (rowAt hH c t (y 2) (y 5)).lse

theorem lseRow_apply (x : Vec Ideal S1x384x128 .f32) (len : BitVec 32) (R : Fin 384) :
    lseRow x (logKeys len) (ix6 0 0 0 0 0 R)
      = x (ix3 0 R 0) - Ideal.log (FloatOps.sitofp (F := Ideal) .f32 (IntOp.addi 4608#32 len)) := by
  pointwise [lseRow, logKeys]
  rfl

theorem rowPiece_apply (f : Fin 6) (x : S1x1x1x1x1x384.Idx) :
    (rowPiece hH c t f).2 x = lseRows hH c t ((rowPiece hH c t f).1.emb x) := by
  obtain ⟨R, rfl⟩ : ∃ R, x = ix6 0 0 0 0 0 R := ⟨x 5, by
    funext a; fin_cases a
    all_goals first | rfl | exact Subsingleton.elim (α := Fin 1) _ _⟩
  refine (lseRow_apply _ _ R).trans ?_
  rw [View.readCov_eq_canon']
  have h2 : ((rowPiece hH c t f).1.emb (ix6 0 0 0 0 0 R)) 2 = f := Fin.ext (show f.val + 1 * 0 = f.val by omega)
  have h5 : ((rowPiece hH c t f).1.emb (ix6 0 0 0 0 0 R)) 5 = R := Fin.ext (show 0 + 1 * R.val = R.val by omega)
  unfold lseRows
  rw [h2, h5]
  unfold Fine.Row.lse
  refine congrArg₂ _ ?_ rfl
  refine (lse_scratch hH c t _).trans ?_
  unfold lseBlock
  refine congrArg Fine.Row.lse0 (congrArg₂ (rowAt hH c t) (Fin.ext ?_) (Fin.ext ?_))
  · show f.val + 1 * 0 = f.val; omega
  · show 0 + 1 * R.val = R.val; omega

theorem mem_six (f : Fin 6) : f ∈ ([5, 4, 3, 2, 1, 0] : List (Fin 6)) := by
  fin_cases f <;> simp

/-- The log-sum-exps after the body. -/
theorem lse_block : (outsAt0 m hH c t).2 = lseRows hH c t := by
  rw [lse_eq]
  funext y
  refine View.canon_apply_of_pieces (Val := Elt Ideal) (e := .f32) (lseRows hH c t) _ (fun p hp x => ?_) y ?_
  · obtain ⟨f, _, rfl⟩ := List.mem_map.mp hp
    exact rowPiece_apply hH c t f x
  · refine ⟨rowPiece hH c t (y 2), List.mem_map.mpr ⟨y 2, mem_six _, rfl⟩, ?_⟩
    refine (Rect.mem_set_unit (inb := row_inb _)).mpr fun a => ?_
    have := (y a).isLt
    revert this
    fin_cases a <;> simp [S1x1x1x1x1x384, S1x1x6x1x1x384] <;> omega

end Cert.KernelIdeal.Reads

end
-- ==== Proof.Data.lean ====
/- The arguments of the attention as functions of coordinates, and the row of data that each row of the result is computed
   from: the query's own, and the keys and values of the twelve tiles the selection names. -/
module

public import proofs.«01_k».proof.Proof.Row

@[expose] public section

noncomputable section

namespace Cert.Fine

/-- The arguments, by batch, head and tile. -/
structure Data where
  /-- the selected tiles -/ sel : Fin 2 → Fin 5 → Fin 96 → Fin 12 → BitVec 32
  /-- the query scales -/ qs : Fin 2 → Fin 96 → Fin 5 → EReal
  /-- the key scales -/ ks : Fin 2 → Fin 96 → Fin 5 → EReal
  /-- the value scales -/ vs : Fin 2 → Fin 5 → EReal
  /-- the text key scales -/ kts : Fin 2 → Fin 5 → EReal
  /-- the text value scales -/ vts : Fin 2 → Fin 5 → EReal
  /-- the text lengths -/ len : Fin 2 → BitVec 32
  /-- the gates -/ gate : Fin 5 → EReal
  /-- the queries -/ q : Fin 2 → Fin 96 → Fin 5 → Fin 384 → Fin 128 → EReal
  /-- the keys -/ k : Fin 2 → Fin 96 → Fin 5 → Fin 384 → Fin 128 → EReal
  /-- the values -/ v : Fin 2 → Fin 96 → Fin 5 → Fin 384 → Fin 128 → EReal
  /-- the text keys -/ kt : Fin 2 → Fin 5 → Fin 256 → Fin 128 → EReal
  /-- the text values -/ vt : Fin 2 → Fin 5 → Fin 256 → Fin 128 → EReal
  /-- the coarse rows -/ co : Fin 2 → Fin 5 → Fin 96 → Fin 128 → EReal

namespace Data
variable (D : Data)

/-- The `j`-th tile selected for tile `n`. -/
def key (b : Fin 2) (h : Fin 5) (n : Fin 96) (j : Fin 12) : Fin 96 := ⟨(D.sel b h n j).toNat % 96, Nat.mod_lt _ (by decide)⟩

/-- What row `r` of tile `n` is computed from. -/
def row (b : Fin 2) (h : Fin 5) (n : Fin 96) (r : Fin 384) : Row where
  q := D.q b n h r
  qs := D.qs b n h
  k := fun j => D.k b (D.key b h n j) h
  ks := fun j => D.ks b (D.key b h n j) h
  v := fun j => D.v b (D.key b h n j) h
  len := D.len b
  kt := D.kt b h
  kts := D.kts b h
  vt := D.vt b h
  vs := D.vs b h
  vts := D.vts b h
  gate := D.gate h
  co := D.co b h n

end Data

end Cert.Fine

end
-- ==== Proof.IdealLoads.lean ====
/- What each tile of queries is computed from, as entries of the program's arguments. -/
module

public import proofs.«01_k».proof.Proof.IdealBlocks
public import proofs.«01_k».proof.Proof.IdealTiles
public import proofs.«01_k».proof.Proof.Data
public import Idealize.ShloMosaic.Lib.Pipeline.ValueKit

@[expose] public section

set_option maxRecDepth 16384

noncomputable section

namespace Cert.KernelIdeal.Loads

open Idealize.ShloMosaic Idealize.ShloMosaic.TcCoe Cert.KernelIdeal Cert.KernelIdeal.Gen Cert.KernelIdeal.Reads

/-- A load at offsets reads the source at the sum of offset and place. -/
theorem load_unit {Val : EltTy → Type} {e : EltTy} {s : Shape} (X : s.Idx → Val e) {off sz : Fin s.rank → Nat} (inb : ∀ a, off a + sz a ≤ s.size a)
    (x : (Rect.unit (s := s) off sz inb).shape.Idx) (y : s.Idx) (h : ∀ a, off a + 1 * (x a).val = (y a).val) :
    View.ld X (Rect.unit (s := s) off sz inb) x = X y := by
  rw [View.ld_apply]
  exact congrArg X (funext fun a => Fin.ext (h a))

/-- The windows' block indices at every grid point. -/
theorem idx : ∀ t : Fin cfg0.N, win0_0.index t = ![0] ∧ win0_1.index t = ![0] ∧ win0_2.index t = ![0] ∧ win0_3.index t = ![0]
    ∧ win0_4.index t = ![0] ∧ win0_5.index t = ![0] ∧ win0_6.index t = ![0] ∧ win0_7.index t = ![0]
    ∧ win0_8.index t = ![(grid0.coords t 0).val, (grid0.coords t 2).val, (grid0.coords t 1).val, 0, 0]
    ∧ win0_9.index t = ![(grid0.coords t 0).val, 0, (grid0.coords t 1).val, 0, 0]
    ∧ win0_10.index t = ![(grid0.coords t 0).val, 0, (grid0.coords t 1).val, 0, 0]
    ∧ win0_11.index t = ![(grid0.coords t 0).val, (grid0.coords t 1).val, 0, 0]
    ∧ win0_12.index t = ![(grid0.coords t 0).val, (grid0.coords t 1).val, 0, 0]
    ∧ win0_13.index t = ![(grid0.coords t 0).val, (grid0.coords t 1).val, 0, 0] :=
  (by decide +kernel : ∀ t : Fin grid0.N, _)

variable {m : (ℓ : Loc nD τ sig) → Buf (Elt Ideal) ℓ} (hH : Hyps m) (c : Dev nD) (t : Fin cfg0.N)

/-- The batch of a grid point. -/
def bat : Fin 2 := grid0.coords t 0
/-- The head of a grid point. -/
def head : Fin 5 := grid0.coords t 1
/-- The tile of queries that is the `b`-th of a grid point. -/
def tile (b : Fin 6) : Fin 96 := ⟨(grid0.coords t 2).val * 6 + b.val, by
  have : (grid0.coords t 2).val < 16 := (grid0.coords t 2).isLt
  omega⟩

theorem bat_lt : (grid0.coords t 0).val < 2 := (grid0.coords t 0).isLt
theorem head_lt : (grid0.coords t 1).val < 5 := (grid0.coords t 1).isLt
theorem slab_lt : (grid0.coords t 2).val < 16 := (grid0.coords t 2).isLt

theorem selOff_eq (b : Fin 6) (J : Fin 12) : selOff (grid0.coords t) (BitVec.ofNat 32 b.val) (BitVec.ofNat 32 J.val) 0
    = (((bat t).val * 5 + (head t).val) * 96 + (tile t b).val) * 12 + J.val := by
  have h0 := bat_lt t
  have h1 := head_lt t
  have h2 := slab_lt t
  have hb := b.isLt
  have hJ := J.isLt
  simp [selOff, bat, head, tile, Scalar.indexCast, Scalar.muli, Scalar.addi, IntOp.muli, IntOp.addi]
  omega

theorem qsOff_eq (b : Fin 6) : qsOff (grid0.coords t) (BitVec.ofNat 32 b.val) 0
    = ((bat t).val * 96 + (tile t b).val) * 5 + (head t).val := by
  have h0 := bat_lt t
  have h1 := head_lt t
  have h2 := slab_lt t
  have hb := b.isLt
  simp [qsOff, bat, head, tile, Scalar.indexCast, Scalar.muli, Scalar.addi, IntOp.muli, IntOp.addi]
  omega

theorem ksOff_eq (v : BitVec 32) (hv : v.toNat < 96) : k0_off6 (grid0.coords t) v 0
    = ((bat t).val * 96 + v.toNat) * 5 + (head t).val := by
  have h0 := bat_lt t
  have h1 := head_lt t
  simp [k0_off6, bat, head, Scalar.indexCast, Scalar.muli, Scalar.addi, IntOp.muli, IntOp.addi]
  omega

theorem headOff_eq : k0_off28 (grid0.coords t) 0 = (bat t).val * 5 + (head t).val := by
  have h0 := bat_lt t
  have h1 := head_lt t
  simp [k0_off28, bat, head, Scalar.indexCast, Scalar.muli, Scalar.addi, IntOp.muli, IntOp.addi]
  omega

theorem lenOff_eq : k0_off1 (grid0.coords t) 0 = (bat t).val := by
  have h0 := bat_lt t
  simp [k0_off1, bat, Scalar.indexCast]
  omega

theorem gateOff_eq : k0_off40 (grid0.coords t) 0 = (head t).val := by
  have h1 := head_lt t
  simp [k0_off40, head, Scalar.indexCast]
  omega

theorem coOff_eq (b : Fin 6) : coOff (grid0.coords t) (BitVec.ofNat 32 b.val) = ![0, 0, (tile t b).val, 0] := by
  have h2 := slab_lt t
  have hb := b.isLt
  simp [coOff, tile, Scalar.indexCast, Scalar.muli, Scalar.addi, IntOp.muli, IntOp.addi]
  omega

theorem word_at (b : Fin 6) (J : Fin 12) :
    word (m := m) c t b J = m ((c.tc : Thread nD τ).loc main_arg0) (ix4 (bat t) (head t) (tile t b) J) := by
  unfold word
  rw [View.readAt_eq_ld, Memref.IsWhole.read_unread]
  refine (load_unit _ _ _ (ix1 ⟨(((bat t).val * 5 + (head t).val) * 96 + (tile t b).val) * 12 + J.val, by omega⟩) fun a => ?_).trans ?_
  · obtain rfl : a = 0 := Subsingleton.elim _ _
    rw [selOff_eq]; rfl
  · simp only [bat, head, tile]
    have h1 := head_lt t
    blk_ext! [iblk, V, idx t] <;> omega

theorem q_at (b : Fin 6) (r : Fin 384) (d : Fin 128) :
    (ins hH c t b).q (ix5 0 0 0 r d) = m ((c.tc : Thread nD τ).loc main_arg8) (ix5 (bat t) (tile t b) (head t) r d) := by
  unfold ins
  dsimp only
  rw [View.readAt_eq_ld, Memref.IsWhole.read_unread]
  refine (load_unit _ _ _ (ix5 0 b 0 r d) fun a => ?_).trans ?_
  · fin_cases a <;> simp
  · simp only [bat, head, tile]
    blk_ext [iblk, V, idx t]

theorem qs_at (b : Fin 6) :
    (ins hH c t b).qs = m ((c.tc : Thread nD τ).loc main_arg1) (ix3 (bat t) (tile t b) (head t)) := by
  unfold ins
  dsimp only
  rw [View.readAt_eq_ld, Memref.IsWhole.read_unread]
  refine (load_unit _ _ _ (ix1 ⟨((bat t).val * 96 + (tile t b).val) * 5 + (head t).val, by omega⟩) fun a => ?_).trans ?_
  · obtain rfl : a = 0 := Subsingleton.elim _ _
    rw [qsOff_eq]; rfl
  · simp only [bat, head, tile]
    have h1 := head_lt t
    blk_ext! [iblk, V, idx t] <;> omega

theorem k_at (b : Fin 6) (J : Fin 12) (r : Fin 384) (d : Fin 128) :
    (ins hH c t b).k J (ix5 0 0 0 r d) = m ((c.tc : Thread nD τ).loc main_arg9) (ix5 (bat t) ⟨(word (m := m) c t b J).toNat % 96, Nat.mod_lt _ (by decide)⟩ (head t) r d) := by
  unfold ins
  dsimp only
  rw [View.readAt_eq_ld, Memref.IsWhole.read_unread]
  refine (load_unit _ _ _ (ix5 0 ⟨(word (m := m) c t b J).toNat % 96, Nat.mod_lt _ (by decide)⟩ 0 r d) fun a => ?_).trans ?_
  · have hw := word_lt hH c t b J
    fin_cases a <;> simp [Scalar.indexCast]
    omega
  · simp only [bat, head]
    blk_ext [iblk, V, idx t]

theorem v_at (b : Fin 6) (J : Fin 12) (r : Fin 384) (d : Fin 128) :
    (ins hH c t b).v J (ix5 0 0 0 r d) = m ((c.tc : Thread nD τ).loc main_arg10) (ix5 (bat t) ⟨(word (m := m) c t b J).toNat % 96, Nat.mod_lt _ (by decide)⟩ (head t) r d) := by
  unfold ins
  dsimp only
  rw [View.readAt_eq_ld, Memref.IsWhole.read_unread]
  refine (load_unit _ _ _ (ix5 0 ⟨(word (m := m) c t b J).toNat % 96, Nat.mod_lt _ (by decide)⟩ 0 r d) fun a => ?_).trans ?_
  · have hw := word_lt hH c t b J
    fin_cases a <;> simp [Scalar.indexCast]
    omega
  · simp only [bat, head]
    blk_ext [iblk, V, idx t]

theorem ks_block (w : Fin 96) : iblk m c 2 t (ix1 ⟨((bat t).val * 96 + w.val) * 5 + (head t).val, by omega⟩)
    = m ((c.tc : Thread nD τ).loc main_arg2) (ix3 (bat t) w (head t)) := by
  have h1 := head_lt t
  simp only [bat, head]
  blk_ext! [iblk, V, idx t] <;> omega

theorem ks_at (b : Fin 6) (J : Fin 12) :
    (ins hH c t b).ks J = m ((c.tc : Thread nD τ).loc main_arg2) (ix3 (bat t) ⟨(word (m := m) c t b J).toNat % 96, Nat.mod_lt _ (by decide)⟩ (head t)) := by
  have hw := word_lt hH c t b J
  obtain ⟨w, e⟩ : ∃ w : Fin 96, (word (m := m) c t b J).toNat = w.val := ⟨⟨_, hw⟩, rfl⟩
  rw [show (⟨(word (m := m) c t b J).toNat % 96, Nat.mod_lt _ (by decide)⟩ : Fin 96) = w from
    Fin.ext ((Nat.mod_eq_of_lt hw).trans e)]
  refine Eq.trans ?_ (ks_block c t w)
  unfold ins
  dsimp only
  rw [View.readAt_eq_ld, Memref.IsWhole.read_unread]
  refine load_unit _ _ _ _ fun a => ?_
  obtain rfl : a = 0 := Subsingleton.elim _ _
  rw [ksOff_eq t _ hw, e]; rfl

theorem vs_at (b : Fin 6) :
    (ins hH c t b).vs = m ((c.tc : Thread nD τ).loc main_arg3) (ix2 (bat t) (head t)) := by
  unfold ins
  dsimp only
  rw [View.readAt_eq_ld, Memref.IsWhole.read_unread]
  refine (load_unit _ _ _ (ix1 ⟨(bat t).val * 5 + (head t).val, by omega⟩) fun a => ?_).trans ?_
  · obtain rfl : a = 0 := Subsingleton.elim _ _
    rw [headOff_eq]; rfl
  · simp only [bat, head]
    have h1 := head_lt t
    blk_ext! [iblk, V, idx t] <;> omega

theorem kts_at (b : Fin 6) :
    (ins hH c t b).kts = m ((c.tc : Thread nD τ).loc main_arg4) (ix2 (bat t) (head t)) := by
  unfold ins
  dsimp only
  rw [View.readAt_eq_ld, Memref.IsWhole.read_unread]
  refine (load_unit _ _ _ (ix1 ⟨(bat t).val * 5 + (head t).val, by omega⟩) fun a => ?_).trans ?_
  · obtain rfl : a = 0 := Subsingleton.elim _ _
    rw [headOff_eq]; rfl
  · simp only [bat, head]
    have h1 := head_lt t
    blk_ext! [iblk, V, idx t] <;> omega

theorem vts_at (b : Fin 6) :
    (ins hH c t b).vts = m ((c.tc : Thread nD τ).loc main_arg5) (ix2 (bat t) (head t)) := by
  unfold ins
  dsimp only
  rw [View.readAt_eq_ld, Memref.IsWhole.read_unread]
  refine (load_unit _ _ _ (ix1 ⟨(bat t).val * 5 + (head t).val, by omega⟩) fun a => ?_).trans ?_
  · obtain rfl : a = 0 := Subsingleton.elim _ _
    rw [headOff_eq]; rfl
  · simp only [bat, head]
    have h1 := head_lt t
    blk_ext! [iblk, V, idx t] <;> omega

theorem len_at (b : Fin 6) :
    (ins hH c t b).len = m ((c.tc : Thread nD τ).loc main_arg6) (ix1 (bat t)) := by
  unfold ins
  dsimp only
  rw [View.readAt_eq_ld, Memref.IsWhole.read_unread]
  refine (load_unit _ _ _ (ix1 (bat t)) fun a => ?_).trans ?_
  · obtain rfl : a = 0 := Subsingleton.elim _ _
    rw [lenOff_eq]; rfl
  · simp only [bat]
    blk_ext [iblk, V, idx t]

theorem gate_at (b : Fin 6) :
    (ins hH c t b).gate = m ((c.tc : Thread nD τ).loc main_arg7) (ix1 (head t)) := by
  unfold ins
  dsimp only
  rw [View.readAt_eq_ld, Memref.IsWhole.read_unread]
  refine (load_unit _ _ _ (ix1 (head t)) fun a => ?_).trans ?_
  · obtain rfl : a = 0 := Subsingleton.elim _ _
    rw [gateOff_eq]; rfl
  · simp only [head]
    blk_ext [iblk, V, idx t]

theorem kt_at (b : Fin 6) (r : Fin 256) (d : Fin 128) :
    (ins hH c t b).kt (ix4 0 0 r d) = m ((c.tc : Thread nD τ).loc main_arg11) (ix4 (bat t) (head t) r d) := by
  unfold ins
  dsimp only
  rw [View.readAt_eq_ld, Memref.IsWhole.read_unread]
  refine (load_unit _ _ _ (ix4 0 0 r d) fun a => ?_).trans ?_
  · fin_cases a <;> simp
  · simp only [bat, head]
    blk_ext [iblk, V, idx t]

theorem vt_at (b : Fin 6) (r : Fin 256) (d : Fin 128) :
    (ins hH c t b).vt (ix4 0 0 r d) = m ((c.tc : Thread nD τ).loc main_arg12) (ix4 (bat t) (head t) r d) := by
  unfold ins
  dsimp only
  rw [View.readAt_eq_ld, Memref.IsWhole.read_unread]
  refine (load_unit _ _ _ (ix4 0 0 r d) fun a => ?_).trans ?_
  · fin_cases a <;> simp
  · simp only [bat, head]
    blk_ext [iblk, V, idx t]

theorem co_at (b : Fin 6) (d : Fin 128) :
    (ins hH c t b).co (ix4 0 0 0 d) = m ((c.tc : Thread nD τ).loc main_arg13) (ix4 (bat t) (head t) (tile t b) d) := by
  unfold ins
  dsimp only
  rw [View.readAt_eq_ld, Memref.IsWhole.read_unread]
  refine (load_unit _ _ _ (ix4 0 0 (tile t b) d) fun a => ?_).trans ?_
  · refine (congrArg (· + 1 * _) (congrFun (coOff_eq t b) a)).trans ?_
    fin_cases a <;> simp
  · simp only [bat, head, tile]
    blk_ext [iblk, V, idx t]

variable (m) in
/-- The arguments by coordinates. -/
def data : Fine.Data where
  sel b h n J := m ((c.tc : Thread nD τ).loc main_arg0) (ix4 b h n J)
  qs b n h := m ((c.tc : Thread nD τ).loc main_arg1) (ix3 b n h)
  ks b n h := m ((c.tc : Thread nD τ).loc main_arg2) (ix3 b n h)
  vs b h := m ((c.tc : Thread nD τ).loc main_arg3) (ix2 b h)
  kts b h := m ((c.tc : Thread nD τ).loc main_arg4) (ix2 b h)
  vts b h := m ((c.tc : Thread nD τ).loc main_arg5) (ix2 b h)
  len b := m ((c.tc : Thread nD τ).loc main_arg6) (ix1 b)
  gate h := m ((c.tc : Thread nD τ).loc main_arg7) (ix1 h)
  q b n h r d := m ((c.tc : Thread nD τ).loc main_arg8) (ix5 b n h r d)
  k b n h r d := m ((c.tc : Thread nD τ).loc main_arg9) (ix5 b n h r d)
  v b n h r d := m ((c.tc : Thread nD τ).loc main_arg10) (ix5 b n h r d)
  kt b h r d := m ((c.tc : Thread nD τ).loc main_arg11) (ix4 b h r d)
  vt b h r d := m ((c.tc : Thread nD τ).loc main_arg12) (ix4 b h r d)
  co b h n d := m ((c.tc : Thread nD τ).loc main_arg13) (ix4 b h n d)

theorem key_at (b : Fin 6) (J : Fin 12) : (⟨(word (m := m) c t b J).toNat % 96, Nat.mod_lt _ (by decide)⟩ : Fin 96)
    = (data m c).key (bat t) (head t) (tile t b) J := by
  rw [word_at]; rfl

/-- A row of a tile, from the arguments. -/
theorem row_data (b : Fin 6) (r : Fin 384) : (ins hH c t b).row r = (data m c).row (bat t) (head t) (tile t b) r := by
  apply Fine.Row.ext
  · funext d; exact q_at hH c t b r d
  · exact qs_at hH c t b
  · funext J i d; exact (k_at hH c t b J i d).trans (by rw [key_at]; rfl)
  · funext J; exact (ks_at hH c t b J).trans (by rw [key_at]; rfl)
  · funext J i d; exact (v_at hH c t b J i d).trans (by rw [key_at]; rfl)
  · exact len_at hH c t b
  · funext i d; exact kt_at hH c t b i d
  · exact kts_at hH c t b
  · funext i d; exact vt_at hH c t b i d
  · exact vs_at hH c t b
  · exact vts_at hH c t b
  · exact gate_at hH c t b
  · funext d; exact co_at hH c t b d

end Cert.KernelIdeal.Loads

end
-- ==== Proof.Place.lean ====
/- Where the rows of the results lie among the tiles: a head's rows are laid out by frame and place, six by four by six tiles
   of six by eight by eight queries, and the two results of the attention, entry by entry, from the arguments. -/
module

public import proofs.«01_k».proof.Proof.Data

@[expose] public section

noncomputable section

namespace Cert.Fine

/-- Where row `R` of frame `f` lies among the tiles of a head: the tile. -/
def tileOf (f : Fin 24) (R : Fin 1536) : Fin 96 := ⟨(f.val / 6 * 4 + R.val / 384) * 6 + R.val % 48 / 8, by omega⟩
/-- Where row `R` of frame `f` lies among the tiles of a head: the row of the tile. -/
def rowOf (f : Fin 24) (R : Fin 1536) : Fin 384 := ⟨f.val % 6 * 64 + R.val / 48 % 8 * 8 + R.val % 8, by omega⟩

namespace Data
variable (D : Data)

/-- The row of data behind row `R` of frame `f`. -/
def place (b : Fin 2) (h : Fin 5) (f : Fin 24) (R : Fin 1536) : Row := D.row b h (tileOf f R) (rowOf f R)
/-- The attention result. -/
def out (b : Fin 2) (h : Fin 5) (f : Fin 24) (R : Fin 1536) (l : Fin 128) : EReal := (D.place b h f R).out l
/-- The log-sum-exp. -/
def lse (b : Fin 2) (h : Fin 5) (f : Fin 24) (g : Fin 4) (R : Fin 384) : EReal :=
  (D.place b h f ⟨g.val * 384 + R.val, by omega⟩).lse

end Data

end Cert.Fine

end
-- ==== Proof.IdealFinal.lean ====
/- The kernel's two results after the run, entry by entry, from the arguments. -/
module

public import proofs.«01_k».proof.Proof.IdealLoads
public import proofs.«01_k».proof.Proof.Place

@[expose] public section

set_option maxRecDepth 16384

noncomputable section

namespace Cert.KernelIdeal.Loads

open Idealize.ShloMosaic Idealize.ShloMosaic.TcCoe Cert.KernelIdeal Cert.KernelIdeal.Gen Cert.KernelIdeal.Reads
open Idealize.ShloMosaic.Pipeline (Dat)

/-- The result windows' block indices at every grid point. -/
theorem idx_out : ∀ t : Fin cfg0.N,
    win0_14.index t = ![(grid0.coords t 0).val, (grid0.coords t 1).val, (grid0.coords t 2).val / 4, (grid0.coords t 2).val % 4, 0]
    ∧ win0_15.index t = ![(grid0.coords t 0).val, (grid0.coords t 1).val, (grid0.coords t 2).val / 4, (grid0.coords t 2).val % 4, 0, 0] :=
  (by decide +kernel : ∀ t : Fin grid0.N, _)

variable {m : (ℓ : Loc nD τ sig) → Buf (Elt Ideal) ℓ} (hH : Hyps m) (c : Dev nD)

/-- A row of a block, by where it lies in the result. -/
theorem rowAt_place (t : Fin cfg0.N) (f : Fin 6) (R : Fin 384) (b : Fin 2) (h : Fin 5) (F : Fin 24) (Q : Fin 1536)
    (hb : b.val = (grid0.coords t 0).val) (hh : h.val = (grid0.coords t 1).val)
    (hF : F.val = (grid0.coords t 2).val / 4 * 6 + f.val) (hQ : Q.val = (grid0.coords t 2).val % 4 * 384 + R.val) :
    rowAt hH c t f R = (data m c).place b h F Q := by
  unfold rowAt Fine.Data.place
  rw [row_data]
  have e0 : bat t = b := Fin.ext hb.symm
  have e1 : head t = h := Fin.ext hh.symm
  have e2 : tile t (sub R) = Fine.tileOf F Q := Fin.ext (by
    simp only [tile, sub, Fine.tileOf]; omega)
  have e3 : subRow f R = Fine.rowOf F Q := Fin.ext (by
    simp only [subRow, Fine.rowOf]; omega)
  rw [e0, e1, e2, e3]

variable (m) in
/-- The attention result as an array. -/
def outArr : Buf (Elt Ideal) ((c.tc : Thread nD τ).loc main_v6_0) :=
  fun x : S2x5x24x1536x128.Idx => (data m c).out (x 0) (x 1) (x 2) (x 3) (x 4)
variable (m) in
/-- The log-sum-exp as an array. -/
def lseArr : Buf (Elt Ideal) ((c.tc : Thread nD τ).loc main_v6_1) :=
  fun x : S2x5x24x4x1x384.Idx => (data m c).lse (x 0) (x 1) (x 2) (x 3) (x 5)

theorem out_at (t : Fin cfg0.N) (y : S1x1x6x384x128.Idx) (x : S2x5x24x1536x128.Idx)
    (h0 : (x 0).val = (grid0.coords t 0).val) (h1 : (x 1).val = (grid0.coords t 1).val)
    (h2 : (x 2).val = (grid0.coords t 2).val / 4 * 6 + (y 2).val) (h3 : (x 3).val = (grid0.coords t 2).val % 4 * 384 + (y 3).val)
    (h4 : (x 4).val = (y 4).val) : outBlock hH c t y = outArr m c x := by
  unfold outBlock outArr Fine.Data.out
  rw [rowAt_place hH c t (y 2) (y 3) (x 0) (x 1) (x 2) (x 3) h0 h1 h2 h3]
  exact congrArg _ (Fin.ext h4.symm)

theorem lse_at (t : Fin cfg0.N) (y : S1x1x6x1x1x384.Idx) (x : S2x5x24x4x1x384.Idx)
    (h0 : (x 0).val = (grid0.coords t 0).val) (h1 : (x 1).val = (grid0.coords t 1).val)
    (h2 : (x 2).val = (grid0.coords t 2).val / 4 * 6 + (y 2).val) (h3 : (x 3).val = (grid0.coords t 2).val % 4)
    (h5 : (x 5).val = (y 5).val) : lseRows hH c t y = lseArr m c x := by
  unfold lseRows lseArr Fine.Data.lse
  have b3 : (x 3).val < 4 := (x 3).isLt
  have b5 : (x 5).val < 384 := (x 5).isLt
  rw [rowAt_place hH c t (y 2) (y 5) (x 0) (x 1) (x 2) ⟨(x 3).val * 384 + (x 5).val, by omega⟩ h0 h1 h2 (by dsimp only; omega)]

theorem out_final : (dats m hH 0 c).arrAt 14 (cfgs 0).N = outArr m c := by
  refine (dats m hH 0 c).arrAt_eq_of_covers 14 _ (by decide +kernel) fun t _ y => ?_
  have e := (idx_out t).1
  rw [after0_14, out_block]
  have b0 : (y 0).val < 1 := (y 0).isLt
  have b1 : (y 1).val < 1 := (y 1).isLt
  have h0 : ((win0_14.blk t).view.emb y 0 : ℕ) = (grid0.coords t 0).val := by
    blk_simp [e]
    try omega
  have h1 : ((win0_14.blk t).view.emb y 1 : ℕ) = (grid0.coords t 1).val := by
    blk_simp [e]
    try omega
  have h2 : ((win0_14.blk t).view.emb y 2 : ℕ) = (grid0.coords t 2).val / 4 * 6 + (y 2).val := by
    blk_simp [e]
    try omega
  have h3 : ((win0_14.blk t).view.emb y 3 : ℕ) = (grid0.coords t 2).val % 4 * 384 + (y 3).val := by
    blk_simp [e]
    try omega
  have h4 : ((win0_14.blk t).view.emb y 4 : ℕ) = (y 4).val := by
    blk_simp [e]
    try omega
  clear e
  blk_simp
  exact out_at hH c t y _ h0 h1 h2 h3 h4

theorem lse_final : (dats m hH 0 c).arrAt 15 (cfgs 0).N = lseArr m c := by
  refine (dats m hH 0 c).arrAt_eq_of_covers 15 _ (by decide +kernel) fun t _ y => ?_
  have e := (idx_out t).2
  rw [after0_15, lse_block]
  have b0 : (y 0).val < 1 := (y 0).isLt
  have b1 : (y 1).val < 1 := (y 1).isLt
  have b3 : (y 3).val < 1 := (y 3).isLt
  have h0 : ((win0_15.blk t).view.emb y 0 : ℕ) = (grid0.coords t 0).val := by
    blk_simp [e]
    try omega
  have h1 : ((win0_15.blk t).view.emb y 1 : ℕ) = (grid0.coords t 1).val := by
    blk_simp [e]
    try omega
  have h2 : ((win0_15.blk t).view.emb y 2 : ℕ) = (grid0.coords t 2).val / 4 * 6 + (y 2).val := by
    blk_simp [e]
    try omega
  have h3 : ((win0_15.blk t).view.emb y 3 : ℕ) = (grid0.coords t 2).val % 4 := by
    blk_simp [e]
    try omega
  have h5 : ((win0_15.blk t).view.emb y 5 : ℕ) = (y 5).val := by
    blk_simp [e]
    try omega
  clear e
  blk_simp
  exact lse_at hH c t y _ h0 h1 h2 h3 h5

end Cert.KernelIdeal.Loads

end
-- ==== Proof.RefGather.lean ====
/- The reference's gathers, read at an index: the tile named by the selection. -/
module

public import proofs.«01_k».proof.Proof.Gen.ReferenceIdeal.Skeleton
public import Idealize.ShloMosaic.Lib.Pointwise

@[expose] public section

set_option maxRecDepth 16384

noncomputable section

namespace Cert.ReferenceIdeal.Row

open Idealize.ShloMosaic Idealize.SL.Sem Cert.ReferenceIdeal Cert.ReferenceIdeal.Gen

/-- A tile number, read signed and kept below 96. -/
def clampTile (w : BitVec 32) : Fin 96 := ⟨min w.toInt.toNat 95, by omega⟩

theorem gather_codes {α : Type} (x : S2x5x96x384x128.Idx → α) (i : IVec S2x5x96x12x1 32) (b : Fin 2) (h : Fin 5) (n : Fin 96)
    (j : Fin 12) (t : Fin 384) (d : Fin 128) :
    Host.gather gather_S2x5x96x384x128_S2x5x96x12x1_S2x5x96x12x384x128_45_2_01_01_2_4_111384128 x i (ix6 b h n j t d)
      = x (ix5 b h (clampTile (i (ix5 b h n j 0))) t d) := by
  unfold Host.gather
  congr 1
  generalize hg : gather_S2x5x96x384x128_S2x5x96x12x1_S2x5x96x12x384x128_45_2_01_01_2_4_111384128 = g
  have hk : g.sKept = [3, 4] := by subst hg; decide
  have hs : g.startIndexMap = [2] := by subst hg; rfl
  have hb : g.operandBatchingDims = [0, 1] := by subst hg; rfl
  have ho : g.offsetDims = [4, 5] := by subst hg; rfl
  funext a
  refine Fin.ext ?_
  show g.start _ i a + g.batchCoord _ a + g.offCoord _ a = _
  fin_cases a
  · rw [g.start_batching _ _ _ (by rw [hb]; decide), g.offCoord_eq_zero _ _ (by rw [hk]; decide)]
    unfold GatherDims.batchCoord
    rw [dif_pos (by rw [hb]; decide)]
    subst hg
    simp only [Nat.zero_add, Nat.add_zero]
    rfl
  · rw [g.start_batching _ _ _ (by rw [hb]; decide), g.offCoord_eq_zero _ _ (by rw [hk]; decide)]
    unfold GatherDims.batchCoord
    rw [dif_pos (by rw [hb]; decide)]
    subst hg
    simp only [Nat.zero_add, Nat.add_zero]
    rfl
  · rw [g.batchCoord_eq_zero _ _ (by rw [hb]; decide), g.offCoord_eq_zero _ _ (by rw [hk]; decide)]
    unfold GatherDims.start
    rw [dif_pos (by rw [hs]; decide)]
    subst hg
    have hsi : ∀ k hk, GatherDims.siIdx gather_S2x5x96x384x128_S2x5x96x12x1_S2x5x96x12x384x128_45_2_01_01_2_4_111384128 (ix6 b h n j t d) ⟨k, hk⟩ = ix5 b h n j 0 := by
      intro k hk
      obtain rfl : k = 0 := Nat.lt_one_iff.mp hk
      funext e
      fin_cases e <;> rfl
    rw [hsi]
    rfl
  · rw [g.batchCoord_eq_zero _ _ (by rw [hb]; decide)]
    unfold GatherDims.start GatherDims.offCoord
    rw [dif_neg (by rw [hs]; decide), dif_pos (by rw [hk]; decide)]
    have e : g.offsetDims[g.sKept.idxOf 3]'(by simp [hk, ho]) = 4 := by simp [hk, ho]
    refine (congrArg (fun X => 0 + 0 + (ix6 b h n j t d X).val) e).trans ?_
    simp
  · rw [g.batchCoord_eq_zero _ _ (by rw [hb]; decide)]
    unfold GatherDims.start GatherDims.offCoord
    rw [dif_neg (by rw [hs]; decide), dif_pos (by rw [hk]; decide)]
    have e : g.offsetDims[g.sKept.idxOf 4]'(by simp [hk, ho]) = 5 := by simp [hk, ho]
    refine (congrArg (fun X => 0 + 0 + (ix6 b h n j t d X).val) e).trans ?_
    simp

theorem gather_scales {α : Type} (x : S2x5x96.Idx → α) (i : IVec S2x5x96x12x1 32) (b : Fin 2) (h : Fin 5) (n : Fin 96) (j : Fin 12) :
    Host.gather gather_S2x5x96_S2x5x96x12x1_S2x5x96x12_n_2_01_01_2_4_111 x i (ix4 b h n j)
      = x (ix3 b h (clampTile (i (ix5 b h n j 0)))) := by
  unfold Host.gather
  congr 1
  generalize hg : gather_S2x5x96_S2x5x96x12x1_S2x5x96x12_n_2_01_01_2_4_111 = g
  have hk : g.sKept = [] := by subst hg; decide
  have hs : g.startIndexMap = [2] := by subst hg; rfl
  have hb : g.operandBatchingDims = [0, 1] := by subst hg; rfl
  funext a
  refine Fin.ext ?_
  show g.start _ i a + g.batchCoord _ a + g.offCoord _ a = _
  fin_cases a
  · rw [g.start_batching _ _ _ (by rw [hb]; decide), g.offCoord_eq_zero _ _ (by rw [hk]; decide)]
    unfold GatherDims.batchCoord
    rw [dif_pos (by rw [hb]; decide)]
    subst hg
    simp only [Nat.zero_add, Nat.add_zero]
    rfl
  · rw [g.start_batching _ _ _ (by rw [hb]; decide), g.offCoord_eq_zero _ _ (by rw [hk]; decide)]
    unfold GatherDims.batchCoord
    rw [dif_pos (by rw [hb]; decide)]
    subst hg
    simp only [Nat.zero_add, Nat.add_zero]
    rfl
  · rw [g.batchCoord_eq_zero _ _ (by rw [hb]; decide), g.offCoord_eq_zero _ _ (by rw [hk]; decide)]
    unfold GatherDims.start
    rw [dif_pos (by rw [hs]; decide)]
    subst hg
    have hsi : ∀ k hk, GatherDims.siIdx gather_S2x5x96_S2x5x96x12x1_S2x5x96x12_n_2_01_01_2_4_111 (ix4 b h n j) ⟨k, hk⟩ = ix5 b h n j 0 := by
      intro k hk
      obtain rfl : k = 0 := Nat.lt_one_iff.mp hk
      funext e
      fin_cases e <;> rfl
    rw [hsi]
    rfl

end Cert.ReferenceIdeal.Row

end
-- ==== Proof.RefRow.lean ====
/- The reference's whole-array vectors, read at one row. -/
module

public import proofs.«01_k».proof.Proof.Gen.ReferenceIdeal.Skeleton
public import proofs.«01_k».proof.Proof.Place

@[expose] public section

set_option maxRecDepth 16384

noncomputable section

namespace Cert.ReferenceIdeal.Row

open Idealize.ShloMosaic Idealize.SL.Sem Cert.ReferenceIdeal Cert.ReferenceIdeal.Gen
open Cert.Fine (tileOf rowOf)

/-- What the reference's body reads. -/
structure Args where
  /-- the query codes -/ q : Vec Ideal S960x384x128 .fp8e4m3
  /-- the selected key codes -/ k : Vec Ideal S960x4608x128 .fp8e4m3
  /-- the selected value codes -/ v : Vec Ideal S960x4608x128 .fp8e4m3
  /-- the text key codes -/ kt : Vec Ideal S960x256x128 .fp8e4m3
  /-- the text value codes -/ vt : Vec Ideal S960x256x128 .fp8e4m3
  /-- the query scales -/ qs : Vec Ideal S960x1x1 .f32
  /-- the selected key scales -/ ks : Vec Ideal S960x1x12x1 .f32
  /-- the text key scales -/ kts : Vec Ideal S960x1x1 .f32
  /-- the value scales -/ vs : Vec Ideal S960x1x1 .f32
  /-- the text value scales -/ vts : Vec Ideal S960x1x1 .f32
  /-- the text lengths -/ len : Vec Ideal S960x1x1 .i32
  /-- the gates -/ gate : Vec Ideal S960x1x1 .f32
  /-- the coarse rows -/ co : Vec Ideal S960x1x128 .f32

namespace Args
variable (A : Args)

/-- The data of row `r` of tile `n`. -/
def row (n : Fin 960) (r : Fin 384) : Fine.Row where
  q := fun d => A.q (ix3 n r d)
  qs := A.qs (ix3 n 0 0)
  k := fun j t d => A.k (ix3 n ⟨j.val * 384 + t.val, by omega⟩ d)
  ks := fun j => A.ks (ix4 n 0 j 0)
  v := fun j t d => A.v (ix3 n ⟨j.val * 384 + t.val, by omega⟩ d)
  len := A.len (ix3 n 0 0)
  kt := fun t d => A.kt (ix3 n t d)
  kts := A.kts (ix3 n 0 0)
  vt := fun t d => A.vt (ix3 n t d)
  vs := A.vs (ix3 n 0 0)
  vts := A.vts (ix3 n 0 0)
  gate := A.gate (ix3 n 0 0)
  co := fun d => A.co (ix3 n 0 d)

/-- The scores. -/
def s : FVec Ideal S960x384x12x384 .f32 := k0_pay3 A.q A.k A.qs A.ks
/-- The products with the text keys. -/
def st0 : FVec Ideal S960x384x256 .f32 := k0_pay4 A.q A.kt A.qs A.kts

variable (n : Fin 960) (r : Fin 384)

theorem s_apply (j : Fin 12) (t : Fin 384) : A.s (ix4 n r j t) = (A.row n r).s j t := by
  unfold s Fine.Row.s Fine.score Fine.scale row
  pointwise [k0_pay3]

theorem st_apply (t : Fin 256) : k0_pay6 A.st0 k0_pay5 A.len (ix3 n r t) = (A.row n r).st t := by
  unfold st0 Fine.Row.st Fine.masked Fine.score Fine.scale Fine.ninf row
  pointwise [k0_pay6, k0_pay5, k0_pay4]

theorem max_txt (s : FVec Ideal S960x384x256 .f32) (h₁ h₂) :
    multiReduction .maximumf [2] S960x384 s 0xFF800000#32 reduces_S960x384x256_S960x384 h₁ h₂ (ix2 n r)
      = Finset.univ.fold max Fine.ninf fun t => s (ix3 n r t) := by
  unfold Fine.ninf
  pointwise

theorem max_keys (s : FVec Ideal S960x384x12x384 .f32) (j : Fin 12) (h₁ h₂) :
    multiReduction .maximumf [3] S960x384x12 s 0xFF800000#32 reduces_S960x384x12x384_S960x384x12 h₁ h₂ (ix3 n r j)
      = Finset.univ.fold max Fine.ninf fun t => s (ix4 n r j t) := by
  unfold Fine.ninf
  pointwise

theorem max_tiles (s : FVec Ideal S960x384x12 .f32) (h₁ h₂) :
    multiReduction .maximumf [2] S960x384 s 0xFF800000#32 reduces_S960x384x12_S960x384 h₁ h₂ (ix2 n r)
      = Finset.univ.fold max Fine.ninf fun j => s (ix3 n r j) := by
  unfold Fine.ninf
  pointwise

theorem col_apply (w w' : FVec Ideal S960x384 .f32) :
    ceil (maximumf (shapeCast S960x384x1 w shapeCasts_S960x384_S960x384x1) (shapeCast S960x384x1 w' shapeCasts_S960x384_S960x384x1))
        (ix3 n r 0)
      = FloatOps.ceil (F := Ideal) (φ := .f32) (max (w (ix2 n r)) (w' (ix2 n r))) := by
  pointwise

theorem mx_of (s : FVec Ideal S960x384x12x384 .f32) (u : FVec Ideal S960x384x256 .f32) :
    ceil (maximumf
      (shapeCast S960x384x1 (multiReduction .maximumf [2] S960x384
        (multiReduction .maximumf [3] S960x384x12 s 0xFF800000#32 reduces_S960x384x12x384_S960x384x12 (.inl rfl) rfl)
        0xFF800000#32 reduces_S960x384x12_S960x384 (.inl rfl) rfl) shapeCasts_S960x384_S960x384x1)
      (shapeCast S960x384x1 (multiReduction .maximumf [2] S960x384 u 0xFF800000#32 reduces_S960x384x256_S960x384 (.inl rfl) rfl)
        shapeCasts_S960x384_S960x384x1)) (ix3 n r 0)
      = FloatOps.ceil (F := Ideal) (φ := .f32)
          (max (Finset.univ.fold max Fine.ninf fun j => Finset.univ.fold max Fine.ninf fun t => s (ix4 n r j t))
            (Finset.univ.fold max Fine.ninf fun t => u (ix3 n r t))) := by
  refine (col_apply n r _ _).trans (congrArg _ (congrArg₂ max ?_ (max_txt n r _ _ _)))
  refine (max_tiles n r _ _ _).trans (congrArg (fun f => Finset.univ.fold max Fine.ninf f) (funext fun j => ?_))
  exact max_keys n r _ j _ _

theorem m_apply : k0_pay7 A.s A.st0 k0_pay5 A.len (ix3 n r 0) = (A.row n r).m := by
  unfold Fine.Row.m Fine.Row.mx
  simp only [← s_apply, ← st_apply]
  exact mx_of n r _ _

theorem p_apply (j : Fin 12) (t : Fin 384) : k0_pay8 A.s A.st0 k0_pay5 A.len (ix4 n r j t) = (A.row n r).p j t := by
  unfold Fine.Row.p
  rw [← s_apply, ← m_apply]
  pointwise [k0_pay8]

theorem pt_apply (t : Fin 256) : k0_pay9 A.s A.st0 k0_pay5 A.len (ix3 n r t) = (A.row n r).pt t := by
  unfold Fine.Row.pt
  rw [← st_apply, ← m_apply]
  pointwise [k0_pay9]

theorem den_apply : k0_pay10 A.s A.st0 k0_pay5 A.len (ix3 n r 0) = (A.row n r).den := by
  unfold Fine.Row.den
  simp only [← p_apply, ← pt_apply]
  pointwise [k0_pay10]

theorem logN_apply : k0_pay12 A.len (ix3 n r 0) = (A.row n r).logN := by
  unfold Fine.Row.logN row k0_pay12
  pointwise

theorem lse0_of (m d : FVec Ideal S960x384x1 .f32) :
    mulf (addf m (divf (log d) (log (broadcast S960x384x1 (Scalar.ofBits .f32 0x40000000#32)))))
      (broadcast S960x384x1 (Scalar.ofBits .f32 0x3F317218#32)) (ix3 n r 0)
      = (m (ix3 n r 0) + Ideal.div (Ideal.log (d (ix3 n r 0))) (Ideal.log (Ideal.ofBits .f32 0x40000000#32))) * Ideal.ofBits .f32 0x3F317218#32 := by
  pointwise

theorem lse0_apply : k0_pay11 A.s A.st0 k0_pay5 A.len (ix3 n r 0) = (A.row n r).lse0 := by
  unfold Fine.Row.lse0 k0_pay11
  rw [← m_apply, ← den_apply]
  exact lse0_of n r _ _

theorem sub_of (x y : FVec Ideal S960x384x1 .f32) : subf x y (ix3 n r 0) = x (ix3 n r 0) - y (ix3 n r 0) := by
  pointwise

theorem lse_apply :
    k0_pay13 (k0_pay11 A.s A.st0 k0_pay5 A.len) (k0_pay12 A.len) (ix3 n r 0) = (A.row n r).lse := by
  unfold Fine.Row.lse k0_pay13
  rw [← lse0_apply, ← logN_apply]
  exact sub_of n r _ _

theorem acc_apply (p : FVec Ideal S960x384x12x384 .f32) (pt : FVec Ideal S960x384x256 .f32) (d : FVec Ideal S960x384x1 .f32) (l : Fin 128) :
    k0_pay14 p pt d A.v A.vt A.vs A.vts (ix3 n r l)
      = Ideal.div (((∑ j : Fin 12, ∑ t : Fin 384, Fine.code (p (ix4 n r j t)) * A.v (ix3 n ⟨j.val * 384 + t.val, by omega⟩ l)) * A.vs (ix3 n 0 0)
          + (∑ t : Fin 256, Fine.code (pt (ix3 n r t)) * A.vt (ix3 n t l)) * A.vts (ix3 n 0 0)) * Ideal.ofBits .f32 0x3B124925#32)
        (d (ix3 n r 0)) := by
  unfold Fine.code Fine.top
  pointwise [k0_pay14]
  rw [Fin.sum_univ_tiles 12 384 (by norm_num)]
  have e : ∀ (j : Fin 12) (t : Fin 384) h h', p (ix4 n r ⟨(j.val * 384 + t.val) / 384, h⟩ ⟨(j.val * 384 + t.val) % 384, h'⟩) = p (ix4 n r j t) := by
    intro j t h h'
    congr 2
    · ext; simp only; omega
    · ext; simp only; omega
  simp only [e]

/-- The attention result before the gated coarse row. -/
def att : FVec Ideal S960x384x128 .f32 :=
  k0_pay14 (k0_pay8 A.s A.st0 k0_pay5 A.len) (k0_pay9 A.s A.st0 k0_pay5 A.len) (k0_pay10 A.s A.st0 k0_pay5 A.len) A.v A.vt A.vs A.vts

theorem att_apply (l : Fin 128) :
    A.att (ix3 n r l) = Ideal.div (((A.row n r).acc l * (A.row n r).vs + (A.row n r).accTxt l * (A.row n r).vts)
      * Ideal.ofBits .f32 0x3B124925#32) (A.row n r).den := by
  unfold att
  rw [acc_apply]
  simp only [p_apply, pt_apply, den_apply]
  rfl

theorem gated_apply (x : FVec Ideal S960x384x128 .f32) (b : Fin 2) (h : Fin 5) (f : Fin 24) (R : Fin 1536) (l : Fin 128) :
    k0_pay1 x A.gate A.co (ix5 b h f R l)
      = x (ix3 ⟨(b.val * 5 + h.val) * 96 + (tileOf f R).val, by omega⟩ (rowOf f R) l)
        + A.gate (ix3 ⟨(b.val * 5 + h.val) * 96 + (tileOf f R).val, by omega⟩ 0 0)
          * A.co (ix3 ⟨(b.val * 5 + h.val) * 96 + (tileOf f R).val, by omega⟩ 0 l) := by
  unfold tileOf rowOf
  pointwise [k0_pay1]
  simp only [show b.val * 480 + h.val * 96 + f.val / 6 * 24 + R.val / 384 * 6 + R.val / 8 % 6
    = (b.val * 5 + h.val) * 96 + ((f.val / 6 * 4 + R.val / 384) * 6 + R.val % 48 / 8) from by omega]

theorem spread_apply (x : FVec Ideal S960x384x1 .f32) (b : Fin 2) (h : Fin 5) (f : Fin 24) (g : Fin 4) (R : Fin 384) :
    k0_pay2 x (ix6 b h f g 0 R)
      = x (ix3 ⟨(b.val * 5 + h.val) * 96 + (tileOf f ⟨g.val * 384 + R.val, by omega⟩).val, by omega⟩
          (rowOf f ⟨g.val * 384 + R.val, by omega⟩) 0) := by
  unfold tileOf rowOf
  pointwise [k0_pay2]
  simp only [show b.val * 480 + h.val * 96 + f.val / 6 * 24 + g.val * 6 + R.val / 8 % 6
      = (b.val * 5 + h.val) * 96 + ((f.val / 6 * 4 + (g.val * 384 + R.val) / 384) * 6 + (g.val * 384 + R.val) % 48 / 8) from by omega,
    show f.val % 6 * 64 + R.val / 48 * 8 + R.val % 8
      = f.val % 6 * 64 + (g.val * 384 + R.val) / 48 % 8 * 8 + (g.val * 384 + R.val) % 8 from by omega]

end Args

end Cert.ReferenceIdeal.Row

end
-- ==== Proof.RefArgs.lean ====
/- The operands of the reference's body, as entries of the program's arguments. -/
module

public import proofs.«01_k».proof.Proof.Gen.ReferenceIdeal.Frame
public import proofs.«01_k».proof.Proof.RefGather
public import proofs.«01_k».proof.Proof.RefRow
public import proofs.«01_k».proof.Proof.Data
public import Idealize.ShloMosaic.Lib.Pipeline.ValueKit

@[expose] public section

set_option maxRecDepth 16384

noncomputable section

namespace Cert.ReferenceIdeal.Row

open Idealize.ShloMosaic Idealize.ShloMosaic.TcCoe Idealize.ShloMosaic.StableHlo Cert.ReferenceIdeal Cert.ReferenceIdeal.Gen

variable {b : Fin 2} {h : Fin 5} {n : Fin 96} {j : Fin 12}

theorem clampTile_eq (w : BitVec 32) (hw : w.toNat < 96) : clampTile w = ⟨w.toNat % 96, Nat.mod_lt _ (by decide)⟩ := by
  unfold clampTile
  refine Fin.ext ?_
  have e : w.toInt = (w.toNat : Int) := BitVec.toInt_eq_toNat_of_lt (by omega)
  simp only [e, Int.toNat_natCast]
  omega

/-- A tile number that is not negative is not shifted. -/
theorem chosen (s : IVec S2x5x96x12 32) (hs : (s (ix4 b h n j)).toNat < 96) :
    broadcastInDim S2x5x96x12x1 ![0, 1, 2, 3] bcast_S2x5x96x12_S2x5x96x12x1_0_1_2_3
      (select (cmpi .slt s (broadcastInDim S2x5x96x12 ![] bcast_S_S2x5x96x12 (constantI S_ 32 0#32)))
        (addi s (broadcastInDim S2x5x96x12 ![] bcast_S_S2x5x96x12 (constantI S_ 32 96#32))) s) (ix5 b h n j 0)
      = s (ix4 b h n j) := by
  have e : ∀ w : BitVec 32, w.toNat < 96 → Scalar.select (IntOp.cmpi .slt w 0#32) (IntOp.addi w 96#32) w = w := by
    intro w hw
    have : IntOp.cmpi .slt w 0#32 = 0#1 := by
      have h' : w.slt 0#32 = false := by
        rw [BitVec.slt_eq_decide, BitVec.toInt_eq_toNat_of_lt (by omega)]
        simp
      simp [IntOp.cmpi, h']
    rw [this]; rfl
  refine Eq.trans ?_ (e _ hs)
  pointwise

variable (m : (ℓ : Loc nD τ sig) → Buf (Elt Ideal) ℓ) (c : Dev nD)

/-- The arguments by coordinates. -/
def data : Fine.Data where
  sel b h n J := m ((c.tc : Thread nD τ).loc main_arg0) (ix4 b h n J)
  qs b n h := m ((c.tc : Thread nD τ).loc main_arg1) (ix3 b n h)
  ks b n h := m ((c.tc : Thread nD τ).loc main_arg2) (ix3 b n h)
  vs b h := m ((c.tc : Thread nD τ).loc main_arg3) (ix2 b h)
  kts b h := m ((c.tc : Thread nD τ).loc main_arg4) (ix2 b h)
  vts b h := m ((c.tc : Thread nD τ).loc main_arg5) (ix2 b h)
  len b := m ((c.tc : Thread nD τ).loc main_arg6) (ix1 b)
  gate h := m ((c.tc : Thread nD τ).loc main_arg7) (ix1 h)
  q b n h r d := m ((c.tc : Thread nD τ).loc main_arg8) (ix5 b n h r d)
  k b n h r d := m ((c.tc : Thread nD τ).loc main_arg9) (ix5 b n h r d)
  v b n h r d := m ((c.tc : Thread nD τ).loc main_arg10) (ix5 b n h r d)
  kt b h r d := m ((c.tc : Thread nD τ).loc main_arg11) (ix4 b h r d)
  vt b h r d := m ((c.tc : Thread nD τ).loc main_arg12) (ix4 b h r d)
  co b h n d := m ((c.tc : Thread nD τ).loc main_arg13) (ix4 b h n d)

theorem key_at (b : Fin 2) (h : Fin 5) (n : Fin 96) (j : Fin 12) (hs : (m ((c.tc : Thread nD τ).loc main_arg0) (ix4 b h n j) : BitVec 32).toNat < 96) :
    (data m c).key b h n j = clampTile (m ((c.tc : Thread nD τ).loc main_arg0) (ix4 b h n j)) := by
  unfold Fine.Data.key data
  exact (clampTile_eq _ hs).symm

theorem q_at (b : Fin 2) (h : Fin 5) (n : Fin 96) (r : Fin 384) (d : Fin 128) :
    V m c main_v25 (ix3 ⟨(b.val * 5 + h.val) * 96 + n.val, by omega⟩ r d) = m ((c.tc : Thread nD τ).loc main_arg8) (ix5 b n h r d) := by
  entry_read
  pointwise

theorem k_at (b : Fin 2) (h : Fin 5) (n : Fin 96) (j : Fin 12) (r : Fin 384) (d : Fin 128) (hs : (m ((c.tc : Thread nD τ).loc main_arg0) (ix4 b h n j) : BitVec 32).toNat < 96) :
    V m c main_v26 (ix3 ⟨(b.val * 5 + h.val) * 96 + n.val, by omega⟩ ⟨j.val * 384 + r.val, by omega⟩ d) = m ((c.tc : Thread nD τ).loc main_arg9) (ix5 b ((data m c).key b h n j) h r d) := by
  entry_read
  pointwise
  refine (gather_codes _ _ b h n j r d).trans ?_
  rw [key_at m c b h n j hs]
  have e := chosen (m ((c.tc : Thread nD τ).loc main_arg0)) hs
  refine (congrArg (fun w => transpose S2x5x96x384x128 [0, 2, 1, 3, 4] (m ((c.tc : Thread nD τ).loc main_arg9)) transposes_S2x96x5x384x128_S2x5x96x384x128_0_2_1_3_4 (ix5 b h (clampTile w) r d)) e).trans ?_
  pointwise

theorem v_at (b : Fin 2) (h : Fin 5) (n : Fin 96) (j : Fin 12) (r : Fin 384) (d : Fin 128) (hs : (m ((c.tc : Thread nD τ).loc main_arg0) (ix4 b h n j) : BitVec 32).toNat < 96) :
    V m c main_v27 (ix3 ⟨(b.val * 5 + h.val) * 96 + n.val, by omega⟩ ⟨j.val * 384 + r.val, by omega⟩ d) = m ((c.tc : Thread nD τ).loc main_arg10) (ix5 b ((data m c).key b h n j) h r d) := by
  entry_read
  pointwise
  refine (gather_codes _ _ b h n j r d).trans ?_
  rw [key_at m c b h n j hs]
  have e := chosen (m ((c.tc : Thread nD τ).loc main_arg0)) hs
  refine (congrArg (fun w => transpose S2x5x96x384x128 [0, 2, 1, 3, 4] (m ((c.tc : Thread nD τ).loc main_arg10)) transposes_S2x96x5x384x128_S2x5x96x384x128_0_2_1_3_4 (ix5 b h (clampTile w) r d)) e).trans ?_
  pointwise

theorem ks_at (b : Fin 2) (h : Fin 5) (n : Fin 96) (j : Fin 12) (hs : (m ((c.tc : Thread nD τ).loc main_arg0) (ix4 b h n j) : BitVec 32).toNat < 96) :
    V m c main_v36 (ix4 ⟨(b.val * 5 + h.val) * 96 + n.val, by omega⟩ 0 j 0) = m ((c.tc : Thread nD τ).loc main_arg2) (ix3 b ((data m c).key b h n j) h) := by
  entry_read
  pointwise
  refine (gather_scales _ _ b h n j).trans ?_
  rw [key_at m c b h n j hs]
  have e := chosen (m ((c.tc : Thread nD τ).loc main_arg0)) hs
  refine (congrArg (fun w => transpose S2x5x96 [0, 2, 1] (m ((c.tc : Thread nD τ).loc main_arg2)) transposes_S2x96x5_S2x5x96_0_2_1 (ix3 b h (clampTile w))) e).trans ?_
  pointwise

theorem kt_at (b : Fin 2) (h : Fin 5) (n : Fin 96) (r : Fin 256) (d : Fin 128) :
    V m c main_v30 (ix3 ⟨(b.val * 5 + h.val) * 96 + n.val, by omega⟩ r d) = m ((c.tc : Thread nD τ).loc main_arg11) (ix4 b h r d) := by
  entry_read
  pointwise

theorem vt_at (b : Fin 2) (h : Fin 5) (n : Fin 96) (r : Fin 256) (d : Fin 128) :
    V m c main_v33 (ix3 ⟨(b.val * 5 + h.val) * 96 + n.val, by omega⟩ r d) = m ((c.tc : Thread nD τ).loc main_arg12) (ix4 b h r d) := by
  entry_read
  pointwise

theorem qs_at (b : Fin 2) (h : Fin 5) (n : Fin 96) :
    V m c main_v35 (ix3 ⟨(b.val * 5 + h.val) * 96 + n.val, by omega⟩ 0 0) = m ((c.tc : Thread nD τ).loc main_arg1) (ix3 b n h) := by
  entry_read
  pointwise

theorem kts_at (b : Fin 2) (h : Fin 5) (n : Fin 96) :
    V m c main_v39 (ix3 ⟨(b.val * 5 + h.val) * 96 + n.val, by omega⟩ 0 0) = m ((c.tc : Thread nD τ).loc main_arg4) (ix2 b h) := by
  entry_read
  pointwise

theorem vs_at (b : Fin 2) (h : Fin 5) (n : Fin 96) :
    V m c main_v42 (ix3 ⟨(b.val * 5 + h.val) * 96 + n.val, by omega⟩ 0 0) = m ((c.tc : Thread nD τ).loc main_arg3) (ix2 b h) := by
  entry_read
  pointwise

theorem vts_at (b : Fin 2) (h : Fin 5) (n : Fin 96) :
    V m c main_v45 (ix3 ⟨(b.val * 5 + h.val) * 96 + n.val, by omega⟩ 0 0) = m ((c.tc : Thread nD τ).loc main_arg5) (ix2 b h) := by
  entry_read
  pointwise

theorem len_at (b : Fin 2) (h : Fin 5) (n : Fin 96) :
    V m c main_v48 (ix3 ⟨(b.val * 5 + h.val) * 96 + n.val, by omega⟩ 0 0) = m ((c.tc : Thread nD τ).loc main_arg6) (ix1 b) := by
  entry_read
  pointwise

theorem gate_at (b : Fin 2) (h : Fin 5) (n : Fin 96) :
    V m c main_v51 (ix3 ⟨(b.val * 5 + h.val) * 96 + n.val, by omega⟩ 0 0) = m ((c.tc : Thread nD τ).loc main_arg7) (ix1 h) := by
  entry_read
  pointwise

theorem co_at (b : Fin 2) (h : Fin 5) (n : Fin 96) (d : Fin 128) :
    V m c main_v52 (ix3 ⟨(b.val * 5 + h.val) * 96 + n.val, by omega⟩ 0 d) = m ((c.tc : Thread nD τ).loc main_arg13) (ix4 b h n d) := by
  entry_read
  pointwise

/-- The operands of the body. -/
def args : Args where
  q := V m c main_v25
  k := V m c main_v26
  v := V m c main_v27
  kt := V m c main_v30
  vt := V m c main_v33
  qs := V m c main_v35
  ks := V m c main_v36
  kts := V m c main_v39
  vs := V m c main_v42
  vts := V m c main_v45
  len := V m c main_v48
  gate := V m c main_v51
  co := V m c main_v52

end Cert.ReferenceIdeal.Row

end
-- ==== Proof.RefData.lean ====
/- A row of the reference's operands is the row of data of its tile. -/
module

public import proofs.«01_k».proof.Proof.RefArgs
public import proofs.«01_k».proof.Proof.Place

@[expose] public section

set_option maxRecDepth 16384

noncomputable section

namespace Cert.ReferenceIdeal.Row

open Idealize.ShloMosaic Idealize.ShloMosaic.TcCoe Cert.ReferenceIdeal Cert.ReferenceIdeal.Gen
open Idealize.ShloMosaic.Pipeline (Dat)
open Cert.Fine (tileOf rowOf)

variable (m : (ℓ : Loc nD τ sig) → Buf (Elt Ideal) ℓ) (c : Dev nD)

set_option maxHeartbeats 2000000 in
/-- A row of a tile, from the arguments. -/
theorem row_data (hs : ∀ y, (m ((c.tc : Thread nD τ).loc main_arg0) y : BitVec 32).toNat < 96) (b : Fin 2) (h : Fin 5) (n : Fin 96)
    (r : Fin 384) : (args m c).row ⟨(b.val * 5 + h.val) * 96 + n.val, by omega⟩ r = (data m c).row b h n r := by
  apply Fine.Row.ext
  · funext d; exact q_at m c b h n r d
  · exact qs_at m c b h n
  · funext j t d
    have e := k_at m c b h n j t d (hs (ix4 b h n j))
    exact e
  · funext j; exact ks_at m c b h n j (hs (ix4 b h n j))
  · funext j t d
    have e := v_at m c b h n j t d (hs (ix4 b h n j))
    exact e
  · exact len_at m c b h n
  · funext t d; exact kt_at m c b h n t d
  · exact kts_at m c b h n
  · funext t d; exact vt_at m c b h n t d
  · exact vs_at m c b h n
  · exact vts_at m c b h n
  · exact gate_at m c b h n
  · funext d; exact co_at m c b h n d

end Cert.ReferenceIdeal.Row

end
-- ==== Proof.RefFinal.lean ====
/- The reference's two results after the run, entry by entry, from the arguments. -/
module

public import proofs.«01_k».proof.Proof.RefData
public import proofs.«01_k».proof.Proof.Place

@[expose] public section

set_option maxRecDepth 16384

noncomputable section

namespace Cert.ReferenceIdeal.Row

open Idealize.ShloMosaic Idealize.ShloMosaic.TcCoe Cert.ReferenceIdeal Cert.ReferenceIdeal.Gen
open Idealize.ShloMosaic.Pipeline (Dat)
open Cert.Fine (tileOf rowOf)

variable (m : (ℓ : Loc nD τ sig) → Buf (Elt Ideal) ℓ) (c : Dev nD)

/-- Every operand's one block is at the origin. -/
theorem idx : ∀ t : Fin cfg0.N,
    win0_0.index t = ![0, 0, 0] ∧ win0_1.index t = ![0, 0, 0] ∧ win0_2.index t = ![0, 0, 0] ∧ win0_3.index t = ![0, 0, 0]
    ∧ win0_4.index t = ![0, 0, 0] ∧ win0_5.index t = ![0, 0, 0] ∧ win0_6.index t = ![0, 0, 0, 0] ∧ win0_7.index t = ![0, 0, 0]
    ∧ win0_8.index t = ![0, 0, 0] ∧ win0_9.index t = ![0, 0, 0] ∧ win0_10.index t = ![0, 0, 0] ∧ win0_11.index t = ![0, 0, 0]
    ∧ win0_12.index t = ![0, 0, 0] ∧ win0_13.index t = ![0, 0, 0, 0, 0] ∧ win0_14.index t = ![0, 0, 0, 0, 0, 0] :=
  (by decide +kernel : ∀ t : Fin grid0.N, _)

theorem block_q (t : Fin cfg0.N) : iblk m c 0 t = V m c main_v25 := by
  funext y
  unfold iblk
  blk_ext [idx t]

theorem block_k (t : Fin cfg0.N) : iblk m c 1 t = V m c main_v26 := by
  funext y
  unfold iblk
  blk_ext [idx t]

theorem block_v (t : Fin cfg0.N) : iblk m c 2 t = V m c main_v27 := by
  funext y
  unfold iblk
  blk_ext [idx t]

theorem block_kt (t : Fin cfg0.N) : iblk m c 3 t = V m c main_v30 := by
  funext y
  unfold iblk
  blk_ext [idx t]

theorem block_vt (t : Fin cfg0.N) : iblk m c 4 t = V m c main_v33 := by
  funext y
  unfold iblk
  blk_ext [idx t]

theorem block_qs (t : Fin cfg0.N) : iblk m c 5 t = V m c main_v35 := by
  funext y
  unfold iblk
  blk_ext [idx t]

theorem block_ks (t : Fin cfg0.N) : iblk m c 6 t = V m c main_v36 := by
  funext y
  unfold iblk
  blk_ext [idx t]

theorem block_kts (t : Fin cfg0.N) : iblk m c 7 t = V m c main_v39 := by
  funext y
  unfold iblk
  blk_ext [idx t]

theorem block_vs (t : Fin cfg0.N) : iblk m c 8 t = V m c main_v42 := by
  funext y
  unfold iblk
  blk_ext [idx t]

theorem block_vts (t : Fin cfg0.N) : iblk m c 9 t = V m c main_v45 := by
  funext y
  unfold iblk
  blk_ext [idx t]

theorem block_len (t : Fin cfg0.N) : iblk m c 10 t = V m c main_v48 := by
  funext y
  unfold iblk
  blk_ext [idx t]

theorem block_gate (t : Fin cfg0.N) : iblk m c 11 t = V m c main_v51 := by
  funext y
  unfold iblk
  blk_ext [idx t]

theorem block_co (t : Fin cfg0.N) : iblk m c 12 t = V m c main_v52 := by
  funext y
  unfold iblk
  blk_ext [idx t]

/-- The attention result as an array. -/
def outArr : Buf (Elt Ideal) ((c.tc : Thread nD τ).loc main_v53_0) :=
  fun x : S2x5x24x1536x128.Idx => (data m c).out (x 0) (x 1) (x 2) (x 3) (x 4)
/-- The log-sum-exp as an array. -/
def lseArr : Buf (Elt Ideal) ((c.tc : Thread nD τ).loc main_v53_1) :=
  fun x : S2x5x24x4x1x384.Idx => (data m c).lse (x 0) (x 1) (x 2) (x 3) (x 5)

/-- An entry of the attention result, from the row of data behind it. -/
theorem out_apply (A : Args) (b : Fin 2) (h : Fin 5) (f : Fin 24) (R : Fin 1536) (l : Fin 128) :
    k0_pay1 A.att A.gate A.co (ix5 b h f R l)
      = (A.row ⟨(b.val * 5 + h.val) * 96 + (tileOf f R).val, by omega⟩ (rowOf f R)).out l := by
  refine (A.gated_apply A.att b h f R l).trans ?_
  rw [Args.att_apply]
  unfold Fine.Row.out
  exact congrArg _ rfl

theorem out_point (hs : ∀ y, (m ((c.tc : Thread nD τ).loc main_arg0) y : BitVec 32).toNat < 96) (b : Fin 2) (h : Fin 5) (f : Fin 24)
    (R : Fin 1536) (l : Fin 128) :
    k0_pay1 (args m c).att (args m c).gate (args m c).co (ix5 b h f R l) = (data m c).out b h f R l := by
  refine (out_apply (args m c) b h f R l).trans ?_
  rw [row_data m c hs]
  rfl

theorem lse_point (hs : ∀ y, (m ((c.tc : Thread nD τ).loc main_arg0) y : BitVec 32).toNat < 96) (b : Fin 2) (h : Fin 5) (f : Fin 24)
    (g : Fin 4) (R : Fin 384) :
    k0_pay2 (k0_pay13 (k0_pay11 (args m c).s (args m c).st0 k0_pay5 (args m c).len) (k0_pay12 (args m c).len)) (ix6 b h f g 0 R)
      = (data m c).lse b h f g R := by
  refine (Args.spread_apply _ b h f g R).trans ?_
  rw [Args.lse_apply, row_data m c hs]
  rfl

theorem out_entry (hs : ∀ y, (m ((c.tc : Thread nD τ).loc main_arg0) y : BitVec 32).toNat < 96) (j : S2x5x24x1536x128.Idx) :
    k0_pay1 (args m c).att (args m c).gate (args m c).co j = outArr m c j := by
  obtain ⟨b, h, f, R, l, rfl⟩ : ∃ b h f R l, j = ix5 b h f R l :=
    ⟨j 0, j 1, j 2, j 3, j 4, by funext a; fin_cases a <;> rfl⟩
  exact out_point m c hs b h f R l

theorem lse_entry (hs : ∀ y, (m ((c.tc : Thread nD τ).loc main_arg0) y : BitVec 32).toNat < 96) (j : S2x5x24x4x1x384.Idx) :
    k0_pay2 (k0_pay13 (k0_pay11 (args m c).s (args m c).st0 k0_pay5 (args m c).len) (k0_pay12 (args m c).len)) j = lseArr m c j := by
  obtain ⟨b, h, f, g, R, rfl⟩ : ∃ b h f g R, j = ix6 b h f g 0 R :=
    ⟨j 0, j 1, j 2, j 3, j 5, by
      funext a; fin_cases a
      · rfl
      · rfl
      · rfl
      · rfl
      · exact Subsingleton.elim (α := Fin 1) _ _
      · rfl⟩
  exact lse_point m c hs b h f g R

theorem out_final (hs : ∀ y, (m ((c.tc : Thread nD τ).loc main_arg0) y : BitVec 32).toNat < 96) :
    (dats m 0 c).arrAt 13 (cfgs 0).N = outArr m c := by
  refine (dats m 0 c).arrAt_eq_of_after_last 13 t0_0 (by decide +kernel) _ fun j => ?_
  blk_simp
  rw [after0_13]
  frame_out
  simp only [block_q, block_k, block_v, block_kt, block_vt, block_qs, block_ks, block_kts, block_vs, block_vts, block_len, block_gate, block_co]
  unfold k0_pay15 k0_pay16 k0_pay17
  frame_out
  refine Eq.trans ?_ (out_entry m c hs j)
  unfold Args.att Args.s Args.st0 args
  dsimp only

theorem lse_final (hs : ∀ y, (m ((c.tc : Thread nD τ).loc main_arg0) y : BitVec 32).toNat < 96) :
    (dats m 0 c).arrAt 14 (cfgs 0).N = lseArr m c := by
  refine (dats m 0 c).arrAt_eq_of_after_last 14 t0_0 (by decide +kernel) _ fun j => ?_
  blk_simp
  rw [after0_14]
  frame_out
  simp only [block_q, block_k, block_v, block_kt, block_vt, block_qs, block_ks, block_kts, block_vs, block_vts, block_len, block_gate, block_co]
  unfold k0_pay15 k0_pay16 k0_pay17
  frame_out
  refine Eq.trans ?_ (lse_entry m c hs j)
  unfold Args.s Args.st0 args
  dsimp only

end Cert.ReferenceIdeal.Row

end
-- ==== Proof.Values.lean ====
/- The two programs' results are equal: each program's run ends with both results at the same function of the arguments. -/
module

public import proofs.«01_k».proof.Defs
public import proofs.«01_k».proof.Proof.IdealFinal
public import proofs.«01_k».proof.Proof.RefFinal
public import proofs.«01_k».proof.Proof.Tiles
public import Idealize.ShloMosaic.Lib.Claim

@[expose] public section

set_option maxRecDepth 16384

noncomputable section

namespace Cert.Values

open Idealize.ShloMosaic Idealize.ShloMosaic.TcCoe

/-- The kernel's run ends with its results at the function of its arguments. -/
theorem run_kernel {m : (ℓ : Loc Cert.KernelIdeal.nD Cert.KernelIdeal.τ Cert.KernelIdeal.sig) → Buf (Elt Ideal) ℓ}
    (g : Dev Cert.KernelIdeal.nD → PrngReg) (hH : Cert.KernelIdeal.Gen.Hyps m) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v6_0) = Cert.KernelIdeal.Loads.outArr m c
        ∧ r.2.mem ((c.tc : Thread Cert.KernelIdeal.nD Cert.KernelIdeal.τ).loc Cert.KernelIdeal.main_v6_1) = Cert.KernelIdeal.Loads.lseArr m c) :=
  θ_run_mono (Cert.KernelIdeal.Gen.run_main m g hH) fun _ h c =>
    ⟨((h c).1 14).trans (Cert.KernelIdeal.Loads.out_final hH c), ((h c).1 15).trans (Cert.KernelIdeal.Loads.lse_final hH c)⟩

/-- The reference's run ends with its results at the function of its arguments. -/
theorem run_reference (m : (ℓ : Loc Cert.ReferenceIdeal.nD Cert.ReferenceIdeal.τ Cert.ReferenceIdeal.sig) → Buf (Elt Ideal) ℓ)
    (g : Dev Cert.ReferenceIdeal.nD → PrngReg)
    (hs : ∀ (c : Dev Cert.ReferenceIdeal.nD) y, (m ((c.tc : Thread Cert.ReferenceIdeal.nD Cert.ReferenceIdeal.τ).loc Cert.ReferenceIdeal.main_arg0) y : BitVec 32).toNat < 96) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v53_0) = Cert.ReferenceIdeal.Row.outArr m c
        ∧ r.2.mem ((c.tc : Thread Cert.ReferenceIdeal.nD Cert.ReferenceIdeal.τ).loc Cert.ReferenceIdeal.main_v53_1) = Cert.ReferenceIdeal.Row.lseArr m c) :=
  θ_run_mono (Cert.ReferenceIdeal.Gen.run_main m g) fun _ h c =>
    ⟨((h c).1 13).trans (Cert.ReferenceIdeal.Row.out_final m c (hs c)), ((h c).1 14).trans (Cert.ReferenceIdeal.Row.lse_final m c (hs c))⟩

theorem algebraic :
    Cert.algebraic_KernelIdeal_ReferenceIdeal (hKernelIdeal := Cert.KernelIdeal.Gen.facts) (hReferenceIdeal := Cert.ReferenceIdeal.Gen.facts)
      (hPre_tiles_exist := Cert.Pre_tiles_exist.Gen.facts) := by
  intro m g m' g' hpre hargs
  have hd : ∀ c : Dev Cert.KernelIdeal.nD, Cert.ReferenceIdeal.Row.data m' c = Cert.KernelIdeal.Loads.data m c := by
    intro c
    obtain ⟨e0, e1, e2, e3, e4, e5, e6, e7, e8, e9, e10, e11, e12, e13⟩ := hargs c
    unfold Cert.ReferenceIdeal.Row.data Cert.KernelIdeal.Loads.data
    simp only [e0, e1, e2, e3, e4, e5, e6, e7, e8, e9, e10, e11, e12, e13]
  have ho : ∀ c : Dev Cert.KernelIdeal.nD, Cert.ReferenceIdeal.Row.outArr m' c = Cert.KernelIdeal.Loads.outArr m c := fun c => by
    unfold Cert.ReferenceIdeal.Row.outArr Cert.KernelIdeal.Loads.outArr
    rw [hd c]
  have hl : ∀ c : Dev Cert.KernelIdeal.nD, Cert.ReferenceIdeal.Row.lseArr m' c = Cert.KernelIdeal.Loads.lseArr m c := fun c => by
    unfold Cert.ReferenceIdeal.Row.lseArr Cert.KernelIdeal.Loads.lseArr
    rw [hd c]
  have hs : ∀ (c : Dev Cert.ReferenceIdeal.nD) y, (m' ((c.tc : Thread Cert.ReferenceIdeal.nD Cert.ReferenceIdeal.τ).loc Cert.ReferenceIdeal.main_arg0) y : BitVec 32).toNat < 96 :=
    fun c y => by
      rw [(hargs c).1]
      exact Tiles.ideal_words hpre c y
  refine ⟨Cert.KernelIdeal.Loads.outArr m, Cert.KernelIdeal.Loads.lseArr m, ?_, ?_⟩
  · exact θ_run_mono (θ_run_and (run_kernel g (Tiles.ideal_hyps hpre)) (Cert.KernelIdeal.Gen.unchanged m g (Tiles.ideal_hyps hpre)))
      fun _ h c => ⟨(h.1 c).1, (h.1 c).2, h.2 c⟩
  · exact θ_run_mono (θ_run_and (run_reference m' g' hs) (Cert.ReferenceIdeal.Gen.unchanged m' g'))
      fun _ h c => ⟨(h.1 c).1.trans (ho c), (h.1 c).2.trans (hl c), h.2 c⟩

end Cert.Values

end
-- ==== Proof.lean ====
/- The proof of the certificate: the frames of the three programs, where the precondition bounds the tile numbers the kernel loads by,
   and the equality of the two programs' results over the extended reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.KernelFrame
public import proofs.«01_k».proof.Proof.IdealFrame
public import proofs.«01_k».proof.Proof.Tiles
public import proofs.«01_k».proof.Proof.Values
public import Idealize.ShloMosaic.Adequacy
public import Idealize.ShloMosaic.Init

@[expose] public section

noncomputable section

namespace Cert.Proof

open Idealize.ShloMosaic

theorem claim : Cert.Claim :=
  ⟨Cert.Kernel.Gen.facts, Cert.KernelIdeal.Gen.facts, Cert.ReferenceIdeal.Gen.facts, Cert.Pre_tiles_exist.Gen.facts,
    fun m g h => Cert.Kernel.Gen.frame m g (Tiles.kernel_words h),
    fun m g h => Cert.KernelIdeal.Gen.frame m g (Tiles.ideal_hyps h),
    fun m g _ => Cert.ReferenceIdeal.Gen.frame m g,
    trivial,
    Values.algebraic⟩

end Cert.Proof

end
